-- ==== Defs.lean ====
def Pre_Kernel [hPre_in_bounds : Cert.Pre_in_bounds.Facts] (m : (ℓ : Loc Cert.Kernel.nD Cert.Kernel.τ Cert.Kernel.sig) → Buf (Elt Bits) ℓ) : Prop :=
  ∀ c : Dev Cert.Kernel.nD,
    (Cert.Pre_in_bounds.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_bounds : Cert.Pre_in_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_in_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_bounds : Cert.Pre_in_bounds.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_bounds : Cert.Pre_in_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.BufferStatement Cert.KernelIdeal.S72x2x128 Cert.KernelIdeal.S72x1x128
  ∧ IdealRules.bf16_pair.Statement Cert.KernelIdeal.S136x128 Cert.KernelIdeal.S68x128
  ∧ IdealRules.bf16_pair.Statement Cert.KernelIdeal.S68x2x128 Cert.KernelIdeal.S68x1x128
  ∧ IdealRules.bf16_pair.Statement Cert.KernelIdeal.S64x2x128 Cert.KernelIdeal.S64x1x128
  ∧ IdealRules.bf16_pair.Statement Cert.KernelIdeal.S128x128 Cert.KernelIdeal.S64x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_bounds : Cert.Pre_in_bounds.Facts) (hPre_in_range : Cert.Pre_in_range.Facts),
    quiescent_Kernel (hKernel := hKernel) (hPre_in_bounds := hPre_in_bounds)
    ∧ quiescent_KernelIdeal (hKernelIdeal := hKernelIdeal) (hPre_in_bounds := hPre_in_bounds)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_bounds.lean ====
abbrev S3x256x4096 : Shape := ⟨3, ![3, 256, 4096]⟩
abbrev S512x11008 : Shape := ⟨2, ![512, 11008]⟩
abbrev S32x11008 : Shape := ⟨2, ![32, 11008]⟩
abbrev S2200x4096 : Shape := ⟨2, ![2200, 4096]⟩
abbrev S2200x11008 : Shape := ⟨2, ![2200, 11008]⟩
abbrev S15 : Shape := ⟨1, ![15]⟩
abbrev S10 : Shape := ⟨1, ![10]⟩
abbrev S9 : Shape := ⟨1, ![9]⟩
abbrev S_ : Shape := ⟨0, ![]⟩

class Facts : Prop where
  bcast_S_S15 : S_.BroadcastsInDim S15 (![] : Fin 0 → Fin S15.rank)
  reducesTo_S15_S_d0 : S15.ReducesTo [0] S_
  h_S_ : 0 < S_.numel
  bcast_S_S9 : S_.BroadcastsInDim S9 (![] : Fin 0 → Fin S9.rank)
  reducesTo_S9_S_d0 : S9.ReducesTo [0] S_

variable [Facts]

def fn {F : FTy → Type} [FloatOps F] (main_arg0 : FVec F S3x256x4096 .bf16) (main_arg1 : IVec S512x11008 32) (main_arg2 : FVec F S32x11008 .bf16) (main_arg3 : FVec F S2200x4096 .bf16) (main_arg4 : FVec F S2200x11008 .bf16) (main_arg5 : IVec S15 32) (main_arg6 : IVec S15 32) (main_arg7 : FVec F S15 .f32) (main_arg8 : IVec S10 32) (main_arg9 : IVec S9 32) : IVec S_ 1 :=
  let main_c : IVec S_ 32 := constantI S_ 32 0#32
  let main_v0 : IVec S15 32 := broadcastInDim S15 ![] bcast_S_S15 main_c
  let main_v1 : IVec S15 1 := cmpi .sge main_arg5 main_v0
  let main_c_0 : IVec S_ 32 := constantI S_ 32 2071#32
  let main_v2 : IVec S15 32 := broadcastInDim S15 ![] bcast_S_S15 main_c_0
  let main_v3 : IVec S15 1 := cmpi .sle main_arg5 main_v2
  let main_v4 : IVec S15 1 := andi main_v1 main_v3
  let main_c_1 : IVec S_ 1 := constantI S_ 1 1#1
  let main_v5 : IVec S_ 1 := (fun x v => Host.reduce IntOp.andi x v reducesTo_S15_S_d0 h_S_) main_v4 main_c_1
  let main_c_2 : IVec S_ 32 := constantI S_ 32 0#32
  let main_v6 : IVec S9 32 := broadcastInDim S9 ![] bcast_S_S9 main_c_2
  let main_v7 : IVec S9 1 := cmpi .sge main_arg9 main_v6
  let main_c_3 : IVec S_ 32 := constantI S_ 32 15#32
  let main_v8 : IVec S9 32 := broadcastInDim S9 ![] bcast_S_S9 main_c_3
  let main_v9 : IVec S9 1 := cmpi .slt main_arg9 main_v8
  let main_v10 : IVec S9 1 := andi main_v7 main_v9
  let main_c_4 : IVec S_ 1 := constantI S_ 1 1#1
  let main_v11 : IVec S_ 1 := (fun x v => Host.reduce IntOp.andi x v reducesTo_S9_S_d0 h_S_) main_v10 main_c_4
  let main_v12 : IVec S_ 1 := andi main_v5 main_v11
  main_v12
-- ==== Pre_in_range.lean ====
abbrev S3x256x4096 : Shape := ⟨3, ![3, 256, 4096]⟩
abbrev S512x11008 : Shape := ⟨2, ![512, 11008]⟩
abbrev S32x11008 : Shape := ⟨2, ![32, 11008]⟩
abbrev S2200x4096 : Shape := ⟨2, ![2200, 4096]⟩
abbrev S2200x11008 : Shape := ⟨2, ![2200, 11008]⟩
abbrev S15 : Shape := ⟨1, ![15]⟩
abbrev S10 : Shape := ⟨1, ![10]⟩
abbrev S9 : Shape := ⟨1, ![9]⟩
abbrev S_ : Shape := ⟨0, ![]⟩
abbrev S1 : Shape := ⟨1, ![1]⟩

class Facts : Prop where
  bcast_S_S15 : S_.BroadcastsInDim S15 (![] : Fin 0 → Fin S15.rank)
  reducesTo_S15_S_d0 : S15.ReducesTo [0] S_
  h_S_ : 0 < S_.numel
  bcast_S_S9 : S_.BroadcastsInDim S9 (![] : Fin 0 → Fin S9.rank)
  reducesTo_S9_S_d0 : S9.ReducesTo [0] S_
  slices_S10_S1_0 : S10.Slices ![0] S1
  shapeCasts_S1_S_ : S1.ShapeCasts S_
  slices_S10_S1_9 : S10.Slices ![9] S1
  slices_S10_S9_0 : S10.Slices ![0] S9
  slices_S10_S9_1 : S10.Slices ![1] S9

variable [Facts]

def fn_part1 {F : FTy → Type} [FloatOps F] (main_arg8 : IVec S10 32) (main_v16 : IVec S_ 1) : IVec S_ 1 :=
  let main_v17 : IVec S1 32 := (extractStridedSlice S1 ![9] · slices_S10_S1_9) main_arg8
  let main_v18 : IVec S_ 32 := shapeCast S_ main_v17 shapeCasts_S1_S_
  let main_c_6 : IVec S_ 32 := constantI S_ 32 768#32
  let main_v19 : IVec S_ 1 := cmpi .sge main_v18 main_c_6
  let main_v20 : IVec S_ 1 := andi main_v16 main_v19
  let main_v21 : IVec S9 32 := (extractStridedSlice S9 ![0] · slices_S10_S9_0) main_arg8
  let main_v22 : IVec S9 32 := (extractStridedSlice S9 ![1] · slices_S10_S9_1) main_arg8
  let main_v23 : IVec S9 1 := cmpi .sle main_v21 main_v22
  let main_c_7 : IVec S_ 1 := constantI S_ 1 1#1
  let main_v24 : IVec S_ 1 := (fun x v => Host.reduce IntOp.andi x v reducesTo_S9_S_d0 h_S_) main_v23 main_c_7
  let main_v25 : IVec S_ 1 := andi main_v20 main_v24
  main_v25

def fn {F : FTy → Type} [FloatOps F] (main_arg0 : FVec F S3x256x4096 .bf16) (main_arg1 : IVec S512x11008 32) (main_arg2 : FVec F S32x11008 .bf16) (main_arg3 : FVec F S2200x4096 .bf16) (main_arg4 : FVec F S2200x11008 .bf16) (main_arg5 : IVec S15 32) (main_arg6 : IVec S15 32) (main_arg7 : FVec F S15 .f32) (main_arg8 : IVec S10 32) (main_arg9 : IVec S9 32) : IVec S_ 1 :=
  let main_c : IVec S_ 32 := constantI S_ 32 0#32
  let main_v0 : IVec S15 32 := broadcastInDim S15 ![] bcast_S_S15 main_c
  let main_v1 : IVec S15 1 := cmpi .sge main_arg5 main_v0
  let main_c_0 : IVec S_ 32 := constantI S_ 32 2071#32
  let main_v2 : IVec S15 32 := broadcastInDim S15 ![] bcast_S_S15 main_c_0
  let main_v3 : IVec S15 1 := cmpi .sle main_arg5 main_v2
  let main_v4 : IVec S15 1 := andi main_v1 main_v3
  let main_c_1 : IVec S_ 1 := constantI S_ 1 1#1
  let main_v5 : IVec S_ 1 := (fun x v => Host.reduce IntOp.andi x v reducesTo_S15_S_d0 h_S_) main_v4 main_c_1
  let main_c_2 : IVec S_ 32 := constantI S_ 32 0#32
  let main_v6 : IVec S9 32 := broadcastInDim S9 ![] bcast_S_S9 main_c_2
  let main_v7 : IVec S9 1 := cmpi .sge main_arg9 main_v6
  let main_c_3 : IVec S_ 32 := constantI S_ 32 15#32
  let main_v8 : IVec S9 32 := broadcastInDim S9 ![] bcast_S_S9 main_c_3
  let main_v9 : IVec S9 1 := cmpi .slt main_arg9 main_v8
  let main_v10 : IVec S9 1 := andi main_v7 main_v9
  let main_c_4 : IVec S_ 1 := constantI S_ 1 1#1
  let main_v11 : IVec S_ 1 := (fun x v => Host.reduce IntOp.andi x v reducesTo_S9_S_d0 h_S_) main_v10 main_c_4
  let main_v12 : IVec S_ 1 := andi main_v5 main_v11
  let main_v13 : IVec S1 32 := (extractStridedSlice S1 ![0] · slices_S10_S1_0) main_arg8
  let main_v14 : IVec S_ 32 := shapeCast S_ main_v13 shapeCasts_S1_S_
  let main_c_5 : IVec S_ 32 := constantI S_ 32 0#32
  let main_v15 : IVec S_ 1 := cmpi .sle main_v14 main_c_5
  let main_v16 : IVec S_ 1 := andi main_v12 main_v15
  fn_part1 (F := F) main_arg8 main_v16
-- ==== Kernel.lean ====
abbrev S3x256x4096 : Shape := ⟨3, ![3, 256, 4096]⟩
abbrev S512x11008 : Shape := ⟨2, ![512, 11008]⟩
abbrev S32x11008 : Shape := ⟨2, ![32, 11008]⟩
abbrev S2200x4096 : Shape := ⟨2, ![2200, 4096]⟩
abbrev S2200x11008 : Shape := ⟨2, ![2200, 11008]⟩
abbrev S15 : Shape := ⟨1, ![15]⟩
abbrev S10 : Shape := ⟨1, ![10]⟩
abbrev S9 : Shape := ⟨1, ![9]⟩
abbrev S768x4096 : Shape := ⟨2, ![768, 4096]⟩
abbrev S768x128 : Shape := ⟨2, ![768, 128]⟩
abbrev S768x512 : Shape := ⟨2, ![768, 512]⟩
abbrev S2200x512 : Shape := ⟨2, ![2200, 512]⟩
abbrev S1152x512 : Shape := ⟨2, ![1152, 512]⟩
abbrev S768x1152 : Shape := ⟨2, ![768, 1152]⟩
abbrev S72x128 : Shape := ⟨2, ![72, 128]⟩
abbrev S1 : Shape := ⟨1, ![1]⟩
abbrev S136x128 : Shape := ⟨2, ![136, 128]⟩
abbrev S68x128 : Shape := ⟨2, ![68, 128]⟩
abbrev S64x128 : Shape := ⟨2, ![64, 128]⟩
abbrev S128x128 : Shape := ⟨2, ![128, 128]⟩
abbrev S768x11008 : Shape := ⟨2, ![768, 11008]⟩
abbrev S512x256 : Shape := ⟨2, ![512, 256]⟩
abbrev S32x256 : Shape := ⟨2, ![32, 256]⟩
abbrev S2200x256 : Shape := ⟨2, ![2200, 256]⟩
abbrev S768x256 : Shape := ⟨2, ![768, 256]⟩
abbrev S1152x256 : Shape := ⟨2, ![1152, 256]⟩
abbrev S512x8x256 : Shape := ⟨3, ![512, 8, 256]⟩
abbrev S512x1x256 : Shape := ⟨3, ![512, 1, 256]⟩
abbrev S4096x256 : Shape := ⟨2, ![4096, 256]⟩
abbrev S32x128x256 : Shape := ⟨3, ![32, 128, 256]⟩
abbrev S32x1x256 : Shape := ⟨3, ![32, 1, 256]⟩
abbrev S3x256x11008 : Shape := ⟨3, ![3, 256, 11008]⟩

abbrev nBuf : Space → Nat
  | .hbm => 14
  | .vmem => 20
  | .smem => 8
  | _ => 0

abbrev bufTy : (tb : Table) → Fin (tcTables nBuf tb) → BufTy
  | .hbm, ⟨0, _⟩ => ⟨S3x256x4096, .bf16⟩
  | .hbm, ⟨1, _⟩ => ⟨S512x11008, .i32⟩
  | .hbm, ⟨2, _⟩ => ⟨S32x11008, .bf16⟩
  | .hbm, ⟨3, _⟩ => ⟨S2200x4096, .bf16⟩
  | .hbm, ⟨4, _⟩ => ⟨S2200x11008, .bf16⟩
  | .hbm, ⟨5, _⟩ => ⟨S15, .i32⟩
  | .hbm, ⟨6, _⟩ => ⟨S15, .i32⟩
  | .hbm, ⟨7, _⟩ => ⟨S15, .f32⟩
  | .hbm, ⟨8, _⟩ => ⟨S10, .i32⟩
  | .hbm, ⟨9, _⟩ => ⟨S9, .i32⟩
  | .hbm, ⟨10, _⟩ => ⟨S768x4096, .bf16⟩
  | .hbm, ⟨11, _⟩ => ⟨S768x128, .bf16⟩
  | .hbm, ⟨12, _⟩ => ⟨S768x11008, .bf16⟩
  | .hbm, ⟨13, _⟩ => ⟨S3x256x11008, .bf16⟩
  | .local _ .vmem, ⟨0, _⟩ => ⟨S768x512, .bf16⟩
  | .local _ .vmem, ⟨1, _⟩ => ⟨S768x512, .bf16⟩
  | .local _ .vmem, ⟨2, _⟩ => ⟨S2200x512, .bf16⟩
  | .local _ .vmem, ⟨3, _⟩ => ⟨S2200x512, .bf16⟩
  | .local _ .vmem, ⟨4, _⟩ => ⟨S768x128, .bf16⟩
  | .local _ .vmem, ⟨5, _⟩ => ⟨S1152x512, .bf16⟩
  | .local _ .vmem, ⟨6, _⟩ => ⟨S768x1152, .f32⟩
  | .local _ .vmem, ⟨7, _⟩ => ⟨S72x128, .i32⟩
  | .local _ .vmem, ⟨8, _⟩ => ⟨S768x4096, .bf16⟩
  | .local _ .vmem, ⟨9, _⟩ => ⟨S512x256, .i32⟩
  | .local _ .vmem, ⟨10, _⟩ => ⟨S512x256, .i32⟩
  | .local _ .vmem, ⟨11, _⟩ => ⟨S32x256, .bf16⟩
  | .local _ .vmem, ⟨12, _⟩ => ⟨S32x256, .bf16⟩
  | .local _ .vmem, ⟨13, _⟩ => ⟨S768x128, .bf16⟩
  | .local _ .vmem, ⟨14, _⟩ => ⟨S2200x256, .bf16⟩
  | .local _ .vmem, ⟨15, _⟩ => ⟨S2200x256, .bf16⟩
  | .local _ .vmem, ⟨16, _⟩ => ⟨S768x256, .bf16⟩
  | .local _ .vmem, ⟨17, _⟩ => ⟨S768x256, .bf16⟩
  | .local _ .vmem, ⟨18, _⟩ => ⟨S1152x256, .bf16⟩
  | .local _ .vmem, ⟨19, _⟩ => ⟨S72x128, .i32⟩
  | .local _ .smem, ⟨0, _⟩ => ⟨S15, .i32⟩
  | .local _ .smem, ⟨1, _⟩ => ⟨S15, .i32⟩
  | .local _ .smem, ⟨2, _⟩ => ⟨S10, .i32⟩
  | .local _ .smem, ⟨3, _⟩ => ⟨S9, .i32⟩
  | .local _ .smem, ⟨4, _⟩ => ⟨S15, .f32⟩
  | .local _ .smem, ⟨5, _⟩ => ⟨S15, .i32⟩
  | .local _ .smem, ⟨6, _⟩ => ⟨S10, .i32⟩
  | .local _ .smem, ⟨7, _⟩ => ⟨S9, .i32⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_scratch0 : Ref sig .tc := ⟨.vmem, 18, rfl⟩
abbrev cc1_scratch1 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc1_stg0_0 : Ref sig .tc := ⟨.smem, 5, rfl⟩
abbrev cc1_stg1_0 : Ref sig .tc := ⟨.smem, 6, rfl⟩
abbrev cc1_stg2_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [BitOps F]

abbrev grid0 : Pipeline.Grid := ⟨1, ![8], ![false]⟩

def k0_off1 (v0 : BitVec 32) : Fin 1 → Nat :=
  let v1 : Index := Scalar.indexCast v0
  ![v1.toNat]

def k0_chk1 (v0 : BitVec 32) : Prop :=
  (∀ a, (k0_off1 v0) a + S1.size a ≤ S15.size a)
theorem k0_off1_inb : ∀ (v0 : BitVec 32) (k0_hw1 : k0_chk1 v0), ∀ a, (k0_off1 v0) a + S1.size a ≤ S15.size a := fun v0 k0_hw1 => k0_hw1

def k0_mult1 (v2 : BitVec 32) : BitVec 32 :=
  let c_m8_i32 : BitVec 32 := 4294967288#32
  let v3 : BitVec 32 := Scalar.andi v2 c_m8_i32
  v3

def k0_off2 (v2 : BitVec 32) : Fin 2 → Nat :=
  let c_m8_i32 : BitVec 32 := 4294967288#32
  let v3 : BitVec 32 := Scalar.andi v2 c_m8_i32
  let v4 : BitVec 32 := v3
  let v5 : Index := Scalar.indexCast v4
  let c0_0 : Index := 0#32
  ![v5.toNat, 0]
def k0_off3 (v2 : BitVec 32) : Fin 2 → Nat :=
  let c7_i32 : BitVec 32 := 7#32
  let v11 : BitVec 32 := Scalar.andi v2 c7_i32
  let c1_i32 : BitVec 32 := 1#32
  let v12 : BitVec 32 := Scalar.shrsi v11 c1_i32
  let v15 : Index := Scalar.indexCast v12
  let c0_4 : Index := 0#32
  ![v15.toNat, 0]
def k0_off4 (v2 : BitVec 32) : Fin 2 → Nat :=
  let c7_i32 : BitVec 32 := 7#32
  let v11 : BitVec 32 := Scalar.andi v2 c7_i32
  let c1_i32 : BitVec 32 := 1#32
  let v12 : BitVec 32 := Scalar.shrsi v11 c1_i32
  let c1_i32_5 : BitVec 32 := 1#32
  let v17 : BitVec 32 := Scalar.addi v12 c1_i32_5
  let v18 : Index := Scalar.indexCast v17
  let c0_6 : Index := 0#32
  ![v18.toNat, 0]
def k0_mult2 (v2 : BitVec 32) : BitVec 32 :=
  let c_m8_i32_11 : BitVec 32 := 4294967288#32
  let v33 : BitVec 32 := Scalar.andi v2 c_m8_i32_11
  v33
def k0_off5 (v2 : BitVec 32) : Fin 2 → Nat :=
  let c_m8_i32_11 : BitVec 32 := 4294967288#32
  let v33 : BitVec 32 := Scalar.andi v2 c_m8_i32_11
  let v34 : BitVec 32 := v33
  let v35 : Index := Scalar.indexCast v34
  let c128 : Index := 128#32
  ![v35.toNat, 128]
def k0_mult3 (v2 : BitVec 32) : BitVec 32 :=
  let c_m8_i32_26 : BitVec 32 := 4294967288#32
  let v63 : BitVec 32 := Scalar.andi v2 c_m8_i32_26
  v63
def k0_off6 (v2 : BitVec 32) : Fin 2 → Nat :=
  let c_m8_i32_26 : BitVec 32 := 4294967288#32
  let v63 : BitVec 32 := Scalar.andi v2 c_m8_i32_26
  let v64 : BitVec 32 := v63
  let v65 : Index := Scalar.indexCast v64
  let c256 : Index := 256#32
  ![v65.toNat, 256]
def k0_mult4 (v2 : BitVec 32) : BitVec 32 :=
  let c_m8_i32_41 : BitVec 32 := 4294967288#32
  let v93 : BitVec 32 := Scalar.andi v2 c_m8_i32_41
  v93
def k0_off7 (v2 : BitVec 32) : Fin 2 → Nat :=
  let c_m8_i32_41 : BitVec 32 := 4294967288#32
  let v93 : BitVec 32 := Scalar.andi v2 c_m8_i32_41
  let v94 : BitVec 32 := v93
  let v95 : Index := Scalar.indexCast v94
  let c384 : Index := 384#32
  ![v95.toNat, 384]

def k0_chk2 (v2 : BitVec 32) : Prop :=
  (8 ∣ (k0_mult1 v2).toNat) ∧
  (∀ a, (k0_off2 v2) a + S136x128.size a ≤ S2200x512.size a) ∧
  (∀ a, (k0_off3 v2) a + S64x128.size a ≤ S72x128.size a) ∧
  (∀ a, (k0_off4 v2) a + S64x128.size a ≤ S72x128.size a) ∧
  (8 ∣ (k0_mult2 v2).toNat) ∧
  (∀ a, (k0_off5 v2) a + S136x128.size a ≤ S2200x512.size a) ∧
  (8 ∣ (k0_mult3 v2).toNat) ∧
  (∀ a, (k0_off6 v2) a + S136x128.size a ≤ S2200x512.size a) ∧
  (8 ∣ (k0_mult4 v2).toNat) ∧
  (∀ a, (k0_off7 v2) a + S136x128.size a ≤ S2200x512.size a)
theorem k0_mult1_dvd : ∀ (v2 : BitVec 32) (k0_hw2 : k0_chk2 v2), 8 ∣ (k0_mult1 v2).toNat := fun v2 k0_hw2 => k0_hw2.1
theorem k0_off2_inb : ∀ (v2 : BitVec 32) (k0_hw2 : k0_chk2 v2), ∀ a, (k0_off2 v2) a + S136x128.size a ≤ S2200x512.size a := fun v2 k0_hw2 => k0_hw2.2.1
theorem k0_off3_inb : ∀ (v2 : BitVec 32) (k0_hw2 : k0_chk2 v2), ∀ a, (k0_off3 v2) a + S64x128.size a ≤ S72x128.size a := fun v2 k0_hw2 => k0_hw2.2.2.1
theorem k0_off4_inb : ∀ (v2 : BitVec 32) (k0_hw2 : k0_chk2 v2), ∀ a, (k0_off4 v2) a + S64x128.size a ≤ S72x128.size a := fun v2 k0_hw2 => k0_hw2.2.2.2.1
theorem k0_mult2_dvd : ∀ (v2 : BitVec 32) (k0_hw2 : k0_chk2 v2), 8 ∣ (k0_mult2 v2).toNat := fun v2 k0_hw2 => k0_hw2.2.2.2.2.1
theorem k0_off5_inb : ∀ (v2 : BitVec 32) (k0_hw2 : k0_chk2 v2), ∀ a, (k0_off5 v2) a + S136x128.size a ≤ S2200x512.size a := fun v2 k0_hw2 => k0_hw2.2.2.2.2.2.1
theorem k0_mult3_dvd : ∀ (v2 : BitVec 32) (k0_hw2 : k0_chk2 v2), 8 ∣ (k0_mult3 v2).toNat := fun v2 k0_hw2 => k0_hw2.2.2.2.2.2.2.1
theorem k0_off6_inb : ∀ (v2 : BitVec 32) (k0_hw2 : k0_chk2 v2), ∀ a, (k0_off6 v2) a + S136x128.size a ≤ S2200x512.size a := fun v2 k0_hw2 => k0_hw2.2.2.2.2.2.2.2.1
theorem k0_mult4_dvd : ∀ (v2 : BitVec 32) (k0_hw2 : k0_chk2 v2), 8 ∣ (k0_mult4 v2).toNat := fun v2 k0_hw2 => k0_hw2.2.2.2.2.2.2.2.2.1
theorem k0_off7_inb : ∀ (v2 : BitVec 32) (k0_hw2 : k0_chk2 v2), ∀ a, (k0_off7 v2) a + S136x128.size a ≤ S2200x512.size a := fun v2 k0_hw2 => k0_hw2.2.2.2.2.2.2.2.2.2

def k0_off8 (v123 : BitVec 32) : Fin 1 → Nat :=
  let v124 : Index := Scalar.indexCast v123
  ![v124.toNat]

def k0_chk3 (v123 : BitVec 32) : Prop :=
  (∀ a, (k0_off8 v123) a + S1.size a ≤ S15.size a)
theorem k0_off8_inb : ∀ (v123 : BitVec 32) (k0_hw3 : k0_chk3 v123), ∀ a, (k0_off8 v123) a + S1.size a ≤ S15.size a := fun v123 k0_hw3 => k0_hw3

def k0_mult5 (v125 : BitVec 32) : BitVec 32 :=
  let c_m8_i32_56 : BitVec 32 := 4294967288#32
  let v126 : BitVec 32 := Scalar.andi v125 c_m8_i32_56
  v126

def k0_off9 (v125 : BitVec 32) : Fin 2 → Nat :=
  let c_m8_i32_56 : BitVec 32 := 4294967288#32
  let v126 : BitVec 32 := Scalar.andi v125 c_m8_i32_56
  let v127 : BitVec 32 := v126
  let v128 : Index := Scalar.indexCast v127
  let c0_57 : Index := 0#32
  ![v128.toNat, 0]
def k0_off10 (v125 : BitVec 32) : Fin 2 → Nat :=
  let c7_i32_60 : BitVec 32 := 7#32
  let v134 : BitVec 32 := Scalar.andi v125 c7_i32_60
  let c1_i32_61 : BitVec 32 := 1#32
  let v135 : BitVec 32 := Scalar.shrsi v134 c1_i32_61
  let v138 : Index := Scalar.indexCast v135
  let c0_64 : Index := 0#32
  ![v138.toNat, 0]
def k0_off11 (v125 : BitVec 32) : Fin 2 → Nat :=
  let c7_i32_60 : BitVec 32 := 7#32
  let v134 : BitVec 32 := Scalar.andi v125 c7_i32_60
  let c1_i32_61 : BitVec 32 := 1#32
  let v135 : BitVec 32 := Scalar.shrsi v134 c1_i32_61
  let c1_i32_65 : BitVec 32 := 1#32
  let v140 : BitVec 32 := Scalar.addi v135 c1_i32_65
  let v141 : Index := Scalar.indexCast v140
  let c0_66 : Index := 0#32
  ![v141.toNat, 0]
def k0_mult6 (v125 : BitVec 32) : BitVec 32 :=
  let c_m8_i32_72 : BitVec 32 := 4294967288#32
  let v156 : BitVec 32 := Scalar.andi v125 c_m8_i32_72
  v156
def k0_off12 (v125 : BitVec 32) : Fin 2 → Nat :=
  let c_m8_i32_72 : BitVec 32 := 4294967288#32
  let v156 : BitVec 32 := Scalar.andi v125 c_m8_i32_72
  let v157 : BitVec 32 := v156
  let v158 : Index := Scalar.indexCast v157
  let c128_73 : Index := 128#32
  ![v158.toNat, 128]
def k0_mult7 (v125 : BitVec 32) : BitVec 32 :=
  let c_m8_i32_88 : BitVec 32 := 4294967288#32
  let v186 : BitVec 32 := Scalar.andi v125 c_m8_i32_88
  v186
def k0_off13 (v125 : BitVec 32) : Fin 2 → Nat :=
  let c_m8_i32_88 : BitVec 32 := 4294967288#32
  let v186 : BitVec 32 := Scalar.andi v125 c_m8_i32_88
  let v187 : BitVec 32 := v186
  let v188 : Index := Scalar.indexCast v187
  let c256_89 : Index := 256#32
  ![v188.toNat, 256]
def k0_mult8 (v125 : BitVec 32) : BitVec 32 :=
  let c_m8_i32_104 : BitVec 32 := 4294967288#32
  let v216 : BitVec 32 := Scalar.andi v125 c_m8_i32_104
  v216
def k0_off14 (v125 : BitVec 32) : Fin 2 → Nat :=
  let c_m8_i32_104 : BitVec 32 := 4294967288#32
  let v216 : BitVec 32 := Scalar.andi v125 c_m8_i32_104
  let v217 : BitVec 32 := v216
  let v218 : Index := Scalar.indexCast v217
  let c384_105 : Index := 384#32
  ![v218.toNat, 384]

def k0_chk4 (v125 : BitVec 32) : Prop :=
  (8 ∣ (k0_mult5 v125).toNat) ∧
  (∀ a, (k0_off9 v125) a + S136x128.size a ≤ S2200x512.size a) ∧
  (∀ a, (k0_off10 v125) a + S64x128.size a ≤ S72x128.size a) ∧
  (∀ a, (k0_off11 v125) a + S64x128.size a ≤ S72x128.size a) ∧
  (8 ∣ (k0_mult6 v125).toNat) ∧
  (∀ a, (k0_off12 v125) a + S136x128.size a ≤ S2200x512.size a) ∧
  (8 ∣ (k0_mult7 v125).toNat) ∧
  (∀ a, (k0_off13 v125) a + S136x128.size a ≤ S2200x512.size a) ∧
  (8 ∣ (k0_mult8 v125).toNat) ∧
  (∀ a, (k0_off14 v125) a + S136x128.size a ≤ S2200x512.size a)
theorem k0_mult5_dvd : ∀ (v125 : BitVec 32) (k0_hw4 : k0_chk4 v125), 8 ∣ (k0_mult5 v125).toNat := fun v125 k0_hw4 => k0_hw4.1
theorem k0_off9_inb : ∀ (v125 : BitVec 32) (k0_hw4 : k0_chk4 v125), ∀ a, (k0_off9 v125) a + S136x128.size a ≤ S2200x512.size a := fun v125 k0_hw4 => k0_hw4.2.1
theorem k0_off10_inb : ∀ (v125 : BitVec 32) (k0_hw4 : k0_chk4 v125), ∀ a, (k0_off10 v125) a + S64x128.size a ≤ S72x128.size a := fun v125 k0_hw4 => k0_hw4.2.2.1
theorem k0_off11_inb : ∀ (v125 : BitVec 32) (k0_hw4 : k0_chk4 v125), ∀ a, (k0_off11 v125) a + S64x128.size a ≤ S72x128.size a := fun v125 k0_hw4 => k0_hw4.2.2.2.1
theorem k0_mult6_dvd : ∀ (v125 : BitVec 32) (k0_hw4 : k0_chk4 v125), 8 ∣ (k0_mult6 v125).toNat := fun v125 k0_hw4 => k0_hw4.2.2.2.2.1
theorem k0_off12_inb : ∀ (v125 : BitVec 32) (k0_hw4 : k0_chk4 v125), ∀ a, (k0_off12 v125) a + S136x128.size a ≤ S2200x512.size a := fun v125 k0_hw4 => k0_hw4.2.2.2.2.2.1
theorem k0_mult7_dvd : ∀ (v125 : BitVec 32) (k0_hw4 : k0_chk4 v125), 8 ∣ (k0_mult7 v125).toNat := fun v125 k0_hw4 => k0_hw4.2.2.2.2.2.2.1
theorem k0_off13_inb : ∀ (v125 : BitVec 32) (k0_hw4 : k0_chk4 v125), ∀ a, (k0_off13 v125) a + S136x128.size a ≤ S2200x512.size a := fun v125 k0_hw4 => k0_hw4.2.2.2.2.2.2.2.1
theorem k0_mult8_dvd : ∀ (v125 : BitVec 32) (k0_hw4 : k0_chk4 v125), 8 ∣ (k0_mult8 v125).toNat := fun v125 k0_hw4 => k0_hw4.2.2.2.2.2.2.2.2.1
theorem k0_off14_inb : ∀ (v125 : BitVec 32) (k0_hw4 : k0_chk4 v125), ∀ a, (k0_off14 v125) a + S136x128.size a ≤ S2200x512.size a := fun v125 k0_hw4 => k0_hw4.2.2.2.2.2.2.2.2.2

def k0_off15 (v246 : BitVec 32) : Fin 1 → Nat :=
  let v247 : Index := Scalar.indexCast v246
  ![v247.toNat]

def k0_chk5 (v246 : BitVec 32) : Prop :=
  (∀ a, (k0_off15 v246) a + S1.size a ≤ S15.size a)
theorem k0_off15_inb : ∀ (v246 : BitVec 32) (k0_hw5 : k0_chk5 v246), ∀ a, (k0_off15 v246) a + S1.size a ≤ S15.size a := fun v246 k0_hw5 => k0_hw5

def k0_mult9 (v248 : BitVec 32) : BitVec 32 :=
  let c_m8_i32_120 : BitVec 32 := 4294967288#32
  let v249 : BitVec 32 := Scalar.andi v248 c_m8_i32_120
  v249

def k0_off16 (v248 : BitVec 32) : Fin 2 → Nat :=
  let c_m8_i32_120 : BitVec 32 := 4294967288#32
  let v249 : BitVec 32 := Scalar.andi v248 c_m8_i32_120
  let v250 : BitVec 32 := v249
  let v251 : Index := Scalar.indexCast v250
  let c0_121 : Index := 0#32
  ![v251.toNat, 0]
def k0_off17 (v248 : BitVec 32) : Fin 2 → Nat :=
  let c7_i32_124 : BitVec 32 := 7#32
  let v257 : BitVec 32 := Scalar.andi v248 c7_i32_124
  let c1_i32_125 : BitVec 32 := 1#32
  let v258 : BitVec 32 := Scalar.shrsi v257 c1_i32_125
  let v261 : Index := Scalar.indexCast v258
  let c0_128 : Index := 0#32
  ![v261.toNat, 0]
def k0_off18 (v248 : BitVec 32) : Fin 2 → Nat :=
  let c7_i32_124 : BitVec 32 := 7#32
  let v257 : BitVec 32 := Scalar.andi v248 c7_i32_124
  let c1_i32_125 : BitVec 32 := 1#32
  let v258 : BitVec 32 := Scalar.shrsi v257 c1_i32_125
  let c1_i32_129 : BitVec 32 := 1#32
  let v263 : BitVec 32 := Scalar.addi v258 c1_i32_129
  let v264 : Index := Scalar.indexCast v263
  let c0_130 : Index := 0#32
  ![v264.toNat, 0]
def k0_mult10 (v248 : BitVec 32) : BitVec 32 :=
  let c_m8_i32_136 : BitVec 32 := 4294967288#32
  let v279 : BitVec 32 := Scalar.andi v248 c_m8_i32_136
  v279
def k0_off19 (v248 : BitVec 32) : Fin 2 → Nat :=
  let c_m8_i32_136 : BitVec 32 := 4294967288#32
  let v279 : BitVec 32 := Scalar.andi v248 c_m8_i32_136
  let v280 : BitVec 32 := v279
  let v281 : Index := Scalar.indexCast v280
  let c128_137 : Index := 128#32
  ![v281.toNat, 128]
def k0_mult11 (v248 : BitVec 32) : BitVec 32 :=
  let c_m8_i32_152 : BitVec 32 := 4294967288#32
  let v309 : BitVec 32 := Scalar.andi v248 c_m8_i32_152
  v309
def k0_off20 (v248 : BitVec 32) : Fin 2 → Nat :=
  let c_m8_i32_152 : BitVec 32 := 4294967288#32
  let v309 : BitVec 32 := Scalar.andi v248 c_m8_i32_152
  let v310 : BitVec 32 := v309
  let v311 : Index := Scalar.indexCast v310
  let c256_153 : Index := 256#32
  ![v311.toNat, 256]
def k0_mult12 (v248 : BitVec 32) : BitVec 32 :=
  let c_m8_i32_168 : BitVec 32 := 4294967288#32
  let v339 : BitVec 32 := Scalar.andi v248 c_m8_i32_168
  v339
def k0_off21 (v248 : BitVec 32) : Fin 2 → Nat :=
  let c_m8_i32_168 : BitVec 32 := 4294967288#32
  let v339 : BitVec 32 := Scalar.andi v248 c_m8_i32_168
  let v340 : BitVec 32 := v339
  let v341 : Index := Scalar.indexCast v340
  let c384_169 : Index := 384#32
  ![v341.toNat, 384]

def k0_chk6 (v248 : BitVec 32) : Prop :=
  (8 ∣ (k0_mult9 v248).toNat) ∧
  (∀ a, (k0_off16 v248) a + S136x128.size a ≤ S2200x512.size a) ∧
  (∀ a, (k0_off17 v248) a + S64x128.size a ≤ S72x128.size a) ∧
  (∀ a, (k0_off18 v248) a + S64x128.size a ≤ S72x128.size a) ∧
  (8 ∣ (k0_mult10 v248).toNat) ∧
  (∀ a, (k0_off19 v248) a + S136x128.size a ≤ S2200x512.size a) ∧
  (8 ∣ (k0_mult11 v248).toNat) ∧
  (∀ a, (k0_off20 v248) a + S136x128.size a ≤ S2200x512.size a) ∧
  (8 ∣ (k0_mult12 v248).toNat) ∧
  (∀ a, (k0_off21 v248) a + S136x128.size a ≤ S2200x512.size a)
theorem k0_mult9_dvd : ∀ (v248 : BitVec 32) (k0_hw6 : k0_chk6 v248), 8 ∣ (k0_mult9 v248).toNat := fun v248 k0_hw6 => k0_hw6.1
theorem k0_off16_inb : ∀ (v248 : BitVec 32) (k0_hw6 : k0_chk6 v248), ∀ a, (k0_off16 v248) a + S136x128.size a ≤ S2200x512.size a := fun v248 k0_hw6 => k0_hw6.2.1
theorem k0_off17_inb : ∀ (v248 : BitVec 32) (k0_hw6 : k0_chk6 v248), ∀ a, (k0_off17 v248) a + S64x128.size a ≤ S72x128.size a := fun v248 k0_hw6 => k0_hw6.2.2.1
theorem k0_off18_inb : ∀ (v248 : BitVec 32) (k0_hw6 : k0_chk6 v248), ∀ a, (k0_off18 v248) a + S64x128.size a ≤ S72x128.size a := fun v248 k0_hw6 => k0_hw6.2.2.2.1
theorem k0_mult10_dvd : ∀ (v248 : BitVec 32) (k0_hw6 : k0_chk6 v248), 8 ∣ (k0_mult10 v248).toNat := fun v248 k0_hw6 => k0_hw6.2.2.2.2.1
theorem k0_off19_inb : ∀ (v248 : BitVec 32) (k0_hw6 : k0_chk6 v248), ∀ a, (k0_off19 v248) a + S136x128.size a ≤ S2200x512.size a := fun v248 k0_hw6 => k0_hw6.2.2.2.2.2.1
theorem k0_mult11_dvd : ∀ (v248 : BitVec 32) (k0_hw6 : k0_chk6 v248), 8 ∣ (k0_mult11 v248).toNat := fun v248 k0_hw6 => k0_hw6.2.2.2.2.2.2.1
theorem k0_off20_inb : ∀ (v248 : BitVec 32) (k0_hw6 : k0_chk6 v248), ∀ a, (k0_off20 v248) a + S136x128.size a ≤ S2200x512.size a := fun v248 k0_hw6 => k0_hw6.2.2.2.2.2.2.2.1
theorem k0_mult12_dvd : ∀ (v248 : BitVec 32) (k0_hw6 : k0_chk6 v248), 8 ∣ (k0_mult12 v248).toNat := fun v248 k0_hw6 => k0_hw6.2.2.2.2.2.2.2.2.1
theorem k0_off21_inb : ∀ (v248 : BitVec 32) (k0_hw6 : k0_chk6 v248), ∀ a, (k0_off21 v248) a + S136x128.size a ≤ S2200x512.size a := fun v248 k0_hw6 => k0_hw6.2.2.2.2.2.2.2.2.2

def k0_off22 (v369 : BitVec 32) : Fin 1 → Nat :=
  let v370 : Index := Scalar.indexCast v369
  ![v370.toNat]

def k0_chk7 (v369 : BitVec 32) : Prop :=
  (∀ a, (k0_off22 v369) a + S1.size a ≤ S15.size a)
theorem k0_off22_inb : ∀ (v369 : BitVec 32) (k0_hw7 : k0_chk7 v369), ∀ a, (k0_off22 v369) a + S1.size a ≤ S15.size a := fun v369 k0_hw7 => k0_hw7

def k0_mult13 (v371 : BitVec 32) : BitVec 32 :=
  let c_m8_i32_184 : BitVec 32 := 4294967288#32
  let v372 : BitVec 32 := Scalar.andi v371 c_m8_i32_184
  v372

def k0_off23 (v371 : BitVec 32) : Fin 2 → Nat :=
  let c_m8_i32_184 : BitVec 32 := 4294967288#32
  let v372 : BitVec 32 := Scalar.andi v371 c_m8_i32_184
  let v373 : BitVec 32 := v372
  let v374 : Index := Scalar.indexCast v373
  let c0_185 : Index := 0#32
  ![v374.toNat, 0]
def k0_off24 (v371 : BitVec 32) : Fin 2 → Nat :=
  let c7_i32_188 : BitVec 32 := 7#32
  let v380 : BitVec 32 := Scalar.andi v371 c7_i32_188
  let c1_i32_189 : BitVec 32 := 1#32
  let v381 : BitVec 32 := Scalar.shrsi v380 c1_i32_189
  let v384 : Index := Scalar.indexCast v381
  let c0_192 : Index := 0#32
  ![v384.toNat, 0]
def k0_off25 (v371 : BitVec 32) : Fin 2 → Nat :=
  let c7_i32_188 : BitVec 32 := 7#32
  let v380 : BitVec 32 := Scalar.andi v371 c7_i32_188
  let c1_i32_189 : BitVec 32 := 1#32
  let v381 : BitVec 32 := Scalar.shrsi v380 c1_i32_189
  let c1_i32_193 : BitVec 32 := 1#32
  let v386 : BitVec 32 := Scalar.addi v381 c1_i32_193
  let v387 : Index := Scalar.indexCast v386
  let c0_194 : Index := 0#32
  ![v387.toNat, 0]
def k0_mult14 (v371 : BitVec 32) : BitVec 32 :=
  let c_m8_i32_200 : BitVec 32 := 4294967288#32
  let v402 : BitVec 32 := Scalar.andi v371 c_m8_i32_200
  v402
def k0_off26 (v371 : BitVec 32) : Fin 2 → Nat :=
  let c_m8_i32_200 : BitVec 32 := 4294967288#32
  let v402 : BitVec 32 := Scalar.andi v371 c_m8_i32_200
  let v403 : BitVec 32 := v402
  let v404 : Index := Scalar.indexCast v403
  let c128_201 : Index := 128#32
  ![v404.toNat, 128]
def k0_mult15 (v371 : BitVec 32) : BitVec 32 :=
  let c_m8_i32_216 : BitVec 32 := 4294967288#32
  let v432 : BitVec 32 := Scalar.andi v371 c_m8_i32_216
  v432
def k0_off27 (v371 : BitVec 32) : Fin 2 → Nat :=
  let c_m8_i32_216 : BitVec 32 := 4294967288#32
  let v432 : BitVec 32 := Scalar.andi v371 c_m8_i32_216
  let v433 : BitVec 32 := v432
  let v434 : Index := Scalar.indexCast v433
  let c256_217 : Index := 256#32
  ![v434.toNat, 256]
def k0_mult16 (v371 : BitVec 32) : BitVec 32 :=
  let c_m8_i32_232 : BitVec 32 := 4294967288#32
  let v462 : BitVec 32 := Scalar.andi v371 c_m8_i32_232
  v462
def k0_off28 (v371 : BitVec 32) : Fin 2 → Nat :=
  let c_m8_i32_232 : BitVec 32 := 4294967288#32
  let v462 : BitVec 32 := Scalar.andi v371 c_m8_i32_232
  let v463 : BitVec 32 := v462
  let v464 : Index := Scalar.indexCast v463
  let c384_233 : Index := 384#32
  ![v464.toNat, 384]

def k0_chk8 (v371 : BitVec 32) : Prop :=
  (8 ∣ (k0_mult13 v371).toNat) ∧
  (∀ a, (k0_off23 v371) a + S136x128.size a ≤ S2200x512.size a) ∧
  (∀ a, (k0_off24 v371) a + S64x128.size a ≤ S72x128.size a) ∧
  (∀ a, (k0_off25 v371) a + S64x128.size a ≤ S72x128.size a) ∧
  (8 ∣ (k0_mult14 v371).toNat) ∧
  (∀ a, (k0_off26 v371) a + S136x128.size a ≤ S2200x512.size a) ∧
  (8 ∣ (k0_mult15 v371).toNat) ∧
  (∀ a, (k0_off27 v371) a + S136x128.size a ≤ S2200x512.size a) ∧
  (8 ∣ (k0_mult16 v371).toNat) ∧
  (∀ a, (k0_off28 v371) a + S136x128.size a ≤ S2200x512.size a)
theorem k0_mult13_dvd : ∀ (v371 : BitVec 32) (k0_hw8 : k0_chk8 v371), 8 ∣ (k0_mult13 v371).toNat := fun v371 k0_hw8 => k0_hw8.1
theorem k0_off23_inb : ∀ (v371 : BitVec 32) (k0_hw8 : k0_chk8 v371), ∀ a, (k0_off23 v371) a + S136x128.size a ≤ S2200x512.size a := fun v371 k0_hw8 => k0_hw8.2.1
theorem k0_off24_inb : ∀ (v371 : BitVec 32) (k0_hw8 : k0_chk8 v371), ∀ a, (k0_off24 v371) a + S64x128.size a ≤ S72x128.size a := fun v371 k0_hw8 => k0_hw8.2.2.1
theorem k0_off25_inb : ∀ (v371 : BitVec 32) (k0_hw8 : k0_chk8 v371), ∀ a, (k0_off25 v371) a + S64x128.size a ≤ S72x128.size a := fun v371 k0_hw8 => k0_hw8.2.2.2.1
theorem k0_mult14_dvd : ∀ (v371 : BitVec 32) (k0_hw8 : k0_chk8 v371), 8 ∣ (k0_mult14 v371).toNat := fun v371 k0_hw8 => k0_hw8.2.2.2.2.1
theorem k0_off26_inb : ∀ (v371 : BitVec 32) (k0_hw8 : k0_chk8 v371), ∀ a, (k0_off26 v371) a + S136x128.size a ≤ S2200x512.size a := fun v371 k0_hw8 => k0_hw8.2.2.2.2.2.1
theorem k0_mult15_dvd : ∀ (v371 : BitVec 32) (k0_hw8 : k0_chk8 v371), 8 ∣ (k0_mult15 v371).toNat := fun v371 k0_hw8 => k0_hw8.2.2.2.2.2.2.1
theorem k0_off27_inb : ∀ (v371 : BitVec 32) (k0_hw8 : k0_chk8 v371), ∀ a, (k0_off27 v371) a + S136x128.size a ≤ S2200x512.size a := fun v371 k0_hw8 => k0_hw8.2.2.2.2.2.2.2.1
theorem k0_mult16_dvd : ∀ (v371 : BitVec 32) (k0_hw8 : k0_chk8 v371), 8 ∣ (k0_mult16 v371).toNat := fun v371 k0_hw8 => k0_hw8.2.2.2.2.2.2.2.2.1
theorem k0_off28_inb : ∀ (v371 : BitVec 32) (k0_hw8 : k0_chk8 v371), ∀ a, (k0_off28 v371) a + S136x128.size a ≤ S2200x512.size a := fun v371 k0_hw8 => k0_hw8.2.2.2.2.2.2.2.2.2

def k0_off29 (v492 : BitVec 32) : Fin 1 → Nat :=
  let v493 : Index := Scalar.indexCast v492
  ![v493.toNat]

def k0_chk9 (v492 : BitVec 32) : Prop :=
  (∀ a, (k0_off29 v492) a + S1.size a ≤ S15.size a)
theorem k0_off29_inb : ∀ (v492 : BitVec 32) (k0_hw9 : k0_chk9 v492), ∀ a, (k0_off29 v492) a + S1.size a ≤ S15.size a := fun v492 k0_hw9 => k0_hw9

def k0_mult17 (v494 : BitVec 32) : BitVec 32 :=
  let c_m8_i32_248 : BitVec 32 := 4294967288#32
  let v495 : BitVec 32 := Scalar.andi v494 c_m8_i32_248
  v495

def k0_off30 (v494 : BitVec 32) : Fin 2 → Nat :=
  let c_m8_i32_248 : BitVec 32 := 4294967288#32
  let v495 : BitVec 32 := Scalar.andi v494 c_m8_i32_248
  let v496 : BitVec 32 := v495
  let v497 : Index := Scalar.indexCast v496
  let c0_249 : Index := 0#32
  ![v497.toNat, 0]
def k0_off31 (v494 : BitVec 32) : Fin 2 → Nat :=
  let c7_i32_252 : BitVec 32 := 7#32
  let v503 : BitVec 32 := Scalar.andi v494 c7_i32_252
  let c1_i32_253 : BitVec 32 := 1#32
  let v504 : BitVec 32 := Scalar.shrsi v503 c1_i32_253
  let v507 : Index := Scalar.indexCast v504
  let c0_256 : Index := 0#32
  ![v507.toNat, 0]
def k0_off32 (v494 : BitVec 32) : Fin 2 → Nat :=
  let c7_i32_252 : BitVec 32 := 7#32
  let v503 : BitVec 32 := Scalar.andi v494 c7_i32_252
  let c1_i32_253 : BitVec 32 := 1#32
  let v504 : BitVec 32 := Scalar.shrsi v503 c1_i32_253
  let c1_i32_257 : BitVec 32 := 1#32
  let v509 : BitVec 32 := Scalar.addi v504 c1_i32_257
  let v510 : Index := Scalar.indexCast v509
  let c0_258 : Index := 0#32
  ![v510.toNat, 0]
def k0_mult18 (v494 : BitVec 32) : BitVec 32 :=
  let c_m8_i32_263 : BitVec 32 := 4294967288#32
  let v525 : BitVec 32 := Scalar.andi v494 c_m8_i32_263
  v525
def k0_off33 (v494 : BitVec 32) : Fin 2 → Nat :=
  let c_m8_i32_263 : BitVec 32 := 4294967288#32
  let v525 : BitVec 32 := Scalar.andi v494 c_m8_i32_263
  let v526 : BitVec 32 := v525
  let v527 : Index := Scalar.indexCast v526
  let c128_264 : Index := 128#32
  ![v527.toNat, 128]
def k0_mult19 (v494 : BitVec 32) : BitVec 32 :=
  let c_m8_i32_279 : BitVec 32 := 4294967288#32
  let v555 : BitVec 32 := Scalar.andi v494 c_m8_i32_279
  v555
def k0_off34 (v494 : BitVec 32) : Fin 2 → Nat :=
  let c_m8_i32_279 : BitVec 32 := 4294967288#32
  let v555 : BitVec 32 := Scalar.andi v494 c_m8_i32_279
  let v556 : BitVec 32 := v555
  let v557 : Index := Scalar.indexCast v556
  let c256_280 : Index := 256#32
  ![v557.toNat, 256]
def k0_mult20 (v494 : BitVec 32) : BitVec 32 :=
  let c_m8_i32_295 : BitVec 32 := 4294967288#32
  let v585 : BitVec 32 := Scalar.andi v494 c_m8_i32_295
  v585
def k0_off35 (v494 : BitVec 32) : Fin 2 → Nat :=
  let c_m8_i32_295 : BitVec 32 := 4294967288#32
  let v585 : BitVec 32 := Scalar.andi v494 c_m8_i32_295
  let v586 : BitVec 32 := v585
  let v587 : Index := Scalar.indexCast v586
  let c384_296 : Index := 384#32
  ![v587.toNat, 384]

def k0_chk10 (v494 : BitVec 32) : Prop :=
  (8 ∣ (k0_mult17 v494).toNat) ∧
  (∀ a, (k0_off30 v494) a + S136x128.size a ≤ S2200x512.size a) ∧
  (∀ a, (k0_off31 v494) a + S64x128.size a ≤ S72x128.size a) ∧
  (∀ a, (k0_off32 v494) a + S64x128.size a ≤ S72x128.size a) ∧
  (8 ∣ (k0_mult18 v494).toNat) ∧
  (∀ a, (k0_off33 v494) a + S136x128.size a ≤ S2200x512.size a) ∧
  (8 ∣ (k0_mult19 v494).toNat) ∧
  (∀ a, (k0_off34 v494) a + S136x128.size a ≤ S2200x512.size a) ∧
  (8 ∣ (k0_mult20 v494).toNat) ∧
  (∀ a, (k0_off35 v494) a + S136x128.size a ≤ S2200x512.size a)
theorem k0_mult17_dvd : ∀ (v494 : BitVec 32) (k0_hw10 : k0_chk10 v494), 8 ∣ (k0_mult17 v494).toNat := fun v494 k0_hw10 => k0_hw10.1
theorem k0_off30_inb : ∀ (v494 : BitVec 32) (k0_hw10 : k0_chk10 v494), ∀ a, (k0_off30 v494) a + S136x128.size a ≤ S2200x512.size a := fun v494 k0_hw10 => k0_hw10.2.1
theorem k0_off31_inb : ∀ (v494 : BitVec 32) (k0_hw10 : k0_chk10 v494), ∀ a, (k0_off31 v494) a + S64x128.size a ≤ S72x128.size a := fun v494 k0_hw10 => k0_hw10.2.2.1
theorem k0_off32_inb : ∀ (v494 : BitVec 32) (k0_hw10 : k0_chk10 v494), ∀ a, (k0_off32 v494) a + S64x128.size a ≤ S72x128.size a := fun v494 k0_hw10 => k0_hw10.2.2.2.1
theorem k0_mult18_dvd : ∀ (v494 : BitVec 32) (k0_hw10 : k0_chk10 v494), 8 ∣ (k0_mult18 v494).toNat := fun v494 k0_hw10 => k0_hw10.2.2.2.2.1
theorem k0_off33_inb : ∀ (v494 : BitVec 32) (k0_hw10 : k0_chk10 v494), ∀ a, (k0_off33 v494) a + S136x128.size a ≤ S2200x512.size a := fun v494 k0_hw10 => k0_hw10.2.2.2.2.2.1
theorem k0_mult19_dvd : ∀ (v494 : BitVec 32) (k0_hw10 : k0_chk10 v494), 8 ∣ (k0_mult19 v494).toNat := fun v494 k0_hw10 => k0_hw10.2.2.2.2.2.2.1
theorem k0_off34_inb : ∀ (v494 : BitVec 32) (k0_hw10 : k0_chk10 v494), ∀ a, (k0_off34 v494) a + S136x128.size a ≤ S2200x512.size a := fun v494 k0_hw10 => k0_hw10.2.2.2.2.2.2.2.1
theorem k0_mult20_dvd : ∀ (v494 : BitVec 32) (k0_hw10 : k0_chk10 v494), 8 ∣ (k0_mult20 v494).toNat := fun v494 k0_hw10 => k0_hw10.2.2.2.2.2.2.2.2.1
theorem k0_off35_inb : ∀ (v494 : BitVec 32) (k0_hw10 : k0_chk10 v494), ∀ a, (k0_off35 v494) a + S136x128.size a ≤ S2200x512.size a := fun v494 k0_hw10 => k0_hw10.2.2.2.2.2.2.2.2.2

def k0_off36 (v615 : BitVec 32) : Fin 1 → Nat :=
  let v616 : Index := Scalar.indexCast v615
  ![v616.toNat]

def k0_chk11 (v615 : BitVec 32) : Prop :=
  (∀ a, (k0_off36 v615) a + S1.size a ≤ S15.size a)
theorem k0_off36_inb : ∀ (v615 : BitVec 32) (k0_hw11 : k0_chk11 v615), ∀ a, (k0_off36 v615) a + S1.size a ≤ S15.size a := fun v615 k0_hw11 => k0_hw11

def k0_mult21 (v617 : BitVec 32) : BitVec 32 :=
  let c_m8_i32_311 : BitVec 32 := 4294967288#32
  let v618 : BitVec 32 := Scalar.andi v617 c_m8_i32_311
  v618

def k0_off37 (v617 : BitVec 32) : Fin 2 → Nat :=
  let c_m8_i32_311 : BitVec 32 := 4294967288#32
  let v618 : BitVec 32 := Scalar.andi v617 c_m8_i32_311
  let v619 : BitVec 32 := v618
  let v620 : Index := Scalar.indexCast v619
  let c0_312 : Index := 0#32
  ![v620.toNat, 0]
def k0_off38 (v617 : BitVec 32) : Fin 2 → Nat :=
  let c7_i32_315 : BitVec 32 := 7#32
  let v626 : BitVec 32 := Scalar.andi v617 c7_i32_315
  let c1_i32_316 : BitVec 32 := 1#32
  let v627 : BitVec 32 := Scalar.shrsi v626 c1_i32_316
  let v630 : Index := Scalar.indexCast v627
  let c0_319 : Index := 0#32
  ![v630.toNat, 0]
def k0_off39 (v617 : BitVec 32) : Fin 2 → Nat :=
  let c7_i32_315 : BitVec 32 := 7#32
  let v626 : BitVec 32 := Scalar.andi v617 c7_i32_315
  let c1_i32_316 : BitVec 32 := 1#32
  let v627 : BitVec 32 := Scalar.shrsi v626 c1_i32_316
  let c1_i32_320 : BitVec 32 := 1#32
  let v632 : BitVec 32 := Scalar.addi v627 c1_i32_320
  let v633 : Index := Scalar.indexCast v632
  let c0_321 : Index := 0#32
  ![v633.toNat, 0]
def k0_mult22 (v617 : BitVec 32) : BitVec 32 :=
  let c_m8_i32_326 : BitVec 32 := 4294967288#32
  let v648 : BitVec 32 := Scalar.andi v617 c_m8_i32_326
  v648
def k0_off40 (v617 : BitVec 32) : Fin 2 → Nat :=
  let c_m8_i32_326 : BitVec 32 := 4294967288#32
  let v648 : BitVec 32 := Scalar.andi v617 c_m8_i32_326
  let v649 : BitVec 32 := v648
  let v650 : Index := Scalar.indexCast v649
  let c128_327 : Index := 128#32
  ![v650.toNat, 128]
def k0_mult23 (v617 : BitVec 32) : BitVec 32 :=
  let c_m8_i32_342 : BitVec 32 := 4294967288#32
  let v678 : BitVec 32 := Scalar.andi v617 c_m8_i32_342
  v678
def k0_off41 (v617 : BitVec 32) : Fin 2 → Nat :=
  let c_m8_i32_342 : BitVec 32 := 4294967288#32
  let v678 : BitVec 32 := Scalar.andi v617 c_m8_i32_342
  let v679 : BitVec 32 := v678
  let v680 : Index := Scalar.indexCast v679
  let c256_343 : Index := 256#32
  ![v680.toNat, 256]
def k0_mult24 (v617 : BitVec 32) : BitVec 32 :=
  let c_m8_i32_358 : BitVec 32 := 4294967288#32
  let v708 : BitVec 32 := Scalar.andi v617 c_m8_i32_358
  v708
def k0_off42 (v617 : BitVec 32) : Fin 2 → Nat :=
  let c_m8_i32_358 : BitVec 32 := 4294967288#32
  let v708 : BitVec 32 := Scalar.andi v617 c_m8_i32_358
  let v709 : BitVec 32 := v708
  let v710 : Index := Scalar.indexCast v709
  let c384_359 : Index := 384#32
  ![v710.toNat, 384]

def k0_chk12 (v617 : BitVec 32) : Prop :=
  (8 ∣ (k0_mult21 v617).toNat) ∧
  (∀ a, (k0_off37 v617) a + S136x128.size a ≤ S2200x512.size a) ∧
  (∀ a, (k0_off38 v617) a + S64x128.size a ≤ S72x128.size a) ∧
  (∀ a, (k0_off39 v617) a + S64x128.size a ≤ S72x128.size a) ∧
  (8 ∣ (k0_mult22 v617).toNat) ∧
  (∀ a, (k0_off40 v617) a + S136x128.size a ≤ S2200x512.size a) ∧
  (8 ∣ (k0_mult23 v617).toNat) ∧
  (∀ a, (k0_off41 v617) a + S136x128.size a ≤ S2200x512.size a) ∧
  (8 ∣ (k0_mult24 v617).toNat) ∧
  (∀ a, (k0_off42 v617) a + S136x128.size a ≤ S2200x512.size a)
theorem k0_mult21_dvd : ∀ (v617 : BitVec 32) (k0_hw12 : k0_chk12 v617), 8 ∣ (k0_mult21 v617).toNat := fun v617 k0_hw12 => k0_hw12.1
theorem k0_off37_inb : ∀ (v617 : BitVec 32) (k0_hw12 : k0_chk12 v617), ∀ a, (k0_off37 v617) a + S136x128.size a ≤ S2200x512.size a := fun v617 k0_hw12 => k0_hw12.2.1
theorem k0_off38_inb : ∀ (v617 : BitVec 32) (k0_hw12 : k0_chk12 v617), ∀ a, (k0_off38 v617) a + S64x128.size a ≤ S72x128.size a := fun v617 k0_hw12 => k0_hw12.2.2.1
theorem k0_off39_inb : ∀ (v617 : BitVec 32) (k0_hw12 : k0_chk12 v617), ∀ a, (k0_off39 v617) a + S64x128.size a ≤ S72x128.size a := fun v617 k0_hw12 => k0_hw12.2.2.2.1
theorem k0_mult22_dvd : ∀ (v617 : BitVec 32) (k0_hw12 : k0_chk12 v617), 8 ∣ (k0_mult22 v617).toNat := fun v617 k0_hw12 => k0_hw12.2.2.2.2.1
theorem k0_off40_inb : ∀ (v617 : BitVec 32) (k0_hw12 : k0_chk12 v617), ∀ a, (k0_off40 v617) a + S136x128.size a ≤ S2200x512.size a := fun v617 k0_hw12 => k0_hw12.2.2.2.2.2.1
theorem k0_mult23_dvd : ∀ (v617 : BitVec 32) (k0_hw12 : k0_chk12 v617), 8 ∣ (k0_mult23 v617).toNat := fun v617 k0_hw12 => k0_hw12.2.2.2.2.2.2.1
theorem k0_off41_inb : ∀ (v617 : BitVec 32) (k0_hw12 : k0_chk12 v617), ∀ a, (k0_off41 v617) a + S136x128.size a ≤ S2200x512.size a := fun v617 k0_hw12 => k0_hw12.2.2.2.2.2.2.2.1
theorem k0_mult24_dvd : ∀ (v617 : BitVec 32) (k0_hw12 : k0_chk12 v617), 8 ∣ (k0_mult24 v617).toNat := fun v617 k0_hw12 => k0_hw12.2.2.2.2.2.2.2.2.1
theorem k0_off42_inb : ∀ (v617 : BitVec 32) (k0_hw12 : k0_chk12 v617), ∀ a, (k0_off42 v617) a + S136x128.size a ≤ S2200x512.size a := fun v617 k0_hw12 => k0_hw12.2.2.2.2.2.2.2.2.2

def k0_off43 (v738 : BitVec 32) : Fin 1 → Nat :=
  let v739 : Index := Scalar.indexCast v738
  ![v739.toNat]

def k0_chk13 (v738 : BitVec 32) : Prop :=
  (∀ a, (k0_off43 v738) a + S1.size a ≤ S15.size a)
theorem k0_off43_inb : ∀ (v738 : BitVec 32) (k0_hw13 : k0_chk13 v738), ∀ a, (k0_off43 v738) a + S1.size a ≤ S15.size a := fun v738 k0_hw13 => k0_hw13

def k0_mult25 (v740 : BitVec 32) : BitVec 32 :=
  let c_m8_i32_374 : BitVec 32 := 4294967288#32
  let v741 : BitVec 32 := Scalar.andi v740 c_m8_i32_374
  v741

def k0_off44 (v740 : BitVec 32) : Fin 2 → Nat :=
  let c_m8_i32_374 : BitVec 32 := 4294967288#32
  let v741 : BitVec 32 := Scalar.andi v740 c_m8_i32_374
  let v742 : BitVec 32 := v741
  let v743 : Index := Scalar.indexCast v742
  let c0_375 : Index := 0#32
  ![v743.toNat, 0]
def k0_off45 (v740 : BitVec 32) : Fin 2 → Nat :=
  let c7_i32_378 : BitVec 32 := 7#32
  let v749 : BitVec 32 := Scalar.andi v740 c7_i32_378
  let c1_i32_379 : BitVec 32 := 1#32
  let v750 : BitVec 32 := Scalar.shrsi v749 c1_i32_379
  let v753 : Index := Scalar.indexCast v750
  let c0_382 : Index := 0#32
  ![v753.toNat, 0]
def k0_off46 (v740 : BitVec 32) : Fin 2 → Nat :=
  let c7_i32_378 : BitVec 32 := 7#32
  let v749 : BitVec 32 := Scalar.andi v740 c7_i32_378
  let c1_i32_379 : BitVec 32 := 1#32
  let v750 : BitVec 32 := Scalar.shrsi v749 c1_i32_379
  let c1_i32_383 : BitVec 32 := 1#32
  let v755 : BitVec 32 := Scalar.addi v750 c1_i32_383
  let v756 : Index := Scalar.indexCast v755
  let c0_384 : Index := 0#32
  ![v756.toNat, 0]
def k0_mult26 (v740 : BitVec 32) : BitVec 32 :=
  let c_m8_i32_389 : BitVec 32 := 4294967288#32
  let v771 : BitVec 32 := Scalar.andi v740 c_m8_i32_389
  v771
def k0_off47 (v740 : BitVec 32) : Fin 2 → Nat :=
  let c_m8_i32_389 : BitVec 32 := 4294967288#32
  let v771 : BitVec 32 := Scalar.andi v740 c_m8_i32_389
  let v772 : BitVec 32 := v771
  let v773 : Index := Scalar.indexCast v772
  let c128_390 : Index := 128#32
  ![v773.toNat, 128]
def k0_mult27 (v740 : BitVec 32) : BitVec 32 :=
  let c_m8_i32_405 : BitVec 32 := 4294967288#32
  let v801 : BitVec 32 := Scalar.andi v740 c_m8_i32_405
  v801
def k0_off48 (v740 : BitVec 32) : Fin 2 → Nat :=
  let c_m8_i32_405 : BitVec 32 := 4294967288#32
  let v801 : BitVec 32 := Scalar.andi v740 c_m8_i32_405
  let v802 : BitVec 32 := v801
  let v803 : Index := Scalar.indexCast v802
  let c256_406 : Index := 256#32
  ![v803.toNat, 256]
def k0_mult28 (v740 : BitVec 32) : BitVec 32 :=
  let c_m8_i32_421 : BitVec 32 := 4294967288#32
  let v831 : BitVec 32 := Scalar.andi v740 c_m8_i32_421
  v831
def k0_off49 (v740 : BitVec 32) : Fin 2 → Nat :=
  let c_m8_i32_421 : BitVec 32 := 4294967288#32
  let v831 : BitVec 32 := Scalar.andi v740 c_m8_i32_421
  let v832 : BitVec 32 := v831
  let v833 : Index := Scalar.indexCast v832
  let c384_422 : Index := 384#32
  ![v833.toNat, 384]

def k0_chk14 (v740 : BitVec 32) : Prop :=
  (8 ∣ (k0_mult25 v740).toNat) ∧
  (∀ a, (k0_off44 v740) a + S136x128.size a ≤ S2200x512.size a) ∧
  (∀ a, (k0_off45 v740) a + S64x128.size a ≤ S72x128.size a) ∧
  (∀ a, (k0_off46 v740) a + S64x128.size a ≤ S72x128.size a) ∧
  (8 ∣ (k0_mult26 v740).toNat) ∧
  (∀ a, (k0_off47 v740) a + S136x128.size a ≤ S2200x512.size a) ∧
  (8 ∣ (k0_mult27 v740).toNat) ∧
  (∀ a, (k0_off48 v740) a + S136x128.size a ≤ S2200x512.size a) ∧
  (8 ∣ (k0_mult28 v740).toNat) ∧
  (∀ a, (k0_off49 v740) a + S136x128.size a ≤ S2200x512.size a)
theorem k0_mult25_dvd : ∀ (v740 : BitVec 32) (k0_hw14 : k0_chk14 v740), 8 ∣ (k0_mult25 v740).toNat := fun v740 k0_hw14 => k0_hw14.1
theorem k0_off44_inb : ∀ (v740 : BitVec 32) (k0_hw14 : k0_chk14 v740), ∀ a, (k0_off44 v740) a + S136x128.size a ≤ S2200x512.size a := fun v740 k0_hw14 => k0_hw14.2.1
theorem k0_off45_inb : ∀ (v740 : BitVec 32) (k0_hw14 : k0_chk14 v740), ∀ a, (k0_off45 v740) a + S64x128.size a ≤ S72x128.size a := fun v740 k0_hw14 => k0_hw14.2.2.1
theorem k0_off46_inb : ∀ (v740 : BitVec 32) (k0_hw14 : k0_chk14 v740), ∀ a, (k0_off46 v740) a + S64x128.size a ≤ S72x128.size a := fun v740 k0_hw14 => k0_hw14.2.2.2.1
theorem k0_mult26_dvd : ∀ (v740 : BitVec 32) (k0_hw14 : k0_chk14 v740), 8 ∣ (k0_mult26 v740).toNat := fun v740 k0_hw14 => k0_hw14.2.2.2.2.1
theorem k0_off47_inb : ∀ (v740 : BitVec 32) (k0_hw14 : k0_chk14 v740), ∀ a, (k0_off47 v740) a + S136x128.size a ≤ S2200x512.size a := fun v740 k0_hw14 => k0_hw14.2.2.2.2.2.1
theorem k0_mult27_dvd : ∀ (v740 : BitVec 32) (k0_hw14 : k0_chk14 v740), 8 ∣ (k0_mult27 v740).toNat := fun v740 k0_hw14 => k0_hw14.2.2.2.2.2.2.1
theorem k0_off48_inb : ∀ (v740 : BitVec 32) (k0_hw14 : k0_chk14 v740), ∀ a, (k0_off48 v740) a + S136x128.size a ≤ S2200x512.size a := fun v740 k0_hw14 => k0_hw14.2.2.2.2.2.2.2.1
theorem k0_mult28_dvd : ∀ (v740 : BitVec 32) (k0_hw14 : k0_chk14 v740), 8 ∣ (k0_mult28 v740).toNat := fun v740 k0_hw14 => k0_hw14.2.2.2.2.2.2.2.2.1
theorem k0_off49_inb : ∀ (v740 : BitVec 32) (k0_hw14 : k0_chk14 v740), ∀ a, (k0_off49 v740) a + S136x128.size a ≤ S2200x512.size a := fun v740 k0_hw14 => k0_hw14.2.2.2.2.2.2.2.2.2

def k0_off50 (v861 : BitVec 32) : Fin 1 → Nat :=
  let v862 : Index := Scalar.indexCast v861
  ![v862.toNat]

def k0_chk15 (v861 : BitVec 32) : Prop :=
  (∀ a, (k0_off50 v861) a + S1.size a ≤ S15.size a)
theorem k0_off50_inb : ∀ (v861 : BitVec 32) (k0_hw15 : k0_chk15 v861), ∀ a, (k0_off50 v861) a + S1.size a ≤ S15.size a := fun v861 k0_hw15 => k0_hw15

def k0_mult29 (v863 : BitVec 32) : BitVec 32 :=
  let c_m8_i32_437 : BitVec 32 := 4294967288#32
  let v864 : BitVec 32 := Scalar.andi v863 c_m8_i32_437
  v864

def k0_off51 (v863 : BitVec 32) : Fin 2 → Nat :=
  let c_m8_i32_437 : BitVec 32 := 4294967288#32
  let v864 : BitVec 32 := Scalar.andi v863 c_m8_i32_437
  let v865 : BitVec 32 := v864
  let v866 : Index := Scalar.indexCast v865
  let c0_438 : Index := 0#32
  ![v866.toNat, 0]
def k0_off52 (v863 : BitVec 32) : Fin 2 → Nat :=
  let c7_i32_441 : BitVec 32 := 7#32
  let v872 : BitVec 32 := Scalar.andi v863 c7_i32_441
  let c1_i32_442 : BitVec 32 := 1#32
  let v873 : BitVec 32 := Scalar.shrsi v872 c1_i32_442
  let v876 : Index := Scalar.indexCast v873
  let c0_445 : Index := 0#32
  ![v876.toNat, 0]
def k0_off53 (v863 : BitVec 32) : Fin 2 → Nat :=
  let c7_i32_441 : BitVec 32 := 7#32
  let v872 : BitVec 32 := Scalar.andi v863 c7_i32_441
  let c1_i32_442 : BitVec 32 := 1#32
  let v873 : BitVec 32 := Scalar.shrsi v872 c1_i32_442
  let c1_i32_446 : BitVec 32 := 1#32
  let v878 : BitVec 32 := Scalar.addi v873 c1_i32_446
  let v879 : Index := Scalar.indexCast v878
  let c0_447 : Index := 0#32
  ![v879.toNat, 0]
def k0_mult30 (v863 : BitVec 32) : BitVec 32 :=
  let c_m8_i32_452 : BitVec 32 := 4294967288#32
  let v894 : BitVec 32 := Scalar.andi v863 c_m8_i32_452
  v894
def k0_off54 (v863 : BitVec 32) : Fin 2 → Nat :=
  let c_m8_i32_452 : BitVec 32 := 4294967288#32
  let v894 : BitVec 32 := Scalar.andi v863 c_m8_i32_452
  let v895 : BitVec 32 := v894
  let v896 : Index := Scalar.indexCast v895
  let c128_453 : Index := 128#32
  ![v896.toNat, 128]
def k0_mult31 (v863 : BitVec 32) : BitVec 32 :=
  let c_m8_i32_468 : BitVec 32 := 4294967288#32
  let v924 : BitVec 32 := Scalar.andi v863 c_m8_i32_468
  v924
def k0_off55 (v863 : BitVec 32) : Fin 2 → Nat :=
  let c_m8_i32_468 : BitVec 32 := 4294967288#32
  let v924 : BitVec 32 := Scalar.andi v863 c_m8_i32_468
  let v925 : BitVec 32 := v924
  let v926 : Index := Scalar.indexCast v925
  let c256_469 : Index := 256#32
  ![v926.toNat, 256]
def k0_mult32 (v863 : BitVec 32) : BitVec 32 :=
  let c_m8_i32_484 : BitVec 32 := 4294967288#32
  let v954 : BitVec 32 := Scalar.andi v863 c_m8_i32_484
  v954
def k0_off56 (v863 : BitVec 32) : Fin 2 → Nat :=
  let c_m8_i32_484 : BitVec 32 := 4294967288#32
  let v954 : BitVec 32 := Scalar.andi v863 c_m8_i32_484
  let v955 : BitVec 32 := v954
  let v956 : Index := Scalar.indexCast v955
  let c384_485 : Index := 384#32
  ![v956.toNat, 384]

def k0_chk16 (v863 : BitVec 32) : Prop :=
  (8 ∣ (k0_mult29 v863).toNat) ∧
  (∀ a, (k0_off51 v863) a + S136x128.size a ≤ S2200x512.size a) ∧
  (∀ a, (k0_off52 v863) a + S64x128.size a ≤ S72x128.size a) ∧
  (∀ a, (k0_off53 v863) a + S64x128.size a ≤ S72x128.size a) ∧
  (8 ∣ (k0_mult30 v863).toNat) ∧
  (∀ a, (k0_off54 v863) a + S136x128.size a ≤ S2200x512.size a) ∧
  (8 ∣ (k0_mult31 v863).toNat) ∧
  (∀ a, (k0_off55 v863) a + S136x128.size a ≤ S2200x512.size a) ∧
  (8 ∣ (k0_mult32 v863).toNat) ∧
  (∀ a, (k0_off56 v863) a + S136x128.size a ≤ S2200x512.size a)
theorem k0_mult29_dvd : ∀ (v863 : BitVec 32) (k0_hw16 : k0_chk16 v863), 8 ∣ (k0_mult29 v863).toNat := fun v863 k0_hw16 => k0_hw16.1
theorem k0_off51_inb : ∀ (v863 : BitVec 32) (k0_hw16 : k0_chk16 v863), ∀ a, (k0_off51 v863) a + S136x128.size a ≤ S2200x512.size a := fun v863 k0_hw16 => k0_hw16.2.1
theorem k0_off52_inb : ∀ (v863 : BitVec 32) (k0_hw16 : k0_chk16 v863), ∀ a, (k0_off52 v863) a + S64x128.size a ≤ S72x128.size a := fun v863 k0_hw16 => k0_hw16.2.2.1
theorem k0_off53_inb : ∀ (v863 : BitVec 32) (k0_hw16 : k0_chk16 v863), ∀ a, (k0_off53 v863) a + S64x128.size a ≤ S72x128.size a := fun v863 k0_hw16 => k0_hw16.2.2.2.1
theorem k0_mult30_dvd : ∀ (v863 : BitVec 32) (k0_hw16 : k0_chk16 v863), 8 ∣ (k0_mult30 v863).toNat := fun v863 k0_hw16 => k0_hw16.2.2.2.2.1
theorem k0_off54_inb : ∀ (v863 : BitVec 32) (k0_hw16 : k0_chk16 v863), ∀ a, (k0_off54 v863) a + S136x128.size a ≤ S2200x512.size a := fun v863 k0_hw16 => k0_hw16.2.2.2.2.2.1
theorem k0_mult31_dvd : ∀ (v863 : BitVec 32) (k0_hw16 : k0_chk16 v863), 8 ∣ (k0_mult31 v863).toNat := fun v863 k0_hw16 => k0_hw16.2.2.2.2.2.2.1
theorem k0_off55_inb : ∀ (v863 : BitVec 32) (k0_hw16 : k0_chk16 v863), ∀ a, (k0_off55 v863) a + S136x128.size a ≤ S2200x512.size a := fun v863 k0_hw16 => k0_hw16.2.2.2.2.2.2.2.1
theorem k0_mult32_dvd : ∀ (v863 : BitVec 32) (k0_hw16 : k0_chk16 v863), 8 ∣ (k0_mult32 v863).toNat := fun v863 k0_hw16 => k0_hw16.2.2.2.2.2.2.2.2.1
theorem k0_off56_inb : ∀ (v863 : BitVec 32) (k0_hw16 : k0_chk16 v863), ∀ a, (k0_off56 v863) a + S136x128.size a ≤ S2200x512.size a := fun v863 k0_hw16 => k0_hw16.2.2.2.2.2.2.2.2.2

def k0_off57 (v984 : BitVec 32) : Fin 1 → Nat :=
  let v985 : Index := Scalar.indexCast v984
  ![v985.toNat]

def k0_chk17 (v984 : BitVec 32) : Prop :=
  (∀ a, (k0_off57 v984) a + S1.size a ≤ S15.size a)
theorem k0_off57_inb : ∀ (v984 : BitVec 32) (k0_hw17 : k0_chk17 v984), ∀ a, (k0_off57 v984) a + S1.size a ≤ S15.size a := fun v984 k0_hw17 => k0_hw17

def k0_mult33 (v986 : BitVec 32) : BitVec 32 :=
  let c_m8_i32_500 : BitVec 32 := 4294967288#32
  let v987 : BitVec 32 := Scalar.andi v986 c_m8_i32_500
  v987

def k0_off58 (v986 : BitVec 32) : Fin 2 → Nat :=
  let c_m8_i32_500 : BitVec 32 := 4294967288#32
  let v987 : BitVec 32 := Scalar.andi v986 c_m8_i32_500
  let v988 : BitVec 32 := v987
  let v989 : Index := Scalar.indexCast v988
  let c0_501 : Index := 0#32
  ![v989.toNat, 0]
def k0_off59 (v986 : BitVec 32) : Fin 2 → Nat :=
  let c7_i32_504 : BitVec 32 := 7#32
  let v995 : BitVec 32 := Scalar.andi v986 c7_i32_504
  let c1_i32_505 : BitVec 32 := 1#32
  let v996 : BitVec 32 := Scalar.shrsi v995 c1_i32_505
  let v999 : Index := Scalar.indexCast v996
  let c0_508 : Index := 0#32
  ![v999.toNat, 0]
def k0_off60 (v986 : BitVec 32) : Fin 2 → Nat :=
  let c7_i32_504 : BitVec 32 := 7#32
  let v995 : BitVec 32 := Scalar.andi v986 c7_i32_504
  let c1_i32_505 : BitVec 32 := 1#32
  let v996 : BitVec 32 := Scalar.shrsi v995 c1_i32_505
  let c1_i32_509 : BitVec 32 := 1#32
  let v1001 : BitVec 32 := Scalar.addi v996 c1_i32_509
  let v1002 : Index := Scalar.indexCast v1001
  let c0_510 : Index := 0#32
  ![v1002.toNat, 0]
def k0_mult34 (v986 : BitVec 32) : BitVec 32 :=
  let c_m8_i32_515 : BitVec 32 := 4294967288#32
  let v1017 : BitVec 32 := Scalar.andi v986 c_m8_i32_515
  v1017
def k0_off61 (v986 : BitVec 32) : Fin 2 → Nat :=
  let c_m8_i32_515 : BitVec 32 := 4294967288#32
  let v1017 : BitVec 32 := Scalar.andi v986 c_m8_i32_515
  let v1018 : BitVec 32 := v1017
  let v1019 : Index := Scalar.indexCast v1018
  let c128_516 : Index := 128#32
  ![v1019.toNat, 128]
def k0_mult35 (v986 : BitVec 32) : BitVec 32 :=
  let c_m8_i32_531 : BitVec 32 := 4294967288#32
  let v1047 : BitVec 32 := Scalar.andi v986 c_m8_i32_531
  v1047
def k0_off62 (v986 : BitVec 32) : Fin 2 → Nat :=
  let c_m8_i32_531 : BitVec 32 := 4294967288#32
  let v1047 : BitVec 32 := Scalar.andi v986 c_m8_i32_531
  let v1048 : BitVec 32 := v1047
  let v1049 : Index := Scalar.indexCast v1048
  let c256_532 : Index := 256#32
  ![v1049.toNat, 256]
def k0_mult36 (v986 : BitVec 32) : BitVec 32 :=
  let c_m8_i32_547 : BitVec 32 := 4294967288#32
  let v1077 : BitVec 32 := Scalar.andi v986 c_m8_i32_547
  v1077
def k0_off63 (v986 : BitVec 32) : Fin 2 → Nat :=
  let c_m8_i32_547 : BitVec 32 := 4294967288#32
  let v1077 : BitVec 32 := Scalar.andi v986 c_m8_i32_547
  let v1078 : BitVec 32 := v1077
  let v1079 : Index := Scalar.indexCast v1078
  let c384_548 : Index := 384#32
  ![v1079.toNat, 384]

def k0_chk18 (v986 : BitVec 32) : Prop :=
  (8 ∣ (k0_mult33 v986).toNat) ∧
  (∀ a, (k0_off58 v986) a + S136x128.size a ≤ S2200x512.size a) ∧
  (∀ a, (k0_off59 v986) a + S64x128.size a ≤ S72x128.size a) ∧
  (∀ a, (k0_off60 v986) a + S64x128.size a ≤ S72x128.size a) ∧
  (8 ∣ (k0_mult34 v986).toNat) ∧
  (∀ a, (k0_off61 v986) a + S136x128.size a ≤ S2200x512.size a) ∧
  (8 ∣ (k0_mult35 v986).toNat) ∧
  (∀ a, (k0_off62 v986) a + S136x128.size a ≤ S2200x512.size a) ∧
  (8 ∣ (k0_mult36 v986).toNat) ∧
  (∀ a, (k0_off63 v986) a + S136x128.size a ≤ S2200x512.size a)
theorem k0_mult33_dvd : ∀ (v986 : BitVec 32) (k0_hw18 : k0_chk18 v986), 8 ∣ (k0_mult33 v986).toNat := fun v986 k0_hw18 => k0_hw18.1
theorem k0_off58_inb : ∀ (v986 : BitVec 32) (k0_hw18 : k0_chk18 v986), ∀ a, (k0_off58 v986) a + S136x128.size a ≤ S2200x512.size a := fun v986 k0_hw18 => k0_hw18.2.1
theorem k0_off59_inb : ∀ (v986 : BitVec 32) (k0_hw18 : k0_chk18 v986), ∀ a, (k0_off59 v986) a + S64x128.size a ≤ S72x128.size a := fun v986 k0_hw18 => k0_hw18.2.2.1
theorem k0_off60_inb : ∀ (v986 : BitVec 32) (k0_hw18 : k0_chk18 v986), ∀ a, (k0_off60 v986) a + S64x128.size a ≤ S72x128.size a := fun v986 k0_hw18 => k0_hw18.2.2.2.1
theorem k0_mult34_dvd : ∀ (v986 : BitVec 32) (k0_hw18 : k0_chk18 v986), 8 ∣ (k0_mult34 v986).toNat := fun v986 k0_hw18 => k0_hw18.2.2.2.2.1
theorem k0_off61_inb : ∀ (v986 : BitVec 32) (k0_hw18 : k0_chk18 v986), ∀ a, (k0_off61 v986) a + S136x128.size a ≤ S2200x512.size a := fun v986 k0_hw18 => k0_hw18.2.2.2.2.2.1
theorem k0_mult35_dvd : ∀ (v986 : BitVec 32) (k0_hw18 : k0_chk18 v986), 8 ∣ (k0_mult35 v986).toNat := fun v986 k0_hw18 => k0_hw18.2.2.2.2.2.2.1
theorem k0_off62_inb : ∀ (v986 : BitVec 32) (k0_hw18 : k0_chk18 v986), ∀ a, (k0_off62 v986) a + S136x128.size a ≤ S2200x512.size a := fun v986 k0_hw18 => k0_hw18.2.2.2.2.2.2.2.1
theorem k0_mult36_dvd : ∀ (v986 : BitVec 32) (k0_hw18 : k0_chk18 v986), 8 ∣ (k0_mult36 v986).toNat := fun v986 k0_hw18 => k0_hw18.2.2.2.2.2.2.2.2.1
theorem k0_off63_inb : ∀ (v986 : BitVec 32) (k0_hw18 : k0_chk18 v986), ∀ a, (k0_off63 v986) a + S136x128.size a ≤ S2200x512.size a := fun v986 k0_hw18 => k0_hw18.2.2.2.2.2.2.2.2.2

def k0_cond2 (i : grid0.Coords) : BitVec 1 :=
  let arg0 : BitVec 32 := BitVec.ofNat 32 (i 0).val
  let c7_i32_573 : BitVec 32 := 7#32
  let v1119 : BitVec 1 := Scalar.cmpi .eq arg0 c7_i32_573
  let v1120 : BitVec 32 := Scalar.extui v1119
  let c0_i32_574 : BitVec 32 := 0#32
  let v1121 : BitVec 1 := Scalar.cmpi .ne v1120 c0_i32_574
  v1121

def k0_off64 (v1125 : BitVec 32) : Fin 1 → Nat :=
  let v1127 : Index := Scalar.indexCast v1125
  ![v1127.toNat]

def k0_chk19 (i : grid0.Coords) (v1125 : BitVec 32) : Prop :=
  (∀ (k0_h2 : k0_cond2 i = 1#1), ∀ a, (k0_off64 v1125) a + S1.size a ≤ S15.size a)
theorem k0_off64_inb : ∀ (i : grid0.Coords) (v1125 : BitVec 32) (k0_hw19 : k0_chk19 i v1125), ∀ (k0_h2 : k0_cond2 i = 1#1), ∀ a, (k0_off64 v1125) a + S1.size a ≤ S15.size a := fun i v1125 k0_hw19 k0_h2 => k0_hw19 k0_h2

def k0_off65 (v1144 : BitVec 32) : Fin 1 → Nat :=
  let v1146 : Index := Scalar.indexCast v1144
  ![v1146.toNat]

def k0_chk20 (i : grid0.Coords) (v1144 : BitVec 32) : Prop :=
  (∀ (k0_h2 : k0_cond2 i = 1#1), ∀ a, (k0_off65 v1144) a + S1.size a ≤ S15.size a)
theorem k0_off65_inb : ∀ (i : grid0.Coords) (v1144 : BitVec 32) (k0_hw20 : k0_chk20 i v1144), ∀ (k0_h2 : k0_cond2 i = 1#1), ∀ a, (k0_off65 v1144) a + S1.size a ≤ S15.size a := fun i v1144 k0_hw20 k0_h2 => k0_hw20 k0_h2

def k0_off66 (v1163 : BitVec 32) : Fin 1 → Nat :=
  let v1165 : Index := Scalar.indexCast v1163
  ![v1165.toNat]

def k0_chk21 (i : grid0.Coords) (v1163 : BitVec 32) : Prop :=
  (∀ (k0_h2 : k0_cond2 i = 1#1), ∀ a, (k0_off66 v1163) a + S1.size a ≤ S15.size a)
theorem k0_off66_inb : ∀ (i : grid0.Coords) (v1163 : BitVec 32) (k0_hw21 : k0_chk21 i v1163), ∀ (k0_h2 : k0_cond2 i = 1#1), ∀ a, (k0_off66 v1163) a + S1.size a ≤ S15.size a := fun i v1163 k0_hw21 k0_h2 => k0_hw21 k0_h2

def k0_off67 (v1182 : BitVec 32) : Fin 1 → Nat :=
  let v1184 : Index := Scalar.indexCast v1182
  ![v1184.toNat]

def k0_chk22 (i : grid0.Coords) (v1182 : BitVec 32) : Prop :=
  (∀ (k0_h2 : k0_cond2 i = 1#1), ∀ a, (k0_off67 v1182) a + S1.size a ≤ S15.size a)
theorem k0_off67_inb : ∀ (i : grid0.Coords) (v1182 : BitVec 32) (k0_hw22 : k0_chk22 i v1182), ∀ (k0_h2 : k0_cond2 i = 1#1), ∀ a, (k0_off67 v1182) a + S1.size a ≤ S15.size a := fun i v1182 k0_hw22 k0_h2 => k0_hw22 k0_h2

def k0_off68 (v1201 : BitVec 32) : Fin 1 → Nat :=
  let v1203 : Index := Scalar.indexCast v1201
  ![v1203.toNat]

def k0_chk23 (i : grid0.Coords) (v1201 : BitVec 32) : Prop :=
  (∀ (k0_h2 : k0_cond2 i = 1#1), ∀ a, (k0_off68 v1201) a + S1.size a ≤ S15.size a)
theorem k0_off68_inb : ∀ (i : grid0.Coords) (v1201 : BitVec 32) (k0_hw23 : k0_chk23 i v1201), ∀ (k0_h2 : k0_cond2 i = 1#1), ∀ a, (k0_off68 v1201) a + S1.size a ≤ S15.size a := fun i v1201 k0_hw23 k0_h2 => k0_hw23 k0_h2

def k0_off69 (v1220 : BitVec 32) : Fin 1 → Nat :=
  let v1222 : Index := Scalar.indexCast v1220
  ![v1222.toNat]

def k0_chk24 (i : grid0.Coords) (v1220 : BitVec 32) : Prop :=
  (∀ (k0_h2 : k0_cond2 i = 1#1), ∀ a, (k0_off69 v1220) a + S1.size a ≤ S15.size a)
theorem k0_off69_inb : ∀ (i : grid0.Coords) (v1220 : BitVec 32) (k0_hw24 : k0_chk24 i v1220), ∀ (k0_h2 : k0_cond2 i = 1#1), ∀ a, (k0_off69 v1220) a + S1.size a ≤ S15.size a := fun i v1220 k0_hw24 k0_h2 => k0_hw24 k0_h2

def k0_off70 (v1239 : BitVec 32) : Fin 1 → Nat :=
  let v1241 : Index := Scalar.indexCast v1239
  ![v1241.toNat]

def k0_chk25 (i : grid0.Coords) (v1239 : BitVec 32) : Prop :=
  (∀ (k0_h2 : k0_cond2 i = 1#1), ∀ a, (k0_off70 v1239) a + S1.size a ≤ S15.size a)
theorem k0_off70_inb : ∀ (i : grid0.Coords) (v1239 : BitVec 32) (k0_hw25 : k0_chk25 i v1239), ∀ (k0_h2 : k0_cond2 i = 1#1), ∀ a, (k0_off70 v1239) a + S1.size a ≤ S15.size a := fun i v1239 k0_hw25 k0_h2 => k0_hw25 k0_h2

def k0_off71 (v1258 : BitVec 32) : Fin 1 → Nat :=
  let v1260 : Index := Scalar.indexCast v1258
  ![v1260.toNat]

def k0_chk26 (i : grid0.Coords) (v1258 : BitVec 32) : Prop :=
  (∀ (k0_h2 : k0_cond2 i = 1#1), ∀ a, (k0_off71 v1258) a + S1.size a ≤ S15.size a)
theorem k0_off71_inb : ∀ (i : grid0.Coords) (v1258 : BitVec 32) (k0_hw26 : k0_chk26 i v1258), ∀ (k0_h2 : k0_cond2 i = 1#1), ∀ a, (k0_off71 v1258) a + S1.size a ≤ S15.size a := fun i v1258 k0_hw26 k0_h2 => k0_hw26 k0_h2

def k0_off72 (v1277 : BitVec 32) : Fin 1 → Nat :=
  let v1279 : Index := Scalar.indexCast v1277
  ![v1279.toNat]

def k0_chk27 (i : grid0.Coords) (v1277 : BitVec 32) : Prop :=
  (∀ (k0_h2 : k0_cond2 i = 1#1), ∀ a, (k0_off72 v1277) a + S1.size a ≤ S15.size a)
theorem k0_off72_inb : ∀ (i : grid0.Coords) (v1277 : BitVec 32) (k0_hw27 : k0_chk27 i v1277), ∀ (k0_h2 : k0_cond2 i = 1#1), ∀ a, (k0_off72 v1277) a + S1.size a ≤ S15.size a := fun i v1277 k0_hw27 k0_h2 => k0_hw27 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S15 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S15 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S10 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S9 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2200x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![43], ![false]⟩

def k1_off1 (v0 : BitVec 32) : Fin 1 → Nat :=
  let v1 : Index := Scalar.indexCast v0
  ![v1.toNat]

def k1_chk1 (v0 : BitVec 32) : Prop :=
  (∀ a, (k1_off1 v0) a + S1.size a ≤ S15.size a)
theorem k1_off1_inb : ∀ (v0 : BitVec 32) (k1_hw1 : k1_chk1 v0), ∀ a, (k1_off1 v0) a + S1.size a ≤ S15.size a := fun v0 k1_hw1 => k1_hw1

def k1_mult1 (v2 : BitVec 32) : BitVec 32 :=
  let c_m8_i32 : BitVec 32 := 4294967288#32
  let v3 : BitVec 32 := Scalar.andi v2 c_m8_i32
  v3

def k1_off2 (v2 : BitVec 32) : Fin 2 → Nat :=
  let c_m8_i32 : BitVec 32 := 4294967288#32
  let v3 : BitVec 32 := Scalar.andi v2 c_m8_i32
  let v4 : BitVec 32 := v3
  let v5 : Index := Scalar.indexCast v4
  let c0_0 : Index := 0#32
  ![v5.toNat, 0]
def k1_off3 (v2 : BitVec 32) : Fin 2 → Nat :=
  let c7_i32 : BitVec 32 := 7#32
  let v11 : BitVec 32 := Scalar.andi v2 c7_i32
  let c1_i32 : BitVec 32 := 1#32
  let v12 : BitVec 32 := Scalar.shrsi v11 c1_i32
  let v15 : Index := Scalar.indexCast v12
  let c0_4 : Index := 0#32
  ![v15.toNat, 0]
def k1_off4 (v2 : BitVec 32) : Fin 2 → Nat :=
  let c7_i32 : BitVec 32 := 7#32
  let v11 : BitVec 32 := Scalar.andi v2 c7_i32
  let c1_i32 : BitVec 32 := 1#32
  let v12 : BitVec 32 := Scalar.shrsi v11 c1_i32
  let c1_i32_5 : BitVec 32 := 1#32
  let v17 : BitVec 32 := Scalar.addi v12 c1_i32_5
  let v18 : Index := Scalar.indexCast v17
  let c0_6 : Index := 0#32
  ![v18.toNat, 0]
def k1_mult2 (v2 : BitVec 32) : BitVec 32 :=
  let c_m8_i32_11 : BitVec 32 := 4294967288#32
  let v33 : BitVec 32 := Scalar.andi v2 c_m8_i32_11
  v33
def k1_off5 (v2 : BitVec 32) : Fin 2 → Nat :=
  let c_m8_i32_11 : BitVec 32 := 4294967288#32
  let v33 : BitVec 32 := Scalar.andi v2 c_m8_i32_11
  let v34 : BitVec 32 := v33
  let v35 : Index := Scalar.indexCast v34
  let c128 : Index := 128#32
  ![v35.toNat, 128]

def k1_chk2 (v2 : BitVec 32) : Prop :=
  (8 ∣ (k1_mult1 v2).toNat) ∧
  (∀ a, (k1_off2 v2) a + S136x128.size a ≤ S2200x256.size a) ∧
  (∀ a, (k1_off3 v2) a + S64x128.size a ≤ S72x128.size a) ∧
  (∀ a, (k1_off4 v2) a + S64x128.size a ≤ S72x128.size a) ∧
  (8 ∣ (k1_mult2 v2).toNat) ∧
  (∀ a, (k1_off5 v2) a + S136x128.size a ≤ S2200x256.size a)
theorem k1_mult1_dvd : ∀ (v2 : BitVec 32) (k1_hw2 : k1_chk2 v2), 8 ∣ (k1_mult1 v2).toNat := fun v2 k1_hw2 => k1_hw2.1
theorem k1_off2_inb : ∀ (v2 : BitVec 32) (k1_hw2 : k1_chk2 v2), ∀ a, (k1_off2 v2) a + S136x128.size a ≤ S2200x256.size a := fun v2 k1_hw2 => k1_hw2.2.1
theorem k1_off3_inb : ∀ (v2 : BitVec 32) (k1_hw2 : k1_chk2 v2), ∀ a, (k1_off3 v2) a + S64x128.size a ≤ S72x128.size a := fun v2 k1_hw2 => k1_hw2.2.2.1
theorem k1_off4_inb : ∀ (v2 : BitVec 32) (k1_hw2 : k1_chk2 v2), ∀ a, (k1_off4 v2) a + S64x128.size a ≤ S72x128.size a := fun v2 k1_hw2 => k1_hw2.2.2.2.1
theorem k1_mult2_dvd : ∀ (v2 : BitVec 32) (k1_hw2 : k1_chk2 v2), 8 ∣ (k1_mult2 v2).toNat := fun v2 k1_hw2 => k1_hw2.2.2.2.2.1
theorem k1_off5_inb : ∀ (v2 : BitVec 32) (k1_hw2 : k1_chk2 v2), ∀ a, (k1_off5 v2) a + S136x128.size a ≤ S2200x256.size a := fun v2 k1_hw2 => k1_hw2.2.2.2.2.2

def k1_off6 (v63 : BitVec 32) : Fin 1 → Nat :=
  let v64 : Index := Scalar.indexCast v63
  ![v64.toNat]

def k1_chk3 (v63 : BitVec 32) : Prop :=
  (∀ a, (k1_off6 v63) a + S1.size a ≤ S15.size a)
theorem k1_off6_inb : ∀ (v63 : BitVec 32) (k1_hw3 : k1_chk3 v63), ∀ a, (k1_off6 v63) a + S1.size a ≤ S15.size a := fun v63 k1_hw3 => k1_hw3

def k1_mult3 (v65 : BitVec 32) : BitVec 32 :=
  let c_m8_i32_26 : BitVec 32 := 4294967288#32
  let v66 : BitVec 32 := Scalar.andi v65 c_m8_i32_26
  v66

def k1_off7 (v65 : BitVec 32) : Fin 2 → Nat :=
  let c_m8_i32_26 : BitVec 32 := 4294967288#32
  let v66 : BitVec 32 := Scalar.andi v65 c_m8_i32_26
  let v67 : BitVec 32 := v66
  let v68 : Index := Scalar.indexCast v67
  let c0_27 : Index := 0#32
  ![v68.toNat, 0]
def k1_off8 (v65 : BitVec 32) : Fin 2 → Nat :=
  let c7_i32_30 : BitVec 32 := 7#32
  let v74 : BitVec 32 := Scalar.andi v65 c7_i32_30
  let c1_i32_31 : BitVec 32 := 1#32
  let v75 : BitVec 32 := Scalar.shrsi v74 c1_i32_31
  let v78 : Index := Scalar.indexCast v75
  let c0_34 : Index := 0#32
  ![v78.toNat, 0]
def k1_off9 (v65 : BitVec 32) : Fin 2 → Nat :=
  let c7_i32_30 : BitVec 32 := 7#32
  let v74 : BitVec 32 := Scalar.andi v65 c7_i32_30
  let c1_i32_31 : BitVec 32 := 1#32
  let v75 : BitVec 32 := Scalar.shrsi v74 c1_i32_31
  let c1_i32_35 : BitVec 32 := 1#32
  let v80 : BitVec 32 := Scalar.addi v75 c1_i32_35
  let v81 : Index := Scalar.indexCast v80
  let c0_36 : Index := 0#32
  ![v81.toNat, 0]
def k1_mult4 (v65 : BitVec 32) : BitVec 32 :=
  let c_m8_i32_42 : BitVec 32 := 4294967288#32
  let v96 : BitVec 32 := Scalar.andi v65 c_m8_i32_42
  v96
def k1_off10 (v65 : BitVec 32) : Fin 2 → Nat :=
  let c_m8_i32_42 : BitVec 32 := 4294967288#32
  let v96 : BitVec 32 := Scalar.andi v65 c_m8_i32_42
  let v97 : BitVec 32 := v96
  let v98 : Index := Scalar.indexCast v97
  let c128_43 : Index := 128#32
  ![v98.toNat, 128]

def k1_chk4 (v65 : BitVec 32) : Prop :=
  (8 ∣ (k1_mult3 v65).toNat) ∧
  (∀ a, (k1_off7 v65) a + S136x128.size a ≤ S2200x256.size a) ∧
  (∀ a, (k1_off8 v65) a + S64x128.size a ≤ S72x128.size a) ∧
  (∀ a, (k1_off9 v65) a + S64x128.size a ≤ S72x128.size a) ∧
  (8 ∣ (k1_mult4 v65).toNat) ∧
  (∀ a, (k1_off10 v65) a + S136x128.size a ≤ S2200x256.size a)
theorem k1_mult3_dvd : ∀ (v65 : BitVec 32) (k1_hw4 : k1_chk4 v65), 8 ∣ (k1_mult3 v65).toNat := fun v65 k1_hw4 => k1_hw4.1
theorem k1_off7_inb : ∀ (v65 : BitVec 32) (k1_hw4 : k1_chk4 v65), ∀ a, (k1_off7 v65) a + S136x128.size a ≤ S2200x256.size a := fun v65 k1_hw4 => k1_hw4.2.1
theorem k1_off8_inb : ∀ (v65 : BitVec 32) (k1_hw4 : k1_chk4 v65), ∀ a, (k1_off8 v65) a + S64x128.size a ≤ S72x128.size a := fun v65 k1_hw4 => k1_hw4.2.2.1
theorem k1_off9_inb : ∀ (v65 : BitVec 32) (k1_hw4 : k1_chk4 v65), ∀ a, (k1_off9 v65) a + S64x128.size a ≤ S72x128.size a := fun v65 k1_hw4 => k1_hw4.2.2.2.1
theorem k1_mult4_dvd : ∀ (v65 : BitVec 32) (k1_hw4 : k1_chk4 v65), 8 ∣ (k1_mult4 v65).toNat := fun v65 k1_hw4 => k1_hw4.2.2.2.2.1
theorem k1_off10_inb : ∀ (v65 : BitVec 32) (k1_hw4 : k1_chk4 v65), ∀ a, (k1_off10 v65) a + S136x128.size a ≤ S2200x256.size a := fun v65 k1_hw4 => k1_hw4.2.2.2.2.2

def k1_off11 (v126 : BitVec 32) : Fin 1 → Nat :=
  let v127 : Index := Scalar.indexCast v126
  ![v127.toNat]

def k1_chk5 (v126 : BitVec 32) : Prop :=
  (∀ a, (k1_off11 v126) a + S1.size a ≤ S15.size a)
theorem k1_off11_inb : ∀ (v126 : BitVec 32) (k1_hw5 : k1_chk5 v126), ∀ a, (k1_off11 v126) a + S1.size a ≤ S15.size a := fun v126 k1_hw5 => k1_hw5

def k1_mult5 (v128 : BitVec 32) : BitVec 32 :=
  let c_m8_i32_58 : BitVec 32 := 4294967288#32
  let v129 : BitVec 32 := Scalar.andi v128 c_m8_i32_58
  v129

def k1_off12 (v128 : BitVec 32) : Fin 2 → Nat :=
  let c_m8_i32_58 : BitVec 32 := 4294967288#32
  let v129 : BitVec 32 := Scalar.andi v128 c_m8_i32_58
  let v130 : BitVec 32 := v129
  let v131 : Index := Scalar.indexCast v130
  let c0_59 : Index := 0#32
  ![v131.toNat, 0]
def k1_off13 (v128 : BitVec 32) : Fin 2 → Nat :=
  let c7_i32_62 : BitVec 32 := 7#32
  let v137 : BitVec 32 := Scalar.andi v128 c7_i32_62
  let c1_i32_63 : BitVec 32 := 1#32
  let v138 : BitVec 32 := Scalar.shrsi v137 c1_i32_63
  let v141 : Index := Scalar.indexCast v138
  let c0_66 : Index := 0#32
  ![v141.toNat, 0]
def k1_off14 (v128 : BitVec 32) : Fin 2 → Nat :=
  let c7_i32_62 : BitVec 32 := 7#32
  let v137 : BitVec 32 := Scalar.andi v128 c7_i32_62
  let c1_i32_63 : BitVec 32 := 1#32
  let v138 : BitVec 32 := Scalar.shrsi v137 c1_i32_63
  let c1_i32_67 : BitVec 32 := 1#32
  let v143 : BitVec 32 := Scalar.addi v138 c1_i32_67
  let v144 : Index := Scalar.indexCast v143
  let c0_68 : Index := 0#32
  ![v144.toNat, 0]
def k1_mult6 (v128 : BitVec 32) : BitVec 32 :=
  let c_m8_i32_73 : BitVec 32 := 4294967288#32
  let v159 : BitVec 32 := Scalar.andi v128 c_m8_i32_73
  v159
def k1_off15 (v128 : BitVec 32) : Fin 2 → Nat :=
  let c_m8_i32_73 : BitVec 32 := 4294967288#32
  let v159 : BitVec 32 := Scalar.andi v128 c_m8_i32_73
  let v160 : BitVec 32 := v159
  let v161 : Index := Scalar.indexCast v160
  let c128_74 : Index := 128#32
  ![v161.toNat, 128]

def k1_chk6 (v128 : BitVec 32) : Prop :=
  (8 ∣ (k1_mult5 v128).toNat) ∧
  (∀ a, (k1_off12 v128) a + S136x128.size a ≤ S2200x256.size a) ∧
  (∀ a, (k1_off13 v128) a + S64x128.size a ≤ S72x128.size a) ∧
  (∀ a, (k1_off14 v128) a + S64x128.size a ≤ S72x128.size a) ∧
  (8 ∣ (k1_mult6 v128).toNat) ∧
  (∀ a, (k1_off15 v128) a + S136x128.size a ≤ S2200x256.size a)
theorem k1_mult5_dvd : ∀ (v128 : BitVec 32) (k1_hw6 : k1_chk6 v128), 8 ∣ (k1_mult5 v128).toNat := fun v128 k1_hw6 => k1_hw6.1
theorem k1_off12_inb : ∀ (v128 : BitVec 32) (k1_hw6 : k1_chk6 v128), ∀ a, (k1_off12 v128) a + S136x128.size a ≤ S2200x256.size a := fun v128 k1_hw6 => k1_hw6.2.1
theorem k1_off13_inb : ∀ (v128 : BitVec 32) (k1_hw6 : k1_chk6 v128), ∀ a, (k1_off13 v128) a + S64x128.size a ≤ S72x128.size a := fun v128 k1_hw6 => k1_hw6.2.2.1
theorem k1_off14_inb : ∀ (v128 : BitVec 32) (k1_hw6 : k1_chk6 v128), ∀ a, (k1_off14 v128) a + S64x128.size a ≤ S72x128.size a := fun v128 k1_hw6 => k1_hw6.2.2.2.1
theorem k1_mult6_dvd : ∀ (v128 : BitVec 32) (k1_hw6 : k1_chk6 v128), 8 ∣ (k1_mult6 v128).toNat := fun v128 k1_hw6 => k1_hw6.2.2.2.2.1
theorem k1_off15_inb : ∀ (v128 : BitVec 32) (k1_hw6 : k1_chk6 v128), ∀ a, (k1_off15 v128) a + S136x128.size a ≤ S2200x256.size a := fun v128 k1_hw6 => k1_hw6.2.2.2.2.2

def k1_off16 (v189 : BitVec 32) : Fin 1 → Nat :=
  let v190 : Index := Scalar.indexCast v189
  ![v190.toNat]

def k1_chk7 (v189 : BitVec 32) : Prop :=
  (∀ a, (k1_off16 v189) a + S1.size a ≤ S15.size a)
theorem k1_off16_inb : ∀ (v189 : BitVec 32) (k1_hw7 : k1_chk7 v189), ∀ a, (k1_off16 v189) a + S1.size a ≤ S15.size a := fun v189 k1_hw7 => k1_hw7

def k1_mult7 (v191 : BitVec 32) : BitVec 32 :=
  let c_m8_i32_89 : BitVec 32 := 4294967288#32
  let v192 : BitVec 32 := Scalar.andi v191 c_m8_i32_89
  v192

def k1_off17 (v191 : BitVec 32) : Fin 2 → Nat :=
  let c_m8_i32_89 : BitVec 32 := 4294967288#32
  let v192 : BitVec 32 := Scalar.andi v191 c_m8_i32_89
  let v193 : BitVec 32 := v192
  let v194 : Index := Scalar.indexCast v193
  let c0_90 : Index := 0#32
  ![v194.toNat, 0]
def k1_off18 (v191 : BitVec 32) : Fin 2 → Nat :=
  let c7_i32_93 : BitVec 32 := 7#32
  let v200 : BitVec 32 := Scalar.andi v191 c7_i32_93
  let c1_i32_94 : BitVec 32 := 1#32
  let v201 : BitVec 32 := Scalar.shrsi v200 c1_i32_94
  let v204 : Index := Scalar.indexCast v201
  let c0_97 : Index := 0#32
  ![v204.toNat, 0]
def k1_off19 (v191 : BitVec 32) : Fin 2 → Nat :=
  let c7_i32_93 : BitVec 32 := 7#32
  let v200 : BitVec 32 := Scalar.andi v191 c7_i32_93
  let c1_i32_94 : BitVec 32 := 1#32
  let v201 : BitVec 32 := Scalar.shrsi v200 c1_i32_94
  let c1_i32_98 : BitVec 32 := 1#32
  let v206 : BitVec 32 := Scalar.addi v201 c1_i32_98
  let v207 : Index := Scalar.indexCast v206
  let c0_99 : Index := 0#32
  ![v207.toNat, 0]
def k1_mult8 (v191 : BitVec 32) : BitVec 32 :=
  let c_m8_i32_104 : BitVec 32 := 4294967288#32
  let v222 : BitVec 32 := Scalar.andi v191 c_m8_i32_104
  v222
def k1_off20 (v191 : BitVec 32) : Fin 2 → Nat :=
  let c_m8_i32_104 : BitVec 32 := 4294967288#32
  let v222 : BitVec 32 := Scalar.andi v191 c_m8_i32_104
  let v223 : BitVec 32 := v222
  let v224 : Index := Scalar.indexCast v223
  let c128_105 : Index := 128#32
  ![v224.toNat, 128]

def k1_chk8 (v191 : BitVec 32) : Prop :=
  (8 ∣ (k1_mult7 v191).toNat) ∧
  (∀ a, (k1_off17 v191) a + S136x128.size a ≤ S2200x256.size a) ∧
  (∀ a, (k1_off18 v191) a + S64x128.size a ≤ S72x128.size a) ∧
  (∀ a, (k1_off19 v191) a + S64x128.size a ≤ S72x128.size a) ∧
  (8 ∣ (k1_mult8 v191).toNat) ∧
  (∀ a, (k1_off20 v191) a + S136x128.size a ≤ S2200x256.size a)
theorem k1_mult7_dvd : ∀ (v191 : BitVec 32) (k1_hw8 : k1_chk8 v191), 8 ∣ (k1_mult7 v191).toNat := fun v191 k1_hw8 => k1_hw8.1
theorem k1_off17_inb : ∀ (v191 : BitVec 32) (k1_hw8 : k1_chk8 v191), ∀ a, (k1_off17 v191) a + S136x128.size a ≤ S2200x256.size a := fun v191 k1_hw8 => k1_hw8.2.1
theorem k1_off18_inb : ∀ (v191 : BitVec 32) (k1_hw8 : k1_chk8 v191), ∀ a, (k1_off18 v191) a + S64x128.size a ≤ S72x128.size a := fun v191 k1_hw8 => k1_hw8.2.2.1
theorem k1_off19_inb : ∀ (v191 : BitVec 32) (k1_hw8 : k1_chk8 v191), ∀ a, (k1_off19 v191) a + S64x128.size a ≤ S72x128.size a := fun v191 k1_hw8 => k1_hw8.2.2.2.1
theorem k1_mult8_dvd : ∀ (v191 : BitVec 32) (k1_hw8 : k1_chk8 v191), 8 ∣ (k1_mult8 v191).toNat := fun v191 k1_hw8 => k1_hw8.2.2.2.2.1
theorem k1_off20_inb : ∀ (v191 : BitVec 32) (k1_hw8 : k1_chk8 v191), ∀ a, (k1_off20 v191) a + S136x128.size a ≤ S2200x256.size a := fun v191 k1_hw8 => k1_hw8.2.2.2.2.2

def k1_off21 (v252 : BitVec 32) : Fin 1 → Nat :=
  let v253 : Index := Scalar.indexCast v252
  ![v253.toNat]

def k1_chk9 (v252 : BitVec 32) : Prop :=
  (∀ a, (k1_off21 v252) a + S1.size a ≤ S15.size a)
theorem k1_off21_inb : ∀ (v252 : BitVec 32) (k1_hw9 : k1_chk9 v252), ∀ a, (k1_off21 v252) a + S1.size a ≤ S15.size a := fun v252 k1_hw9 => k1_hw9

def k1_mult9 (v254 : BitVec 32) : BitVec 32 :=
  let c_m8_i32_120 : BitVec 32 := 4294967288#32
  let v255 : BitVec 32 := Scalar.andi v254 c_m8_i32_120
  v255

def k1_off22 (v254 : BitVec 32) : Fin 2 → Nat :=
  let c_m8_i32_120 : BitVec 32 := 4294967288#32
  let v255 : BitVec 32 := Scalar.andi v254 c_m8_i32_120
  let v256 : BitVec 32 := v255
  let v257 : Index := Scalar.indexCast v256
  let c0_121 : Index := 0#32
  ![v257.toNat, 0]
def k1_off23 (v254 : BitVec 32) : Fin 2 → Nat :=
  let c7_i32_124 : BitVec 32 := 7#32
  let v263 : BitVec 32 := Scalar.andi v254 c7_i32_124
  let c1_i32_125 : BitVec 32 := 1#32
  let v264 : BitVec 32 := Scalar.shrsi v263 c1_i32_125
  let v267 : Index := Scalar.indexCast v264
  let c0_128 : Index := 0#32
  ![v267.toNat, 0]
def k1_off24 (v254 : BitVec 32) : Fin 2 → Nat :=
  let c7_i32_124 : BitVec 32 := 7#32
  let v263 : BitVec 32 := Scalar.andi v254 c7_i32_124
  let c1_i32_125 : BitVec 32 := 1#32
  let v264 : BitVec 32 := Scalar.shrsi v263 c1_i32_125
  let c1_i32_129 : BitVec 32 := 1#32
  let v269 : BitVec 32 := Scalar.addi v264 c1_i32_129
  let v270 : Index := Scalar.indexCast v269
  let c0_130 : Index := 0#32
  ![v270.toNat, 0]
def k1_mult10 (v254 : BitVec 32) : BitVec 32 :=
  let c_m8_i32_135 : BitVec 32 := 4294967288#32
  let v285 : BitVec 32 := Scalar.andi v254 c_m8_i32_135
  v285
def k1_off25 (v254 : BitVec 32) : Fin 2 → Nat :=
  let c_m8_i32_135 : BitVec 32 := 4294967288#32
  let v285 : BitVec 32 := Scalar.andi v254 c_m8_i32_135
  let v286 : BitVec 32 := v285
  let v287 : Index := Scalar.indexCast v286
  let c128_136 : Index := 128#32
  ![v287.toNat, 128]

def k1_chk10 (v254 : BitVec 32) : Prop :=
  (8 ∣ (k1_mult9 v254).toNat) ∧
  (∀ a, (k1_off22 v254) a + S136x128.size a ≤ S2200x256.size a) ∧
  (∀ a, (k1_off23 v254) a + S64x128.size a ≤ S72x128.size a) ∧
  (∀ a, (k1_off24 v254) a + S64x128.size a ≤ S72x128.size a) ∧
  (8 ∣ (k1_mult10 v254).toNat) ∧
  (∀ a, (k1_off25 v254) a + S136x128.size a ≤ S2200x256.size a)
theorem k1_mult9_dvd : ∀ (v254 : BitVec 32) (k1_hw10 : k1_chk10 v254), 8 ∣ (k1_mult9 v254).toNat := fun v254 k1_hw10 => k1_hw10.1
theorem k1_off22_inb : ∀ (v254 : BitVec 32) (k1_hw10 : k1_chk10 v254), ∀ a, (k1_off22 v254) a + S136x128.size a ≤ S2200x256.size a := fun v254 k1_hw10 => k1_hw10.2.1
theorem k1_off23_inb : ∀ (v254 : BitVec 32) (k1_hw10 : k1_chk10 v254), ∀ a, (k1_off23 v254) a + S64x128.size a ≤ S72x128.size a := fun v254 k1_hw10 => k1_hw10.2.2.1
theorem k1_off24_inb : ∀ (v254 : BitVec 32) (k1_hw10 : k1_chk10 v254), ∀ a, (k1_off24 v254) a + S64x128.size a ≤ S72x128.size a := fun v254 k1_hw10 => k1_hw10.2.2.2.1
theorem k1_mult10_dvd : ∀ (v254 : BitVec 32) (k1_hw10 : k1_chk10 v254), 8 ∣ (k1_mult10 v254).toNat := fun v254 k1_hw10 => k1_hw10.2.2.2.2.1
theorem k1_off25_inb : ∀ (v254 : BitVec 32) (k1_hw10 : k1_chk10 v254), ∀ a, (k1_off25 v254) a + S136x128.size a ≤ S2200x256.size a := fun v254 k1_hw10 => k1_hw10.2.2.2.2.2

def k1_off26 (v315 : BitVec 32) : Fin 1 → Nat :=
  let v316 : Index := Scalar.indexCast v315
  ![v316.toNat]

def k1_chk11 (v315 : BitVec 32) : Prop :=
  (∀ a, (k1_off26 v315) a + S1.size a ≤ S15.size a)
theorem k1_off26_inb : ∀ (v315 : BitVec 32) (k1_hw11 : k1_chk11 v315), ∀ a, (k1_off26 v315) a + S1.size a ≤ S15.size a := fun v315 k1_hw11 => k1_hw11

def k1_mult11 (v317 : BitVec 32) : BitVec 32 :=
  let c_m8_i32_151 : BitVec 32 := 4294967288#32
  let v318 : BitVec 32 := Scalar.andi v317 c_m8_i32_151
  v318

def k1_off27 (v317 : BitVec 32) : Fin 2 → Nat :=
  let c_m8_i32_151 : BitVec 32 := 4294967288#32
  let v318 : BitVec 32 := Scalar.andi v317 c_m8_i32_151
  let v319 : BitVec 32 := v318
  let v320 : Index := Scalar.indexCast v319
  let c0_152 : Index := 0#32
  ![v320.toNat, 0]
def k1_off28 (v317 : BitVec 32) : Fin 2 → Nat :=
  let c7_i32_155 : BitVec 32 := 7#32
  let v326 : BitVec 32 := Scalar.andi v317 c7_i32_155
  let c1_i32_156 : BitVec 32 := 1#32
  let v327 : BitVec 32 := Scalar.shrsi v326 c1_i32_156
  let v330 : Index := Scalar.indexCast v327
  let c0_159 : Index := 0#32
  ![v330.toNat, 0]
def k1_off29 (v317 : BitVec 32) : Fin 2 → Nat :=
  let c7_i32_155 : BitVec 32 := 7#32
  let v326 : BitVec 32 := Scalar.andi v317 c7_i32_155
  let c1_i32_156 : BitVec 32 := 1#32
  let v327 : BitVec 32 := Scalar.shrsi v326 c1_i32_156
  let c1_i32_160 : BitVec 32 := 1#32
  let v332 : BitVec 32 := Scalar.addi v327 c1_i32_160
  let v333 : Index := Scalar.indexCast v332
  let c0_161 : Index := 0#32
  ![v333.toNat, 0]
def k1_mult12 (v317 : BitVec 32) : BitVec 32 :=
  let c_m8_i32_166 : BitVec 32 := 4294967288#32
  let v348 : BitVec 32 := Scalar.andi v317 c_m8_i32_166
  v348
def k1_off30 (v317 : BitVec 32) : Fin 2 → Nat :=
  let c_m8_i32_166 : BitVec 32 := 4294967288#32
  let v348 : BitVec 32 := Scalar.andi v317 c_m8_i32_166
  let v349 : BitVec 32 := v348
  let v350 : Index := Scalar.indexCast v349
  let c128_167 : Index := 128#32
  ![v350.toNat, 128]

def k1_chk12 (v317 : BitVec 32) : Prop :=
  (8 ∣ (k1_mult11 v317).toNat) ∧
  (∀ a, (k1_off27 v317) a + S136x128.size a ≤ S2200x256.size a) ∧
  (∀ a, (k1_off28 v317) a + S64x128.size a ≤ S72x128.size a) ∧
  (∀ a, (k1_off29 v317) a + S64x128.size a ≤ S72x128.size a) ∧
  (8 ∣ (k1_mult12 v317).toNat) ∧
  (∀ a, (k1_off30 v317) a + S136x128.size a ≤ S2200x256.size a)
theorem k1_mult11_dvd : ∀ (v317 : BitVec 32) (k1_hw12 : k1_chk12 v317), 8 ∣ (k1_mult11 v317).toNat := fun v317 k1_hw12 => k1_hw12.1
theorem k1_off27_inb : ∀ (v317 : BitVec 32) (k1_hw12 : k1_chk12 v317), ∀ a, (k1_off27 v317) a + S136x128.size a ≤ S2200x256.size a := fun v317 k1_hw12 => k1_hw12.2.1
theorem k1_off28_inb : ∀ (v317 : BitVec 32) (k1_hw12 : k1_chk12 v317), ∀ a, (k1_off28 v317) a + S64x128.size a ≤ S72x128.size a := fun v317 k1_hw12 => k1_hw12.2.2.1
theorem k1_off29_inb : ∀ (v317 : BitVec 32) (k1_hw12 : k1_chk12 v317), ∀ a, (k1_off29 v317) a + S64x128.size a ≤ S72x128.size a := fun v317 k1_hw12 => k1_hw12.2.2.2.1
theorem k1_mult12_dvd : ∀ (v317 : BitVec 32) (k1_hw12 : k1_chk12 v317), 8 ∣ (k1_mult12 v317).toNat := fun v317 k1_hw12 => k1_hw12.2.2.2.2.1
theorem k1_off30_inb : ∀ (v317 : BitVec 32) (k1_hw12 : k1_chk12 v317), ∀ a, (k1_off30 v317) a + S136x128.size a ≤ S2200x256.size a := fun v317 k1_hw12 => k1_hw12.2.2.2.2.2

def k1_off31 (v378 : BitVec 32) : Fin 1 → Nat :=
  let v379 : Index := Scalar.indexCast v378
  ![v379.toNat]

def k1_chk13 (v378 : BitVec 32) : Prop :=
  (∀ a, (k1_off31 v378) a + S1.size a ≤ S15.size a)
theorem k1_off31_inb : ∀ (v378 : BitVec 32) (k1_hw13 : k1_chk13 v378), ∀ a, (k1_off31 v378) a + S1.size a ≤ S15.size a := fun v378 k1_hw13 => k1_hw13

def k1_mult13 (v380 : BitVec 32) : BitVec 32 :=
  let c_m8_i32_182 : BitVec 32 := 4294967288#32
  let v381 : BitVec 32 := Scalar.andi v380 c_m8_i32_182
  v381

def k1_off32 (v380 : BitVec 32) : Fin 2 → Nat :=
  let c_m8_i32_182 : BitVec 32 := 4294967288#32
  let v381 : BitVec 32 := Scalar.andi v380 c_m8_i32_182
  let v382 : BitVec 32 := v381
  let v383 : Index := Scalar.indexCast v382
  let c0_183 : Index := 0#32
  ![v383.toNat, 0]
def k1_off33 (v380 : BitVec 32) : Fin 2 → Nat :=
  let c7_i32_186 : BitVec 32 := 7#32
  let v389 : BitVec 32 := Scalar.andi v380 c7_i32_186
  let c1_i32_187 : BitVec 32 := 1#32
  let v390 : BitVec 32 := Scalar.shrsi v389 c1_i32_187
  let v393 : Index := Scalar.indexCast v390
  let c0_190 : Index := 0#32
  ![v393.toNat, 0]
def k1_off34 (v380 : BitVec 32) : Fin 2 → Nat :=
  let c7_i32_186 : BitVec 32 := 7#32
  let v389 : BitVec 32 := Scalar.andi v380 c7_i32_186
  let c1_i32_187 : BitVec 32 := 1#32
  let v390 : BitVec 32 := Scalar.shrsi v389 c1_i32_187
  let c1_i32_191 : BitVec 32 := 1#32
  let v395 : BitVec 32 := Scalar.addi v390 c1_i32_191
  let v396 : Index := Scalar.indexCast v395
  let c0_192 : Index := 0#32
  ![v396.toNat, 0]
def k1_mult14 (v380 : BitVec 32) : BitVec 32 :=
  let c_m8_i32_197 : BitVec 32 := 4294967288#32
  let v411 : BitVec 32 := Scalar.andi v380 c_m8_i32_197
  v411
def k1_off35 (v380 : BitVec 32) : Fin 2 → Nat :=
  let c_m8_i32_197 : BitVec 32 := 4294967288#32
  let v411 : BitVec 32 := Scalar.andi v380 c_m8_i32_197
  let v412 : BitVec 32 := v411
  let v413 : Index := Scalar.indexCast v412
  let c128_198 : Index := 128#32
  ![v413.toNat, 128]

def k1_chk14 (v380 : BitVec 32) : Prop :=
  (8 ∣ (k1_mult13 v380).toNat) ∧
  (∀ a, (k1_off32 v380) a + S136x128.size a ≤ S2200x256.size a) ∧
  (∀ a, (k1_off33 v380) a + S64x128.size a ≤ S72x128.size a) ∧
  (∀ a, (k1_off34 v380) a + S64x128.size a ≤ S72x128.size a) ∧
  (8 ∣ (k1_mult14 v380).toNat) ∧
  (∀ a, (k1_off35 v380) a + S136x128.size a ≤ S2200x256.size a)
theorem k1_mult13_dvd : ∀ (v380 : BitVec 32) (k1_hw14 : k1_chk14 v380), 8 ∣ (k1_mult13 v380).toNat := fun v380 k1_hw14 => k1_hw14.1
theorem k1_off32_inb : ∀ (v380 : BitVec 32) (k1_hw14 : k1_chk14 v380), ∀ a, (k1_off32 v380) a + S136x128.size a ≤ S2200x256.size a := fun v380 k1_hw14 => k1_hw14.2.1
theorem k1_off33_inb : ∀ (v380 : BitVec 32) (k1_hw14 : k1_chk14 v380), ∀ a, (k1_off33 v380) a + S64x128.size a ≤ S72x128.size a := fun v380 k1_hw14 => k1_hw14.2.2.1
theorem k1_off34_inb : ∀ (v380 : BitVec 32) (k1_hw14 : k1_chk14 v380), ∀ a, (k1_off34 v380) a + S64x128.size a ≤ S72x128.size a := fun v380 k1_hw14 => k1_hw14.2.2.2.1
theorem k1_mult14_dvd : ∀ (v380 : BitVec 32) (k1_hw14 : k1_chk14 v380), 8 ∣ (k1_mult14 v380).toNat := fun v380 k1_hw14 => k1_hw14.2.2.2.2.1
theorem k1_off35_inb : ∀ (v380 : BitVec 32) (k1_hw14 : k1_chk14 v380), ∀ a, (k1_off35 v380) a + S136x128.size a ≤ S2200x256.size a := fun v380 k1_hw14 => k1_hw14.2.2.2.2.2

def k1_off36 (v441 : BitVec 32) : Fin 1 → Nat :=
  let v442 : Index := Scalar.indexCast v441
  ![v442.toNat]

def k1_chk15 (v441 : BitVec 32) : Prop :=
  (∀ a, (k1_off36 v441) a + S1.size a ≤ S15.size a)
theorem k1_off36_inb : ∀ (v441 : BitVec 32) (k1_hw15 : k1_chk15 v441), ∀ a, (k1_off36 v441) a + S1.size a ≤ S15.size a := fun v441 k1_hw15 => k1_hw15

def k1_mult15 (v443 : BitVec 32) : BitVec 32 :=
  let c_m8_i32_213 : BitVec 32 := 4294967288#32
  let v444 : BitVec 32 := Scalar.andi v443 c_m8_i32_213
  v444

def k1_off37 (v443 : BitVec 32) : Fin 2 → Nat :=
  let c_m8_i32_213 : BitVec 32 := 4294967288#32
  let v444 : BitVec 32 := Scalar.andi v443 c_m8_i32_213
  let v445 : BitVec 32 := v444
  let v446 : Index := Scalar.indexCast v445
  let c0_214 : Index := 0#32
  ![v446.toNat, 0]
def k1_off38 (v443 : BitVec 32) : Fin 2 → Nat :=
  let c7_i32_217 : BitVec 32 := 7#32
  let v452 : BitVec 32 := Scalar.andi v443 c7_i32_217
  let c1_i32_218 : BitVec 32 := 1#32
  let v453 : BitVec 32 := Scalar.shrsi v452 c1_i32_218
  let v456 : Index := Scalar.indexCast v453
  let c0_221 : Index := 0#32
  ![v456.toNat, 0]
def k1_off39 (v443 : BitVec 32) : Fin 2 → Nat :=
  let c7_i32_217 : BitVec 32 := 7#32
  let v452 : BitVec 32 := Scalar.andi v443 c7_i32_217
  let c1_i32_218 : BitVec 32 := 1#32
  let v453 : BitVec 32 := Scalar.shrsi v452 c1_i32_218
  let c1_i32_222 : BitVec 32 := 1#32
  let v458 : BitVec 32 := Scalar.addi v453 c1_i32_222
  let v459 : Index := Scalar.indexCast v458
  let c0_223 : Index := 0#32
  ![v459.toNat, 0]
def k1_mult16 (v443 : BitVec 32) : BitVec 32 :=
  let c_m8_i32_228 : BitVec 32 := 4294967288#32
  let v474 : BitVec 32 := Scalar.andi v443 c_m8_i32_228
  v474
def k1_off40 (v443 : BitVec 32) : Fin 2 → Nat :=
  let c_m8_i32_228 : BitVec 32 := 4294967288#32
  let v474 : BitVec 32 := Scalar.andi v443 c_m8_i32_228
  let v475 : BitVec 32 := v474
  let v476 : Index := Scalar.indexCast v475
  let c128_229 : Index := 128#32
  ![v476.toNat, 128]

def k1_chk16 (v443 : BitVec 32) : Prop :=
  (8 ∣ (k1_mult15 v443).toNat) ∧
  (∀ a, (k1_off37 v443) a + S136x128.size a ≤ S2200x256.size a) ∧
  (∀ a, (k1_off38 v443) a + S64x128.size a ≤ S72x128.size a) ∧
  (∀ a, (k1_off39 v443) a + S64x128.size a ≤ S72x128.size a) ∧
  (8 ∣ (k1_mult16 v443).toNat) ∧
  (∀ a, (k1_off40 v443) a + S136x128.size a ≤ S2200x256.size a)
theorem k1_mult15_dvd : ∀ (v443 : BitVec 32) (k1_hw16 : k1_chk16 v443), 8 ∣ (k1_mult15 v443).toNat := fun v443 k1_hw16 => k1_hw16.1
theorem k1_off37_inb : ∀ (v443 : BitVec 32) (k1_hw16 : k1_chk16 v443), ∀ a, (k1_off37 v443) a + S136x128.size a ≤ S2200x256.size a := fun v443 k1_hw16 => k1_hw16.2.1
theorem k1_off38_inb : ∀ (v443 : BitVec 32) (k1_hw16 : k1_chk16 v443), ∀ a, (k1_off38 v443) a + S64x128.size a ≤ S72x128.size a := fun v443 k1_hw16 => k1_hw16.2.2.1
theorem k1_off39_inb : ∀ (v443 : BitVec 32) (k1_hw16 : k1_chk16 v443), ∀ a, (k1_off39 v443) a + S64x128.size a ≤ S72x128.size a := fun v443 k1_hw16 => k1_hw16.2.2.2.1
theorem k1_mult16_dvd : ∀ (v443 : BitVec 32) (k1_hw16 : k1_chk16 v443), 8 ∣ (k1_mult16 v443).toNat := fun v443 k1_hw16 => k1_hw16.2.2.2.2.1
theorem k1_off40_inb : ∀ (v443 : BitVec 32) (k1_hw16 : k1_chk16 v443), ∀ a, (k1_off40 v443) a + S136x128.size a ≤ S2200x256.size a := fun v443 k1_hw16 => k1_hw16.2.2.2.2.2

def k1_off41 (v504 : BitVec 32) : Fin 1 → Nat :=
  let v505 : Index := Scalar.indexCast v504
  ![v505.toNat]

def k1_chk17 (v504 : BitVec 32) : Prop :=
  (∀ a, (k1_off41 v504) a + S1.size a ≤ S15.size a)
theorem k1_off41_inb : ∀ (v504 : BitVec 32) (k1_hw17 : k1_chk17 v504), ∀ a, (k1_off41 v504) a + S1.size a ≤ S15.size a := fun v504 k1_hw17 => k1_hw17

def k1_mult17 (v506 : BitVec 32) : BitVec 32 :=
  let c_m8_i32_244 : BitVec 32 := 4294967288#32
  let v507 : BitVec 32 := Scalar.andi v506 c_m8_i32_244
  v507

def k1_off42 (v506 : BitVec 32) : Fin 2 → Nat :=
  let c_m8_i32_244 : BitVec 32 := 4294967288#32
  let v507 : BitVec 32 := Scalar.andi v506 c_m8_i32_244
  let v508 : BitVec 32 := v507
  let v509 : Index := Scalar.indexCast v508
  let c0_245 : Index := 0#32
  ![v509.toNat, 0]
def k1_off43 (v506 : BitVec 32) : Fin 2 → Nat :=
  let c7_i32_248 : BitVec 32 := 7#32
  let v515 : BitVec 32 := Scalar.andi v506 c7_i32_248
  let c1_i32_249 : BitVec 32 := 1#32
  let v516 : BitVec 32 := Scalar.shrsi v515 c1_i32_249
  let v519 : Index := Scalar.indexCast v516
  let c0_252 : Index := 0#32
  ![v519.toNat, 0]
def k1_off44 (v506 : BitVec 32) : Fin 2 → Nat :=
  let c7_i32_248 : BitVec 32 := 7#32
  let v515 : BitVec 32 := Scalar.andi v506 c7_i32_248
  let c1_i32_249 : BitVec 32 := 1#32
  let v516 : BitVec 32 := Scalar.shrsi v515 c1_i32_249
  let c1_i32_253 : BitVec 32 := 1#32
  let v521 : BitVec 32 := Scalar.addi v516 c1_i32_253
  let v522 : Index := Scalar.indexCast v521
  let c0_254 : Index := 0#32
  ![v522.toNat, 0]
def k1_mult18 (v506 : BitVec 32) : BitVec 32 :=
  let c_m8_i32_259 : BitVec 32 := 4294967288#32
  let v537 : BitVec 32 := Scalar.andi v506 c_m8_i32_259
  v537
def k1_off45 (v506 : BitVec 32) : Fin 2 → Nat :=
  let c_m8_i32_259 : BitVec 32 := 4294967288#32
  let v537 : BitVec 32 := Scalar.andi v506 c_m8_i32_259
  let v538 : BitVec 32 := v537
  let v539 : Index := Scalar.indexCast v538
  let c128_260 : Index := 128#32
  ![v539.toNat, 128]

def k1_chk18 (v506 : BitVec 32) : Prop :=
  (8 ∣ (k1_mult17 v506).toNat) ∧
  (∀ a, (k1_off42 v506) a + S136x128.size a ≤ S2200x256.size a) ∧
  (∀ a, (k1_off43 v506) a + S64x128.size a ≤ S72x128.size a) ∧
  (∀ a, (k1_off44 v506) a + S64x128.size a ≤ S72x128.size a) ∧
  (8 ∣ (k1_mult18 v506).toNat) ∧
  (∀ a, (k1_off45 v506) a + S136x128.size a ≤ S2200x256.size a)
theorem k1_mult17_dvd : ∀ (v506 : BitVec 32) (k1_hw18 : k1_chk18 v506), 8 ∣ (k1_mult17 v506).toNat := fun v506 k1_hw18 => k1_hw18.1
theorem k1_off42_inb : ∀ (v506 : BitVec 32) (k1_hw18 : k1_chk18 v506), ∀ a, (k1_off42 v506) a + S136x128.size a ≤ S2200x256.size a := fun v506 k1_hw18 => k1_hw18.2.1
theorem k1_off43_inb : ∀ (v506 : BitVec 32) (k1_hw18 : k1_chk18 v506), ∀ a, (k1_off43 v506) a + S64x128.size a ≤ S72x128.size a := fun v506 k1_hw18 => k1_hw18.2.2.1
theorem k1_off44_inb : ∀ (v506 : BitVec 32) (k1_hw18 : k1_chk18 v506), ∀ a, (k1_off44 v506) a + S64x128.size a ≤ S72x128.size a := fun v506 k1_hw18 => k1_hw18.2.2.2.1
theorem k1_mult18_dvd : ∀ (v506 : BitVec 32) (k1_hw18 : k1_chk18 v506), 8 ∣ (k1_mult18 v506).toNat := fun v506 k1_hw18 => k1_hw18.2.2.2.2.1
theorem k1_off45_inb : ∀ (v506 : BitVec 32) (k1_hw18 : k1_chk18 v506), ∀ a, (k1_off45 v506) a + S136x128.size a ≤ S2200x256.size a := fun v506 k1_hw18 => k1_hw18.2.2.2.2.2

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S15 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S10 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S9 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S768x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2200x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S768x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
abbrev S3x256x4096 : Shape := ⟨3, ![3, 256, 4096]⟩
abbrev S512x11008 : Shape := ⟨2, ![512, 11008]⟩
abbrev S32x11008 : Shape := ⟨2, ![32, 11008]⟩
abbrev S2200x4096 : Shape := ⟨2, ![2200, 4096]⟩
abbrev S2200x11008 : Shape := ⟨2, ![2200, 11008]⟩
abbrev S15 : Shape := ⟨1, ![15]⟩
abbrev S10 : Shape := ⟨1, ![10]⟩
abbrev S9 : Shape := ⟨1, ![9]⟩
abbrev S768x4096 : Shape := ⟨2, ![768, 4096]⟩
abbrev S768x128 : Shape := ⟨2, ![768, 128]⟩
abbrev S768x512 : Shape := ⟨2, ![768, 512]⟩
abbrev S2200x512 : Shape := ⟨2, ![2200, 512]⟩
abbrev S1152x512 : Shape := ⟨2, ![1152, 512]⟩
abbrev S768x1152 : Shape := ⟨2, ![768, 1152]⟩
abbrev S72x128 : Shape := ⟨2, ![72, 128]⟩
abbrev S72x2x128 : Shape := ⟨3, ![72, 2, 128]⟩
abbrev S72x1x128 : Shape := ⟨3, ![72, 1, 128]⟩
abbrev S1 : Shape := ⟨1, ![1]⟩
abbrev S136x128 : Shape := ⟨2, ![136, 128]⟩
abbrev S68x128 : Shape := ⟨2, ![68, 128]⟩
abbrev S68x2x128 : Shape := ⟨3, ![68, 2, 128]⟩
abbrev S68x1x128 : Shape := ⟨3, ![68, 1, 128]⟩
abbrev S64x128 : Shape := ⟨2, ![64, 128]⟩
abbrev S64x2x128 : Shape := ⟨3, ![64, 2, 128]⟩
abbrev S64x1x128 : Shape := ⟨3, ![64, 1, 128]⟩
abbrev S128x128 : Shape := ⟨2, ![128, 128]⟩
abbrev S768x11008 : Shape := ⟨2, ![768, 11008]⟩
abbrev S512x256 : Shape := ⟨2, ![512, 256]⟩
abbrev S32x256 : Shape := ⟨2, ![32, 256]⟩
abbrev S2200x256 : Shape := ⟨2, ![2200, 256]⟩
abbrev S768x256 : Shape := ⟨2, ![768, 256]⟩
abbrev S1152x256 : Shape := ⟨2, ![1152, 256]⟩
abbrev S512x8x256 : Shape := ⟨3, ![512, 8, 256]⟩
abbrev S512x1x256 : Shape := ⟨3, ![512, 1, 256]⟩
abbrev S4096x256 : Shape := ⟨2, ![4096, 256]⟩
abbrev S32x128x256 : Shape := ⟨3, ![32, 128, 256]⟩
abbrev S32x1x256 : Shape := ⟨3, ![32, 1, 256]⟩
abbrev S3x256x11008 : Shape := ⟨3, ![3, 256, 11008]⟩

abbrev nBuf : Space → Nat
  | .hbm => 14
  | .vmem => 20
  | .smem => 8
  | _ => 0

abbrev bufTy : (tb : Table) → Fin (tcTables nBuf tb) → BufTy
  | .hbm, ⟨0, _⟩ => ⟨S3x256x4096, .bf16⟩
  | .hbm, ⟨1, _⟩ => ⟨S512x11008, .i32⟩
  | .hbm, ⟨2, _⟩ => ⟨S32x11008, .bf16⟩
  | .hbm, ⟨3, _⟩ => ⟨S2200x4096, .bf16⟩
  | .hbm, ⟨4, _⟩ => ⟨S2200x11008, .bf16⟩
  | .hbm, ⟨5, _⟩ => ⟨S15, .i32⟩
  | .hbm, ⟨6, _⟩ => ⟨S15, .i32⟩
  | .hbm, ⟨7, _⟩ => ⟨S15, .f32⟩
  | .hbm, ⟨8, _⟩ => ⟨S10, .i32⟩
  | .hbm, ⟨9, _⟩ => ⟨S9, .i32⟩
  | .hbm, ⟨10, _⟩ => ⟨S768x4096, .bf16⟩
  | .hbm, ⟨11, _⟩ => ⟨S768x128, .bf16⟩
  | .hbm, ⟨12, _⟩ => ⟨S768x11008, .bf16⟩
  | .hbm, ⟨13, _⟩ => ⟨S3x256x11008, .bf16⟩
  | .local _ .vmem, ⟨0, _⟩ => ⟨S768x512, .bf16⟩
  | .local _ .vmem, ⟨1, _⟩ => ⟨S768x512, .bf16⟩
  | .local _ .vmem, ⟨2, _⟩ => ⟨S2200x512, .bf16⟩
  | .local _ .vmem, ⟨3, _⟩ => ⟨S2200x512, .bf16⟩
  | .local _ .vmem, ⟨4, _⟩ => ⟨S768x128, .bf16⟩
  | .local _ .vmem, ⟨5, _⟩ => ⟨S1152x512, .bf16⟩
  | .local _ .vmem, ⟨6, _⟩ => ⟨S768x1152, .f32⟩
  | .local _ .vmem, ⟨7, _⟩ => ⟨S72x2x128, .bf16⟩
  | .local _ .vmem, ⟨8, _⟩ => ⟨S768x4096, .bf16⟩
  | .local _ .vmem, ⟨9, _⟩ => ⟨S512x256, .i32⟩
  | .local _ .vmem, ⟨10, _⟩ => ⟨S512x256, .i32⟩
  | .local _ .vmem, ⟨11, _⟩ => ⟨S32x256, .bf16⟩
  | .local _ .vmem, ⟨12, _⟩ => ⟨S32x256, .bf16⟩
  | .local _ .vmem, ⟨13, _⟩ => ⟨S768x128, .bf16⟩
  | .local _ .vmem, ⟨14, _⟩ => ⟨S2200x256, .bf16⟩
  | .local _ .vmem, ⟨15, _⟩ => ⟨S2200x256, .bf16⟩
  | .local _ .vmem, ⟨16, _⟩ => ⟨S768x256, .bf16⟩
  | .local _ .vmem, ⟨17, _⟩ => ⟨S768x256, .bf16⟩
  | .local _ .vmem, ⟨18, _⟩ => ⟨S1152x256, .bf16⟩
  | .local _ .vmem, ⟨19, _⟩ => ⟨S72x2x128, .bf16⟩
  | .local _ .smem, ⟨0, _⟩ => ⟨S15, .i32⟩
  | .local _ .smem, ⟨1, _⟩ => ⟨S15, .i32⟩
  | .local _ .smem, ⟨2, _⟩ => ⟨S10, .i32⟩
  | .local _ .smem, ⟨3, _⟩ => ⟨S9, .i32⟩
  | .local _ .smem, ⟨4, _⟩ => ⟨S15, .f32⟩
  | .local _ .smem, ⟨5, _⟩ => ⟨S15, .i32⟩
  | .local _ .smem, ⟨6, _⟩ => ⟨S10, .i32⟩
  | .local _ .smem, ⟨7, _⟩ => ⟨S9, .i32⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_scratch0 : Ref sig .tc := ⟨.vmem, 18, rfl⟩
abbrev cc1_scratch1 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc1_stg0_0 : Ref sig .tc := ⟨.smem, 5, rfl⟩
abbrev cc1_stg1_0 : Ref sig .tc := ⟨.smem, 6, rfl⟩
abbrev cc1_stg2_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![8], ![false]⟩

def k0_off1 (v0 : BitVec 32) : Fin 1 → Nat :=
  let v1 : Index := Scalar.indexCast v0
  ![v1.toNat]

def k0_chk1 (v0 : BitVec 32) : Prop :=
  (∀ a, (k0_off1 v0) a + S1.size a ≤ S15.size a)
theorem k0_off1_inb : ∀ (v0 : BitVec 32) (k0_hw1 : k0_chk1 v0), ∀ a, (k0_off1 v0) a + S1.size a ≤ S15.size a := fun v0 k0_hw1 => k0_hw1

def k0_mult1 (v2 : BitVec 32) : BitVec 32 :=
  let c_m8_i32 : BitVec 32 := 4294967288#32
  let v3 : BitVec 32 := Scalar.andi v2 c_m8_i32
  v3

def k0_off2 (v2 : BitVec 32) : Fin 2 → Nat :=
  let c_m8_i32 : BitVec 32 := 4294967288#32
  let v3 : BitVec 32 := Scalar.andi v2 c_m8_i32
  let v4 : BitVec 32 := v3
  let v5 : Index := Scalar.indexCast v4
  let c0_0 : Index := 0#32
  ![v5.toNat, 0]
def k0_off3 (v2 : BitVec 32) : Fin 3 → Nat :=
  let c7_i32 : BitVec 32 := 7#32
  let v11 : BitVec 32 := Scalar.andi v2 c7_i32
  let c1_i32 : BitVec 32 := 1#32
  let v12 : BitVec 32 := Scalar.shrsi v11 c1_i32
  let v15 : Index := Scalar.indexCast v12
  let c0_4 : Index := 0#32
  ![v15.toNat, 0, 0]
def k0_off4 (v2 : BitVec 32) : Fin 3 → Nat :=
  let c7_i32 : BitVec 32 := 7#32
  let v11 : BitVec 32 := Scalar.andi v2 c7_i32
  let c1_i32 : BitVec 32 := 1#32
  let v12 : BitVec 32 := Scalar.shrsi v11 c1_i32
  let c1_i32_5 : BitVec 32 := 1#32
  let v17 : BitVec 32 := Scalar.addi v12 c1_i32_5
  let v18 : Index := Scalar.indexCast v17
  let c0_6 : Index := 0#32
  ![v18.toNat, 0, 0]
def k0_mult2 (v2 : BitVec 32) : BitVec 32 :=
  let c_m8_i32_11 : BitVec 32 := 4294967288#32
  let v33 : BitVec 32 := Scalar.andi v2 c_m8_i32_11
  v33
def k0_off5 (v2 : BitVec 32) : Fin 2 → Nat :=
  let c_m8_i32_11 : BitVec 32 := 4294967288#32
  let v33 : BitVec 32 := Scalar.andi v2 c_m8_i32_11
  let v34 : BitVec 32 := v33
  let v35 : Index := Scalar.indexCast v34
  let c128 : Index := 128#32
  ![v35.toNat, 128]
def k0_mult3 (v2 : BitVec 32) : BitVec 32 :=
  let c_m8_i32_26 : BitVec 32 := 4294967288#32
  let v63 : BitVec 32 := Scalar.andi v2 c_m8_i32_26
  v63
def k0_off6 (v2 : BitVec 32) : Fin 2 → Nat :=
  let c_m8_i32_26 : BitVec 32 := 4294967288#32
  let v63 : BitVec 32 := Scalar.andi v2 c_m8_i32_26
  let v64 : BitVec 32 := v63
  let v65 : Index := Scalar.indexCast v64
  let c256 : Index := 256#32
  ![v65.toNat, 256]
def k0_mult4 (v2 : BitVec 32) : BitVec 32 :=
  let c_m8_i32_41 : BitVec 32 := 4294967288#32
  let v93 : BitVec 32 := Scalar.andi v2 c_m8_i32_41
  v93
def k0_off7 (v2 : BitVec 32) : Fin 2 → Nat :=
  let c_m8_i32_41 : BitVec 32 := 4294967288#32
  let v93 : BitVec 32 := Scalar.andi v2 c_m8_i32_41
  let v94 : BitVec 32 := v93
  let v95 : Index := Scalar.indexCast v94
  let c384 : Index := 384#32
  ![v95.toNat, 384]

def k0_chk2 (v2 : BitVec 32) : Prop :=
  (8 ∣ (k0_mult1 v2).toNat) ∧
  (∀ a, (k0_off2 v2) a + S136x128.size a ≤ S2200x512.size a) ∧
  (∀ a, (k0_off3 v2) a + S64x2x128.size a ≤ S72x2x128.size a) ∧
  (∀ a, (k0_off4 v2) a + S64x2x128.size a ≤ S72x2x128.size a) ∧
  (8 ∣ (k0_mult2 v2).toNat) ∧
  (∀ a, (k0_off5 v2) a + S136x128.size a ≤ S2200x512.size a) ∧
  (8 ∣ (k0_mult3 v2).toNat) ∧
  (∀ a, (k0_off6 v2) a + S136x128.size a ≤ S2200x512.size a) ∧
  (8 ∣ (k0_mult4 v2).toNat) ∧
  (∀ a, (k0_off7 v2) a + S136x128.size a ≤ S2200x512.size a)
theorem k0_mult1_dvd : ∀ (v2 : BitVec 32) (k0_hw2 : k0_chk2 v2), 8 ∣ (k0_mult1 v2).toNat := fun v2 k0_hw2 => k0_hw2.1
theorem k0_off2_inb : ∀ (v2 : BitVec 32) (k0_hw2 : k0_chk2 v2), ∀ a, (k0_off2 v2) a + S136x128.size a ≤ S2200x512.size a := fun v2 k0_hw2 => k0_hw2.2.1
theorem k0_off3_inb : ∀ (v2 : BitVec 32) (k0_hw2 : k0_chk2 v2), ∀ a, (k0_off3 v2) a + S64x2x128.size a ≤ S72x2x128.size a := fun v2 k0_hw2 => k0_hw2.2.2.1
theorem k0_off4_inb : ∀ (v2 : BitVec 32) (k0_hw2 : k0_chk2 v2), ∀ a, (k0_off4 v2) a + S64x2x128.size a ≤ S72x2x128.size a := fun v2 k0_hw2 => k0_hw2.2.2.2.1
theorem k0_mult2_dvd : ∀ (v2 : BitVec 32) (k0_hw2 : k0_chk2 v2), 8 ∣ (k0_mult2 v2).toNat := fun v2 k0_hw2 => k0_hw2.2.2.2.2.1
theorem k0_off5_inb : ∀ (v2 : BitVec 32) (k0_hw2 : k0_chk2 v2), ∀ a, (k0_off5 v2) a + S136x128.size a ≤ S2200x512.size a := fun v2 k0_hw2 => k0_hw2.2.2.2.2.2.1
theorem k0_mult3_dvd : ∀ (v2 : BitVec 32) (k0_hw2 : k0_chk2 v2), 8 ∣ (k0_mult3 v2).toNat := fun v2 k0_hw2 => k0_hw2.2.2.2.2.2.2.1
theorem k0_off6_inb : ∀ (v2 : BitVec 32) (k0_hw2 : k0_chk2 v2), ∀ a, (k0_off6 v2) a + S136x128.size a ≤ S2200x512.size a := fun v2 k0_hw2 => k0_hw2.2.2.2.2.2.2.2.1
theorem k0_mult4_dvd : ∀ (v2 : BitVec 32) (k0_hw2 : k0_chk2 v2), 8 ∣ (k0_mult4 v2).toNat := fun v2 k0_hw2 => k0_hw2.2.2.2.2.2.2.2.2.1
theorem k0_off7_inb : ∀ (v2 : BitVec 32) (k0_hw2 : k0_chk2 v2), ∀ a, (k0_off7 v2) a + S136x128.size a ≤ S2200x512.size a := fun v2 k0_hw2 => k0_hw2.2.2.2.2.2.2.2.2.2

def k0_off8 (v123 : BitVec 32) : Fin 1 → Nat :=
  let v124 : Index := Scalar.indexCast v123
  ![v124.toNat]

def k0_chk3 (v123 : BitVec 32) : Prop :=
  (∀ a, (k0_off8 v123) a + S1.size a ≤ S15.size a)
theorem k0_off8_inb : ∀ (v123 : BitVec 32) (k0_hw3 : k0_chk3 v123), ∀ a, (k0_off8 v123) a + S1.size a ≤ S15.size a := fun v123 k0_hw3 => k0_hw3

def k0_mult5 (v125 : BitVec 32) : BitVec 32 :=
  let c_m8_i32_56 : BitVec 32 := 4294967288#32
  let v126 : BitVec 32 := Scalar.andi v125 c_m8_i32_56
  v126

def k0_off9 (v125 : BitVec 32) : Fin 2 → Nat :=
  let c_m8_i32_56 : BitVec 32 := 4294967288#32
  let v126 : BitVec 32 := Scalar.andi v125 c_m8_i32_56
  let v127 : BitVec 32 := v126
  let v128 : Index := Scalar.indexCast v127
  let c0_57 : Index := 0#32
  ![v128.toNat, 0]
def k0_off10 (v125 : BitVec 32) : Fin 3 → Nat :=
  let c7_i32_60 : BitVec 32 := 7#32
  let v134 : BitVec 32 := Scalar.andi v125 c7_i32_60
  let c1_i32_61 : BitVec 32 := 1#32
  let v135 : BitVec 32 := Scalar.shrsi v134 c1_i32_61
  let v138 : Index := Scalar.indexCast v135
  let c0_64 : Index := 0#32
  ![v138.toNat, 0, 0]
def k0_off11 (v125 : BitVec 32) : Fin 3 → Nat :=
  let c7_i32_60 : BitVec 32 := 7#32
  let v134 : BitVec 32 := Scalar.andi v125 c7_i32_60
  let c1_i32_61 : BitVec 32 := 1#32
  let v135 : BitVec 32 := Scalar.shrsi v134 c1_i32_61
  let c1_i32_65 : BitVec 32 := 1#32
  let v140 : BitVec 32 := Scalar.addi v135 c1_i32_65
  let v141 : Index := Scalar.indexCast v140
  let c0_66 : Index := 0#32
  ![v141.toNat, 0, 0]
def k0_mult6 (v125 : BitVec 32) : BitVec 32 :=
  let c_m8_i32_72 : BitVec 32 := 4294967288#32
  let v156 : BitVec 32 := Scalar.andi v125 c_m8_i32_72
  v156
def k0_off12 (v125 : BitVec 32) : Fin 2 → Nat :=
  let c_m8_i32_72 : BitVec 32 := 4294967288#32
  let v156 : BitVec 32 := Scalar.andi v125 c_m8_i32_72
  let v157 : BitVec 32 := v156
  let v158 : Index := Scalar.indexCast v157
  let c128_73 : Index := 128#32
  ![v158.toNat, 128]
def k0_mult7 (v125 : BitVec 32) : BitVec 32 :=
  let c_m8_i32_88 : BitVec 32 := 4294967288#32
  let v186 : BitVec 32 := Scalar.andi v125 c_m8_i32_88
  v186
def k0_off13 (v125 : BitVec 32) : Fin 2 → Nat :=
  let c_m8_i32_88 : BitVec 32 := 4294967288#32
  let v186 : BitVec 32 := Scalar.andi v125 c_m8_i32_88
  let v187 : BitVec 32 := v186
  let v188 : Index := Scalar.indexCast v187
  let c256_89 : Index := 256#32
  ![v188.toNat, 256]
def k0_mult8 (v125 : BitVec 32) : BitVec 32 :=
  let c_m8_i32_104 : BitVec 32 := 4294967288#32
  let v216 : BitVec 32 := Scalar.andi v125 c_m8_i32_104
  v216
def k0_off14 (v125 : BitVec 32) : Fin 2 → Nat :=
  let c_m8_i32_104 : BitVec 32 := 4294967288#32
  let v216 : BitVec 32 := Scalar.andi v125 c_m8_i32_104
  let v217 : BitVec 32 := v216
  let v218 : Index := Scalar.indexCast v217
  let c384_105 : Index := 384#32
  ![v218.toNat, 384]

def k0_chk4 (v125 : BitVec 32) : Prop :=
  (8 ∣ (k0_mult5 v125).toNat) ∧
  (∀ a, (k0_off9 v125) a + S136x128.size a ≤ S2200x512.size a) ∧
  (∀ a, (k0_off10 v125) a + S64x2x128.size a ≤ S72x2x128.size a) ∧
  (∀ a, (k0_off11 v125) a + S64x2x128.size a ≤ S72x2x128.size a) ∧
  (8 ∣ (k0_mult6 v125).toNat) ∧
  (∀ a, (k0_off12 v125) a + S136x128.size a ≤ S2200x512.size a) ∧
  (8 ∣ (k0_mult7 v125).toNat) ∧
  (∀ a, (k0_off13 v125) a + S136x128.size a ≤ S2200x512.size a) ∧
  (8 ∣ (k0_mult8 v125).toNat) ∧
  (∀ a, (k0_off14 v125) a + S136x128.size a ≤ S2200x512.size a)
theorem k0_mult5_dvd : ∀ (v125 : BitVec 32) (k0_hw4 : k0_chk4 v125), 8 ∣ (k0_mult5 v125).toNat := fun v125 k0_hw4 => k0_hw4.1
theorem k0_off9_inb : ∀ (v125 : BitVec 32) (k0_hw4 : k0_chk4 v125), ∀ a, (k0_off9 v125) a + S136x128.size a ≤ S2200x512.size a := fun v125 k0_hw4 => k0_hw4.2.1
theorem k0_off10_inb : ∀ (v125 : BitVec 32) (k0_hw4 : k0_chk4 v125), ∀ a, (k0_off10 v125) a + S64x2x128.size a ≤ S72x2x128.size a := fun v125 k0_hw4 => k0_hw4.2.2.1
theorem k0_off11_inb : ∀ (v125 : BitVec 32) (k0_hw4 : k0_chk4 v125), ∀ a, (k0_off11 v125) a + S64x2x128.size a ≤ S72x2x128.size a := fun v125 k0_hw4 => k0_hw4.2.2.2.1
theorem k0_mult6_dvd : ∀ (v125 : BitVec 32) (k0_hw4 : k0_chk4 v125), 8 ∣ (k0_mult6 v125).toNat := fun v125 k0_hw4 => k0_hw4.2.2.2.2.1
theorem k0_off12_inb : ∀ (v125 : BitVec 32) (k0_hw4 : k0_chk4 v125), ∀ a, (k0_off12 v125) a + S136x128.size a ≤ S2200x512.size a := fun v125 k0_hw4 => k0_hw4.2.2.2.2.2.1
theorem k0_mult7_dvd : ∀ (v125 : BitVec 32) (k0_hw4 : k0_chk4 v125), 8 ∣ (k0_mult7 v125).toNat := fun v125 k0_hw4 => k0_hw4.2.2.2.2.2.2.1
theorem k0_off13_inb : ∀ (v125 : BitVec 32) (k0_hw4 : k0_chk4 v125), ∀ a, (k0_off13 v125) a + S136x128.size a ≤ S2200x512.size a := fun v125 k0_hw4 => k0_hw4.2.2.2.2.2.2.2.1
theorem k0_mult8_dvd : ∀ (v125 : BitVec 32) (k0_hw4 : k0_chk4 v125), 8 ∣ (k0_mult8 v125).toNat := fun v125 k0_hw4 => k0_hw4.2.2.2.2.2.2.2.2.1
theorem k0_off14_inb : ∀ (v125 : BitVec 32) (k0_hw4 : k0_chk4 v125), ∀ a, (k0_off14 v125) a + S136x128.size a ≤ S2200x512.size a := fun v125 k0_hw4 => k0_hw4.2.2.2.2.2.2.2.2.2

def k0_off15 (v246 : BitVec 32) : Fin 1 → Nat :=
  let v247 : Index := Scalar.indexCast v246
  ![v247.toNat]

def k0_chk5 (v246 : BitVec 32) : Prop :=
  (∀ a, (k0_off15 v246) a + S1.size a ≤ S15.size a)
theorem k0_off15_inb : ∀ (v246 : BitVec 32) (k0_hw5 : k0_chk5 v246), ∀ a, (k0_off15 v246) a + S1.size a ≤ S15.size a := fun v246 k0_hw5 => k0_hw5

def k0_mult9 (v248 : BitVec 32) : BitVec 32 :=
  let c_m8_i32_120 : BitVec 32 := 4294967288#32
  let v249 : BitVec 32 := Scalar.andi v248 c_m8_i32_120
  v249

def k0_off16 (v248 : BitVec 32) : Fin 2 → Nat :=
  let c_m8_i32_120 : BitVec 32 := 4294967288#32
  let v249 : BitVec 32 := Scalar.andi v248 c_m8_i32_120
  let v250 : BitVec 32 := v249
  let v251 : Index := Scalar.indexCast v250
  let c0_121 : Index := 0#32
  ![v251.toNat, 0]
def k0_off17 (v248 : BitVec 32) : Fin 3 → Nat :=
  let c7_i32_124 : BitVec 32 := 7#32
  let v257 : BitVec 32 := Scalar.andi v248 c7_i32_124
  let c1_i32_125 : BitVec 32 := 1#32
  let v258 : BitVec 32 := Scalar.shrsi v257 c1_i32_125
  let v261 : Index := Scalar.indexCast v258
  let c0_128 : Index := 0#32
  ![v261.toNat, 0, 0]
def k0_off18 (v248 : BitVec 32) : Fin 3 → Nat :=
  let c7_i32_124 : BitVec 32 := 7#32
  let v257 : BitVec 32 := Scalar.andi v248 c7_i32_124
  let c1_i32_125 : BitVec 32 := 1#32
  let v258 : BitVec 32 := Scalar.shrsi v257 c1_i32_125
  let c1_i32_129 : BitVec 32 := 1#32
  let v263 : BitVec 32 := Scalar.addi v258 c1_i32_129
  let v264 : Index := Scalar.indexCast v263
  let c0_130 : Index := 0#32
  ![v264.toNat, 0, 0]
def k0_mult10 (v248 : BitVec 32) : BitVec 32 :=
  let c_m8_i32_136 : BitVec 32 := 4294967288#32
  let v279 : BitVec 32 := Scalar.andi v248 c_m8_i32_136
  v279
def k0_off19 (v248 : BitVec 32) : Fin 2 → Nat :=
  let c_m8_i32_136 : BitVec 32 := 4294967288#32
  let v279 : BitVec 32 := Scalar.andi v248 c_m8_i32_136
  let v280 : BitVec 32 := v279
  let v281 : Index := Scalar.indexCast v280
  let c128_137 : Index := 128#32
  ![v281.toNat, 128]
def k0_mult11 (v248 : BitVec 32) : BitVec 32 :=
  let c_m8_i32_152 : BitVec 32 := 4294967288#32
  let v309 : BitVec 32 := Scalar.andi v248 c_m8_i32_152
  v309
def k0_off20 (v248 : BitVec 32) : Fin 2 → Nat :=
  let c_m8_i32_152 : BitVec 32 := 4294967288#32
  let v309 : BitVec 32 := Scalar.andi v248 c_m8_i32_152
  let v310 : BitVec 32 := v309
  let v311 : Index := Scalar.indexCast v310
  let c256_153 : Index := 256#32
  ![v311.toNat, 256]
def k0_mult12 (v248 : BitVec 32) : BitVec 32 :=
  let c_m8_i32_168 : BitVec 32 := 4294967288#32
  let v339 : BitVec 32 := Scalar.andi v248 c_m8_i32_168
  v339
def k0_off21 (v248 : BitVec 32) : Fin 2 → Nat :=
  let c_m8_i32_168 : BitVec 32 := 4294967288#32
  let v339 : BitVec 32 := Scalar.andi v248 c_m8_i32_168
  let v340 : BitVec 32 := v339
  let v341 : Index := Scalar.indexCast v340
  let c384_169 : Index := 384#32
  ![v341.toNat, 384]

def k0_chk6 (v248 : BitVec 32) : Prop :=
  (8 ∣ (k0_mult9 v248).toNat) ∧
  (∀ a, (k0_off16 v248) a + S136x128.size a ≤ S2200x512.size a) ∧
  (∀ a, (k0_off17 v248) a + S64x2x128.size a ≤ S72x2x128.size a) ∧
  (∀ a, (k0_off18 v248) a + S64x2x128.size a ≤ S72x2x128.size a) ∧
  (8 ∣ (k0_mult10 v248).toNat) ∧
  (∀ a, (k0_off19 v248) a + S136x128.size a ≤ S2200x512.size a) ∧
  (8 ∣ (k0_mult11 v248).toNat) ∧
  (∀ a, (k0_off20 v248) a + S136x128.size a ≤ S2200x512.size a) ∧
  (8 ∣ (k0_mult12 v248).toNat) ∧
  (∀ a, (k0_off21 v248) a + S136x128.size a ≤ S2200x512.size a)
theorem k0_mult9_dvd : ∀ (v248 : BitVec 32) (k0_hw6 : k0_chk6 v248), 8 ∣ (k0_mult9 v248).toNat := fun v248 k0_hw6 => k0_hw6.1
theorem k0_off16_inb : ∀ (v248 : BitVec 32) (k0_hw6 : k0_chk6 v248), ∀ a, (k0_off16 v248) a + S136x128.size a ≤ S2200x512.size a := fun v248 k0_hw6 => k0_hw6.2.1
theorem k0_off17_inb : ∀ (v248 : BitVec 32) (k0_hw6 : k0_chk6 v248), ∀ a, (k0_off17 v248) a + S64x2x128.size a ≤ S72x2x128.size a := fun v248 k0_hw6 => k0_hw6.2.2.1
theorem k0_off18_inb : ∀ (v248 : BitVec 32) (k0_hw6 : k0_chk6 v248), ∀ a, (k0_off18 v248) a + S64x2x128.size a ≤ S72x2x128.size a := fun v248 k0_hw6 => k0_hw6.2.2.2.1
theorem k0_mult10_dvd : ∀ (v248 : BitVec 32) (k0_hw6 : k0_chk6 v248), 8 ∣ (k0_mult10 v248).toNat := fun v248 k0_hw6 => k0_hw6.2.2.2.2.1
theorem k0_off19_inb : ∀ (v248 : BitVec 32) (k0_hw6 : k0_chk6 v248), ∀ a, (k0_off19 v248) a + S136x128.size a ≤ S2200x512.size a := fun v248 k0_hw6 => k0_hw6.2.2.2.2.2.1
theorem k0_mult11_dvd : ∀ (v248 : BitVec 32) (k0_hw6 : k0_chk6 v248), 8 ∣ (k0_mult11 v248).toNat := fun v248 k0_hw6 => k0_hw6.2.2.2.2.2.2.1
theorem k0_off20_inb : ∀ (v248 : BitVec 32) (k0_hw6 : k0_chk6 v248), ∀ a, (k0_off20 v248) a + S136x128.size a ≤ S2200x512.size a := fun v248 k0_hw6 => k0_hw6.2.2.2.2.2.2.2.1
theorem k0_mult12_dvd : ∀ (v248 : BitVec 32) (k0_hw6 : k0_chk6 v248), 8 ∣ (k0_mult12 v248).toNat := fun v248 k0_hw6 => k0_hw6.2.2.2.2.2.2.2.2.1
theorem k0_off21_inb : ∀ (v248 : BitVec 32) (k0_hw6 : k0_chk6 v248), ∀ a, (k0_off21 v248) a + S136x128.size a ≤ S2200x512.size a := fun v248 k0_hw6 => k0_hw6.2.2.2.2.2.2.2.2.2

def k0_off22 (v369 : BitVec 32) : Fin 1 → Nat :=
  let v370 : Index := Scalar.indexCast v369
  ![v370.toNat]

def k0_chk7 (v369 : BitVec 32) : Prop :=
  (∀ a, (k0_off22 v369) a + S1.size a ≤ S15.size a)
theorem k0_off22_inb : ∀ (v369 : BitVec 32) (k0_hw7 : k0_chk7 v369), ∀ a, (k0_off22 v369) a + S1.size a ≤ S15.size a := fun v369 k0_hw7 => k0_hw7

def k0_mult13 (v371 : BitVec 32) : BitVec 32 :=
  let c_m8_i32_184 : BitVec 32 := 4294967288#32
  let v372 : BitVec 32 := Scalar.andi v371 c_m8_i32_184
  v372

def k0_off23 (v371 : BitVec 32) : Fin 2 → Nat :=
  let c_m8_i32_184 : BitVec 32 := 4294967288#32
  let v372 : BitVec 32 := Scalar.andi v371 c_m8_i32_184
  let v373 : BitVec 32 := v372
  let v374 : Index := Scalar.indexCast v373
  let c0_185 : Index := 0#32
  ![v374.toNat, 0]
def k0_off24 (v371 : BitVec 32) : Fin 3 → Nat :=
  let c7_i32_188 : BitVec 32 := 7#32
  let v380 : BitVec 32 := Scalar.andi v371 c7_i32_188
  let c1_i32_189 : BitVec 32 := 1#32
  let v381 : BitVec 32 := Scalar.shrsi v380 c1_i32_189
  let v384 : Index := Scalar.indexCast v381
  let c0_192 : Index := 0#32
  ![v384.toNat, 0, 0]
def k0_off25 (v371 : BitVec 32) : Fin 3 → Nat :=
  let c7_i32_188 : BitVec 32 := 7#32
  let v380 : BitVec 32 := Scalar.andi v371 c7_i32_188
  let c1_i32_189 : BitVec 32 := 1#32
  let v381 : BitVec 32 := Scalar.shrsi v380 c1_i32_189
  let c1_i32_193 : BitVec 32 := 1#32
  let v386 : BitVec 32 := Scalar.addi v381 c1_i32_193
  let v387 : Index := Scalar.indexCast v386
  let c0_194 : Index := 0#32
  ![v387.toNat, 0, 0]
def k0_mult14 (v371 : BitVec 32) : BitVec 32 :=
  let c_m8_i32_200 : BitVec 32 := 4294967288#32
  let v402 : BitVec 32 := Scalar.andi v371 c_m8_i32_200
  v402
def k0_off26 (v371 : BitVec 32) : Fin 2 → Nat :=
  let c_m8_i32_200 : BitVec 32 := 4294967288#32
  let v402 : BitVec 32 := Scalar.andi v371 c_m8_i32_200
  let v403 : BitVec 32 := v402
  let v404 : Index := Scalar.indexCast v403
  let c128_201 : Index := 128#32
  ![v404.toNat, 128]
def k0_mult15 (v371 : BitVec 32) : BitVec 32 :=
  let c_m8_i32_216 : BitVec 32 := 4294967288#32
  let v432 : BitVec 32 := Scalar.andi v371 c_m8_i32_216
  v432
def k0_off27 (v371 : BitVec 32) : Fin 2 → Nat :=
  let c_m8_i32_216 : BitVec 32 := 4294967288#32
  let v432 : BitVec 32 := Scalar.andi v371 c_m8_i32_216
  let v433 : BitVec 32 := v432
  let v434 : Index := Scalar.indexCast v433
  let c256_217 : Index := 256#32
  ![v434.toNat, 256]
def k0_mult16 (v371 : BitVec 32) : BitVec 32 :=
  let c_m8_i32_232 : BitVec 32 := 4294967288#32
  let v462 : BitVec 32 := Scalar.andi v371 c_m8_i32_232
  v462
def k0_off28 (v371 : BitVec 32) : Fin 2 → Nat :=
  let c_m8_i32_232 : BitVec 32 := 4294967288#32
  let v462 : BitVec 32 := Scalar.andi v371 c_m8_i32_232
  let v463 : BitVec 32 := v462
  let v464 : Index := Scalar.indexCast v463
  let c384_233 : Index := 384#32
  ![v464.toNat, 384]

def k0_chk8 (v371 : BitVec 32) : Prop :=
  (8 ∣ (k0_mult13 v371).toNat) ∧
  (∀ a, (k0_off23 v371) a + S136x128.size a ≤ S2200x512.size a) ∧
  (∀ a, (k0_off24 v371) a + S64x2x128.size a ≤ S72x2x128.size a) ∧
  (∀ a, (k0_off25 v371) a + S64x2x128.size a ≤ S72x2x128.size a) ∧
  (8 ∣ (k0_mult14 v371).toNat) ∧
  (∀ a, (k0_off26 v371) a + S136x128.size a ≤ S2200x512.size a) ∧
  (8 ∣ (k0_mult15 v371).toNat) ∧
  (∀ a, (k0_off27 v371) a + S136x128.size a ≤ S2200x512.size a) ∧
  (8 ∣ (k0_mult16 v371).toNat) ∧
  (∀ a, (k0_off28 v371) a + S136x128.size a ≤ S2200x512.size a)
theorem k0_mult13_dvd : ∀ (v371 : BitVec 32) (k0_hw8 : k0_chk8 v371), 8 ∣ (k0_mult13 v371).toNat := fun v371 k0_hw8 => k0_hw8.1
theorem k0_off23_inb : ∀ (v371 : BitVec 32) (k0_hw8 : k0_chk8 v371), ∀ a, (k0_off23 v371) a + S136x128.size a ≤ S2200x512.size a := fun v371 k0_hw8 => k0_hw8.2.1
theorem k0_off24_inb : ∀ (v371 : BitVec 32) (k0_hw8 : k0_chk8 v371), ∀ a, (k0_off24 v371) a + S64x2x128.size a ≤ S72x2x128.size a := fun v371 k0_hw8 => k0_hw8.2.2.1
theorem k0_off25_inb : ∀ (v371 : BitVec 32) (k0_hw8 : k0_chk8 v371), ∀ a, (k0_off25 v371) a + S64x2x128.size a ≤ S72x2x128.size a := fun v371 k0_hw8 => k0_hw8.2.2.2.1
theorem k0_mult14_dvd : ∀ (v371 : BitVec 32) (k0_hw8 : k0_chk8 v371), 8 ∣ (k0_mult14 v371).toNat := fun v371 k0_hw8 => k0_hw8.2.2.2.2.1
theorem k0_off26_inb : ∀ (v371 : BitVec 32) (k0_hw8 : k0_chk8 v371), ∀ a, (k0_off26 v371) a + S136x128.size a ≤ S2200x512.size a := fun v371 k0_hw8 => k0_hw8.2.2.2.2.2.1
theorem k0_mult15_dvd : ∀ (v371 : BitVec 32) (k0_hw8 : k0_chk8 v371), 8 ∣ (k0_mult15 v371).toNat := fun v371 k0_hw8 => k0_hw8.2.2.2.2.2.2.1
theorem k0_off27_inb : ∀ (v371 : BitVec 32) (k0_hw8 : k0_chk8 v371), ∀ a, (k0_off27 v371) a + S136x128.size a ≤ S2200x512.size a := fun v371 k0_hw8 => k0_hw8.2.2.2.2.2.2.2.1
theorem k0_mult16_dvd : ∀ (v371 : BitVec 32) (k0_hw8 : k0_chk8 v371), 8 ∣ (k0_mult16 v371).toNat := fun v371 k0_hw8 => k0_hw8.2.2.2.2.2.2.2.2.1
theorem k0_off28_inb : ∀ (v371 : BitVec 32) (k0_hw8 : k0_chk8 v371), ∀ a, (k0_off28 v371) a + S136x128.size a ≤ S2200x512.size a := fun v371 k0_hw8 => k0_hw8.2.2.2.2.2.2.2.2.2

def k0_off29 (v492 : BitVec 32) : Fin 1 → Nat :=
  let v493 : Index := Scalar.indexCast v492
  ![v493.toNat]

def k0_chk9 (v492 : BitVec 32) : Prop :=
  (∀ a, (k0_off29 v492) a + S1.size a ≤ S15.size a)
theorem k0_off29_inb : ∀ (v492 : BitVec 32) (k0_hw9 : k0_chk9 v492), ∀ a, (k0_off29 v492) a + S1.size a ≤ S15.size a := fun v492 k0_hw9 => k0_hw9

def k0_mult17 (v494 : BitVec 32) : BitVec 32 :=
  let c_m8_i32_248 : BitVec 32 := 4294967288#32
  let v495 : BitVec 32 := Scalar.andi v494 c_m8_i32_248
  v495

def k0_off30 (v494 : BitVec 32) : Fin 2 → Nat :=
  let c_m8_i32_248 : BitVec 32 := 4294967288#32
  let v495 : BitVec 32 := Scalar.andi v494 c_m8_i32_248
  let v496 : BitVec 32 := v495
  let v497 : Index := Scalar.indexCast v496
  let c0_249 : Index := 0#32
  ![v497.toNat, 0]
def k0_off31 (v494 : BitVec 32) : Fin 3 → Nat :=
  let c7_i32_252 : BitVec 32 := 7#32
  let v503 : BitVec 32 := Scalar.andi v494 c7_i32_252
  let c1_i32_253 : BitVec 32 := 1#32
  let v504 : BitVec 32 := Scalar.shrsi v503 c1_i32_253
  let v507 : Index := Scalar.indexCast v504
  let c0_256 : Index := 0#32
  ![v507.toNat, 0, 0]
def k0_off32 (v494 : BitVec 32) : Fin 3 → Nat :=
  let c7_i32_252 : BitVec 32 := 7#32
  let v503 : BitVec 32 := Scalar.andi v494 c7_i32_252
  let c1_i32_253 : BitVec 32 := 1#32
  let v504 : BitVec 32 := Scalar.shrsi v503 c1_i32_253
  let c1_i32_257 : BitVec 32 := 1#32
  let v509 : BitVec 32 := Scalar.addi v504 c1_i32_257
  let v510 : Index := Scalar.indexCast v509
  let c0_258 : Index := 0#32
  ![v510.toNat, 0, 0]
def k0_mult18 (v494 : BitVec 32) : BitVec 32 :=
  let c_m8_i32_263 : BitVec 32 := 4294967288#32
  let v525 : BitVec 32 := Scalar.andi v494 c_m8_i32_263
  v525
def k0_off33 (v494 : BitVec 32) : Fin 2 → Nat :=
  let c_m8_i32_263 : BitVec 32 := 4294967288#32
  let v525 : BitVec 32 := Scalar.andi v494 c_m8_i32_263
  let v526 : BitVec 32 := v525
  let v527 : Index := Scalar.indexCast v526
  let c128_264 : Index := 128#32
  ![v527.toNat, 128]
def k0_mult19 (v494 : BitVec 32) : BitVec 32 :=
  let c_m8_i32_279 : BitVec 32 := 4294967288#32
  let v555 : BitVec 32 := Scalar.andi v494 c_m8_i32_279
  v555
def k0_off34 (v494 : BitVec 32) : Fin 2 → Nat :=
  let c_m8_i32_279 : BitVec 32 := 4294967288#32
  let v555 : BitVec 32 := Scalar.andi v494 c_m8_i32_279
  let v556 : BitVec 32 := v555
  let v557 : Index := Scalar.indexCast v556
  let c256_280 : Index := 256#32
  ![v557.toNat, 256]
def k0_mult20 (v494 : BitVec 32) : BitVec 32 :=
  let c_m8_i32_295 : BitVec 32 := 4294967288#32
  let v585 : BitVec 32 := Scalar.andi v494 c_m8_i32_295
  v585
def k0_off35 (v494 : BitVec 32) : Fin 2 → Nat :=
  let c_m8_i32_295 : BitVec 32 := 4294967288#32
  let v585 : BitVec 32 := Scalar.andi v494 c_m8_i32_295
  let v586 : BitVec 32 := v585
  let v587 : Index := Scalar.indexCast v586
  let c384_296 : Index := 384#32
  ![v587.toNat, 384]

def k0_chk10 (v494 : BitVec 32) : Prop :=
  (8 ∣ (k0_mult17 v494).toNat) ∧
  (∀ a, (k0_off30 v494) a + S136x128.size a ≤ S2200x512.size a) ∧
  (∀ a, (k0_off31 v494) a + S64x2x128.size a ≤ S72x2x128.size a) ∧
  (∀ a, (k0_off32 v494) a + S64x2x128.size a ≤ S72x2x128.size a) ∧
  (8 ∣ (k0_mult18 v494).toNat) ∧
  (∀ a, (k0_off33 v494) a + S136x128.size a ≤ S2200x512.size a) ∧
  (8 ∣ (k0_mult19 v494).toNat) ∧
  (∀ a, (k0_off34 v494) a + S136x128.size a ≤ S2200x512.size a) ∧
  (8 ∣ (k0_mult20 v494).toNat) ∧
  (∀ a, (k0_off35 v494) a + S136x128.size a ≤ S2200x512.size a)
theorem k0_mult17_dvd : ∀ (v494 : BitVec 32) (k0_hw10 : k0_chk10 v494), 8 ∣ (k0_mult17 v494).toNat := fun v494 k0_hw10 => k0_hw10.1
theorem k0_off30_inb : ∀ (v494 : BitVec 32) (k0_hw10 : k0_chk10 v494), ∀ a, (k0_off30 v494) a + S136x128.size a ≤ S2200x512.size a := fun v494 k0_hw10 => k0_hw10.2.1
theorem k0_off31_inb : ∀ (v494 : BitVec 32) (k0_hw10 : k0_chk10 v494), ∀ a, (k0_off31 v494) a + S64x2x128.size a ≤ S72x2x128.size a := fun v494 k0_hw10 => k0_hw10.2.2.1
theorem k0_off32_inb : ∀ (v494 : BitVec 32) (k0_hw10 : k0_chk10 v494), ∀ a, (k0_off32 v494) a + S64x2x128.size a ≤ S72x2x128.size a := fun v494 k0_hw10 => k0_hw10.2.2.2.1
theorem k0_mult18_dvd : ∀ (v494 : BitVec 32) (k0_hw10 : k0_chk10 v494), 8 ∣ (k0_mult18 v494).toNat := fun v494 k0_hw10 => k0_hw10.2.2.2.2.1
theorem k0_off33_inb : ∀ (v494 : BitVec 32) (k0_hw10 : k0_chk10 v494), ∀ a, (k0_off33 v494) a + S136x128.size a ≤ S2200x512.size a := fun v494 k0_hw10 => k0_hw10.2.2.2.2.2.1
theorem k0_mult19_dvd : ∀ (v494 : BitVec 32) (k0_hw10 : k0_chk10 v494), 8 ∣ (k0_mult19 v494).toNat := fun v494 k0_hw10 => k0_hw10.2.2.2.2.2.2.1
theorem k0_off34_inb : ∀ (v494 : BitVec 32) (k0_hw10 : k0_chk10 v494), ∀ a, (k0_off34 v494) a + S136x128.size a ≤ S2200x512.size a := fun v494 k0_hw10 => k0_hw10.2.2.2.2.2.2.2.1
theorem k0_mult20_dvd : ∀ (v494 : BitVec 32) (k0_hw10 : k0_chk10 v494), 8 ∣ (k0_mult20 v494).toNat := fun v494 k0_hw10 => k0_hw10.2.2.2.2.2.2.2.2.1
theorem k0_off35_inb : ∀ (v494 : BitVec 32) (k0_hw10 : k0_chk10 v494), ∀ a, (k0_off35 v494) a + S136x128.size a ≤ S2200x512.size a := fun v494 k0_hw10 => k0_hw10.2.2.2.2.2.2.2.2.2

def k0_off36 (v615 : BitVec 32) : Fin 1 → Nat :=
  let v616 : Index := Scalar.indexCast v615
  ![v616.toNat]

def k0_chk11 (v615 : BitVec 32) : Prop :=
  (∀ a, (k0_off36 v615) a + S1.size a ≤ S15.size a)
theorem k0_off36_inb : ∀ (v615 : BitVec 32) (k0_hw11 : k0_chk11 v615), ∀ a, (k0_off36 v615) a + S1.size a ≤ S15.size a := fun v615 k0_hw11 => k0_hw11

def k0_mult21 (v617 : BitVec 32) : BitVec 32 :=
  let c_m8_i32_311 : BitVec 32 := 4294967288#32
  let v618 : BitVec 32 := Scalar.andi v617 c_m8_i32_311
  v618

def k0_off37 (v617 : BitVec 32) : Fin 2 → Nat :=
  let c_m8_i32_311 : BitVec 32 := 4294967288#32
  let v618 : BitVec 32 := Scalar.andi v617 c_m8_i32_311
  let v619 : BitVec 32 := v618
  let v620 : Index := Scalar.indexCast v619
  let c0_312 : Index := 0#32
  ![v620.toNat, 0]
def k0_off38 (v617 : BitVec 32) : Fin 3 → Nat :=
  let c7_i32_315 : BitVec 32 := 7#32
  let v626 : BitVec 32 := Scalar.andi v617 c7_i32_315
  let c1_i32_316 : BitVec 32 := 1#32
  let v627 : BitVec 32 := Scalar.shrsi v626 c1_i32_316
  let v630 : Index := Scalar.indexCast v627
  let c0_319 : Index := 0#32
  ![v630.toNat, 0, 0]
def k0_off39 (v617 : BitVec 32) : Fin 3 → Nat :=
  let c7_i32_315 : BitVec 32 := 7#32
  let v626 : BitVec 32 := Scalar.andi v617 c7_i32_315
  let c1_i32_316 : BitVec 32 := 1#32
  let v627 : BitVec 32 := Scalar.shrsi v626 c1_i32_316
  let c1_i32_320 : BitVec 32 := 1#32
  let v632 : BitVec 32 := Scalar.addi v627 c1_i32_320
  let v633 : Index := Scalar.indexCast v632
  let c0_321 : Index := 0#32
  ![v633.toNat, 0, 0]
def k0_mult22 (v617 : BitVec 32) : BitVec 32 :=
  let c_m8_i32_326 : BitVec 32 := 4294967288#32
  let v648 : BitVec 32 := Scalar.andi v617 c_m8_i32_326
  v648
def k0_off40 (v617 : BitVec 32) : Fin 2 → Nat :=
  let c_m8_i32_326 : BitVec 32 := 4294967288#32
  let v648 : BitVec 32 := Scalar.andi v617 c_m8_i32_326
  let v649 : BitVec 32 := v648
  let v650 : Index := Scalar.indexCast v649
  let c128_327 : Index := 128#32
  ![v650.toNat, 128]
def k0_mult23 (v617 : BitVec 32) : BitVec 32 :=
  let c_m8_i32_342 : BitVec 32 := 4294967288#32
  let v678 : BitVec 32 := Scalar.andi v617 c_m8_i32_342
  v678
def k0_off41 (v617 : BitVec 32) : Fin 2 → Nat :=
  let c_m8_i32_342 : BitVec 32 := 4294967288#32
  let v678 : BitVec 32 := Scalar.andi v617 c_m8_i32_342
  let v679 : BitVec 32 := v678
  let v680 : Index := Scalar.indexCast v679
  let c256_343 : Index := 256#32
  ![v680.toNat, 256]
def k0_mult24 (v617 : BitVec 32) : BitVec 32 :=
  let c_m8_i32_358 : BitVec 32 := 4294967288#32
  let v708 : BitVec 32 := Scalar.andi v617 c_m8_i32_358
  v708
def k0_off42 (v617 : BitVec 32) : Fin 2 → Nat :=
  let c_m8_i32_358 : BitVec 32 := 4294967288#32
  let v708 : BitVec 32 := Scalar.andi v617 c_m8_i32_358
  let v709 : BitVec 32 := v708
  let v710 : Index := Scalar.indexCast v709
  let c384_359 : Index := 384#32
  ![v710.toNat, 384]

def k0_chk12 (v617 : BitVec 32) : Prop :=
  (8 ∣ (k0_mult21 v617).toNat) ∧
  (∀ a, (k0_off37 v617) a + S136x128.size a ≤ S2200x512.size a) ∧
  (∀ a, (k0_off38 v617) a + S64x2x128.size a ≤ S72x2x128.size a) ∧
  (∀ a, (k0_off39 v617) a + S64x2x128.size a ≤ S72x2x128.size a) ∧
  (8 ∣ (k0_mult22 v617).toNat) ∧
  (∀ a, (k0_off40 v617) a + S136x128.size a ≤ S2200x512.size a) ∧
  (8 ∣ (k0_mult23 v617).toNat) ∧
  (∀ a, (k0_off41 v617) a + S136x128.size a ≤ S2200x512.size a) ∧
  (8 ∣ (k0_mult24 v617).toNat) ∧
  (∀ a, (k0_off42 v617) a + S136x128.size a ≤ S2200x512.size a)
theorem k0_mult21_dvd : ∀ (v617 : BitVec 32) (k0_hw12 : k0_chk12 v617), 8 ∣ (k0_mult21 v617).toNat := fun v617 k0_hw12 => k0_hw12.1
theorem k0_off37_inb : ∀ (v617 : BitVec 32) (k0_hw12 : k0_chk12 v617), ∀ a, (k0_off37 v617) a + S136x128.size a ≤ S2200x512.size a := fun v617 k0_hw12 => k0_hw12.2.1
theorem k0_off38_inb : ∀ (v617 : BitVec 32) (k0_hw12 : k0_chk12 v617), ∀ a, (k0_off38 v617) a + S64x2x128.size a ≤ S72x2x128.size a := fun v617 k0_hw12 => k0_hw12.2.2.1
theorem k0_off39_inb : ∀ (v617 : BitVec 32) (k0_hw12 : k0_chk12 v617), ∀ a, (k0_off39 v617) a + S64x2x128.size a ≤ S72x2x128.size a := fun v617 k0_hw12 => k0_hw12.2.2.2.1
theorem k0_mult22_dvd : ∀ (v617 : BitVec 32) (k0_hw12 : k0_chk12 v617), 8 ∣ (k0_mult22 v617).toNat := fun v617 k0_hw12 => k0_hw12.2.2.2.2.1
theorem k0_off40_inb : ∀ (v617 : BitVec 32) (k0_hw12 : k0_chk12 v617), ∀ a, (k0_off40 v617) a + S136x128.size a ≤ S2200x512.size a := fun v617 k0_hw12 => k0_hw12.2.2.2.2.2.1
theorem k0_mult23_dvd : ∀ (v617 : BitVec 32) (k0_hw12 : k0_chk12 v617), 8 ∣ (k0_mult23 v617).toNat := fun v617 k0_hw12 => k0_hw12.2.2.2.2.2.2.1
theorem k0_off41_inb : ∀ (v617 : BitVec 32) (k0_hw12 : k0_chk12 v617), ∀ a, (k0_off41 v617) a + S136x128.size a ≤ S2200x512.size a := fun v617 k0_hw12 => k0_hw12.2.2.2.2.2.2.2.1
theorem k0_mult24_dvd : ∀ (v617 : BitVec 32) (k0_hw12 : k0_chk12 v617), 8 ∣ (k0_mult24 v617).toNat := fun v617 k0_hw12 => k0_hw12.2.2.2.2.2.2.2.2.1
theorem k0_off42_inb : ∀ (v617 : BitVec 32) (k0_hw12 : k0_chk12 v617), ∀ a, (k0_off42 v617) a + S136x128.size a ≤ S2200x512.size a := fun v617 k0_hw12 => k0_hw12.2.2.2.2.2.2.2.2.2

def k0_off43 (v738 : BitVec 32) : Fin 1 → Nat :=
  let v739 : Index := Scalar.indexCast v738
  ![v739.toNat]

def k0_chk13 (v738 : BitVec 32) : Prop :=
  (∀ a, (k0_off43 v738) a + S1.size a ≤ S15.size a)
theorem k0_off43_inb : ∀ (v738 : BitVec 32) (k0_hw13 : k0_chk13 v738), ∀ a, (k0_off43 v738) a + S1.size a ≤ S15.size a := fun v738 k0_hw13 => k0_hw13

def k0_mult25 (v740 : BitVec 32) : BitVec 32 :=
  let c_m8_i32_374 : BitVec 32 := 4294967288#32
  let v741 : BitVec 32 := Scalar.andi v740 c_m8_i32_374
  v741

def k0_off44 (v740 : BitVec 32) : Fin 2 → Nat :=
  let c_m8_i32_374 : BitVec 32 := 4294967288#32
  let v741 : BitVec 32 := Scalar.andi v740 c_m8_i32_374
  let v742 : BitVec 32 := v741
  let v743 : Index := Scalar.indexCast v742
  let c0_375 : Index := 0#32
  ![v743.toNat, 0]
def k0_off45 (v740 : BitVec 32) : Fin 3 → Nat :=
  let c7_i32_378 : BitVec 32 := 7#32
  let v749 : BitVec 32 := Scalar.andi v740 c7_i32_378
  let c1_i32_379 : BitVec 32 := 1#32
  let v750 : BitVec 32 := Scalar.shrsi v749 c1_i32_379
  let v753 : Index := Scalar.indexCast v750
  let c0_382 : Index := 0#32
  ![v753.toNat, 0, 0]
def k0_off46 (v740 : BitVec 32) : Fin 3 → Nat :=
  let c7_i32_378 : BitVec 32 := 7#32
  let v749 : BitVec 32 := Scalar.andi v740 c7_i32_378
  let c1_i32_379 : BitVec 32 := 1#32
  let v750 : BitVec 32 := Scalar.shrsi v749 c1_i32_379
  let c1_i32_383 : BitVec 32 := 1#32
  let v755 : BitVec 32 := Scalar.addi v750 c1_i32_383
  let v756 : Index := Scalar.indexCast v755
  let c0_384 : Index := 0#32
  ![v756.toNat, 0, 0]
def k0_mult26 (v740 : BitVec 32) : BitVec 32 :=
  let c_m8_i32_389 : BitVec 32 := 4294967288#32
  let v771 : BitVec 32 := Scalar.andi v740 c_m8_i32_389
  v771
def k0_off47 (v740 : BitVec 32) : Fin 2 → Nat :=
  let c_m8_i32_389 : BitVec 32 := 4294967288#32
  let v771 : BitVec 32 := Scalar.andi v740 c_m8_i32_389
  let v772 : BitVec 32 := v771
  let v773 : Index := Scalar.indexCast v772
  let c128_390 : Index := 128#32
  ![v773.toNat, 128]
def k0_mult27 (v740 : BitVec 32) : BitVec 32 :=
  let c_m8_i32_405 : BitVec 32 := 4294967288#32
  let v801 : BitVec 32 := Scalar.andi v740 c_m8_i32_405
  v801
def k0_off48 (v740 : BitVec 32) : Fin 2 → Nat :=
  let c_m8_i32_405 : BitVec 32 := 4294967288#32
  let v801 : BitVec 32 := Scalar.andi v740 c_m8_i32_405
  let v802 : BitVec 32 := v801
  let v803 : Index := Scalar.indexCast v802
  let c256_406 : Index := 256#32
  ![v803.toNat, 256]
def k0_mult28 (v740 : BitVec 32) : BitVec 32 :=
  let c_m8_i32_421 : BitVec 32 := 4294967288#32
  let v831 : BitVec 32 := Scalar.andi v740 c_m8_i32_421
  v831
def k0_off49 (v740 : BitVec 32) : Fin 2 → Nat :=
  let c_m8_i32_421 : BitVec 32 := 4294967288#32
  let v831 : BitVec 32 := Scalar.andi v740 c_m8_i32_421
  let v832 : BitVec 32 := v831
  let v833 : Index := Scalar.indexCast v832
  let c384_422 : Index := 384#32
  ![v833.toNat, 384]

def k0_chk14 (v740 : BitVec 32) : Prop :=
  (8 ∣ (k0_mult25 v740).toNat) ∧
  (∀ a, (k0_off44 v740) a + S136x128.size a ≤ S2200x512.size a) ∧
  (∀ a, (k0_off45 v740) a + S64x2x128.size a ≤ S72x2x128.size a) ∧
  (∀ a, (k0_off46 v740) a + S64x2x128.size a ≤ S72x2x128.size a) ∧
  (8 ∣ (k0_mult26 v740).toNat) ∧
  (∀ a, (k0_off47 v740) a + S136x128.size a ≤ S2200x512.size a) ∧
  (8 ∣ (k0_mult27 v740).toNat) ∧
  (∀ a, (k0_off48 v740) a + S136x128.size a ≤ S2200x512.size a) ∧
  (8 ∣ (k0_mult28 v740).toNat) ∧
  (∀ a, (k0_off49 v740) a + S136x128.size a ≤ S2200x512.size a)
theorem k0_mult25_dvd : ∀ (v740 : BitVec 32) (k0_hw14 : k0_chk14 v740), 8 ∣ (k0_mult25 v740).toNat := fun v740 k0_hw14 => k0_hw14.1
theorem k0_off44_inb : ∀ (v740 : BitVec 32) (k0_hw14 : k0_chk14 v740), ∀ a, (k0_off44 v740) a + S136x128.size a ≤ S2200x512.size a := fun v740 k0_hw14 => k0_hw14.2.1
theorem k0_off45_inb : ∀ (v740 : BitVec 32) (k0_hw14 : k0_chk14 v740), ∀ a, (k0_off45 v740) a + S64x2x128.size a ≤ S72x2x128.size a := fun v740 k0_hw14 => k0_hw14.2.2.1
theorem k0_off46_inb : ∀ (v740 : BitVec 32) (k0_hw14 : k0_chk14 v740), ∀ a, (k0_off46 v740) a + S64x2x128.size a ≤ S72x2x128.size a := fun v740 k0_hw14 => k0_hw14.2.2.2.1
theorem k0_mult26_dvd : ∀ (v740 : BitVec 32) (k0_hw14 : k0_chk14 v740), 8 ∣ (k0_mult26 v740).toNat := fun v740 k0_hw14 => k0_hw14.2.2.2.2.1
theorem k0_off47_inb : ∀ (v740 : BitVec 32) (k0_hw14 : k0_chk14 v740), ∀ a, (k0_off47 v740) a + S136x128.size a ≤ S2200x512.size a := fun v740 k0_hw14 => k0_hw14.2.2.2.2.2.1
theorem k0_mult27_dvd : ∀ (v740 : BitVec 32) (k0_hw14 : k0_chk14 v740), 8 ∣ (k0_mult27 v740).toNat := fun v740 k0_hw14 => k0_hw14.2.2.2.2.2.2.1
theorem k0_off48_inb : ∀ (v740 : BitVec 32) (k0_hw14 : k0_chk14 v740), ∀ a, (k0_off48 v740) a + S136x128.size a ≤ S2200x512.size a := fun v740 k0_hw14 => k0_hw14.2.2.2.2.2.2.2.1
theorem k0_mult28_dvd : ∀ (v740 : BitVec 32) (k0_hw14 : k0_chk14 v740), 8 ∣ (k0_mult28 v740).toNat := fun v740 k0_hw14 => k0_hw14.2.2.2.2.2.2.2.2.1
theorem k0_off49_inb : ∀ (v740 : BitVec 32) (k0_hw14 : k0_chk14 v740), ∀ a, (k0_off49 v740) a + S136x128.size a ≤ S2200x512.size a := fun v740 k0_hw14 => k0_hw14.2.2.2.2.2.2.2.2.2

def k0_off50 (v861 : BitVec 32) : Fin 1 → Nat :=
  let v862 : Index := Scalar.indexCast v861
  ![v862.toNat]

def k0_chk15 (v861 : BitVec 32) : Prop :=
  (∀ a, (k0_off50 v861) a + S1.size a ≤ S15.size a)
theorem k0_off50_inb : ∀ (v861 : BitVec 32) (k0_hw15 : k0_chk15 v861), ∀ a, (k0_off50 v861) a + S1.size a ≤ S15.size a := fun v861 k0_hw15 => k0_hw15

def k0_mult29 (v863 : BitVec 32) : BitVec 32 :=
  let c_m8_i32_437 : BitVec 32 := 4294967288#32
  let v864 : BitVec 32 := Scalar.andi v863 c_m8_i32_437
  v864

def k0_off51 (v863 : BitVec 32) : Fin 2 → Nat :=
  let c_m8_i32_437 : BitVec 32 := 4294967288#32
  let v864 : BitVec 32 := Scalar.andi v863 c_m8_i32_437
  let v865 : BitVec 32 := v864
  let v866 : Index := Scalar.indexCast v865
  let c0_438 : Index := 0#32
  ![v866.toNat, 0]
def k0_off52 (v863 : BitVec 32) : Fin 3 → Nat :=
  let c7_i32_441 : BitVec 32 := 7#32
  let v872 : BitVec 32 := Scalar.andi v863 c7_i32_441
  let c1_i32_442 : BitVec 32 := 1#32
  let v873 : BitVec 32 := Scalar.shrsi v872 c1_i32_442
  let v876 : Index := Scalar.indexCast v873
  let c0_445 : Index := 0#32
  ![v876.toNat, 0, 0]
def k0_off53 (v863 : BitVec 32) : Fin 3 → Nat :=
  let c7_i32_441 : BitVec 32 := 7#32
  let v872 : BitVec 32 := Scalar.andi v863 c7_i32_441
  let c1_i32_442 : BitVec 32 := 1#32
  let v873 : BitVec 32 := Scalar.shrsi v872 c1_i32_442
  let c1_i32_446 : BitVec 32 := 1#32
  let v878 : BitVec 32 := Scalar.addi v873 c1_i32_446
  let v879 : Index := Scalar.indexCast v878
  let c0_447 : Index := 0#32
  ![v879.toNat, 0, 0]
def k0_mult30 (v863 : BitVec 32) : BitVec 32 :=
  let c_m8_i32_452 : BitVec 32 := 4294967288#32
  let v894 : BitVec 32 := Scalar.andi v863 c_m8_i32_452
  v894
def k0_off54 (v863 : BitVec 32) : Fin 2 → Nat :=
  let c_m8_i32_452 : BitVec 32 := 4294967288#32
  let v894 : BitVec 32 := Scalar.andi v863 c_m8_i32_452
  let v895 : BitVec 32 := v894
  let v896 : Index := Scalar.indexCast v895
  let c128_453 : Index := 128#32
  ![v896.toNat, 128]
def k0_mult31 (v863 : BitVec 32) : BitVec 32 :=
  let c_m8_i32_468 : BitVec 32 := 4294967288#32
  let v924 : BitVec 32 := Scalar.andi v863 c_m8_i32_468
  v924
def k0_off55 (v863 : BitVec 32) : Fin 2 → Nat :=
  let c_m8_i32_468 : BitVec 32 := 4294967288#32
  let v924 : BitVec 32 := Scalar.andi v863 c_m8_i32_468
  let v925 : BitVec 32 := v924
  let v926 : Index := Scalar.indexCast v925
  let c256_469 : Index := 256#32
  ![v926.toNat, 256]
def k0_mult32 (v863 : BitVec 32) : BitVec 32 :=
  let c_m8_i32_484 : BitVec 32 := 4294967288#32
  let v954 : BitVec 32 := Scalar.andi v863 c_m8_i32_484
  v954
def k0_off56 (v863 : BitVec 32) : Fin 2 → Nat :=
  let c_m8_i32_484 : BitVec 32 := 4294967288#32
  let v954 : BitVec 32 := Scalar.andi v863 c_m8_i32_484
  let v955 : BitVec 32 := v954
  let v956 : Index := Scalar.indexCast v955
  let c384_485 : Index := 384#32
  ![v956.toNat, 384]

def k0_chk16 (v863 : BitVec 32) : Prop :=
  (8 ∣ (k0_mult29 v863).toNat) ∧
  (∀ a, (k0_off51 v863) a + S136x128.size a ≤ S2200x512.size a) ∧
  (∀ a, (k0_off52 v863) a + S64x2x128.size a ≤ S72x2x128.size a) ∧
  (∀ a, (k0_off53 v863) a + S64x2x128.size a ≤ S72x2x128.size a) ∧
  (8 ∣ (k0_mult30 v863).toNat) ∧
  (∀ a, (k0_off54 v863) a + S136x128.size a ≤ S2200x512.size a) ∧
  (8 ∣ (k0_mult31 v863).toNat) ∧
  (∀ a, (k0_off55 v863) a + S136x128.size a ≤ S2200x512.size a) ∧
  (8 ∣ (k0_mult32 v863).toNat) ∧
  (∀ a, (k0_off56 v863) a + S136x128.size a ≤ S2200x512.size a)
theorem k0_mult29_dvd : ∀ (v863 : BitVec 32) (k0_hw16 : k0_chk16 v863), 8 ∣ (k0_mult29 v863).toNat := fun v863 k0_hw16 => k0_hw16.1
theorem k0_off51_inb : ∀ (v863 : BitVec 32) (k0_hw16 : k0_chk16 v863), ∀ a, (k0_off51 v863) a + S136x128.size a ≤ S2200x512.size a := fun v863 k0_hw16 => k0_hw16.2.1
theorem k0_off52_inb : ∀ (v863 : BitVec 32) (k0_hw16 : k0_chk16 v863), ∀ a, (k0_off52 v863) a + S64x2x128.size a ≤ S72x2x128.size a := fun v863 k0_hw16 => k0_hw16.2.2.1
theorem k0_off53_inb : ∀ (v863 : BitVec 32) (k0_hw16 : k0_chk16 v863), ∀ a, (k0_off53 v863) a + S64x2x128.size a ≤ S72x2x128.size a := fun v863 k0_hw16 => k0_hw16.2.2.2.1
theorem k0_mult30_dvd : ∀ (v863 : BitVec 32) (k0_hw16 : k0_chk16 v863), 8 ∣ (k0_mult30 v863).toNat := fun v863 k0_hw16 => k0_hw16.2.2.2.2.1
theorem k0_off54_inb : ∀ (v863 : BitVec 32) (k0_hw16 : k0_chk16 v863), ∀ a, (k0_off54 v863) a + S136x128.size a ≤ S2200x512.size a := fun v863 k0_hw16 => k0_hw16.2.2.2.2.2.1
theorem k0_mult31_dvd : ∀ (v863 : BitVec 32) (k0_hw16 : k0_chk16 v863), 8 ∣ (k0_mult31 v863).toNat := fun v863 k0_hw16 => k0_hw16.2.2.2.2.2.2.1
theorem k0_off55_inb : ∀ (v863 : BitVec 32) (k0_hw16 : k0_chk16 v863), ∀ a, (k0_off55 v863) a + S136x128.size a ≤ S2200x512.size a := fun v863 k0_hw16 => k0_hw16.2.2.2.2.2.2.2.1
theorem k0_mult32_dvd : ∀ (v863 : BitVec 32) (k0_hw16 : k0_chk16 v863), 8 ∣ (k0_mult32 v863).toNat := fun v863 k0_hw16 => k0_hw16.2.2.2.2.2.2.2.2.1
theorem k0_off56_inb : ∀ (v863 : BitVec 32) (k0_hw16 : k0_chk16 v863), ∀ a, (k0_off56 v863) a + S136x128.size a ≤ S2200x512.size a := fun v863 k0_hw16 => k0_hw16.2.2.2.2.2.2.2.2.2

def k0_off57 (v984 : BitVec 32) : Fin 1 → Nat :=
  let v985 : Index := Scalar.indexCast v984
  ![v985.toNat]

def k0_chk17 (v984 : BitVec 32) : Prop :=
  (∀ a, (k0_off57 v984) a + S1.size a ≤ S15.size a)
theorem k0_off57_inb : ∀ (v984 : BitVec 32) (k0_hw17 : k0_chk17 v984), ∀ a, (k0_off57 v984) a + S1.size a ≤ S15.size a := fun v984 k0_hw17 => k0_hw17

def k0_mult33 (v986 : BitVec 32) : BitVec 32 :=
  let c_m8_i32_500 : BitVec 32 := 4294967288#32
  let v987 : BitVec 32 := Scalar.andi v986 c_m8_i32_500
  v987

def k0_off58 (v986 : BitVec 32) : Fin 2 → Nat :=
  let c_m8_i32_500 : BitVec 32 := 4294967288#32
  let v987 : BitVec 32 := Scalar.andi v986 c_m8_i32_500
  let v988 : BitVec 32 := v987
  let v989 : Index := Scalar.indexCast v988
  let c0_501 : Index := 0#32
  ![v989.toNat, 0]
def k0_off59 (v986 : BitVec 32) : Fin 3 → Nat :=
  let c7_i32_504 : BitVec 32 := 7#32
  let v995 : BitVec 32 := Scalar.andi v986 c7_i32_504
  let c1_i32_505 : BitVec 32 := 1#32
  let v996 : BitVec 32 := Scalar.shrsi v995 c1_i32_505
  let v999 : Index := Scalar.indexCast v996
  let c0_508 : Index := 0#32
  ![v999.toNat, 0, 0]
def k0_off60 (v986 : BitVec 32) : Fin 3 → Nat :=
  let c7_i32_504 : BitVec 32 := 7#32
  let v995 : BitVec 32 := Scalar.andi v986 c7_i32_504
  let c1_i32_505 : BitVec 32 := 1#32
  let v996 : BitVec 32 := Scalar.shrsi v995 c1_i32_505
  let c1_i32_509 : BitVec 32 := 1#32
  let v1001 : BitVec 32 := Scalar.addi v996 c1_i32_509
  let v1002 : Index := Scalar.indexCast v1001
  let c0_510 : Index := 0#32
  ![v1002.toNat, 0, 0]
def k0_mult34 (v986 : BitVec 32) : BitVec 32 :=
  let c_m8_i32_515 : BitVec 32 := 4294967288#32
  let v1017 : BitVec 32 := Scalar.andi v986 c_m8_i32_515
  v1017
def k0_off61 (v986 : BitVec 32) : Fin 2 → Nat :=
  let c_m8_i32_515 : BitVec 32 := 4294967288#32
  let v1017 : BitVec 32 := Scalar.andi v986 c_m8_i32_515
  let v1018 : BitVec 32 := v1017
  let v1019 : Index := Scalar.indexCast v1018
  let c128_516 : Index := 128#32
  ![v1019.toNat, 128]
def k0_mult35 (v986 : BitVec 32) : BitVec 32 :=
  let c_m8_i32_531 : BitVec 32 := 4294967288#32
  let v1047 : BitVec 32 := Scalar.andi v986 c_m8_i32_531
  v1047
def k0_off62 (v986 : BitVec 32) : Fin 2 → Nat :=
  let c_m8_i32_531 : BitVec 32 := 4294967288#32
  let v1047 : BitVec 32 := Scalar.andi v986 c_m8_i32_531
  let v1048 : BitVec 32 := v1047
  let v1049 : Index := Scalar.indexCast v1048
  let c256_532 : Index := 256#32
  ![v1049.toNat, 256]
def k0_mult36 (v986 : BitVec 32) : BitVec 32 :=
  let c_m8_i32_547 : BitVec 32 := 4294967288#32
  let v1077 : BitVec 32 := Scalar.andi v986 c_m8_i32_547
  v1077
def k0_off63 (v986 : BitVec 32) : Fin 2 → Nat :=
  let c_m8_i32_547 : BitVec 32 := 4294967288#32
  let v1077 : BitVec 32 := Scalar.andi v986 c_m8_i32_547
  let v1078 : BitVec 32 := v1077
  let v1079 : Index := Scalar.indexCast v1078
  let c384_548 : Index := 384#32
  ![v1079.toNat, 384]

def k0_chk18 (v986 : BitVec 32) : Prop :=
  (8 ∣ (k0_mult33 v986).toNat) ∧
  (∀ a, (k0_off58 v986) a + S136x128.size a ≤ S2200x512.size a) ∧
  (∀ a, (k0_off59 v986) a + S64x2x128.size a ≤ S72x2x128.size a) ∧
  (∀ a, (k0_off60 v986) a + S64x2x128.size a ≤ S72x2x128.size a) ∧
  (8 ∣ (k0_mult34 v986).toNat) ∧
  (∀ a, (k0_off61 v986) a + S136x128.size a ≤ S2200x512.size a) ∧
  (8 ∣ (k0_mult35 v986).toNat) ∧
  (∀ a, (k0_off62 v986) a + S136x128.size a ≤ S2200x512.size a) ∧
  (8 ∣ (k0_mult36 v986).toNat) ∧
  (∀ a, (k0_off63 v986) a + S136x128.size a ≤ S2200x512.size a)
theorem k0_mult33_dvd : ∀ (v986 : BitVec 32) (k0_hw18 : k0_chk18 v986), 8 ∣ (k0_mult33 v986).toNat := fun v986 k0_hw18 => k0_hw18.1
theorem k0_off58_inb : ∀ (v986 : BitVec 32) (k0_hw18 : k0_chk18 v986), ∀ a, (k0_off58 v986) a + S136x128.size a ≤ S2200x512.size a := fun v986 k0_hw18 => k0_hw18.2.1
theorem k0_off59_inb : ∀ (v986 : BitVec 32) (k0_hw18 : k0_chk18 v986), ∀ a, (k0_off59 v986) a + S64x2x128.size a ≤ S72x2x128.size a := fun v986 k0_hw18 => k0_hw18.2.2.1
theorem k0_off60_inb : ∀ (v986 : BitVec 32) (k0_hw18 : k0_chk18 v986), ∀ a, (k0_off60 v986) a + S64x2x128.size a ≤ S72x2x128.size a := fun v986 k0_hw18 => k0_hw18.2.2.2.1
theorem k0_mult34_dvd : ∀ (v986 : BitVec 32) (k0_hw18 : k0_chk18 v986), 8 ∣ (k0_mult34 v986).toNat := fun v986 k0_hw18 => k0_hw18.2.2.2.2.1
theorem k0_off61_inb : ∀ (v986 : BitVec 32) (k0_hw18 : k0_chk18 v986), ∀ a, (k0_off61 v986) a + S136x128.size a ≤ S2200x512.size a := fun v986 k0_hw18 => k0_hw18.2.2.2.2.2.1
theorem k0_mult35_dvd : ∀ (v986 : BitVec 32) (k0_hw18 : k0_chk18 v986), 8 ∣ (k0_mult35 v986).toNat := fun v986 k0_hw18 => k0_hw18.2.2.2.2.2.2.1
theorem k0_off62_inb : ∀ (v986 : BitVec 32) (k0_hw18 : k0_chk18 v986), ∀ a, (k0_off62 v986) a + S136x128.size a ≤ S2200x512.size a := fun v986 k0_hw18 => k0_hw18.2.2.2.2.2.2.2.1
theorem k0_mult36_dvd : ∀ (v986 : BitVec 32) (k0_hw18 : k0_chk18 v986), 8 ∣ (k0_mult36 v986).toNat := fun v986 k0_hw18 => k0_hw18.2.2.2.2.2.2.2.2.1
theorem k0_off63_inb : ∀ (v986 : BitVec 32) (k0_hw18 : k0_chk18 v986), ∀ a, (k0_off63 v986) a + S136x128.size a ≤ S2200x512.size a := fun v986 k0_hw18 => k0_hw18.2.2.2.2.2.2.2.2.2

def k0_cond2 (i : grid0.Coords) : BitVec 1 :=
  let arg0 : BitVec 32 := BitVec.ofNat 32 (i 0).val
  let c7_i32_573 : BitVec 32 := 7#32
  let v1119 : BitVec 1 := Scalar.cmpi .eq arg0 c7_i32_573
  let v1120 : BitVec 32 := Scalar.extui v1119
  let c0_i32_574 : BitVec 32 := 0#32
  let v1121 : BitVec 1 := Scalar.cmpi .ne v1120 c0_i32_574
  v1121

def k0_off64 (v1125 : BitVec 32) : Fin 1 → Nat :=
  let v1127 : Index := Scalar.indexCast v1125
  ![v1127.toNat]

def k0_chk19 (i : grid0.Coords) (v1125 : BitVec 32) : Prop :=
  (∀ (k0_h2 : k0_cond2 i = 1#1), ∀ a, (k0_off64 v1125) a + S1.size a ≤ S15.size a)
theorem k0_off64_inb : ∀ (i : grid0.Coords) (v1125 : BitVec 32) (k0_hw19 : k0_chk19 i v1125), ∀ (k0_h2 : k0_cond2 i = 1#1), ∀ a, (k0_off64 v1125) a + S1.size a ≤ S15.size a := fun i v1125 k0_hw19 k0_h2 => k0_hw19 k0_h2

def k0_off65 (v1144 : BitVec 32) : Fin 1 → Nat :=
  let v1146 : Index := Scalar.indexCast v1144
  ![v1146.toNat]

def k0_chk20 (i : grid0.Coords) (v1144 : BitVec 32) : Prop :=
  (∀ (k0_h2 : k0_cond2 i = 1#1), ∀ a, (k0_off65 v1144) a + S1.size a ≤ S15.size a)
theorem k0_off65_inb : ∀ (i : grid0.Coords) (v1144 : BitVec 32) (k0_hw20 : k0_chk20 i v1144), ∀ (k0_h2 : k0_cond2 i = 1#1), ∀ a, (k0_off65 v1144) a + S1.size a ≤ S15.size a := fun i v1144 k0_hw20 k0_h2 => k0_hw20 k0_h2

def k0_off66 (v1163 : BitVec 32) : Fin 1 → Nat :=
  let v1165 : Index := Scalar.indexCast v1163
  ![v1165.toNat]

def k0_chk21 (i : grid0.Coords) (v1163 : BitVec 32) : Prop :=
  (∀ (k0_h2 : k0_cond2 i = 1#1), ∀ a, (k0_off66 v1163) a + S1.size a ≤ S15.size a)
theorem k0_off66_inb : ∀ (i : grid0.Coords) (v1163 : BitVec 32) (k0_hw21 : k0_chk21 i v1163), ∀ (k0_h2 : k0_cond2 i = 1#1), ∀ a, (k0_off66 v1163) a + S1.size a ≤ S15.size a := fun i v1163 k0_hw21 k0_h2 => k0_hw21 k0_h2

def k0_off67 (v1182 : BitVec 32) : Fin 1 → Nat :=
  let v1184 : Index := Scalar.indexCast v1182
  ![v1184.toNat]

def k0_chk22 (i : grid0.Coords) (v1182 : BitVec 32) : Prop :=
  (∀ (k0_h2 : k0_cond2 i = 1#1), ∀ a, (k0_off67 v1182) a + S1.size a ≤ S15.size a)
theorem k0_off67_inb : ∀ (i : grid0.Coords) (v1182 : BitVec 32) (k0_hw22 : k0_chk22 i v1182), ∀ (k0_h2 : k0_cond2 i = 1#1), ∀ a, (k0_off67 v1182) a + S1.size a ≤ S15.size a := fun i v1182 k0_hw22 k0_h2 => k0_hw22 k0_h2

def k0_off68 (v1201 : BitVec 32) : Fin 1 → Nat :=
  let v1203 : Index := Scalar.indexCast v1201
  ![v1203.toNat]

def k0_chk23 (i : grid0.Coords) (v1201 : BitVec 32) : Prop :=
  (∀ (k0_h2 : k0_cond2 i = 1#1), ∀ a, (k0_off68 v1201) a + S1.size a ≤ S15.size a)
theorem k0_off68_inb : ∀ (i : grid0.Coords) (v1201 : BitVec 32) (k0_hw23 : k0_chk23 i v1201), ∀ (k0_h2 : k0_cond2 i = 1#1), ∀ a, (k0_off68 v1201) a + S1.size a ≤ S15.size a := fun i v1201 k0_hw23 k0_h2 => k0_hw23 k0_h2

def k0_off69 (v1220 : BitVec 32) : Fin 1 → Nat :=
  let v1222 : Index := Scalar.indexCast v1220
  ![v1222.toNat]

def k0_chk24 (i : grid0.Coords) (v1220 : BitVec 32) : Prop :=
  (∀ (k0_h2 : k0_cond2 i = 1#1), ∀ a, (k0_off69 v1220) a + S1.size a ≤ S15.size a)
theorem k0_off69_inb : ∀ (i : grid0.Coords) (v1220 : BitVec 32) (k0_hw24 : k0_chk24 i v1220), ∀ (k0_h2 : k0_cond2 i = 1#1), ∀ a, (k0_off69 v1220) a + S1.size a ≤ S15.size a := fun i v1220 k0_hw24 k0_h2 => k0_hw24 k0_h2

def k0_off70 (v1239 : BitVec 32) : Fin 1 → Nat :=
  let v1241 : Index := Scalar.indexCast v1239
  ![v1241.toNat]

def k0_chk25 (i : grid0.Coords) (v1239 : BitVec 32) : Prop :=
  (∀ (k0_h2 : k0_cond2 i = 1#1), ∀ a, (k0_off70 v1239) a + S1.size a ≤ S15.size a)
theorem k0_off70_inb : ∀ (i : grid0.Coords) (v1239 : BitVec 32) (k0_hw25 : k0_chk25 i v1239), ∀ (k0_h2 : k0_cond2 i = 1#1), ∀ a, (k0_off70 v1239) a + S1.size a ≤ S15.size a := fun i v1239 k0_hw25 k0_h2 => k0_hw25 k0_h2

def k0_off71 (v1258 : BitVec 32) : Fin 1 → Nat :=
  let v1260 : Index := Scalar.indexCast v1258
  ![v1260.toNat]

def k0_chk26 (i : grid0.Coords) (v1258 : BitVec 32) : Prop :=
  (∀ (k0_h2 : k0_cond2 i = 1#1), ∀ a, (k0_off71 v1258) a + S1.size a ≤ S15.size a)
theorem k0_off71_inb : ∀ (i : grid0.Coords) (v1258 : BitVec 32) (k0_hw26 : k0_chk26 i v1258), ∀ (k0_h2 : k0_cond2 i = 1#1), ∀ a, (k0_off71 v1258) a + S1.size a ≤ S15.size a := fun i v1258 k0_hw26 k0_h2 => k0_hw26 k0_h2

def k0_off72 (v1277 : BitVec 32) : Fin 1 → Nat :=
  let v1279 : Index := Scalar.indexCast v1277
  ![v1279.toNat]

def k0_chk27 (i : grid0.Coords) (v1277 : BitVec 32) : Prop :=
  (∀ (k0_h2 : k0_cond2 i = 1#1), ∀ a, (k0_off72 v1277) a + S1.size a ≤ S15.size a)
theorem k0_off72_inb : ∀ (i : grid0.Coords) (v1277 : BitVec 32) (k0_hw27 : k0_chk27 i v1277), ∀ (k0_h2 : k0_cond2 i = 1#1), ∀ a, (k0_off72 v1277) a + S1.size a ≤ S15.size a := fun i v1277 k0_hw27 k0_h2 => k0_hw27 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S15 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S15 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S10 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S9 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2200x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![43], ![false]⟩

def k1_off1 (v0 : BitVec 32) : Fin 1 → Nat :=
  let v1 : Index := Scalar.indexCast v0
  ![v1.toNat]

def k1_chk1 (v0 : BitVec 32) : Prop :=
  (∀ a, (k1_off1 v0) a + S1.size a ≤ S15.size a)
theorem k1_off1_inb : ∀ (v0 : BitVec 32) (k1_hw1 : k1_chk1 v0), ∀ a, (k1_off1 v0) a + S1.size a ≤ S15.size a := fun v0 k1_hw1 => k1_hw1

def k1_mult1 (v2 : BitVec 32) : BitVec 32 :=
  let c_m8_i32 : BitVec 32 := 4294967288#32
  let v3 : BitVec 32 := Scalar.andi v2 c_m8_i32
  v3

def k1_off2 (v2 : BitVec 32) : Fin 2 → Nat :=
  let c_m8_i32 : BitVec 32 := 4294967288#32
  let v3 : BitVec 32 := Scalar.andi v2 c_m8_i32
  let v4 : BitVec 32 := v3
  let v5 : Index := Scalar.indexCast v4
  let c0_0 : Index := 0#32
  ![v5.toNat, 0]
def k1_off3 (v2 : BitVec 32) : Fin 3 → Nat :=
  let c7_i32 : BitVec 32 := 7#32
  let v11 : BitVec 32 := Scalar.andi v2 c7_i32
  let c1_i32 : BitVec 32 := 1#32
  let v12 : BitVec 32 := Scalar.shrsi v11 c1_i32
  let v15 : Index := Scalar.indexCast v12
  let c0_4 : Index := 0#32
  ![v15.toNat, 0, 0]
def k1_off4 (v2 : BitVec 32) : Fin 3 → Nat :=
  let c7_i32 : BitVec 32 := 7#32
  let v11 : BitVec 32 := Scalar.andi v2 c7_i32
  let c1_i32 : BitVec 32 := 1#32
  let v12 : BitVec 32 := Scalar.shrsi v11 c1_i32
  let c1_i32_5 : BitVec 32 := 1#32
  let v17 : BitVec 32 := Scalar.addi v12 c1_i32_5
  let v18 : Index := Scalar.indexCast v17
  let c0_6 : Index := 0#32
  ![v18.toNat, 0, 0]
def k1_mult2 (v2 : BitVec 32) : BitVec 32 :=
  let c_m8_i32_11 : BitVec 32 := 4294967288#32
  let v33 : BitVec 32 := Scalar.andi v2 c_m8_i32_11
  v33
def k1_off5 (v2 : BitVec 32) : Fin 2 → Nat :=
  let c_m8_i32_11 : BitVec 32 := 4294967288#32
  let v33 : BitVec 32 := Scalar.andi v2 c_m8_i32_11
  let v34 : BitVec 32 := v33
  let v35 : Index := Scalar.indexCast v34
  let c128 : Index := 128#32
  ![v35.toNat, 128]

def k1_chk2 (v2 : BitVec 32) : Prop :=
  (8 ∣ (k1_mult1 v2).toNat) ∧
  (∀ a, (k1_off2 v2) a + S136x128.size a ≤ S2200x256.size a) ∧
  (∀ a, (k1_off3 v2) a + S64x2x128.size a ≤ S72x2x128.size a) ∧
  (∀ a, (k1_off4 v2) a + S64x2x128.size a ≤ S72x2x128.size a) ∧
  (8 ∣ (k1_mult2 v2).toNat) ∧
  (∀ a, (k1_off5 v2) a + S136x128.size a ≤ S2200x256.size a)
theorem k1_mult1_dvd : ∀ (v2 : BitVec 32) (k1_hw2 : k1_chk2 v2), 8 ∣ (k1_mult1 v2).toNat := fun v2 k1_hw2 => k1_hw2.1
theorem k1_off2_inb : ∀ (v2 : BitVec 32) (k1_hw2 : k1_chk2 v2), ∀ a, (k1_off2 v2) a + S136x128.size a ≤ S2200x256.size a := fun v2 k1_hw2 => k1_hw2.2.1
theorem k1_off3_inb : ∀ (v2 : BitVec 32) (k1_hw2 : k1_chk2 v2), ∀ a, (k1_off3 v2) a + S64x2x128.size a ≤ S72x2x128.size a := fun v2 k1_hw2 => k1_hw2.2.2.1
theorem k1_off4_inb : ∀ (v2 : BitVec 32) (k1_hw2 : k1_chk2 v2), ∀ a, (k1_off4 v2) a + S64x2x128.size a ≤ S72x2x128.size a := fun v2 k1_hw2 => k1_hw2.2.2.2.1
theorem k1_mult2_dvd : ∀ (v2 : BitVec 32) (k1_hw2 : k1_chk2 v2), 8 ∣ (k1_mult2 v2).toNat := fun v2 k1_hw2 => k1_hw2.2.2.2.2.1
theorem k1_off5_inb : ∀ (v2 : BitVec 32) (k1_hw2 : k1_chk2 v2), ∀ a, (k1_off5 v2) a + S136x128.size a ≤ S2200x256.size a := fun v2 k1_hw2 => k1_hw2.2.2.2.2.2

def k1_off6 (v63 : BitVec 32) : Fin 1 → Nat :=
  let v64 : Index := Scalar.indexCast v63
  ![v64.toNat]

def k1_chk3 (v63 : BitVec 32) : Prop :=
  (∀ a, (k1_off6 v63) a + S1.size a ≤ S15.size a)
theorem k1_off6_inb : ∀ (v63 : BitVec 32) (k1_hw3 : k1_chk3 v63), ∀ a, (k1_off6 v63) a + S1.size a ≤ S15.size a := fun v63 k1_hw3 => k1_hw3

def k1_mult3 (v65 : BitVec 32) : BitVec 32 :=
  let c_m8_i32_26 : BitVec 32 := 4294967288#32
  let v66 : BitVec 32 := Scalar.andi v65 c_m8_i32_26
  v66

def k1_off7 (v65 : BitVec 32) : Fin 2 → Nat :=
  let c_m8_i32_26 : BitVec 32 := 4294967288#32
  let v66 : BitVec 32 := Scalar.andi v65 c_m8_i32_26
  let v67 : BitVec 32 := v66
  let v68 : Index := Scalar.indexCast v67
  let c0_27 : Index := 0#32
  ![v68.toNat, 0]
def k1_off8 (v65 : BitVec 32) : Fin 3 → Nat :=
  let c7_i32_30 : BitVec 32 := 7#32
  let v74 : BitVec 32 := Scalar.andi v65 c7_i32_30
  let c1_i32_31 : BitVec 32 := 1#32
  let v75 : BitVec 32 := Scalar.shrsi v74 c1_i32_31
  let v78 : Index := Scalar.indexCast v75
  let c0_34 : Index := 0#32
  ![v78.toNat, 0, 0]
def k1_off9 (v65 : BitVec 32) : Fin 3 → Nat :=
  let c7_i32_30 : BitVec 32 := 7#32
  let v74 : BitVec 32 := Scalar.andi v65 c7_i32_30
  let c1_i32_31 : BitVec 32 := 1#32
  let v75 : BitVec 32 := Scalar.shrsi v74 c1_i32_31
  let c1_i32_35 : BitVec 32 := 1#32
  let v80 : BitVec 32 := Scalar.addi v75 c1_i32_35
  let v81 : Index := Scalar.indexCast v80
  let c0_36 : Index := 0#32
  ![v81.toNat, 0, 0]
def k1_mult4 (v65 : BitVec 32) : BitVec 32 :=
  let c_m8_i32_42 : BitVec 32 := 4294967288#32
  let v96 : BitVec 32 := Scalar.andi v65 c_m8_i32_42
  v96
def k1_off10 (v65 : BitVec 32) : Fin 2 → Nat :=
  let c_m8_i32_42 : BitVec 32 := 4294967288#32
  let v96 : BitVec 32 := Scalar.andi v65 c_m8_i32_42
  let v97 : BitVec 32 := v96
  let v98 : Index := Scalar.indexCast v97
  let c128_43 : Index := 128#32
  ![v98.toNat, 128]

def k1_chk4 (v65 : BitVec 32) : Prop :=
  (8 ∣ (k1_mult3 v65).toNat) ∧
  (∀ a, (k1_off7 v65) a + S136x128.size a ≤ S2200x256.size a) ∧
  (∀ a, (k1_off8 v65) a + S64x2x128.size a ≤ S72x2x128.size a) ∧
  (∀ a, (k1_off9 v65) a + S64x2x128.size a ≤ S72x2x128.size a) ∧
  (8 ∣ (k1_mult4 v65).toNat) ∧
  (∀ a, (k1_off10 v65) a + S136x128.size a ≤ S2200x256.size a)
theorem k1_mult3_dvd : ∀ (v65 : BitVec 32) (k1_hw4 : k1_chk4 v65), 8 ∣ (k1_mult3 v65).toNat := fun v65 k1_hw4 => k1_hw4.1
theorem k1_off7_inb : ∀ (v65 : BitVec 32) (k1_hw4 : k1_chk4 v65), ∀ a, (k1_off7 v65) a + S136x128.size a ≤ S2200x256.size a := fun v65 k1_hw4 => k1_hw4.2.1
theorem k1_off8_inb : ∀ (v65 : BitVec 32) (k1_hw4 : k1_chk4 v65), ∀ a, (k1_off8 v65) a + S64x2x128.size a ≤ S72x2x128.size a := fun v65 k1_hw4 => k1_hw4.2.2.1
theorem k1_off9_inb : ∀ (v65 : BitVec 32) (k1_hw4 : k1_chk4 v65), ∀ a, (k1_off9 v65) a + S64x2x128.size a ≤ S72x2x128.size a := fun v65 k1_hw4 => k1_hw4.2.2.2.1
theorem k1_mult4_dvd : ∀ (v65 : BitVec 32) (k1_hw4 : k1_chk4 v65), 8 ∣ (k1_mult4 v65).toNat := fun v65 k1_hw4 => k1_hw4.2.2.2.2.1
theorem k1_off10_inb : ∀ (v65 : BitVec 32) (k1_hw4 : k1_chk4 v65), ∀ a, (k1_off10 v65) a + S136x128.size a ≤ S2200x256.size a := fun v65 k1_hw4 => k1_hw4.2.2.2.2.2

def k1_off11 (v126 : BitVec 32) : Fin 1 → Nat :=
  let v127 : Index := Scalar.indexCast v126
  ![v127.toNat]

def k1_chk5 (v126 : BitVec 32) : Prop :=
  (∀ a, (k1_off11 v126) a + S1.size a ≤ S15.size a)
theorem k1_off11_inb : ∀ (v126 : BitVec 32) (k1_hw5 : k1_chk5 v126), ∀ a, (k1_off11 v126) a + S1.size a ≤ S15.size a := fun v126 k1_hw5 => k1_hw5

def k1_mult5 (v128 : BitVec 32) : BitVec 32 :=
  let c_m8_i32_58 : BitVec 32 := 4294967288#32
  let v129 : BitVec 32 := Scalar.andi v128 c_m8_i32_58
  v129

def k1_off12 (v128 : BitVec 32) : Fin 2 → Nat :=
  let c_m8_i32_58 : BitVec 32 := 4294967288#32
  let v129 : BitVec 32 := Scalar.andi v128 c_m8_i32_58
  let v130 : BitVec 32 := v129
  let v131 : Index := Scalar.indexCast v130
  let c0_59 : Index := 0#32
  ![v131.toNat, 0]
def k1_off13 (v128 : BitVec 32) : Fin 3 → Nat :=
  let c7_i32_62 : BitVec 32 := 7#32
  let v137 : BitVec 32 := Scalar.andi v128 c7_i32_62
  let c1_i32_63 : BitVec 32 := 1#32
  let v138 : BitVec 32 := Scalar.shrsi v137 c1_i32_63
  let v141 : Index := Scalar.indexCast v138
  let c0_66 : Index := 0#32
  ![v141.toNat, 0, 0]
def k1_off14 (v128 : BitVec 32) : Fin 3 → Nat :=
  let c7_i32_62 : BitVec 32 := 7#32
  let v137 : BitVec 32 := Scalar.andi v128 c7_i32_62
  let c1_i32_63 : BitVec 32 := 1#32
  let v138 : BitVec 32 := Scalar.shrsi v137 c1_i32_63
  let c1_i32_67 : BitVec 32 := 1#32
  let v143 : BitVec 32 := Scalar.addi v138 c1_i32_67
  let v144 : Index := Scalar.indexCast v143
  let c0_68 : Index := 0#32
  ![v144.toNat, 0, 0]
def k1_mult6 (v128 : BitVec 32) : BitVec 32 :=
  let c_m8_i32_73 : BitVec 32 := 4294967288#32
  let v159 : BitVec 32 := Scalar.andi v128 c_m8_i32_73
  v159
def k1_off15 (v128 : BitVec 32) : Fin 2 → Nat :=
  let c_m8_i32_73 : BitVec 32 := 4294967288#32
  let v159 : BitVec 32 := Scalar.andi v128 c_m8_i32_73
  let v160 : BitVec 32 := v159
  let v161 : Index := Scalar.indexCast v160
  let c128_74 : Index := 128#32
  ![v161.toNat, 128]

def k1_chk6 (v128 : BitVec 32) : Prop :=
  (8 ∣ (k1_mult5 v128).toNat) ∧
  (∀ a, (k1_off12 v128) a + S136x128.size a ≤ S2200x256.size a) ∧
  (∀ a, (k1_off13 v128) a + S64x2x128.size a ≤ S72x2x128.size a) ∧
  (∀ a, (k1_off14 v128) a + S64x2x128.size a ≤ S72x2x128.size a) ∧
  (8 ∣ (k1_mult6 v128).toNat) ∧
  (∀ a, (k1_off15 v128) a + S136x128.size a ≤ S2200x256.size a)
theorem k1_mult5_dvd : ∀ (v128 : BitVec 32) (k1_hw6 : k1_chk6 v128), 8 ∣ (k1_mult5 v128).toNat := fun v128 k1_hw6 => k1_hw6.1
theorem k1_off12_inb : ∀ (v128 : BitVec 32) (k1_hw6 : k1_chk6 v128), ∀ a, (k1_off12 v128) a + S136x128.size a ≤ S2200x256.size a := fun v128 k1_hw6 => k1_hw6.2.1
theorem k1_off13_inb : ∀ (v128 : BitVec 32) (k1_hw6 : k1_chk6 v128), ∀ a, (k1_off13 v128) a + S64x2x128.size a ≤ S72x2x128.size a := fun v128 k1_hw6 => k1_hw6.2.2.1
theorem k1_off14_inb : ∀ (v128 : BitVec 32) (k1_hw6 : k1_chk6 v128), ∀ a, (k1_off14 v128) a + S64x2x128.size a ≤ S72x2x128.size a := fun v128 k1_hw6 => k1_hw6.2.2.2.1
theorem k1_mult6_dvd : ∀ (v128 : BitVec 32) (k1_hw6 : k1_chk6 v128), 8 ∣ (k1_mult6 v128).toNat := fun v128 k1_hw6 => k1_hw6.2.2.2.2.1
theorem k1_off15_inb : ∀ (v128 : BitVec 32) (k1_hw6 : k1_chk6 v128), ∀ a, (k1_off15 v128) a + S136x128.size a ≤ S2200x256.size a := fun v128 k1_hw6 => k1_hw6.2.2.2.2.2

def k1_off16 (v189 : BitVec 32) : Fin 1 → Nat :=
  let v190 : Index := Scalar.indexCast v189
  ![v190.toNat]

def k1_chk7 (v189 : BitVec 32) : Prop :=
  (∀ a, (k1_off16 v189) a + S1.size a ≤ S15.size a)
theorem k1_off16_inb : ∀ (v189 : BitVec 32) (k1_hw7 : k1_chk7 v189), ∀ a, (k1_off16 v189) a + S1.size a ≤ S15.size a := fun v189 k1_hw7 => k1_hw7

def k1_mult7 (v191 : BitVec 32) : BitVec 32 :=
  let c_m8_i32_89 : BitVec 32 := 4294967288#32
  let v192 : BitVec 32 := Scalar.andi v191 c_m8_i32_89
  v192

def k1_off17 (v191 : BitVec 32) : Fin 2 → Nat :=
  let c_m8_i32_89 : BitVec 32 := 4294967288#32
  let v192 : BitVec 32 := Scalar.andi v191 c_m8_i32_89
  let v193 : BitVec 32 := v192
  let v194 : Index := Scalar.indexCast v193
  let c0_90 : Index := 0#32
  ![v194.toNat, 0]
def k1_off18 (v191 : BitVec 32) : Fin 3 → Nat :=
  let c7_i32_93 : BitVec 32 := 7#32
  let v200 : BitVec 32 := Scalar.andi v191 c7_i32_93
  let c1_i32_94 : BitVec 32 := 1#32
  let v201 : BitVec 32 := Scalar.shrsi v200 c1_i32_94
  let v204 : Index := Scalar.indexCast v201
  let c0_97 : Index := 0#32
  ![v204.toNat, 0, 0]
def k1_off19 (v191 : BitVec 32) : Fin 3 → Nat :=
  let c7_i32_93 : BitVec 32 := 7#32
  let v200 : BitVec 32 := Scalar.andi v191 c7_i32_93
  let c1_i32_94 : BitVec 32 := 1#32
  let v201 : BitVec 32 := Scalar.shrsi v200 c1_i32_94
  let c1_i32_98 : BitVec 32 := 1#32
  let v206 : BitVec 32 := Scalar.addi v201 c1_i32_98
  let v207 : Index := Scalar.indexCast v206
  let c0_99 : Index := 0#32
  ![v207.toNat, 0, 0]
def k1_mult8 (v191 : BitVec 32) : BitVec 32 :=
  let c_m8_i32_104 : BitVec 32 := 4294967288#32
  let v222 : BitVec 32 := Scalar.andi v191 c_m8_i32_104
  v222
def k1_off20 (v191 : BitVec 32) : Fin 2 → Nat :=
  let c_m8_i32_104 : BitVec 32 := 4294967288#32
  let v222 : BitVec 32 := Scalar.andi v191 c_m8_i32_104
  let v223 : BitVec 32 := v222
  let v224 : Index := Scalar.indexCast v223
  let c128_105 : Index := 128#32
  ![v224.toNat, 128]

def k1_chk8 (v191 : BitVec 32) : Prop :=
  (8 ∣ (k1_mult7 v191).toNat) ∧
  (∀ a, (k1_off17 v191) a + S136x128.size a ≤ S2200x256.size a) ∧
  (∀ a, (k1_off18 v191) a + S64x2x128.size a ≤ S72x2x128.size a) ∧
  (∀ a, (k1_off19 v191) a + S64x2x128.size a ≤ S72x2x128.size a) ∧
  (8 ∣ (k1_mult8 v191).toNat) ∧
  (∀ a, (k1_off20 v191) a + S136x128.size a ≤ S2200x256.size a)
theorem k1_mult7_dvd : ∀ (v191 : BitVec 32) (k1_hw8 : k1_chk8 v191), 8 ∣ (k1_mult7 v191).toNat := fun v191 k1_hw8 => k1_hw8.1
theorem k1_off17_inb : ∀ (v191 : BitVec 32) (k1_hw8 : k1_chk8 v191), ∀ a, (k1_off17 v191) a + S136x128.size a ≤ S2200x256.size a := fun v191 k1_hw8 => k1_hw8.2.1
theorem k1_off18_inb : ∀ (v191 : BitVec 32) (k1_hw8 : k1_chk8 v191), ∀ a, (k1_off18 v191) a + S64x2x128.size a ≤ S72x2x128.size a := fun v191 k1_hw8 => k1_hw8.2.2.1
theorem k1_off19_inb : ∀ (v191 : BitVec 32) (k1_hw8 : k1_chk8 v191), ∀ a, (k1_off19 v191) a + S64x2x128.size a ≤ S72x2x128.size a := fun v191 k1_hw8 => k1_hw8.2.2.2.1
theorem k1_mult8_dvd : ∀ (v191 : BitVec 32) (k1_hw8 : k1_chk8 v191), 8 ∣ (k1_mult8 v191).toNat := fun v191 k1_hw8 => k1_hw8.2.2.2.2.1
theorem k1_off20_inb : ∀ (v191 : BitVec 32) (k1_hw8 : k1_chk8 v191), ∀ a, (k1_off20 v191) a + S136x128.size a ≤ S2200x256.size a := fun v191 k1_hw8 => k1_hw8.2.2.2.2.2

def k1_off21 (v252 : BitVec 32) : Fin 1 → Nat :=
  let v253 : Index := Scalar.indexCast v252
  ![v253.toNat]

def k1_chk9 (v252 : BitVec 32) : Prop :=
  (∀ a, (k1_off21 v252) a + S1.size a ≤ S15.size a)
theorem k1_off21_inb : ∀ (v252 : BitVec 32) (k1_hw9 : k1_chk9 v252), ∀ a, (k1_off21 v252) a + S1.size a ≤ S15.size a := fun v252 k1_hw9 => k1_hw9

def k1_mult9 (v254 : BitVec 32) : BitVec 32 :=
  let c_m8_i32_120 : BitVec 32 := 4294967288#32
  let v255 : BitVec 32 := Scalar.andi v254 c_m8_i32_120
  v255

def k1_off22 (v254 : BitVec 32) : Fin 2 → Nat :=
  let c_m8_i32_120 : BitVec 32 := 4294967288#32
  let v255 : BitVec 32 := Scalar.andi v254 c_m8_i32_120
  let v256 : BitVec 32 := v255
  let v257 : Index := Scalar.indexCast v256
  let c0_121 : Index := 0#32
  ![v257.toNat, 0]
def k1_off23 (v254 : BitVec 32) : Fin 3 → Nat :=
  let c7_i32_124 : BitVec 32 := 7#32
  let v263 : BitVec 32 := Scalar.andi v254 c7_i32_124
  let c1_i32_125 : BitVec 32 := 1#32
  let v264 : BitVec 32 := Scalar.shrsi v263 c1_i32_125
  let v267 : Index := Scalar.indexCast v264
  let c0_128 : Index := 0#32
  ![v267.toNat, 0, 0]
def k1_off24 (v254 : BitVec 32) : Fin 3 → Nat :=
  let c7_i32_124 : BitVec 32 := 7#32
  let v263 : BitVec 32 := Scalar.andi v254 c7_i32_124
  let c1_i32_125 : BitVec 32 := 1#32
  let v264 : BitVec 32 := Scalar.shrsi v263 c1_i32_125
  let c1_i32_129 : BitVec 32 := 1#32
  let v269 : BitVec 32 := Scalar.addi v264 c1_i32_129
  let v270 : Index := Scalar.indexCast v269
  let c0_130 : Index := 0#32
  ![v270.toNat, 0, 0]
def k1_mult10 (v254 : BitVec 32) : BitVec 32 :=
  let c_m8_i32_135 : BitVec 32 := 4294967288#32
  let v285 : BitVec 32 := Scalar.andi v254 c_m8_i32_135
  v285
def k1_off25 (v254 : BitVec 32) : Fin 2 → Nat :=
  let c_m8_i32_135 : BitVec 32 := 4294967288#32
  let v285 : BitVec 32 := Scalar.andi v254 c_m8_i32_135
  let v286 : BitVec 32 := v285
  let v287 : Index := Scalar.indexCast v286
  let c128_136 : Index := 128#32
  ![v287.toNat, 128]

def k1_chk10 (v254 : BitVec 32) : Prop :=
  (8 ∣ (k1_mult9 v254).toNat) ∧
  (∀ a, (k1_off22 v254) a + S136x128.size a ≤ S2200x256.size a) ∧
  (∀ a, (k1_off23 v254) a + S64x2x128.size a ≤ S72x2x128.size a) ∧
  (∀ a, (k1_off24 v254) a + S64x2x128.size a ≤ S72x2x128.size a) ∧
  (8 ∣ (k1_mult10 v254).toNat) ∧
  (∀ a, (k1_off25 v254) a + S136x128.size a ≤ S2200x256.size a)
theorem k1_mult9_dvd : ∀ (v254 : BitVec 32) (k1_hw10 : k1_chk10 v254), 8 ∣ (k1_mult9 v254).toNat := fun v254 k1_hw10 => k1_hw10.1
theorem k1_off22_inb : ∀ (v254 : BitVec 32) (k1_hw10 : k1_chk10 v254), ∀ a, (k1_off22 v254) a + S136x128.size a ≤ S2200x256.size a := fun v254 k1_hw10 => k1_hw10.2.1
theorem k1_off23_inb : ∀ (v254 : BitVec 32) (k1_hw10 : k1_chk10 v254), ∀ a, (k1_off23 v254) a + S64x2x128.size a ≤ S72x2x128.size a := fun v254 k1_hw10 => k1_hw10.2.2.1
theorem k1_off24_inb : ∀ (v254 : BitVec 32) (k1_hw10 : k1_chk10 v254), ∀ a, (k1_off24 v254) a + S64x2x128.size a ≤ S72x2x128.size a := fun v254 k1_hw10 => k1_hw10.2.2.2.1
theorem k1_mult10_dvd : ∀ (v254 : BitVec 32) (k1_hw10 : k1_chk10 v254), 8 ∣ (k1_mult10 v254).toNat := fun v254 k1_hw10 => k1_hw10.2.2.2.2.1
theorem k1_off25_inb : ∀ (v254 : BitVec 32) (k1_hw10 : k1_chk10 v254), ∀ a, (k1_off25 v254) a + S136x128.size a ≤ S2200x256.size a := fun v254 k1_hw10 => k1_hw10.2.2.2.2.2

def k1_off26 (v315 : BitVec 32) : Fin 1 → Nat :=
  let v316 : Index := Scalar.indexCast v315
  ![v316.toNat]

def k1_chk11 (v315 : BitVec 32) : Prop :=
  (∀ a, (k1_off26 v315) a + S1.size a ≤ S15.size a)
theorem k1_off26_inb : ∀ (v315 : BitVec 32) (k1_hw11 : k1_chk11 v315), ∀ a, (k1_off26 v315) a + S1.size a ≤ S15.size a := fun v315 k1_hw11 => k1_hw11

def k1_mult11 (v317 : BitVec 32) : BitVec 32 :=
  let c_m8_i32_151 : BitVec 32 := 4294967288#32
  let v318 : BitVec 32 := Scalar.andi v317 c_m8_i32_151
  v318

def k1_off27 (v317 : BitVec 32) : Fin 2 → Nat :=
  let c_m8_i32_151 : BitVec 32 := 4294967288#32
  let v318 : BitVec 32 := Scalar.andi v317 c_m8_i32_151
  let v319 : BitVec 32 := v318
  let v320 : Index := Scalar.indexCast v319
  let c0_152 : Index := 0#32
  ![v320.toNat, 0]
def k1_off28 (v317 : BitVec 32) : Fin 3 → Nat :=
  let c7_i32_155 : BitVec 32 := 7#32
  let v326 : BitVec 32 := Scalar.andi v317 c7_i32_155
  let c1_i32_156 : BitVec 32 := 1#32
  let v327 : BitVec 32 := Scalar.shrsi v326 c1_i32_156
  let v330 : Index := Scalar.indexCast v327
  let c0_159 : Index := 0#32
  ![v330.toNat, 0, 0]
def k1_off29 (v317 : BitVec 32) : Fin 3 → Nat :=
  let c7_i32_155 : BitVec 32 := 7#32
  let v326 : BitVec 32 := Scalar.andi v317 c7_i32_155
  let c1_i32_156 : BitVec 32 := 1#32
  let v327 : BitVec 32 := Scalar.shrsi v326 c1_i32_156
  let c1_i32_160 : BitVec 32 := 1#32
  let v332 : BitVec 32 := Scalar.addi v327 c1_i32_160
  let v333 : Index := Scalar.indexCast v332
  let c0_161 : Index := 0#32
  ![v333.toNat, 0, 0]
def k1_mult12 (v317 : BitVec 32) : BitVec 32 :=
  let c_m8_i32_166 : BitVec 32 := 4294967288#32
  let v348 : BitVec 32 := Scalar.andi v317 c_m8_i32_166
  v348
def k1_off30 (v317 : BitVec 32) : Fin 2 → Nat :=
  let c_m8_i32_166 : BitVec 32 := 4294967288#32
  let v348 : BitVec 32 := Scalar.andi v317 c_m8_i32_166
  let v349 : BitVec 32 := v348
  let v350 : Index := Scalar.indexCast v349
  let c128_167 : Index := 128#32
  ![v350.toNat, 128]

def k1_chk12 (v317 : BitVec 32) : Prop :=
  (8 ∣ (k1_mult11 v317).toNat) ∧
  (∀ a, (k1_off27 v317) a + S136x128.size a ≤ S2200x256.size a) ∧
  (∀ a, (k1_off28 v317) a + S64x2x128.size a ≤ S72x2x128.size a) ∧
  (∀ a, (k1_off29 v317) a + S64x2x128.size a ≤ S72x2x128.size a) ∧
  (8 ∣ (k1_mult12 v317).toNat) ∧
  (∀ a, (k1_off30 v317) a + S136x128.size a ≤ S2200x256.size a)
theorem k1_mult11_dvd : ∀ (v317 : BitVec 32) (k1_hw12 : k1_chk12 v317), 8 ∣ (k1_mult11 v317).toNat := fun v317 k1_hw12 => k1_hw12.1
theorem k1_off27_inb : ∀ (v317 : BitVec 32) (k1_hw12 : k1_chk12 v317), ∀ a, (k1_off27 v317) a + S136x128.size a ≤ S2200x256.size a := fun v317 k1_hw12 => k1_hw12.2.1
theorem k1_off28_inb : ∀ (v317 : BitVec 32) (k1_hw12 : k1_chk12 v317), ∀ a, (k1_off28 v317) a + S64x2x128.size a ≤ S72x2x128.size a := fun v317 k1_hw12 => k1_hw12.2.2.1
theorem k1_off29_inb : ∀ (v317 : BitVec 32) (k1_hw12 : k1_chk12 v317), ∀ a, (k1_off29 v317) a + S64x2x128.size a ≤ S72x2x128.size a := fun v317 k1_hw12 => k1_hw12.2.2.2.1
theorem k1_mult12_dvd : ∀ (v317 : BitVec 32) (k1_hw12 : k1_chk12 v317), 8 ∣ (k1_mult12 v317).toNat := fun v317 k1_hw12 => k1_hw12.2.2.2.2.1
theorem k1_off30_inb : ∀ (v317 : BitVec 32) (k1_hw12 : k1_chk12 v317), ∀ a, (k1_off30 v317) a + S136x128.size a ≤ S2200x256.size a := fun v317 k1_hw12 => k1_hw12.2.2.2.2.2

def k1_off31 (v378 : BitVec 32) : Fin 1 → Nat :=
  let v379 : Index := Scalar.indexCast v378
  ![v379.toNat]

def k1_chk13 (v378 : BitVec 32) : Prop :=
  (∀ a, (k1_off31 v378) a + S1.size a ≤ S15.size a)
theorem k1_off31_inb : ∀ (v378 : BitVec 32) (k1_hw13 : k1_chk13 v378), ∀ a, (k1_off31 v378) a + S1.size a ≤ S15.size a := fun v378 k1_hw13 => k1_hw13

def k1_mult13 (v380 : BitVec 32) : BitVec 32 :=
  let c_m8_i32_182 : BitVec 32 := 4294967288#32
  let v381 : BitVec 32 := Scalar.andi v380 c_m8_i32_182
  v381

def k1_off32 (v380 : BitVec 32) : Fin 2 → Nat :=
  let c_m8_i32_182 : BitVec 32 := 4294967288#32
  let v381 : BitVec 32 := Scalar.andi v380 c_m8_i32_182
  let v382 : BitVec 32 := v381
  let v383 : Index := Scalar.indexCast v382
  let c0_183 : Index := 0#32
  ![v383.toNat, 0]
def k1_off33 (v380 : BitVec 32) : Fin 3 → Nat :=
  let c7_i32_186 : BitVec 32 := 7#32
  let v389 : BitVec 32 := Scalar.andi v380 c7_i32_186
  let c1_i32_187 : BitVec 32 := 1#32
  let v390 : BitVec 32 := Scalar.shrsi v389 c1_i32_187
  let v393 : Index := Scalar.indexCast v390
  let c0_190 : Index := 0#32
  ![v393.toNat, 0, 0]
def k1_off34 (v380 : BitVec 32) : Fin 3 → Nat :=
  let c7_i32_186 : BitVec 32 := 7#32
  let v389 : BitVec 32 := Scalar.andi v380 c7_i32_186
  let c1_i32_187 : BitVec 32 := 1#32
  let v390 : BitVec 32 := Scalar.shrsi v389 c1_i32_187
  let c1_i32_191 : BitVec 32 := 1#32
  let v395 : BitVec 32 := Scalar.addi v390 c1_i32_191
  let v396 : Index := Scalar.indexCast v395
  let c0_192 : Index := 0#32
  ![v396.toNat, 0, 0]
def k1_mult14 (v380 : BitVec 32) : BitVec 32 :=
  let c_m8_i32_197 : BitVec 32 := 4294967288#32
  let v411 : BitVec 32 := Scalar.andi v380 c_m8_i32_197
  v411
def k1_off35 (v380 : BitVec 32) : Fin 2 → Nat :=
  let c_m8_i32_197 : BitVec 32 := 4294967288#32
  let v411 : BitVec 32 := Scalar.andi v380 c_m8_i32_197
  let v412 : BitVec 32 := v411
  let v413 : Index := Scalar.indexCast v412
  let c128_198 : Index := 128#32
  ![v413.toNat, 128]

def k1_chk14 (v380 : BitVec 32) : Prop :=
  (8 ∣ (k1_mult13 v380).toNat) ∧
  (∀ a, (k1_off32 v380) a + S136x128.size a ≤ S2200x256.size a) ∧
  (∀ a, (k1_off33 v380) a + S64x2x128.size a ≤ S72x2x128.size a) ∧
  (∀ a, (k1_off34 v380) a + S64x2x128.size a ≤ S72x2x128.size a) ∧
  (8 ∣ (k1_mult14 v380).toNat) ∧
  (∀ a, (k1_off35 v380) a + S136x128.size a ≤ S2200x256.size a)
theorem k1_mult13_dvd : ∀ (v380 : BitVec 32) (k1_hw14 : k1_chk14 v380), 8 ∣ (k1_mult13 v380).toNat := fun v380 k1_hw14 => k1_hw14.1
theorem k1_off32_inb : ∀ (v380 : BitVec 32) (k1_hw14 : k1_chk14 v380), ∀ a, (k1_off32 v380) a + S136x128.size a ≤ S2200x256.size a := fun v380 k1_hw14 => k1_hw14.2.1
theorem k1_off33_inb : ∀ (v380 : BitVec 32) (k1_hw14 : k1_chk14 v380), ∀ a, (k1_off33 v380) a + S64x2x128.size a ≤ S72x2x128.size a := fun v380 k1_hw14 => k1_hw14.2.2.1
theorem k1_off34_inb : ∀ (v380 : BitVec 32) (k1_hw14 : k1_chk14 v380), ∀ a, (k1_off34 v380) a + S64x2x128.size a ≤ S72x2x128.size a := fun v380 k1_hw14 => k1_hw14.2.2.2.1
theorem k1_mult14_dvd : ∀ (v380 : BitVec 32) (k1_hw14 : k1_chk14 v380), 8 ∣ (k1_mult14 v380).toNat := fun v380 k1_hw14 => k1_hw14.2.2.2.2.1
theorem k1_off35_inb : ∀ (v380 : BitVec 32) (k1_hw14 : k1_chk14 v380), ∀ a, (k1_off35 v380) a + S136x128.size a ≤ S2200x256.size a := fun v380 k1_hw14 => k1_hw14.2.2.2.2.2

def k1_off36 (v441 : BitVec 32) : Fin 1 → Nat :=
  let v442 : Index := Scalar.indexCast v441
  ![v442.toNat]

def k1_chk15 (v441 : BitVec 32) : Prop :=
  (∀ a, (k1_off36 v441) a + S1.size a ≤ S15.size a)
theorem k1_off36_inb : ∀ (v441 : BitVec 32) (k1_hw15 : k1_chk15 v441), ∀ a, (k1_off36 v441) a + S1.size a ≤ S15.size a := fun v441 k1_hw15 => k1_hw15

def k1_mult15 (v443 : BitVec 32) : BitVec 32 :=
  let c_m8_i32_213 : BitVec 32 := 4294967288#32
  let v444 : BitVec 32 := Scalar.andi v443 c_m8_i32_213
  v444

def k1_off37 (v443 : BitVec 32) : Fin 2 → Nat :=
  let c_m8_i32_213 : BitVec 32 := 4294967288#32
  let v444 : BitVec 32 := Scalar.andi v443 c_m8_i32_213
  let v445 : BitVec 32 := v444
  let v446 : Index := Scalar.indexCast v445
  let c0_214 : Index := 0#32
  ![v446.toNat, 0]
def k1_off38 (v443 : BitVec 32) : Fin 3 → Nat :=
  let c7_i32_217 : BitVec 32 := 7#32
  let v452 : BitVec 32 := Scalar.andi v443 c7_i32_217
  let c1_i32_218 : BitVec 32 := 1#32
  let v453 : BitVec 32 := Scalar.shrsi v452 c1_i32_218
  let v456 : Index := Scalar.indexCast v453
  let c0_221 : Index := 0#32
  ![v456.toNat, 0, 0]
def k1_off39 (v443 : BitVec 32) : Fin 3 → Nat :=
  let c7_i32_217 : BitVec 32 := 7#32
  let v452 : BitVec 32 := Scalar.andi v443 c7_i32_217
  let c1_i32_218 : BitVec 32 := 1#32
  let v453 : BitVec 32 := Scalar.shrsi v452 c1_i32_218
  let c1_i32_222 : BitVec 32 := 1#32
  let v458 : BitVec 32 := Scalar.addi v453 c1_i32_222
  let v459 : Index := Scalar.indexCast v458
  let c0_223 : Index := 0#32
  ![v459.toNat, 0, 0]
def k1_mult16 (v443 : BitVec 32) : BitVec 32 :=
  let c_m8_i32_228 : BitVec 32 := 4294967288#32
  let v474 : BitVec 32 := Scalar.andi v443 c_m8_i32_228
  v474
def k1_off40 (v443 : BitVec 32) : Fin 2 → Nat :=
  let c_m8_i32_228 : BitVec 32 := 4294967288#32
  let v474 : BitVec 32 := Scalar.andi v443 c_m8_i32_228
  let v475 : BitVec 32 := v474
  let v476 : Index := Scalar.indexCast v475
  let c128_229 : Index := 128#32
  ![v476.toNat, 128]

def k1_chk16 (v443 : BitVec 32) : Prop :=
  (8 ∣ (k1_mult15 v443).toNat) ∧
  (∀ a, (k1_off37 v443) a + S136x128.size a ≤ S2200x256.size a) ∧
  (∀ a, (k1_off38 v443) a + S64x2x128.size a ≤ S72x2x128.size a) ∧
  (∀ a, (k1_off39 v443) a + S64x2x128.size a ≤ S72x2x128.size a) ∧
  (8 ∣ (k1_mult16 v443).toNat) ∧
  (∀ a, (k1_off40 v443) a + S136x128.size a ≤ S2200x256.size a)
theorem k1_mult15_dvd : ∀ (v443 : BitVec 32) (k1_hw16 : k1_chk16 v443), 8 ∣ (k1_mult15 v443).toNat := fun v443 k1_hw16 => k1_hw16.1
theorem k1_off37_inb : ∀ (v443 : BitVec 32) (k1_hw16 : k1_chk16 v443), ∀ a, (k1_off37 v443) a + S136x128.size a ≤ S2200x256.size a := fun v443 k1_hw16 => k1_hw16.2.1
theorem k1_off38_inb : ∀ (v443 : BitVec 32) (k1_hw16 : k1_chk16 v443), ∀ a, (k1_off38 v443) a + S64x2x128.size a ≤ S72x2x128.size a := fun v443 k1_hw16 => k1_hw16.2.2.1
theorem k1_off39_inb : ∀ (v443 : BitVec 32) (k1_hw16 : k1_chk16 v443), ∀ a, (k1_off39 v443) a + S64x2x128.size a ≤ S72x2x128.size a := fun v443 k1_hw16 => k1_hw16.2.2.2.1
theorem k1_mult16_dvd : ∀ (v443 : BitVec 32) (k1_hw16 : k1_chk16 v443), 8 ∣ (k1_mult16 v443).toNat := fun v443 k1_hw16 => k1_hw16.2.2.2.2.1
theorem k1_off40_inb : ∀ (v443 : BitVec 32) (k1_hw16 : k1_chk16 v443), ∀ a, (k1_off40 v443) a + S136x128.size a ≤ S2200x256.size a := fun v443 k1_hw16 => k1_hw16.2.2.2.2.2

def k1_off41 (v504 : BitVec 32) : Fin 1 → Nat :=
  let v505 : Index := Scalar.indexCast v504
  ![v505.toNat]

def k1_chk17 (v504 : BitVec 32) : Prop :=
  (∀ a, (k1_off41 v504) a + S1.size a ≤ S15.size a)
theorem k1_off41_inb : ∀ (v504 : BitVec 32) (k1_hw17 : k1_chk17 v504), ∀ a, (k1_off41 v504) a + S1.size a ≤ S15.size a := fun v504 k1_hw17 => k1_hw17

def k1_mult17 (v506 : BitVec 32) : BitVec 32 :=
  let c_m8_i32_244 : BitVec 32 := 4294967288#32
  let v507 : BitVec 32 := Scalar.andi v506 c_m8_i32_244
  v507

def k1_off42 (v506 : BitVec 32) : Fin 2 → Nat :=
  let c_m8_i32_244 : BitVec 32 := 4294967288#32
  let v507 : BitVec 32 := Scalar.andi v506 c_m8_i32_244
  let v508 : BitVec 32 := v507
  let v509 : Index := Scalar.indexCast v508
  let c0_245 : Index := 0#32
  ![v509.toNat, 0]
def k1_off43 (v506 : BitVec 32) : Fin 3 → Nat :=
  let c7_i32_248 : BitVec 32 := 7#32
  let v515 : BitVec 32 := Scalar.andi v506 c7_i32_248
  let c1_i32_249 : BitVec 32 := 1#32
  let v516 : BitVec 32 := Scalar.shrsi v515 c1_i32_249
  let v519 : Index := Scalar.indexCast v516
  let c0_252 : Index := 0#32
  ![v519.toNat, 0, 0]
def k1_off44 (v506 : BitVec 32) : Fin 3 → Nat :=
  let c7_i32_248 : BitVec 32 := 7#32
  let v515 : BitVec 32 := Scalar.andi v506 c7_i32_248
  let c1_i32_249 : BitVec 32 := 1#32
  let v516 : BitVec 32 := Scalar.shrsi v515 c1_i32_249
  let c1_i32_253 : BitVec 32 := 1#32
  let v521 : BitVec 32 := Scalar.addi v516 c1_i32_253
  let v522 : Index := Scalar.indexCast v521
  let c0_254 : Index := 0#32
  ![v522.toNat, 0, 0]
def k1_mult18 (v506 : BitVec 32) : BitVec 32 :=
  let c_m8_i32_259 : BitVec 32 := 4294967288#32
  let v537 : BitVec 32 := Scalar.andi v506 c_m8_i32_259
  v537
def k1_off45 (v506 : BitVec 32) : Fin 2 → Nat :=
  let c_m8_i32_259 : BitVec 32 := 4294967288#32
  let v537 : BitVec 32 := Scalar.andi v506 c_m8_i32_259
  let v538 : BitVec 32 := v537
  let v539 : Index := Scalar.indexCast v538
  let c128_260 : Index := 128#32
  ![v539.toNat, 128]

def k1_chk18 (v506 : BitVec 32) : Prop :=
  (8 ∣ (k1_mult17 v506).toNat) ∧
  (∀ a, (k1_off42 v506) a + S136x128.size a ≤ S2200x256.size a) ∧
  (∀ a, (k1_off43 v506) a + S64x2x128.size a ≤ S72x2x128.size a) ∧
  (∀ a, (k1_off44 v506) a + S64x2x128.size a ≤ S72x2x128.size a) ∧
  (8 ∣ (k1_mult18 v506).toNat) ∧
  (∀ a, (k1_off45 v506) a + S136x128.size a ≤ S2200x256.size a)
theorem k1_mult17_dvd : ∀ (v506 : BitVec 32) (k1_hw18 : k1_chk18 v506), 8 ∣ (k1_mult17 v506).toNat := fun v506 k1_hw18 => k1_hw18.1
theorem k1_off42_inb : ∀ (v506 : BitVec 32) (k1_hw18 : k1_chk18 v506), ∀ a, (k1_off42 v506) a + S136x128.size a ≤ S2200x256.size a := fun v506 k1_hw18 => k1_hw18.2.1
theorem k1_off43_inb : ∀ (v506 : BitVec 32) (k1_hw18 : k1_chk18 v506), ∀ a, (k1_off43 v506) a + S64x2x128.size a ≤ S72x2x128.size a := fun v506 k1_hw18 => k1_hw18.2.2.1
theorem k1_off44_inb : ∀ (v506 : BitVec 32) (k1_hw18 : k1_chk18 v506), ∀ a, (k1_off44 v506) a + S64x2x128.size a ≤ S72x2x128.size a := fun v506 k1_hw18 => k1_hw18.2.2.2.1
theorem k1_mult18_dvd : ∀ (v506 : BitVec 32) (k1_hw18 : k1_chk18 v506), 8 ∣ (k1_mult18 v506).toNat := fun v506 k1_hw18 => k1_hw18.2.2.2.2.1
theorem k1_off45_inb : ∀ (v506 : BitVec 32) (k1_hw18 : k1_chk18 v506), ∀ a, (k1_off45 v506) a + S136x128.size a ≤ S2200x256.size a := fun v506 k1_hw18 => k1_hw18.2.2.2.2.2

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S15 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S10 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S9 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S768x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2200x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S768x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S3x256x4096 : Shape := ⟨3, ![3, 256, 4096]⟩
abbrev S512x11008 : Shape := ⟨2, ![512, 11008]⟩
abbrev S32x11008 : Shape := ⟨2, ![32, 11008]⟩
abbrev S2200x4096 : Shape := ⟨2, ![2200, 4096]⟩
abbrev S2200x11008 : Shape := ⟨2, ![2200, 11008]⟩
abbrev S15 : Shape := ⟨1, ![15]⟩
abbrev S10 : Shape := ⟨1, ![10]⟩
abbrev S9 : Shape := ⟨1, ![9]⟩
abbrev S768x4096 : Shape := ⟨2, ![768, 4096]⟩
abbrev S32x128x11008 : Shape := ⟨3, ![32, 128, 11008]⟩
abbrev S4096x11008 : Shape := ⟨2, ![4096, 11008]⟩
abbrev S512x1x11008 : Shape := ⟨3, ![512, 1, 11008]⟩
abbrev S8 : Shape := ⟨1, ![8]⟩
abbrev S_ : Shape := ⟨0, ![]⟩
abbrev S1x8x1 : Shape := ⟨3, ![1, 8, 1]⟩
abbrev S512x8x11008 : Shape := ⟨3, ![512, 8, 11008]⟩
abbrev S768x11008 : Shape := ⟨2, ![768, 11008]⟩
abbrev S768 : Shape := ⟨1, ![768]⟩
abbrev S768x1 : Shape := ⟨2, ![768, 1]⟩
abbrev S1x8 : Shape := ⟨2, ![1, 8]⟩
abbrev S768x8 : Shape := ⟨2, ![768, 8]⟩
abbrev S128 : Shape := ⟨1, ![128]⟩
abbrev S1x128 : Shape := ⟨2, ![1, 128]⟩
abbrev S768x128 : Shape := ⟨2, ![768, 128]⟩
abbrev S768x128x1 : Shape := ⟨3, ![768, 128, 1]⟩
abbrev S768x128x4096 : Shape := ⟨3, ![768, 128, 4096]⟩
abbrev S768x128x11008 : Shape := ⟨3, ![768, 128, 11008]⟩
abbrev S3x256x11008 : Shape := ⟨3, ![3, 256, 11008]⟩

abbrev nBuf : Space → Nat
  | .hbm => 125
  | .vmem => 0
  | .smem => 0
  | _ => 0

abbrev bufTy : (tb : Table) → Fin (tcTables nBuf tb) → BufTy
  | .hbm, ⟨0, _⟩ => ⟨S3x256x4096, .bf16⟩
  | .hbm, ⟨1, _⟩ => ⟨S512x11008, .i32⟩
  | .hbm, ⟨2, _⟩ => ⟨S32x11008, .bf16⟩
  | .hbm, ⟨3, _⟩ => ⟨S2200x4096, .bf16⟩
  | .hbm, ⟨4, _⟩ => ⟨S2200x11008, .bf16⟩
  | .hbm, ⟨5, _⟩ => ⟨S15, .i32⟩
  | .hbm, ⟨6, _⟩ => ⟨S15, .i32⟩
  | .hbm, ⟨7, _⟩ => ⟨S15, .f32⟩
  | .hbm, ⟨8, _⟩ => ⟨S10, .i32⟩
  | .hbm, ⟨9, _⟩ => ⟨S9, .i32⟩
  | .hbm, ⟨10, _⟩ => ⟨S768x4096, .bf16⟩
  | .hbm, ⟨11, _⟩ => ⟨S32x128x11008, .bf16⟩
  | .hbm, ⟨12, _⟩ => ⟨S4096x11008, .bf16⟩
  | .hbm, ⟨13, _⟩ => ⟨S512x1x11008, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S1x8x1, .i32⟩
  | .hbm, ⟨19, _⟩ => ⟨S512x8x11008, .i32⟩
  | .hbm, ⟨20, _⟩ => ⟨S512x8x11008, .i32⟩
  | .hbm, ⟨21, _⟩ => ⟨S512x8x11008, .i32⟩
  | .hbm, ⟨22, _⟩ => ⟨S_, .i32⟩
  | .hbm, ⟨23, _⟩ => ⟨S512x8x11008, .i32⟩
  | .hbm, ⟨24, _⟩ => ⟨S512x8x11008, .i32⟩
  | .hbm, ⟨25, _⟩ => ⟨S_, .i32⟩
  | .hbm, ⟨26, _⟩ => ⟨S512x8x11008, .i32⟩
  | .hbm, ⟨27, _⟩ => ⟨S512x8x11008, .i1⟩
  | .hbm, ⟨28, _⟩ => ⟨S512x8x11008, .i32⟩
  | .hbm, ⟨29, _⟩ => ⟨S_, .i32⟩
  | .hbm, ⟨30, _⟩ => ⟨S512x8x11008, .i32⟩
  | .hbm, ⟨31, _⟩ => ⟨S512x8x11008, .i32⟩
  | .hbm, ⟨32, _⟩ => ⟨S512x8x11008, .i32⟩
  | .hbm, ⟨33, _⟩ => ⟨S512x8x11008, .bf16⟩
  | .hbm, ⟨34, _⟩ => ⟨S4096x11008, .bf16⟩
  | .hbm, ⟨35, _⟩ => ⟨S4096x11008, .bf16⟩
  | .hbm, ⟨36, _⟩ => ⟨S768x11008, .f32⟩
  | .hbm, ⟨37, _⟩ => ⟨S768, .i32⟩
  | .hbm, ⟨38, _⟩ => ⟨S768x1, .i32⟩
  | .hbm, ⟨39, _⟩ => ⟨S8, .i32⟩
  | .hbm, ⟨40, _⟩ => ⟨S1x8, .i32⟩
  | .hbm, ⟨41, _⟩ => ⟨S768x8, .i32⟩
  | .hbm, ⟨42, _⟩ => ⟨S768x8, .i32⟩
  | .hbm, ⟨43, _⟩ => ⟨S768x8, .i1⟩
  | .hbm, ⟨44, _⟩ => ⟨S768x8, .i32⟩
  | .hbm, ⟨45, _⟩ => ⟨S_, .i32⟩
  | .hbm, ⟨46, _⟩ => ⟨S768, .i32⟩
  | .hbm, ⟨47, _⟩ => ⟨S_, .i32⟩
  | .hbm, ⟨48, _⟩ => ⟨S768, .i32⟩
  | .hbm, ⟨49, _⟩ => ⟨S768, .i1⟩
  | .hbm, ⟨50, _⟩ => ⟨S_, .i32⟩
  | .hbm, ⟨51, _⟩ => ⟨S768, .i32⟩
  | .hbm, ⟨52, _⟩ => ⟨S768, .i32⟩
  | .hbm, ⟨53, _⟩ => ⟨S768, .i32⟩
  | .hbm, ⟨54, _⟩ => ⟨S768x1, .i32⟩
  | .hbm, ⟨55, _⟩ => ⟨S768, .i32⟩
  | .hbm, ⟨56, _⟩ => ⟨S_, .i32⟩
  | .hbm, ⟨57, _⟩ => ⟨S768, .i32⟩
  | .hbm, ⟨58, _⟩ => ⟨S768, .i1⟩
  | .hbm, ⟨59, _⟩ => ⟨S_, .i32⟩
  | .hbm, ⟨60, _⟩ => ⟨S768, .i32⟩
  | .hbm, ⟨61, _⟩ => ⟨S768, .i32⟩
  | .hbm, ⟨62, _⟩ => ⟨S768, .i32⟩
  | .hbm, ⟨63, _⟩ => ⟨S768x1, .i32⟩
  | .hbm, ⟨64, _⟩ => ⟨S768, .i32⟩
  | .hbm, ⟨65, _⟩ => ⟨S768x1, .i32⟩
  | .hbm, ⟨66, _⟩ => ⟨S128, .i32⟩
  | .hbm, ⟨67, _⟩ => ⟨S1x128, .i32⟩
  | .hbm, ⟨68, _⟩ => ⟨S768x128, .i32⟩
  | .hbm, ⟨69, _⟩ => ⟨S768x128, .i32⟩
  | .hbm, ⟨70, _⟩ => ⟨S768x128, .i32⟩
  | .hbm, ⟨71, _⟩ => ⟨S_, .i32⟩
  | .hbm, ⟨72, _⟩ => ⟨S768, .i32⟩
  | .hbm, ⟨73, _⟩ => ⟨S768, .i1⟩
  | .hbm, ⟨74, _⟩ => ⟨S_, .i32⟩
  | .hbm, ⟨75, _⟩ => ⟨S768, .i32⟩
  | .hbm, ⟨76, _⟩ => ⟨S768, .i32⟩
  | .hbm, ⟨77, _⟩ => ⟨S768, .i32⟩
  | .hbm, ⟨78, _⟩ => ⟨S768x1, .i32⟩
  | .hbm, ⟨79, _⟩ => ⟨S768, .i32⟩
  | .hbm, ⟨80, _⟩ => ⟨S_, .i32⟩
  | .hbm, ⟨81, _⟩ => ⟨S768, .i32⟩
  | .hbm, ⟨82, _⟩ => ⟨S768, .i1⟩
  | .hbm, ⟨83, _⟩ => ⟨S_, .i32⟩
  | .hbm, ⟨84, _⟩ => ⟨S768, .i32⟩
  | .hbm, ⟨85, _⟩ => ⟨S768, .i32⟩
  | .hbm, ⟨86, _⟩ => ⟨S768, .i32⟩
  | .hbm, ⟨87, _⟩ => ⟨S768x1, .i32⟩
  | .hbm, ⟨88, _⟩ => ⟨S768, .f32⟩
  | .hbm, ⟨89, _⟩ => ⟨S_, .i32⟩
  | .hbm, ⟨90, _⟩ => ⟨S768x128, .i32⟩
  | .hbm, ⟨91, _⟩ => ⟨S768x128, .i1⟩
  | .hbm, ⟨92, _⟩ => ⟨S_, .i32⟩
  | .hbm, ⟨93, _⟩ => ⟨S768x128, .i32⟩
  | .hbm, ⟨94, _⟩ => ⟨S768x128, .i32⟩
  | .hbm, ⟨95, _⟩ => ⟨S768x128, .i32⟩
  | .hbm, ⟨96, _⟩ => ⟨S768x128x1, .i32⟩
  | .hbm, ⟨97, _⟩ => ⟨S768x128x4096, .bf16⟩
  | .hbm, ⟨98, _⟩ => ⟨S768x128, .f32⟩
  | .hbm, ⟨99, _⟩ => ⟨S128, .i32⟩
  | .hbm, ⟨100, _⟩ => ⟨S1x128, .i32⟩
  | .hbm, ⟨101, _⟩ => ⟨S768x1, .i32⟩
  | .hbm, ⟨102, _⟩ => ⟨S768x128, .i32⟩
  | .hbm, ⟨103, _⟩ => ⟨S768x128, .i32⟩
  | .hbm, ⟨104, _⟩ => ⟨S768x128, .i1⟩
  | .hbm, ⟨105, _⟩ => ⟨S768x1, .f32⟩
  | .hbm, ⟨106, _⟩ => ⟨S768x128, .f32⟩
  | .hbm, ⟨107, _⟩ => ⟨S768x128, .f32⟩
  | .hbm, ⟨108, _⟩ => ⟨S768x128, .bf16⟩
  | .hbm, ⟨109, _⟩ => ⟨S_, .bf16⟩
  | .hbm, ⟨110, _⟩ => ⟨S768x128, .bf16⟩
  | .hbm, ⟨111, _⟩ => ⟨S768x128, .bf16⟩
  | .hbm, ⟨112, _⟩ => ⟨S_, .i32⟩
  | .hbm, ⟨113, _⟩ => ⟨S768x128, .i32⟩
  | .hbm, ⟨114, _⟩ => ⟨S768x128, .i1⟩
  | .hbm, ⟨115, _⟩ => ⟨S_, .i32⟩
  | .hbm, ⟨116, _⟩ => ⟨S768x128, .i32⟩
  | .hbm, ⟨117, _⟩ => ⟨S768x128, .i32⟩
  | .hbm, ⟨118, _⟩ => ⟨S768x128, .i32⟩
  | .hbm, ⟨119, _⟩ => ⟨S768x128x1, .i32⟩
  | .hbm, ⟨120, _⟩ => ⟨S768x128x11008, .bf16⟩
  | .hbm, ⟨121, _⟩ => ⟨S768x11008, .f32⟩
  | .hbm, ⟨122, _⟩ => ⟨S768x11008, .f32⟩
  | .hbm, ⟨123, _⟩ => ⟨S768x11008, .bf16⟩
  | .hbm, ⟨124, _⟩ => ⟨S3x256x11008, .bf16⟩
  | _, _ => ⟨S3x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst : Ref sig .tc := ⟨.hbm, 109, rfl⟩
abbrev main_call0_v0 : Ref sig .tc := ⟨.hbm, 110, rfl⟩
abbrev main_v84 : Ref sig .tc := ⟨.hbm, 111, rfl⟩
abbrev main_c_14 : Ref sig .tc := ⟨.hbm, 112, rfl⟩
abbrev main_v85 : Ref sig .tc := ⟨.hbm, 113, rfl⟩
abbrev main_v86 : Ref sig .tc := ⟨.hbm, 114, rfl⟩
abbrev main_c_15 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Proof.Common.lean ====
/- Lemmas about views, loads and stores, and about the low bits of a word, that both kernels use. -/
module

public import Idealize.ShloMosaic.Lib.Tactic
public import Idealize.ShloMosaic.Lib.Pipeline.Frame

@[expose] public section

noncomputable section

/-! Facts that both programs use: how a load reads the store before it, and the small word arithmetic of an
unaligned start `v` (its aligned part `v &&& -8` and its offset within an aligned row pair, `(v &&& 7) >>> 1`). -/

namespace Cert.KProof

open Idealize.ShloMosaic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Val : EltTy → Type}
variable {Ix : Type} [DecidableEq Ix] {Name : Type} [DecidableEq Name] {U : Type} [URA U] {Lvl : Type}
variable {c : Thread nD τ} {sp : Space} {s : Shape} {e : EltTy} {m : Memref sig c.2.kind sp s e}

/-- A whole memref covers its buffer. -/
theorem set_isWhole (h : m.IsWhole) : m.view.set = Finset.univ := by
  obtain ⟨b, rfl, rfl, rfl, h⟩ := h
  cases h
  exact View.set_whole b

/-- Rounding a word down to a multiple of eight does not raise it; -/
theorem aligned_le (v : BitVec 32) : (Scalar.andi v 4294967288#32).toNat ≤ v.toNat := by
  show (v &&& 4294967288#32).toNat ≤ v.toNat
  rw [BitVec.toNat_and]
  exact Nat.and_le_left

/-- and gives a multiple of eight. -/
theorem aligned_dvd (v : BitVec 32) : 8 ∣ (Scalar.andi v 4294967288#32).toNat := by
  show 8 ∣ (v &&& 4294967288#32).toNat
  refine ⟨v.toNat >>> 3, ?_⟩
  rw [BitVec.toNat_and]
  show v.toNat &&& ((2 ^ 29 - 1) <<< 3) = 8 * (v.toNat >>> 3)
  rw [show 8 * (v.toNat >>> 3) = (v.toNat >>> 3) <<< 3 from by rw [Nat.shiftLeft_eq]; exact Nat.mul_comm ..]
  refine Nat.eq_of_testBit_eq fun i => ?_
  rw [Nat.testBit_and, Nat.testBit_shiftLeft, Nat.testBit_shiftLeft, Nat.testBit_two_pow_sub_one, Nat.testBit_shiftRight]
  by_cases h : 3 ≤ i
  · rw [show 3 + (i - 3) = i by omega]
    by_cases h' : i < 32
    · simp [h, show i - 3 < 29 by omega]
    · have : v.toNat.testBit i = false := Nat.testBit_lt_two_pow (lt_of_lt_of_le v.isLt (Nat.pow_le_pow_right (by decide) (by omega)))
      simp [this]
  · simp [h]

/-- An owned whole memref is its buffer at the contents that read so; -/
theorem owns_open (h : m.IsWhole) (q : PosShare TreeShare) (X : s.Idx → Val e) :
    (owns c m q X : sProp (MT nD τ sig Ix Val Name U Lvl)) ⊢ iprop(m.view.loc c ↦{q} h.unread X) := by
  unfold owns
  rw [set_isWhole h]
  iintro ⟨%f, %hf, H⟩
  rw [← h.eq_unread hf]
  iexact H

/-- and back. -/
theorem owns_close (h : m.IsWhole) (q : PosShare TreeShare) (X : s.Idx → Val e) (f : Buf Val (m.view.loc c)) (hf : m.view.read Val f = X) :
    iprop(m.view.loc c ↦{q} f) ⊢ (owns c m q X : sProp (MT nD τ sig Ix Val Name U Lvl)) := by
  unfold owns
  rw [set_isWhole h]
  iintro H
  iexists f
  isplitr
  · ipureintro; exact hf
  · iexact H

end

variable {sig : RefSig} {κ : Kind} {sp : Space} {s : Shape} {e : EltTy} {Val : EltTy → Type}

/-- A load inside the box of the last store reads that store alone, whatever the buffer held before. -/
theorem readAt_last [∀ e, Nonempty (Val e)] (v : View sig κ sp s e) (f : v.ty.Contents Val) (R : Rect s) (p : R.shape.Idx → Val e)
    (L : List (View.Piece Val s e)) (B : LoadRect s) (h : ∀ j, B.idx j ∈ R.set) :
    v.readAt Val B (v.writes Val f (⟨R, p⟩ :: L)) = v.readCov [⟨R, p⟩] B := by
  funext j
  obtain ⟨x, hx⟩ := R.exists_idx_of_mem (h j)
  show v.read Val _ (B.idx j) = v.read Val _ (B.idx j)
  have hx' : R.emb x = B.idx j := hx
  rw [← hx', View.read_writes_cons_emb, View.read_writes_cons_emb]

/-- The low three bits of a word are one of the eight numbers below 8. -/
theorem and7_cases (v : BitVec 32) : ∃ k : Fin 8, v &&& 7#32 = BitVec.ofNat 32 k.val := by
  refine ⟨⟨v.toNat % 8, Nat.mod_lt _ (by decide)⟩, BitVec.eq_of_toNat_eq ?_⟩
  have h : v.toNat &&& (2 ^ 3 - 1) = v.toNat % 2 ^ 3 := Nat.and_two_pow_sub_one_eq_mod ..
  have h7 : (v &&& 7#32).toNat = v.toNat &&& (2 ^ 3 - 1) := BitVec.toNat_and ..
  rw [h7, h, BitVec.toNat_ofNat]
  show v.toNat % 8 = v.toNat % 8 % 4294967296
  omega

/-- A unit-stride box inside a box that starts at the origin. -/
theorem idx_mem_box {s : Shape} {off size off0 size0 : Fin s.rank → ℕ} {inb : ∀ a, off a + size a ≤ s.size a}
    {inb0 : ∀ a, off0 a + size0 a ≤ s.size a} (h0 : ∀ a, off0 a = 0) (h : ∀ a, off a + size a ≤ size0 a)
    (j : (Rect.unit (s := s) off size inb).toLoadRect.shape.Idx) :
    (Rect.unit (s := s) off size inb).toLoadRect.idx j ∈ (Rect.unit (s := s) off0 size0 inb0).set := by
  refine Rect.mem_set_unit.2 fun a => ⟨by rw [h0 a]; exact Nat.zero_le _, ?_⟩
  have h1 : (j a).val < size a := (j a).isLt
  have h2 := h a
  have h3 : ((Rect.unit (s := s) off size inb).toLoadRect.idx j a).val = off a + 1 * (j a).val := rfl
  rw [h3, h0 a]
  omega

/-- After a store of the whole view the view reads what was stored. -/
theorem read_writes_full [∀ e, Nonempty (Val e)] (v : View sig κ sp s e) (f : v.ty.Contents Val) {off : Fin s.rank → ℕ}
    {inb : ∀ a, off a + s.size a ≤ s.size a} (p : s.Idx → Val e) (L : List (View.Piece Val s e)) (h0 : ∀ a, off a = 0) :
    v.read Val (v.writes Val f ((⟨Rect.unit (s := s) off s.size inb, p⟩ : View.Piece Val s e) :: L)) = p := by
  funext y
  refine View.read_writes_cons_hit_of_coords v f (Rect.unit (s := s) off s.size inb) p L y y fun a => ?_
  show (y a).val = off a + 1 * (y a).val
  rw [h0 a]
  omega

/-- A load of a whole view reads the view. -/
theorem readAt_full (v : View sig κ sp s e) (f : v.ty.Contents Val) {off : Fin s.rank → ℕ}
    {inb : ∀ a, off a + s.size a ≤ s.size a} (h0 : ∀ a, off a = 0) :
    v.readAt Val (Rect.unit (s := s) off s.size inb).toLoadRect f = v.read Val f := by
  funext y
  show v.read Val f _ = v.read Val f y
  congr 1
  funext a
  refine Fin.ext ?_
  show off a + 1 * (y a).val = (y a).val
  rw [h0 a]
  omega

/-- A list of stores with its last store's payload and its earlier stores rewritten. -/
theorem pieces_congr {s : Shape} {e : EltTy} {Val : EltTy → Type} {R : Rect s} {p q : R.shape.Idx → Val e}
    {L L' : List (View.Piece Val s e)} (h : p = q) (hL : L = L') : ((⟨R, p⟩ : View.Piece Val s e) :: L) = ⟨R, q⟩ :: L' := by
  rw [h, hL]

end Cert.KProof

end
-- ==== Proof.MainRun.lean ====
/- One grid step of the main kernel: its body runs, and the stores it makes. -/
module

public import proofs.«01_k».proof.Proof.Gen.KernelIdeal.Skeleton
public import proofs.«01_k».proof.Proof.Gen.KernelIdeal
public import Idealize.ShloMosaic.Lib.Tactic

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body runs from any contents of its buffers that hold indices in range; the fields name what it stores. -/
def mainRun (c : Dev nD) (i : grid1.Coords)
    (M1 : Memref sig .tc .smem S15 .i32) (h1 : M1.IsWhole) (M2 : Memref sig .tc .smem S10 .i32) (h2 : M2.IsWhole)
    (M3 : Memref sig .tc .smem S9 .i32) (h3 : M3.IsWhole) (M4 : Memref sig .tc .vmem S768x4096 .bf16) (h4 : M4.IsWhole)
    (M5 : Memref sig .tc .vmem S512x256 .i32) (h5 : M5.IsWhole) (M6 : Memref sig .tc .vmem S32x256 .bf16) (h6 : M6.IsWhole)
    (M7 : Memref sig .tc .vmem S768x128 .bf16) (h7 : M7.IsWhole) (M8 : Memref sig .tc .vmem S2200x256 .bf16) (h8 : M8.IsWhole)
    (M9 : Memref sig .tc .vmem S768x256 .bf16) (h9 : M9.IsWhole) (M10 : Memref sig .tc .vmem S1152x256 .bf16) (h10 : M10.IsWhole)
    (M11 : Memref sig .tc .vmem S72x2x128 .bf16) (h11 : M11.IsWhole)
    (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8)
    (f11 : Bf (F := F) c M11)
    (hada : ∀ r : Rect S9, ∀ i, k1_chk1 (M3.view.readAt (Elt F) r.toLoadRect f3 i))
    (hsta : ∀ r : Rect S15, ∀ i, k1_chk2 (M1.view.readAt (Elt F) r.toLoadRect f1 i)) :
    { W : Bf (F := F) c M9 //
      ∀ (f9 : Bf (F := F) c M9) (f10 : Bf (F := F) c M10) (E : Set ℕ) (Q : PUnit → sProp 𝕄),
        iprop(pt c M1 f1 ∗ pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7
            ∗ pt c M8 f8 ∗ pt c M9 W ∗ (∃ f, pt c M10 f) ∗ (∃ f, pt c M11 f)) -∗ Q ⟨⟩))
        ⊢ wp frame (wpE (defs₀ (F := F)) Variants.none c none) E
            (cc1_main i M1 h1 M2 h2 M3 h3 M4 h4 M5 h5 M6 h6 M7 h7 M8 h8 M9 h9 M10 h10 M11 h11) Q } := by
  refine ⟨?_, fun f9 f10 E Q => ?run⟩
  case run =>
    iintro ⟨H1, H2, H3, H4, H5, H6, H7, H8, H9, H10, H11, Hk⟩
    sl_exec_parts! (disch := first | exact hada _ _ | exact hsta _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.KernelIdealProof

end
-- ==== Proof.MainVal.lean ====
/- What one grid step of the main kernel leaves in its output block: the stacked realigned rows, then the two products. -/
module

public import proofs.«01_k».proof.Proof.Gen.KernelIdeal.Skeleton
public import proofs.«01_k».proof.Proof.Gen.KernelIdeal
public import Idealize.ShloMosaic.Lib.Tactic
public import proofs.«01_k».proof.Proof.Common
public import proofs.«01_k».proof.Proof.MainRun

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

/-! What the main kernel's body leaves in its output block, with the scratch of the shifted rows gone from it:
the nine realigned adapter slices, two lane groups each, as one list of eighteen blocks. -/

/-- Where the pair of rows that holds row `v` starts, within an aligned group of eight. -/
theorem pair_start (v : BitVec 32) : (Scalar.shrsi (Scalar.andi v 7#32) 1#32).toNat ≤ 3
    ∧ (Scalar.addi (Scalar.shrsi (Scalar.andi v 7#32) 1#32) 1#32).toNat ≤ 4 := by
  obtain ⟨k, hk⟩ := Cert.KProof.and7_cases v
  have : Scalar.andi v 7#32 = BitVec.ofNat 32 k.val := hk
  rw [this]
  exact (by decide : ∀ k : Fin 8, (Scalar.shrsi (BitVec.ofNat 32 k.val) 1#32).toNat ≤ 3
    ∧ (Scalar.addi (Scalar.shrsi (BitVec.ofNat 32 k.val) 1#32) 1#32).toNat ≤ 4) k

/-- The row pairs that the realignment reads are among the 68 just stored: from the first pair, -/
theorem main_lo (v : BitVec 32) : ∀ a, k1_off3 v a + S64x2x128.size a ≤ S68x2x128.size a := by
  have := (pair_start v).1
  intro a
  match a with
  | 0 => show (Scalar.shrsi (Scalar.andi v 7#32) 1#32).toNat + 64 ≤ 68; omega
  | 1 => exact Nat.le_refl 2
  | 2 => exact Nat.le_refl 128

/-- and from the next. -/
theorem main_hi (v : BitVec 32) : ∀ a, k1_off4 v a + S64x2x128.size a ≤ S68x2x128.size a := by
  have := (pair_start v).2
  intro a
  match a with
  | 0 => show (Scalar.addi (Scalar.shrsi (Scalar.andi v 7#32) 1#32) 1#32).toNat + 64 ≤ 68; omega
  | 1 => exact Nat.le_refl 2
  | 2 => exact Nat.le_refl 128

/-- The 68 stored pairs are in the scratch. -/
theorem main_box_inb : ∀ a, (![0, 0, 0] : Fin 3 → ℕ) a + S68x2x128.size a ≤ S72x2x128.size a := by decide

/-- The aligned start of lane group `g`'s piece of the pool. -/
def mainOff (v : BitVec 32) (g : ℕ) : Fin 2 → ℕ := ![(Scalar.andi v 4294967288#32).toNat, 128 * g]

/-- Lane group `g`'s 136 rows are in the pool's block. -/
theorem mainOff_inb {v : BitVec 32} (h : k1_chk2 v) (g : ℕ) : ∀ a, mainOff v (g % 2) a + S136x128.size a ≤ S2200x256.size a := by
  rcases Nat.mod_two_eq_zero_or_one g with e | e
  · rw [e]; exact h.2.1
  · rw [e]; exact h.2.2.2.2.2

section
variable (c : Dev nD) (M1 : Memref sig .tc .smem S15 .i32) (M3 : Memref sig .tc .smem S9 .i32)
  (M8 : Memref sig .tc .vmem S2200x256 .bf16) (M11 : Memref sig .tc .vmem S72x2x128 .bf16)
  (f1 : Bf (F := F) c M1) (f3 : Bf (F := F) c M3) (f8 : Bf (F := F) c M8)
  (M2 : Memref sig .tc .smem S10 .i32) (M4 : Memref sig .tc .vmem S768x4096 .bf16) (M5 : Memref sig .tc .vmem S512x256 .i32)
  (M6 : Memref sig .tc .vmem S32x256 .bf16) (M7 : Memref sig .tc .vmem S768x128 .bf16) (M9 : Memref sig .tc .vmem S768x256 .bf16)
  (M10 : Memref sig .tc .vmem S1152x256 .bf16)
  (h1 : M1.IsWhole) (h2 : M2.IsWhole) (h3 : M3.IsWhole) (h4 : M4.IsWhole) (h5 : M5.IsWhole) (h6 : M6.IsWhole) (h7 : M7.IsWhole)
  (h8 : M8.IsWhole) (h9 : M9.IsWhole) (h10 : M10.IsWhole) (h11 : M11.IsWhole)
  (f2 : Bf (F := F) c M2) (f4 : Bf (F := F) c M4) (f5 : Bf (F := F) c M5) (f6 : Bf (F := F) c M6) (f7 : Bf (F := F) c M7)
  (hada : ∀ r : Rect S9, ∀ i, k1_chk1 (M3.view.readAt (Elt F) r.toLoadRect f3 i))
  (hsta : ∀ r : Rect S15, ∀ i, k1_chk2 (M1.view.readAt (Elt F) r.toLoadRect f1 i))

/-- The adapter of segment `s`. -/
def mainAda (s : ℕ) (hs : ∀ a, ![s] a + S1.size a ≤ S9.size a) : BitVec 32 :=
  M3.view.readAt (Elt F) (Rect.unit (s := S9) ![s] S1.size hs).toLoadRect f3 (Shape.Idx.first (show 0 < S1.numel by decide))

/-- The first pool row of adapter word `w`. -/
def mainSta (w : BitVec 32) (hw : k1_chk1 w) : BitVec 32 :=
  M1.view.readAt (Elt F) (Rect.unit (s := S15) (k1_off1 w) S1.size (k1_off1_inb w hw)).toLoadRect f1 (Shape.Idx.first (show 0 < S1.numel by decide))

/-- The aligned rows a block is cut from, as the row pairs the scratch holds. -/
def mainRows (v : BitVec 32) (hv : k1_chk2 v) (g : ℕ) : Vec F S68x2x128 .bf16 :=
  k1_pay2 (M8.view.readAt (Elt F) (Rect.unit (s := S2200x256) (mainOff v (g % 2)) S136x128.size (mainOff_inb hv g)).toLoadRect f8)

/-- The box the row pairs are stored in. -/
abbrev mainBox : Rect S72x2x128 := Rect.unit (s := S72x2x128) ![0, 0, 0] S68x2x128.size main_box_inb

/-- A realigned block, out of scratch contents `fT`. -/
def mainCut (v : BitVec 32) (hv : k1_chk2 v) (fT : Bf (F := F) c M11) : FVec F S128x128 .bf16 :=
  k1_pay4 (k1_pay3 v (M11.view.readAt (Elt F) (Rect.unit (s := S72x2x128) (k1_off3 v) S64x2x128.size hv.2.2.1).toLoadRect fT)
    (M11.view.readAt (Elt F) (Rect.unit (s := S72x2x128) (k1_off4 v) S64x2x128.size hv.2.2.2.1).toLoadRect fT))

/-- A realigned block depends on the rows stored last, not on what the scratch held before. -/
theorem mainCut_indep (v : BitVec 32) (hv : k1_chk2 v) (p : Vec F S68x2x128 .bf16) (f : Bf (F := F) c M11)
    (L : List (View.Piece (Elt F) S72x2x128 .bf16)) :
    mainCut c M11 v hv (M11.view.writes (Elt F) f (⟨mainBox, p⟩ :: L))
      = mainCut c M11 v hv (M11.view.writes (Elt F) M11.view.junk [⟨mainBox, p⟩]) := by
  have e3 := Cert.KProof.readAt_last M11.view f mainBox p L _ (Cert.KProof.idx_mem_box (inb := hv.2.2.1) (inb0 := main_box_inb) (by decide) (main_lo v))
  have e4 := Cert.KProof.readAt_last M11.view f mainBox p L _ (Cert.KProof.idx_mem_box (inb := hv.2.2.2.1) (inb0 := main_box_inb) (by decide) (main_hi v))
  exact congrArg k1_pay4 (congrArg₂ (k1_pay3 v) e3 e4)

/-- Block `k`: segment `k / 2`, lane group `k % 2`. -/
def mainBlk (k : ℕ) : FVec F S128x128 .bf16 :=
  let v := mainSta c M1 f1 (mainAda c M3 f3 (k / 2 % 9) (fun a => by match a with | 0 => show k / 2 % 9 + 1 ≤ 9; omega)) (hada _ _)
  mainCut c M11 v (hsta _ _) (M11.view.writes (Elt F) M11.view.junk [⟨mainBox, mainRows c M8 f8 v (hsta _ _) k⟩])

/-- The first `n` blocks, the last first, each at its place in the stacked slices. -/
def mainPieces : ℕ → List (View.Piece (Elt F) S1152x256 .bf16)
  | 0 => []
  | k + 1 => ⟨Rect.unit (s := S1152x256) ![128 * (k / 2 % 9), 128 * (k % 2)] S128x128.size (fun a => by
      match a with
      | 0 => show 128 * (k / 2 % 9) + 128 ≤ 1152; omega
      | 1 => show 128 * (k % 2) + 128 ≤ 256; omega), mainBlk c M1 M3 M8 M11 f1 f3 f8 hada hsta k⟩ :: mainPieces k

/-- One more block put in front of the list of blocks stored. -/
theorem main_step (f11 : Bf (F := F) c M11) {off : Fin 2 → ℕ} {inb : ∀ a, off a + S128x128.size a ≤ S1152x256.size a}
    {v : BitVec 32} {hv : k1_chk2 v} {p : Vec F S68x2x128 .bf16} {L : List (View.Piece (Elt F) S72x2x128 .bf16)}
    {A B : List (View.Piece (Elt F) S1152x256 .bf16)} (h : A = B) :
    ((⟨Rect.unit (s := S1152x256) off S128x128.size inb, mainCut c M11 v hv (M11.view.writes (Elt F) f11 (⟨mainBox, p⟩ :: L))⟩ :
      View.Piece (Elt F) S1152x256 .bf16) :: A)
      = ⟨Rect.unit (s := S1152x256) off S128x128.size inb, mainCut c M11 v hv (M11.view.writes (Elt F) M11.view.junk [⟨mainBox, p⟩])⟩ :: B := by
  rw [h, mainCut_indep]

/-- The stores of the body into the stacked slices are the blocks, in order. -/
theorem mainPieces_eq (f11 : Bf (F := F) c M11) :
    mainRun.sl.H10_18 c M1 M3 M8 M11 f1 f3 f8 f11 hada hsta = mainPieces c M1 M3 M8 M11 f1 f3 f8 hada hsta 18 := by
  iterate 18 refine main_step c M11 f11 (hv := by exact hsta _ _) ?_
  rfl

/-- The stacked slices as the second product reads them. -/
def mainB : Vec F S1152x256 .bf16 :=
  M10.view.readCov (mainPieces c M1 M3 M8 M11 f1 f3 f8 hada hsta 18) (Rect.unit (s := S1152x256) ![0, 0] S1152x256.size (by decide)).toLoadRect

/-- So the slices are the stacked blocks, whatever the scratch held. -/
theorem mainB_eq (f11 : Bf (F := F) c M11) :
    mainRun.sl.v685 c M1 M3 M8 M10 M11 f1 f3 f8 f11 hada hsta = mainB c M1 M3 M8 M11 f1 f3 f8 M10 hada hsta :=
  congrArg (fun L => M10.view.readCov L (Rect.unit (s := S1152x256) ![0, 0] S1152x256.size (by decide)).toLoadRect)
    (mainPieces_eq c M1 M3 M8 M11 f1 f3 f8 hada hsta f11)

/-- The output block the body leaves. -/
def mainOut : FVec F S768x256 .bf16 :=
  k1_pay1 (mainRun.sl.r_23 c M5 M6 f5 f6) mainRun.sl.v587 (mainRun.sl.r_24 c M7 f7) (mainRun.sl.r_25 c M2 M7 f2 f7)
    (mainRun.sl.r_26 c M2 M7 f2 f7) (mainRun.sl.r_27 c M2 M7 f2 f7) (mainRun.sl.r_34 c M2 M7 f2 f7)
    (mainRun.sl.r_35 c M2 M7 f2 f7) (mainRun.sl.r_36 c M2 M7 f2 f7) (mainRun.sl.r_37 c M2 M7 f2 f7)
    (mainRun.sl.r_38 c M2 M7 f2 f7) (mainRun.sl.r_33 c M2 f2) (mainRun.sl.r_39 c M2 f2)
    (M4.view.readAt (Elt F) (Rect.unit (s := S768x4096) ![0, 0] S768x4096.size inb_S768x4096_S768x4096_0_0).toLoadRect f4)
    (mainB c M1 M3 M8 M11 f1 f3 f8 M10 hada hsta)

/-- The output window reads the output block after the body. -/
theorem mainRun_read (i : grid1.Coords) (f11 : Bf (F := F) c M11) :
    M9.view.read (Elt F) (mainRun c i M1 h1 M2 h2 M3 h3 M4 h4 M5 h5 M6 h6 M7 h7 M8 h8 M9 h9 M10 h10 M11 h11
      f1 f2 f3 f4 f5 f6 f7 f8 f11 hada hsta).1
      = mainOut c M1 M3 M8 M11 f1 f3 f8 M2 M4 M5 M6 M7 M10 f2 f4 f5 f6 f7 hada hsta := by
  unfold mainRun
  dsimp only
  unfold mainRun.sl.H9_1
  rw [mainB_eq]
  exact Cert.KProof.read_writes_full M9.view _ _ _ (by decide)

end

end Cert.KernelIdealProof

end
-- ==== Proof.ShrinkFirst.lean ====
/- The first grid step of the shrinking kernel: its body runs, clearing the accumulator first. -/
module

public import proofs.«01_k».proof.Proof.Gen.KernelIdeal.Skeleton
public import proofs.«01_k».proof.Proof.Gen.KernelIdeal
public import Idealize.ShloMosaic.Lib.Tactic
public import proofs.«01_k».proof.Proof.MainRun

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

/-- The body of the first step runs from any contents that hold indices in range; the fields name what it stores. -/
def shrinkFirst (c : Dev nD) (i : grid0.Coords)
    (M1 : Memref sig .tc .smem S15 .i32) (h1 : M1.IsWhole)    (M2 : Memref sig .tc .smem S15 .i32) (h2 : M2.IsWhole)
    (M3 : Memref sig .tc .smem S10 .i32) (h3 : M3.IsWhole)    (M4 : Memref sig .tc .smem S9 .i32) (h4 : M4.IsWhole)
    (M5 : Memref sig .tc .smem S15 .f32) (h5 : M5.IsWhole)    (M6 : Memref sig .tc .vmem S768x512 .bf16) (h6 : M6.IsWhole)
    (M7 : Memref sig .tc .vmem S2200x512 .bf16) (h7 : M7.IsWhole)    (M8 : Memref sig .tc .vmem S768x128 .bf16) (h8 : M8.IsWhole)
    (M9 : Memref sig .tc .vmem S1152x512 .bf16) (h9 : M9.IsWhole)    (M10 : Memref sig .tc .vmem S768x1152 .f32) (h10 : M10.IsWhole)
    (M11 : Memref sig .tc .vmem S72x2x128 .bf16) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7)
    (f11 : Bf (F := F) c M11)
    (hc1 : (Scalar.cmpi .ne (Scalar.extui (Scalar.cmpi .eq (BitVec.ofNat 32 (i 0).val) 0#32) : BitVec 32) 0#32 = 1#1)) (hc2 : ¬ (k0_cond2 i = 1#1))
    (hada : ∀ r : Rect S9, ∀ j, k0_chk1 (M4.view.readAt (Elt F) r.toLoadRect f4 j))
    (hsta : ∀ r : Rect S15, ∀ j, k0_chk2 (M1.view.readAt (Elt F) r.toLoadRect f1 j))
 :
    { W : Bf (F := F) c M10 //
      ∀ (f8 : Bf (F := F) c M8) (f9 : Bf (F := F) c M9) (f10 : Bf (F := F) c M10) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7 ∗ pt c M8 f8 ∗ (∃ f, pt c M9 f) ∗ pt c M10 W ∗ (∃ f, pt c M11 f)) -∗ Q ⟨⟩))
        ⊢ wp frame (wpE (defs₀ (F := F)) Variants.none c none) E
            (cc0_shrink i M1 h1 M2 h2 M3 h3 M4 h4 M5 h5 M6 h6 M7 h7 M8 h8 M9 h9 M10 h10 M11 h11) Q } := by
  refine ⟨?_, fun f8 f9 f10 E Q => ?run⟩
  case run =>
    iintro ⟨H1, H2, H3, H4, H5, H6, H7, H8, H9, H10, H11, Hk⟩
    sl_exec_parts! (disch := first | exact hc1 | exact hc2 | exact hada _ _ | exact hsta _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexists _; iexact H11

end Cert.KernelIdealProof

end
-- ==== Proof.ShrinkMid.lean ====
/- A grid step of the shrinking kernel between the first and the last: its body runs. -/
module

public import proofs.«01_k».proof.Proof.Gen.KernelIdeal.Skeleton
public import proofs.«01_k».proof.Proof.Gen.KernelIdeal
public import Idealize.ShloMosaic.Lib.Tactic
public import proofs.«01_k».proof.Proof.MainRun

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

/-- The body of a middle step runs from any contents that hold indices in range; the fields name what it stores. -/
def shrinkMid (c : Dev nD) (i : grid0.Coords)
    (M1 : Memref sig .tc .smem S15 .i32) (h1 : M1.IsWhole)    (M2 : Memref sig .tc .smem S15 .i32) (h2 : M2.IsWhole)
    (M3 : Memref sig .tc .smem S10 .i32) (h3 : M3.IsWhole)    (M4 : Memref sig .tc .smem S9 .i32) (h4 : M4.IsWhole)
    (M5 : Memref sig .tc .smem S15 .f32) (h5 : M5.IsWhole)    (M6 : Memref sig .tc .vmem S768x512 .bf16) (h6 : M6.IsWhole)
    (M7 : Memref sig .tc .vmem S2200x512 .bf16) (h7 : M7.IsWhole)    (M8 : Memref sig .tc .vmem S768x128 .bf16) (h8 : M8.IsWhole)
    (M9 : Memref sig .tc .vmem S1152x512 .bf16) (h9 : M9.IsWhole)    (M10 : Memref sig .tc .vmem S768x1152 .f32) (h10 : M10.IsWhole)
    (M11 : Memref sig .tc .vmem S72x2x128 .bf16) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7)
    (f10 : Bf (F := F) c M10) (f11 : Bf (F := F) c M11)
    (hc1 : ¬ (Scalar.cmpi .ne (Scalar.extui (Scalar.cmpi .eq (BitVec.ofNat 32 (i 0).val) 0#32) : BitVec 32) 0#32 = 1#1)) (hc2 : ¬ (k0_cond2 i = 1#1))
    (hada : ∀ r : Rect S9, ∀ j, k0_chk1 (M4.view.readAt (Elt F) r.toLoadRect f4 j))
    (hsta : ∀ r : Rect S15, ∀ j, k0_chk2 (M1.view.readAt (Elt F) r.toLoadRect f1 j))
 :
    { W : Bf (F := F) c M10 //
      ∀ (f8 : Bf (F := F) c M8) (f9 : Bf (F := F) c M9) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7 ∗ pt c M8 f8 ∗ (∃ f, pt c M9 f) ∗ pt c M10 W ∗ (∃ f, pt c M11 f)) -∗ Q ⟨⟩))
        ⊢ wp frame (wpE (defs₀ (F := F)) Variants.none c none) E
            (cc0_shrink i M1 h1 M2 h2 M3 h3 M4 h4 M5 h5 M6 h6 M7 h7 M8 h8 M9 h9 M10 h10 M11 h11) Q } := by
  refine ⟨?_, fun f8 f9 E Q => ?run⟩
  case run =>
    iintro ⟨H1, H2, H3, H4, H5, H6, H7, H8, H9, H10, H11, Hk⟩
    sl_exec_parts! (disch := first | exact hc1 | exact hc2 | exact hada _ _ | exact hsta _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexists _; iexact H11

end Cert.KernelIdealProof

end
-- ==== Proof.ShrinkLast.lean ====
/- The last grid step of the shrinking kernel: its body runs, and writes the output block. -/
module

public import proofs.«01_k».proof.Proof.Gen.KernelIdeal.Skeleton
public import proofs.«01_k».proof.Proof.Gen.KernelIdeal
public import Idealize.ShloMosaic.Lib.Tactic
public import proofs.«01_k».proof.Proof.MainRun

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

/-- The body of the last step runs from any contents that hold indices in range; the fields name what it stores. -/
def shrinkLast (c : Dev nD) (i : grid0.Coords)
    (M1 : Memref sig .tc .smem S15 .i32) (h1 : M1.IsWhole)    (M2 : Memref sig .tc .smem S15 .i32) (h2 : M2.IsWhole)
    (M3 : Memref sig .tc .smem S10 .i32) (h3 : M3.IsWhole)    (M4 : Memref sig .tc .smem S9 .i32) (h4 : M4.IsWhole)
    (M5 : Memref sig .tc .smem S15 .f32) (h5 : M5.IsWhole)    (M6 : Memref sig .tc .vmem S768x512 .bf16) (h6 : M6.IsWhole)
    (M7 : Memref sig .tc .vmem S2200x512 .bf16) (h7 : M7.IsWhole)    (M8 : Memref sig .tc .vmem S768x128 .bf16) (h8 : M8.IsWhole)
    (M9 : Memref sig .tc .vmem S1152x512 .bf16) (h9 : M9.IsWhole)    (M10 : Memref sig .tc .vmem S768x1152 .f32) (h10 : M10.IsWhole)
    (M11 : Memref sig .tc .vmem S72x2x128 .bf16) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7)
    (f10 : Bf (F := F) c M10) (f11 : Bf (F := F) c M11)
    (hc1 : ¬ (Scalar.cmpi .ne (Scalar.extui (Scalar.cmpi .eq (BitVec.ofNat 32 (i 0).val) 0#32) : BitVec 32) 0#32 = 1#1)) (hc2 : (k0_cond2 i = 1#1))
    (hada : ∀ r : Rect S9, ∀ j, k0_chk1 (M4.view.readAt (Elt F) r.toLoadRect f4 j))
    (hsta : ∀ r : Rect S15, ∀ j, k0_chk2 (M1.view.readAt (Elt F) r.toLoadRect f1 j))
    (hlast : ∀ r : Rect S9, ∀ j, k0_chk19 i (M4.view.readAt (Elt F) r.toLoadRect f4 j)) :
    { W : Bf (F := F) c M10 × Bf (F := F) c M8 //
      ∀ (f8 : Bf (F := F) c M8) (f9 : Bf (F := F) c M9) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7 ∗ pt c M8 W.2 ∗ (∃ f, pt c M9 f) ∗ pt c M10 W.1 ∗ (∃ f, pt c M11 f)) -∗ Q ⟨⟩))
        ⊢ wp frame (wpE (defs₀ (F := F)) Variants.none c none) E
            (cc0_shrink i M1 h1 M2 h2 M3 h3 M4 h4 M5 h5 M6 h6 M7 h7 M8 h8 M9 h9 M10 h10 M11 h11) Q } := by
  refine ⟨⟨?_, ?_⟩, fun f8 f9 E Q => ?run⟩
  case run =>
    iintro ⟨H1, H2, H3, H4, H5, H6, H7, H8, H9, H10, H11, Hk⟩
    sl_exec_parts! (disch := first | exact hc1 | exact hc2 | exact hada _ _ | exact hsta _ _ | exact hlast _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexists _; iexact H11

end Cert.KernelIdealProof

end
-- ==== Proof.ShrinkVal.lean ====
/- What a grid step of the shrinking kernel leaves: the stacked realigned rows, the accumulator, and at the last step the
   output block. -/
module

public import proofs.«01_k».proof.Proof.Gen.KernelIdeal.Skeleton
public import proofs.«01_k».proof.Proof.Gen.KernelIdeal
public import Idealize.ShloMosaic.Lib.Tactic
public import proofs.«01_k».proof.Proof.Common
public import proofs.«01_k».proof.Proof.MainVal
public import proofs.«01_k».proof.Proof.ShrinkFirst
public import proofs.«01_k».proof.Proof.ShrinkMid
public import proofs.«01_k».proof.Proof.ShrinkLast

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

/-! What a point of the shrink kernel leaves in its accumulator and, at the last point, in its output block, with the
scratch of the shifted rows gone from it: the nine realigned adapter slices, four lane groups each, as one list of
thirty-six blocks. -/

/-- The row pairs that the realignment reads are among the 68 just stored: from the first pair, -/
theorem shr_lo (v : BitVec 32) : ∀ a, k0_off3 v a + S64x2x128.size a ≤ S68x2x128.size a := main_lo v
/-- and from the next. -/
theorem shr_hi (v : BitVec 32) : ∀ a, k0_off4 v a + S64x2x128.size a ≤ S68x2x128.size a := main_hi v

/-- The aligned start of lane group `g`'s piece of the pool. -/
def shrOff (v : BitVec 32) (g : ℕ) : Fin 2 → ℕ := ![(Scalar.andi v 4294967288#32).toNat, 128 * g]

/-- Lane group `g`'s 136 rows are in the pool's block. -/
theorem shrOff_inb {v : BitVec 32} (h : k0_chk2 v) (g : ℕ) : ∀ a, shrOff v (g % 4) a + S136x128.size a ≤ S2200x512.size a := by
  have e : g % 4 = 0 ∨ g % 4 = 1 ∨ g % 4 = 2 ∨ g % 4 = 3 := by omega
  rcases e with e | e | e | e
  · rw [e]; exact h.2.1
  · rw [e]; exact h.2.2.2.2.2.1
  · rw [e]; exact h.2.2.2.2.2.2.2.1
  · rw [e]; exact h.2.2.2.2.2.2.2.2.2

section
variable (c : Dev nD) (M1 : Memref sig .tc .smem S15 .i32) (M4 : Memref sig .tc .smem S9 .i32)
  (M7 : Memref sig .tc .vmem S2200x512 .bf16) (M11 : Memref sig .tc .vmem S72x2x128 .bf16)
  (f1 : Bf (F := F) c M1) (f4 : Bf (F := F) c M4) (f7 : Bf (F := F) c M7)
  (M2 : Memref sig .tc .smem S15 .i32) (M3 : Memref sig .tc .smem S10 .i32) (M5 : Memref sig .tc .smem S15 .f32)
  (M6 : Memref sig .tc .vmem S768x512 .bf16) (M8 : Memref sig .tc .vmem S768x128 .bf16)
  (M9 : Memref sig .tc .vmem S1152x512 .bf16) (M10 : Memref sig .tc .vmem S768x1152 .f32)
  (h1 : M1.IsWhole) (h2 : M2.IsWhole) (h3 : M3.IsWhole) (h4 : M4.IsWhole) (h5 : M5.IsWhole) (h6 : M6.IsWhole) (h7 : M7.IsWhole)
  (h8 : M8.IsWhole) (h9 : M9.IsWhole) (h10 : M10.IsWhole) (h11 : M11.IsWhole)
  (f2 : Bf (F := F) c M2) (f3 : Bf (F := F) c M3) (f5 : Bf (F := F) c M5) (f6 : Bf (F := F) c M6)
  (hada : ∀ r : Rect S9, ∀ i, k0_chk1 (M4.view.readAt (Elt F) r.toLoadRect f4 i))
  (hsta : ∀ r : Rect S15, ∀ i, k0_chk2 (M1.view.readAt (Elt F) r.toLoadRect f1 i))

/-- The first pool row of adapter word `w`. -/
def shrSta (w : BitVec 32) (hw : k0_chk1 w) : BitVec 32 :=
  M1.view.readAt (Elt F) (Rect.unit (s := S15) (k0_off1 w) S1.size (k0_off1_inb w hw)).toLoadRect f1 (Shape.Idx.first (show 0 < S1.numel by decide))

/-- The aligned rows a block is cut from, as the row pairs the scratch holds. -/
def shrRows (v : BitVec 32) (hv : k0_chk2 v) (g : ℕ) : Vec F S68x2x128 .bf16 :=
  k0_pay7 (M7.view.readAt (Elt F) (Rect.unit (s := S2200x512) (shrOff v (g % 4)) S136x128.size (shrOff_inb hv g)).toLoadRect f7)

/-- A realigned block, out of scratch contents `fT`. -/
def shrCut (v : BitVec 32) (hv : k0_chk2 v) (fT : Bf (F := F) c M11) : FVec F S128x128 .bf16 :=
  k0_pay126 (Scalar.andi v 1#32)
    (M11.view.readAt (Elt F) (Rect.unit (s := S72x2x128) (k0_off3 v) S64x2x128.size hv.2.2.1).toLoadRect fT)
    (M11.view.readAt (Elt F) (Rect.unit (s := S72x2x128) (k0_off4 v) S64x2x128.size hv.2.2.2.1).toLoadRect fT)

/-- A realigned block depends on the rows stored last, not on what the scratch held before. -/
theorem shrCut_indep (v : BitVec 32) (hv : k0_chk2 v) (p : Vec F S68x2x128 .bf16) (f : Bf (F := F) c M11)
    (L : List (View.Piece (Elt F) S72x2x128 .bf16)) :
    shrCut c M11 v hv (M11.view.writes (Elt F) f (⟨mainBox, p⟩ :: L))
      = shrCut c M11 v hv (M11.view.writes (Elt F) M11.view.junk [⟨mainBox, p⟩]) := by
  have e3 := Cert.KProof.readAt_last M11.view f mainBox p L _ (Cert.KProof.idx_mem_box (inb := hv.2.2.1) (inb0 := main_box_inb) (by decide) (shr_lo v))
  have e4 := Cert.KProof.readAt_last M11.view f mainBox p L _ (Cert.KProof.idx_mem_box (inb := hv.2.2.2.1) (inb0 := main_box_inb) (by decide) (shr_hi v))
  exact congrArg₂ (k0_pay126 (Scalar.andi v 1#32)) e3 e4

/-- Block `k`: segment `k / 4`, lane group `k % 4`. -/
def shrBlk (k : ℕ) : FVec F S128x128 .bf16 :=
  let v := shrSta c M1 f1 (mainAda c M4 f4 (k / 4 % 9) (fun a => by match a with | 0 => show k / 4 % 9 + 1 ≤ 9; omega)) (hada _ _)
  shrCut c M11 v (hsta _ _) (M11.view.writes (Elt F) M11.view.junk [⟨mainBox, shrRows c M7 f7 v (hsta _ _) k⟩])

/-- The first `n` blocks, the last first, each at its place in the stacked slices. -/
def shrPieces : ℕ → List (View.Piece (Elt F) S1152x512 .bf16)
  | 0 => []
  | k + 1 => ⟨Rect.unit (s := S1152x512) ![128 * (k / 4 % 9), 128 * (k % 4)] S128x128.size (fun a => by
      match a with
      | 0 => show 128 * (k / 4 % 9) + 128 ≤ 1152; omega
      | 1 => show 128 * (k % 4) + 128 ≤ 512; omega), shrBlk c M1 M4 M7 M11 f1 f4 f7 hada hsta k⟩ :: shrPieces k

/-- One more block put in front of the list of blocks stored. -/
theorem shr_step (f11 : Bf (F := F) c M11) {off : Fin 2 → ℕ} {inb : ∀ a, off a + S128x128.size a ≤ S1152x512.size a}
    {v : BitVec 32} {hv : k0_chk2 v} {p : Vec F S68x2x128 .bf16} {L : List (View.Piece (Elt F) S72x2x128 .bf16)}
    {A B : List (View.Piece (Elt F) S1152x512 .bf16)} (h : A = B) :
    ((⟨Rect.unit (s := S1152x512) off S128x128.size inb, shrCut c M11 v hv (M11.view.writes (Elt F) f11 (⟨mainBox, p⟩ :: L))⟩ :
      View.Piece (Elt F) S1152x512 .bf16) :: A)
      = ⟨Rect.unit (s := S1152x512) off S128x128.size inb, shrCut c M11 v hv (M11.view.writes (Elt F) M11.view.junk [⟨mainBox, p⟩])⟩ :: B := by
  rw [h, shrCut_indep]

/-- The stacked slices as the product reads them. -/
def shrA : Vec F S1152x512 .bf16 :=
  M9.view.readCov (shrPieces c M1 M4 M7 M11 f1 f4 f7 hada hsta 36) (Rect.unit (s := S1152x512) ![0, 0] S1152x512.size (by decide)).toLoadRect

/-- The accumulator after a point that found `acc` in it. -/
def shrAcc (acc : Vec F S768x1152 .f32) : Vec F S768x1152 .f32 :=
  k0_pay128 acc (M6.view.readAt (Elt F) (Rect.unit (s := S768x512) ![0, 0] S768x512.size inb_S768x512_S768x512_0_0).toLoadRect f6)
    (shrA c M1 M4 M7 M11 f1 f4 f7 M9 hada hsta)

/-- At the first step the stores into the stacked slices are the blocks, in order; -/
theorem shrA_First (f11 : Bf (F := F) c M11) :
    shrinkFirst.sl.v1113 c M1 M4 M7 M9 M11 f1 f4 f7 f11 hada hsta = shrA c M1 M4 M7 M11 f1 f4 f7 M9 hada hsta := by
  have e : shrinkFirst.sl.H9_36 c M1 M4 M7 M11 f1 f4 f7 f11 hada hsta = shrPieces c M1 M4 M7 M11 f1 f4 f7 hada hsta 36 := by
    iterate 36 refine shr_step c M11 f11 (hv := by exact hsta _ _) ?_
    rfl
  exact congrArg (fun L => M9.view.readCov L (Rect.unit (s := S1152x512) ![0, 0] S1152x512.size (by decide)).toLoadRect) e

/-- so at a middle step, -/
theorem shrA_Mid (f11 : Bf (F := F) c M11) :
    shrinkMid.sl.v1113 c M1 M4 M7 M9 M11 f1 f4 f7 f11 hada hsta = shrA c M1 M4 M7 M11 f1 f4 f7 M9 hada hsta := by
  have e : shrinkMid.sl.H9_36 c M1 M4 M7 M11 f1 f4 f7 f11 hada hsta = shrPieces c M1 M4 M7 M11 f1 f4 f7 hada hsta 36 := by
    iterate 36 refine shr_step c M11 f11 (hv := by exact hsta _ _) ?_
    rfl
  exact congrArg (fun L => M9.view.readCov L (Rect.unit (s := S1152x512) ![0, 0] S1152x512.size (by decide)).toLoadRect) e

/-- and at the last. -/
theorem shrA_Last (f11 : Bf (F := F) c M11) :
    shrinkLast.sl.v1113 c M1 M4 M7 M9 M11 f1 f4 f7 f11 hada hsta = shrA c M1 M4 M7 M11 f1 f4 f7 M9 hada hsta := by
  have e : shrinkLast.sl.H9_36 c M1 M4 M7 M11 f1 f4 f7 f11 hada hsta = shrPieces c M1 M4 M7 M11 f1 f4 f7 hada hsta 36 := by
    iterate 36 refine shr_step c M11 f11 (hv := by exact hsta _ _) ?_
    rfl
  exact congrArg (fun L => M9.view.readCov L (Rect.unit (s := S1152x512) ![0, 0] S1152x512.size (by decide)).toLoadRect) e

/-- After the first step the accumulator is the first partial product; -/
theorem shrinkFirst_read (i : grid0.Coords) (f11 : Bf (F := F) c M11) (hc1) (hc2) :
    M10.view.read (Elt F) (shrinkFirst c i M1 h1 M2 h2 M3 h3 M4 h4 M5 h5 M6 h6 M7 h7 M8 h8 M9 h9 M10 h10 M11 h11
      f1 f2 f3 f4 f5 f6 f7 f11 hc1 hc2 hada hsta).1
      = shrAcc c M1 M4 M7 M11 f1 f4 f7 M6 M9 f6 hada hsta k0_pay127 := by
  unfold shrinkFirst
  dsimp only
  unfold shrinkFirst.sl.H10_2
  rw [shrA_First]
  have e : shrinkFirst.sl.v1110 (F := F) M10 = k0_pay127 :=
    (Cert.KProof.readAt_full M10.view _ (by decide)).trans (Cert.KProof.read_writes_full M10.view _ _ _ (by decide))
  rw [e]
  exact Cert.KProof.read_writes_full M10.view _ _ _ (by decide)

/-- after a middle step, what it was with the partial product added; -/
theorem shrinkMid_read (i : grid0.Coords) (f10 : Bf (F := F) c M10) (f11 : Bf (F := F) c M11) (hc1) (hc2) :
    M10.view.read (Elt F) (shrinkMid c i M1 h1 M2 h2 M3 h3 M4 h4 M5 h5 M6 h6 M7 h7 M8 h8 M9 h9 M10 h10 M11 h11
      f1 f2 f3 f4 f5 f6 f7 f10 f11 hc1 hc2 hada hsta).1
      = shrAcc c M1 M4 M7 M11 f1 f4 f7 M6 M9 f6 hada hsta (M10.view.read (Elt F) f10) := by
  unfold shrinkMid
  dsimp only
  unfold shrinkMid.sl.H10_1
  rw [shrA_Mid, ← Cert.KProof.readAt_full M10.view f10 (inb := inb_S768x1152_S768x1152_0_0) (by decide)]
  exact Cert.KProof.read_writes_full M10.view _ _ _ (by decide)

/-- and so after the last. -/
theorem shrinkLast_read (i : grid0.Coords) (f10 : Bf (F := F) c M10) (f11 : Bf (F := F) c M11) (hc1) (hc2) (hlast) :
    M10.view.read (Elt F) (shrinkLast c i M1 h1 M2 h2 M3 h3 M4 h4 M5 h5 M6 h6 M7 h7 M8 h8 M9 h9 M10 h10 M11 h11
      f1 f2 f3 f4 f5 f6 f7 f10 f11 hc1 hc2 hada hsta hlast).1.1
      = shrAcc c M1 M4 M7 M11 f1 f4 f7 M6 M9 f6 hada hsta (M10.view.read (Elt F) f10) := by
  unfold shrinkLast
  dsimp only
  unfold shrinkLast.sl.H10_1
  rw [shrA_Last, ← Cert.KProof.readAt_full M10.view f10 (inb := inb_S768x1152_S768x1152_0_0) (by decide)]
  exact Cert.KProof.read_writes_full M10.view _ _ _ (by decide)

/-- The output block of the last point does not depend on what the scratch held. -/
theorem shrinkLast_indep (i : grid0.Coords) (f10 : Bf (F := F) c M10) (f11 f11' : Bf (F := F) c M11) (hc1) (hc2) (hlast) :
    (shrinkLast c i M1 h1 M2 h2 M3 h3 M4 h4 M5 h5 M6 h6 M7 h7 M8 h8 M9 h9 M10 h10 M11 h11
      f1 f2 f3 f4 f5 f6 f7 f10 f11 hc1 hc2 hada hsta hlast).1.2
      = (shrinkLast c i M1 h1 M2 h2 M3 h3 M4 h4 M5 h5 M6 h6 M7 h7 M8 h8 M9 h9 M10 h10 M11 h11
      f1 f2 f3 f4 f5 f6 f7 f10 f11' hc1 hc2 hada hsta hlast).1.2 := by
  unfold shrinkLast
  dsimp only
  simp only [shrinkLast.sl.H8_1, shrinkLast.sl.r_52, shrinkLast.sl.v1259, shrinkLast.sl.r_41, shrinkLast.sl.v1145, shrinkLast.sl.v1240, shrinkLast.sl.r_29, shrinkLast.sl.v1126, shrinkLast.sl.v1202, shrinkLast.sl.v1221, shrinkLast.sl.v1278, shrinkLast.sl.v1164, shrinkLast.sl.r_40, shrinkLast.sl.v1183, shrinkLast.sl.H10_1,  shrA_Last]

end

end Cert.KernelIdealProof

end
-- ==== Proof.Words.lean ====
/- The words the kernels index by: under the bounds on the adapters and on their first rows, every row, pair and array
   index the bodies compute is in range. -/
module

public import proofs.«01_k».proof.Proof.Gen.KernelIdeal.Skeleton
public import proofs.«01_k».proof.Proof.Gen.KernelIdeal
public import Idealize.ShloMosaic.Lib.Tactic
public import proofs.«01_k».proof.Proof.Common
public import proofs.«01_k».proof.Proof.MainVal
public import proofs.«01_k».proof.Proof.ShrinkVal
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Ring

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The words the kernels compute addresses from: with every segment's adapter one of the fifteen, and every
adapter's slice inside the pool, no address leaves its array. -/

/-- The 136 rows from an aligned start are rows of the pool; so for each lane group and for both kernels. -/
theorem k1_aligned2 (v : BitVec 32) (h : v.toNat ≤ 2071) : ∀ a, k1_off2 v a + S136x128.size a ≤ S2200x256.size a := by
  have := Cert.KProof.aligned_le v
  have := Cert.KProof.aligned_dvd v
  intro a
  match a with
  | 0 => show (Scalar.andi v 4294967288#32).toNat + 136 ≤ 2200; omega
  | 1 => exact (by decide : 0 + 128 ≤ 256)

theorem k1_aligned5 (v : BitVec 32) (h : v.toNat ≤ 2071) : ∀ a, k1_off5 v a + S136x128.size a ≤ S2200x256.size a := by
  have := Cert.KProof.aligned_le v
  have := Cert.KProof.aligned_dvd v
  intro a
  match a with
  | 0 => show (Scalar.andi v 4294967288#32).toNat + 136 ≤ 2200; omega
  | 1 => exact (by decide : 128 + 128 ≤ 256)

theorem k0_aligned2 (v : BitVec 32) (h : v.toNat ≤ 2071) : ∀ a, k0_off2 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 0 + 128 ≤ 512)

theorem k0_aligned5 (v : BitVec 32) (h : v.toNat ≤ 2071) : ∀ a, k0_off5 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 128 + 128 ≤ 512)

theorem k0_aligned6 (v : BitVec 32) (h : v.toNat ≤ 2071) : ∀ a, k0_off6 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 256 + 128 ≤ 512)

theorem k0_aligned7 (v : BitVec 32) (h : v.toNat ≤ 2071) : ∀ a, k0_off7 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 384 + 128 ≤ 512)

/-- The 64 row pairs from the first row's pair are in the scratch; likewise those from the pair after it. -/
theorem k1_first (v : BitVec 32) : ∀ a, k1_off3 v a + S64x2x128.size a ≤ S72x2x128.size a := fun a =>
  (main_lo v a).trans (by match a with | 0 => decide | 1 => decide | 2 => decide)

theorem k1_second (v : BitVec 32) : ∀ a, k1_off4 v a + S64x2x128.size a ≤ S72x2x128.size a := fun a =>
  (main_hi v a).trans (by match a with | 0 => decide | 1 => decide | 2 => decide)

theorem k0_first (v : BitVec 32) : ∀ a, k0_off3 v a + S64x2x128.size a ≤ S72x2x128.size a := fun a =>
  (shr_lo v a).trans (by match a with | 0 => decide | 1 => decide | 2 => decide)

theorem k0_second (v : BitVec 32) : ∀ a, k0_off4 v a + S64x2x128.size a ≤ S72x2x128.size a := fun a =>
  (shr_hi v a).trans (by match a with | 0 => decide | 1 => decide | 2 => decide)

/-- A segment's adapter indexes the arrays of fifteen. -/
theorem k1_slot (w : BitVec 32) (h : w.toNat < 15) : k1_chk1 w := fun a => by
  match a with
  | 0 => show w.toNat + 1 ≤ 15; omega

theorem k0_slot (w : BitVec 32) (h : w.toNat < 15) : k0_chk1 w := fun a => by
  match a with
  | 0 => show w.toNat + 1 ≤ 15; omega

/-- All reads of the pool for one adapter are in range, in the main kernel; -/
theorem k1_rows (v : BitVec 32) (h : v.toNat ≤ 2071) : k1_chk2 v :=
  ⟨Cert.KProof.aligned_dvd v, k1_aligned2 v h, k1_first v, k1_second v, Cert.KProof.aligned_dvd v, k1_aligned5 v h⟩

/-- and in the shrinking kernel. -/
theorem k0_rows (v : BitVec 32) (h : v.toNat ≤ 2071) : k0_chk2 v :=
  ⟨Cert.KProof.aligned_dvd v, k0_aligned2 v h, k0_first v, k0_second v, Cert.KProof.aligned_dvd v, k0_aligned5 v h,
    Cert.KProof.aligned_dvd v, k0_aligned6 v h, Cert.KProof.aligned_dvd v, k0_aligned7 v h⟩

/-- What the precondition says of the words. -/
structure OkV {F : FTy → Type} [FloatOps F] (V : Dev nD → Valuation τ sig (Elt F)) : Prop where
  ada : ∀ (c : Dev nD) (j : S9.Idx), (show BitVec 32 from (V c (Proc.devRef .tc main_arg9) : S9.Idx → Elt F .i32) j).toNat < 15
  sta : ∀ (c : Dev nD) (j : S15.Idx), (show BitVec 32 from (V c (Proc.devRef .tc main_arg5) : S15.Idx → Elt F .i32) j).toNat ≤ 2071

end Cert.KernelIdealProof

end
-- ==== Proof.Region0.lean ====
/- The shrinking kernel over its grid: the contents of each window at each step, the accumulator between steps, and the body
   at each step against them. -/
module

public import proofs.«01_k».proof.Proof.Gen.KernelIdeal.Skeleton
public import proofs.«01_k».proof.Proof.Gen.KernelIdeal
public import Idealize.ShloMosaic.Lib.Tactic
public import proofs.«01_k».proof.Proof.Common
public import proofs.«01_k».proof.Proof.Words

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose)

variable {F : FTy → Type} [FloatOps F]

local notation "𝕄" => MT nD τ sig Unit (Elt F) ℕ (URounds (GSem nD τ sig) Unit) ℕ

/-! The shrink call's region: the accumulator after each point, what each staging buffer holds, and the body's run
at the first point, at the points between and at the last. -/

variable (V : Dev nD → Valuation τ sig (Elt F)) (hV : OkV V)

/-- Window `w`'s block of its array at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

include hV in
/-- Every segment's adapter that a step reads is in range. -/
theorem ada0 (c : Dev nD) (t : Fin cfg0.N) (M : Memref sig .tc .smem S9 .i32) (h : M.IsWhole) (r : Rect S9) (i) :
    k0_chk1 (M.view.readAt (Elt F) r.toLoadRect (h.unread (blk0 V c 3 t)) i) := by
  have e := congrFun (h.read_unread (Val := Elt F) (blk0 V c 3 t)) (r.idx i)
  refine (congrArg k0_chk1 e).mpr (k0_slot _ ?_)
  exact hV.ada c _

include hV in
/-- Every adapter's first row that a step reads is in range. -/
theorem sta0 (c : Dev nD) (t : Fin cfg0.N) (M : Memref sig .tc .smem S15 .i32) (h : M.IsWhole) (r : Rect S15) (i) :
    k0_chk2 (M.view.readAt (Elt F) r.toLoadRect (h.unread (blk0 V c 0 t)) i) := by
  have e := congrFun (h.read_unread (Val := Elt F) (blk0 V c 0 t)) (r.idx i)
  refine (congrArg k0_chk2 e).mpr (k0_rows _ ?_)
  exact hV.sta c _

include hV in
/-- The adapters that the last step reads again are in range. -/
theorem lst0 (c : Dev nD) (t : Fin cfg0.N) (i : grid0.Coords) (M : Memref sig .tc .smem S9 .i32) (h : M.IsWhole) (r : Rect S9) (j) :
    k0_chk19 i (M.view.readAt (Elt F) r.toLoadRect (h.unread (blk0 V c 3 t)) j) :=
  fun _ => ada0 V hV c t M h r j

/-- Each window's buffer is whole. -/
theorem whole0_0 (t : Fin cfg0.N) : (st0_0 t).IsWhole := hstage0_0 ((cfg0.slots t 0).cast nbuf0_0)
theorem whole0_1 (t : Fin cfg0.N) : (st0_1 t).IsWhole := hstage0_1 ((cfg0.slots t 1).cast nbuf0_1)
theorem whole0_2 (t : Fin cfg0.N) : (st0_2 t).IsWhole := hstage0_2 ((cfg0.slots t 2).cast nbuf0_2)
theorem whole0_3 (t : Fin cfg0.N) : (st0_3 t).IsWhole := hstage0_3 ((cfg0.slots t 3).cast nbuf0_3)
theorem whole0_4 (t : Fin cfg0.N) : (st0_4 t).IsWhole := hstage0_4 ((cfg0.slots t 4).cast nbuf0_4)
theorem whole0_5 (t : Fin cfg0.N) : (st0_5 t).IsWhole := hstage0_5 ((cfg0.slots t 5).cast nbuf0_5)
theorem whole0_6 (t : Fin cfg0.N) : (st0_6 t).IsWhole := hstage0_6 ((cfg0.slots t 6).cast nbuf0_6)
theorem whole0_7 (t : Fin cfg0.N) : (st0_7 t).IsWhole := hstage0_7 ((cfg0.slots t 7).cast nbuf0_7)

/-- The accumulator after the points before `n`. -/
def acc0 (c : Dev nD) : ℕ → Vec F S768x1152 .f32
  | 0 => k0_pay127
  | n + 1 => if h : n < cfg0.N then
      let t : Fin cfg0.N := ⟨n, h⟩
      shrAcc c (st0_0 t) (st0_3 t) (st0_6 t) (Memref.whole cc0_scratch2) ((whole0_0 t).unread (blk0 V c 0 t)) ((whole0_3 t).unread (blk0 V c 3 t))
        ((whole0_6 t).unread (blk0 V c 6 t)) (st0_5 t) (Memref.whole cc0_scratch0) ((whole0_5 t).unread (blk0 V c 5 t))
        (ada0 V hV c t _ _) (sta0 V hV c t _ _) (acc0 c n)
    else acc0 c n

/-- The accumulator after a step, from the one before it. -/
theorem acc0_succ (c : Dev nD) (t : Fin cfg0.N) : acc0 V hV c (t.val + 1) =
    shrAcc c (st0_0 t) (st0_3 t) (st0_6 t) (Memref.whole cc0_scratch2) ((whole0_0 t).unread (blk0 V c 0 t)) ((whole0_3 t).unread (blk0 V c 3 t))
        ((whole0_6 t).unread (blk0 V c 6 t)) (st0_5 t) (Memref.whole cc0_scratch0) ((whole0_5 t).unread (blk0 V c 5 t))
        (ada0 V hV c t _ _) (sta0 V hV c t _ _) (acc0 V hV c t.val) := by
  rw [acc0]
  exact dif_pos t.isLt

/-- The guard of the accumulator's reset. -/
abbrev guard0 (i : grid0.Coords) : Prop :=
  Scalar.cmpi .ne (Scalar.extui (Scalar.cmpi .eq (BitVec.ofNat 32 (i 0).val) 0#32) : BitVec 32) 0#32 = 1#1

/-- The accumulator is cleared at the first step and at no other; the output is written at the last and at no other. -/
theorem guard0_first : ∀ t : Fin cfg0.N, t.val = 0 → guard0 (grid0.coords t) := by decide +kernel
theorem guard0_later : ∀ t : Fin cfg0.N, t.val ≠ 0 → ¬ guard0 (grid0.coords t) := by decide +kernel
theorem cond0_last : ∀ t : Fin cfg0.N, t.val = 7 → k0_cond2 (grid0.coords t) = 1#1 := by decide +kernel
theorem cond0_before : ∀ t : Fin cfg0.N, t.val ≠ 7 → ¬ k0_cond2 (grid0.coords t) = 1#1 := by decide +kernel

/-- The body's run at the first point; -/
def runF (c : Dev nD) (t : Fin cfg0.N) (f11 : Bf (F := F) c (Memref.whole cc0_scratch2)) (hc1 : guard0 (grid0.coords t)) (hc2 : ¬ k0_cond2 (grid0.coords t) = 1#1) :=
  shrinkFirst c (grid0.coords t) (st0_0 t) (whole0_0 t) (st0_1 t) (whole0_1 t) (st0_2 t) (whole0_2 t) (st0_3 t) (whole0_3 t) (st0_4 t) (whole0_4 t) (st0_5 t) (whole0_5 t) (st0_6 t) (whole0_6 t) (st0_7 t) (whole0_7 t) (Memref.whole cc0_scratch0) (Memref.isWhole_whole _) (Memref.whole cc0_scratch1) (Memref.isWhole_whole _) (Memref.whole cc0_scratch2) (Memref.isWhole_whole _)
    ((whole0_0 t).unread (blk0 V c 0 t)) ((whole0_1 t).unread (blk0 V c 1 t)) ((whole0_2 t).unread (blk0 V c 2 t)) ((whole0_3 t).unread (blk0 V c 3 t)) ((whole0_4 t).unread (blk0 V c 4 t)) ((whole0_5 t).unread (blk0 V c 5 t)) ((whole0_6 t).unread (blk0 V c 6 t)) f11 hc1 hc2 (ada0 V hV c t _ _) (sta0 V hV c t _ _)

/-- at a point between; -/
def runM (c : Dev nD) (t : Fin cfg0.N) (f10 : Bf (F := F) c (Memref.whole cc0_scratch1)) (f11 : Bf (F := F) c (Memref.whole cc0_scratch2)) (hc1 : ¬ guard0 (grid0.coords t)) (hc2 : ¬ k0_cond2 (grid0.coords t) = 1#1) :=
  shrinkMid c (grid0.coords t) (st0_0 t) (whole0_0 t) (st0_1 t) (whole0_1 t) (st0_2 t) (whole0_2 t) (st0_3 t) (whole0_3 t) (st0_4 t) (whole0_4 t) (st0_5 t) (whole0_5 t) (st0_6 t) (whole0_6 t) (st0_7 t) (whole0_7 t) (Memref.whole cc0_scratch0) (Memref.isWhole_whole _) (Memref.whole cc0_scratch1) (Memref.isWhole_whole _) (Memref.whole cc0_scratch2) (Memref.isWhole_whole _)
    ((whole0_0 t).unread (blk0 V c 0 t)) ((whole0_1 t).unread (blk0 V c 1 t)) ((whole0_2 t).unread (blk0 V c 2 t)) ((whole0_3 t).unread (blk0 V c 3 t)) ((whole0_4 t).unread (blk0 V c 4 t)) ((whole0_5 t).unread (blk0 V c 5 t)) ((whole0_6 t).unread (blk0 V c 6 t)) f10 f11 hc1 hc2 (ada0 V hV c t _ _) (sta0 V hV c t _ _)

/-- and at the last. -/
def runL (c : Dev nD) (t : Fin cfg0.N) (f10 : Bf (F := F) c (Memref.whole cc0_scratch1)) (f11 : Bf (F := F) c (Memref.whole cc0_scratch2)) (hc1 : ¬ guard0 (grid0.coords t)) (hc2 : k0_cond2 (grid0.coords t) = 1#1) :=
  shrinkLast c (grid0.coords t) (st0_0 t) (whole0_0 t) (st0_1 t) (whole0_1 t) (st0_2 t) (whole0_2 t) (st0_3 t) (whole0_3 t) (st0_4 t) (whole0_4 t) (st0_5 t) (whole0_5 t) (st0_6 t) (whole0_6 t) (st0_7 t) (whole0_7 t) (Memref.whole cc0_scratch0) (Memref.isWhole_whole _) (Memref.whole cc0_scratch1) (Memref.isWhole_whole _) (Memref.whole cc0_scratch2) (Memref.isWhole_whole _)
    ((whole0_0 t).unread (blk0 V c 0 t)) ((whole0_1 t).unread (blk0 V c 1 t)) ((whole0_2 t).unread (blk0 V c 2 t)) ((whole0_3 t).unread (blk0 V c 3 t)) ((whole0_4 t).unread (blk0 V c 4 t)) ((whole0_5 t).unread (blk0 V c 5 t)) ((whole0_6 t).unread (blk0 V c 6 t)) f10 f11 hc1 hc2 (ada0 V hV c t _ _) (sta0 V hV c t _ _) (lst0 V hV c t _ _ _)

/-- The accumulator after the first step, a middle step and the last is the next of the sequence. -/
theorem runF_read (c : Dev nD) (t : Fin cfg0.N) (f11 : Bf (F := F) c (Memref.whole cc0_scratch2)) (hc1) (hc2) (h : t.val = 0) :
    (Memref.whole cc0_scratch1).view.read (Elt F) (runF V hV c t f11 hc1 hc2).1 = acc0 V hV c (t.val + 1) := by
  rw [acc0_succ, h]
  exact shrinkFirst_read c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f11 hc1 hc2

theorem runM_read (c : Dev nD) (t : Fin cfg0.N) (f10 : Bf (F := F) c (Memref.whole cc0_scratch1)) (f11 : Bf (F := F) c (Memref.whole cc0_scratch2)) (hc1) (hc2)
    (h : (Memref.whole cc0_scratch1).view.read (Elt F) f10 = acc0 V hV c t.val) :
    (Memref.whole cc0_scratch1).view.read (Elt F) (runM V hV c t f10 f11 hc1 hc2).1 = acc0 V hV c (t.val + 1) := by
  rw [acc0_succ, ← h]
  exact shrinkMid_read c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f10 f11 hc1 hc2

theorem runL_read (c : Dev nD) (t : Fin cfg0.N) (f10 : Bf (F := F) c (Memref.whole cc0_scratch1)) (f11 : Bf (F := F) c (Memref.whole cc0_scratch2)) (hc1) (hc2)
    (h : (Memref.whole cc0_scratch1).view.read (Elt F) f10 = acc0 V hV c t.val) :
    (Memref.whole cc0_scratch1).view.read (Elt F) (runL V hV c t f10 f11 hc1 hc2).1.1 = acc0 V hV c (t.val + 1) := by
  rw [acc0_succ, ← h]
  exact shrinkLast_read c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f10 f11 hc1 hc2 (lst0 V hV c t _ _ _)

/-- The output block at the last step does not depend on what the scratch held. -/
theorem runL_indep (c : Dev nD) (t : Fin cfg0.N) (f10 : Bf (F := F) c (Memref.whole cc0_scratch1)) (f11 f11' : Bf (F := F) c (Memref.whole cc0_scratch2)) (hc1) (hc2) :
    (runL V hV c t f10 f11 hc1 hc2).1.2 = (runL V hV c t f10 f11' hc1 hc2).1.2 :=
  shrinkLast_indep c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f10 f11 f11' hc1 hc2 (lst0 V hV c t _ _ _)

/-- The accumulator's buffer at the contents it has before point `t`. -/
def accBuf (c : Dev nD) (n : ℕ) : Bf (F := F) c (Memref.whole cc0_scratch1) := (Memref.isWhole_whole cc0_scratch1).unread (acc0 V hV c n)

/-- The block the last point leaves in the output's staging buffer (at the others it is not written). -/
def out0 (c : Dev nD) (t : Fin cfg0.N) : S768x128.Idx → Elt F .bf16 :=
  if h : t.val = 7 then
    (st0_7 t).view.read (Elt F) (runL V hV c t (accBuf V hV c t.val) (Memref.whole cc0_scratch2).view.junk
      (guard0_later t (by omega)) (cond0_last t h)).1.2
  else blk0 V c 7 t

/-- The call's scratch that the body leaves alone. -/
def rest0 (c : Dev nD) : sProp 𝕄 :=
  iprop((∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The scratch before point `t`: the accumulator at the sum so far, once there is one. -/
def inv0 (c : Dev nD) (n : ℕ) : sProp 𝕄 :=
  iprop((∃ f, pt c (Memref.whole cc0_scratch0) f) ∗ (∃ f, ⌜n ≠ 0 → (Memref.whole cc0_scratch1).view.read (Elt F) f = acc0 V hV c n⌝ ∗ pt c (Memref.whole cc0_scratch1) f)
    ∗ (∃ f, pt c (Memref.whole cc0_scratch2) f) ∗ rest0 c)

/-- The region's data. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => out0 V hV c t
  Φ t := inv0 V hV c t.val
  q _ := fullShare
  owed _ := 0

/-- The arrays the windows are cut from. -/
theorem dat0_A (c : Dev nD) (w) : (dat0 V hV c).A w = V c (Proc.devRef .tc (Pipeline.arrRef spec0 w)) := by dsimp only [dat0]
/-- An input window holds its block after each step, the output window the output block. -/
theorem after0_0 (c : Dev nD) (t : Fin cfg0.N) : (dat0 V hV c).after 0 t = blk0 V c 0 t := by dsimp only [dat0]
theorem after0_1 (c : Dev nD) (t : Fin cfg0.N) : (dat0 V hV c).after 1 t = blk0 V c 1 t := by dsimp only [dat0]
theorem after0_2 (c : Dev nD) (t : Fin cfg0.N) : (dat0 V hV c).after 2 t = blk0 V c 2 t := by dsimp only [dat0]
theorem after0_3 (c : Dev nD) (t : Fin cfg0.N) : (dat0 V hV c).after 3 t = blk0 V c 3 t := by dsimp only [dat0]
theorem after0_4 (c : Dev nD) (t : Fin cfg0.N) : (dat0 V hV c).after 4 t = blk0 V c 4 t := by dsimp only [dat0]
theorem after0_5 (c : Dev nD) (t : Fin cfg0.N) : (dat0 V hV c).after 5 t = blk0 V c 5 t := by dsimp only [dat0]
theorem after0_6 (c : Dev nD) (t : Fin cfg0.N) : (dat0 V hV c).after 6 t = blk0 V c 6 t := by dsimp only [dat0]
theorem after0_7 (c : Dev nD) (t : Fin cfg0.N) : (dat0 V hV c).after 7 t = out0 V hV c t := by dsimp only [dat0]

/-- An input window holds its block before each step. -/
theorem before0_0 (c : Dev nD) (t : Fin cfg0.N) (d : (cfg0.win 0).block.Idx → Elt F (cfg0.win 0).elt) : (dat0 V hV c).before 0 t d = blk0 V c 0 t :=
  ((dat0 V hV c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d : (cfg0.win 1).block.Idx → Elt F (cfg0.win 1).elt) : (dat0 V hV c).before 1 t d = blk0 V c 1 t :=
  ((dat0 V hV c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
theorem before0_2 (c : Dev nD) (t : Fin cfg0.N) (d : (cfg0.win 2).block.Idx → Elt F (cfg0.win 2).elt) : (dat0 V hV c).before 2 t d = blk0 V c 2 t :=
  ((dat0 V hV c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)
theorem before0_3 (c : Dev nD) (t : Fin cfg0.N) (d : (cfg0.win 3).block.Idx → Elt F (cfg0.win 3).elt) : (dat0 V hV c).before 3 t d = blk0 V c 3 t :=
  ((dat0 V hV c).before_in_eq_fetched 3 rfl (fun _ => rfl) (fun _ _ _ => rfl) (fun t => by rw [after0_3]; unfold Dat.blockOf blk0; rw [dat0_A]; try rfl) t d).trans
    (by unfold Dat.fetched Dat.blockOf blk0; rw [dat0_A]; try rfl)
theorem before0_4 (c : Dev nD) (t : Fin cfg0.N) (d : (cfg0.win 4).block.Idx → Elt F (cfg0.win 4).elt) : (dat0 V hV c).before 4 t d = blk0 V c 4 t :=
  ((dat0 V hV c).before_in_eq_fetched 4 rfl (fun _ => rfl) (fun _ _ _ => rfl) (fun t => by rw [after0_4]; unfold Dat.blockOf blk0; rw [dat0_A]; try rfl) t d).trans
    (by unfold Dat.fetched Dat.blockOf blk0; rw [dat0_A]; try rfl)
theorem before0_5 (c : Dev nD) (t : Fin cfg0.N) (d : (cfg0.win 5).block.Idx → Elt F (cfg0.win 5).elt) : (dat0 V hV c).before 5 t d = blk0 V c 5 t :=
  ((dat0 V hV c).before_in_eq_fetched 5 rfl (fun _ => rfl) (fun _ _ _ => rfl) (fun t => by rw [after0_5]; unfold Dat.blockOf blk0; rw [dat0_A]; try rfl) t d).trans
    (by unfold Dat.fetched Dat.blockOf blk0; rw [dat0_A]; try rfl)
theorem before0_6 (c : Dev nD) (t : Fin cfg0.N) (d : (cfg0.win 6).block.Idx → Elt F (cfg0.win 6).elt) : (dat0 V hV c).before 6 t d = blk0 V c 6 t :=
  ((dat0 V hV c).before_in_eq_fetched 6 rfl (fun _ => rfl) (fun _ _ _ => rfl) (fun t => by rw [after0_6]; unfold Dat.blockOf blk0; rw [dat0_A]; try rfl) t d).trans
    (by unfold Dat.fetched Dat.blockOf blk0; rw [dat0_A]; try rfl)

/-- Before the last step the output window is idle; at the last it is not. -/
theorem idle0_before : ∀ t : Fin cfg0.N, t.val ≠ 7 → idle0 7 (grid0.coords t) = true := by decide +kernel
theorem idle0_last : ∀ t : Fin cfg0.N, t.val = 7 → idle0 7 (grid0.coords t) = false := by decide +kernel
/-- Before the last step the output block is not sent back. -/
theorem keep0_before (t : Fin cfg0.N) (h : t.val ≠ 7) : (cfg0.win 7).flush t = false :=
  Bool.eq_false_iff.mpr fun e => by
    have := (flush0_7 t).mp e
    have := t.isLt
    have : cfg0.N = 8 := rfl
    omega

/-- The output's staging buffer after the body: as it was, unless the point writes the block back. -/
def leave0 (c : Dev nD) (t : Fin cfg0.N) : sProp 𝕄 :=
  match cfg0.idle 7 (cfg0.grid.coords t) with
  | true =>
    match (cfg0.win 7).flush t with
    | false => iprop(∃ d, owns c (st0_7 t) fullShare ((dat0 V hV c).before 7 t d))
    | true => owns c (st0_7 t) fullShare ((dat0 V hV c).after 7 t)
  | false => owns c (st0_7 t) fullShare ((dat0 V hV c).after 7 t)

/-- Before the last step the output window is left as it was; -/
theorem leave0_before (c : Dev nD) (t : Fin cfg0.N) (h : t.val ≠ 7) :
    leave0 V hV c t = iprop(∃ d, owns c (st0_7 t) fullShare ((dat0 V hV c).before 7 t d)) := by
  unfold leave0
  rw [show cfg0.idle 7 (cfg0.grid.coords t) = true from idle0_before t h, keep0_before t h]

/-- the last leaves the output block in it. -/
theorem leave0_last (c : Dev nD) (t : Fin cfg0.N) (h : t.val = 7) :
    leave0 V hV c t = owns c (st0_7 t) fullShare (out0 V hV c t) := by
  unfold leave0
  rw [show cfg0.idle 7 (cfg0.grid.coords t) = false from idle0_last t h, after0_7]

/-- A window's buffer, held at the contents that read as a block, is the window held at that block, and back; so for each. -/
theorem give0_0 (c : Dev nD) (t : Fin cfg0.N) : pt c (st0_0 t) ((whole0_0 t).unread (blk0 V c 0 t)) ⊢ (owns c (st0_0 t) fullShare (blk0 V c 0 t) : sProp 𝕄) :=
  Cert.KProof.owns_close (whole0_0 t) fullShare (blk0 V c 0 t) _ ((whole0_0 t).read_unread _)
theorem take0_0 (c : Dev nD) (t : Fin cfg0.N) : (owns c (st0_0 t) fullShare (blk0 V c 0 t) : sProp 𝕄) ⊢ pt c (st0_0 t) ((whole0_0 t).unread (blk0 V c 0 t)) :=
  Cert.KProof.owns_open (whole0_0 t) fullShare (blk0 V c 0 t)
theorem give0_1 (c : Dev nD) (t : Fin cfg0.N) : pt c (st0_1 t) ((whole0_1 t).unread (blk0 V c 1 t)) ⊢ (owns c (st0_1 t) fullShare (blk0 V c 1 t) : sProp 𝕄) :=
  Cert.KProof.owns_close (whole0_1 t) fullShare (blk0 V c 1 t) _ ((whole0_1 t).read_unread _)
theorem take0_1 (c : Dev nD) (t : Fin cfg0.N) : (owns c (st0_1 t) fullShare (blk0 V c 1 t) : sProp 𝕄) ⊢ pt c (st0_1 t) ((whole0_1 t).unread (blk0 V c 1 t)) :=
  Cert.KProof.owns_open (whole0_1 t) fullShare (blk0 V c 1 t)
theorem give0_2 (c : Dev nD) (t : Fin cfg0.N) : pt c (st0_2 t) ((whole0_2 t).unread (blk0 V c 2 t)) ⊢ (owns c (st0_2 t) fullShare (blk0 V c 2 t) : sProp 𝕄) :=
  Cert.KProof.owns_close (whole0_2 t) fullShare (blk0 V c 2 t) _ ((whole0_2 t).read_unread _)
theorem take0_2 (c : Dev nD) (t : Fin cfg0.N) : (owns c (st0_2 t) fullShare (blk0 V c 2 t) : sProp 𝕄) ⊢ pt c (st0_2 t) ((whole0_2 t).unread (blk0 V c 2 t)) :=
  Cert.KProof.owns_open (whole0_2 t) fullShare (blk0 V c 2 t)
theorem give0_3 (c : Dev nD) (t : Fin cfg0.N) : pt c (st0_3 t) ((whole0_3 t).unread (blk0 V c 3 t)) ⊢ (owns c (st0_3 t) fullShare (blk0 V c 3 t) : sProp 𝕄) :=
  Cert.KProof.owns_close (whole0_3 t) fullShare (blk0 V c 3 t) _ ((whole0_3 t).read_unread _)
theorem take0_3 (c : Dev nD) (t : Fin cfg0.N) : (owns c (st0_3 t) fullShare (blk0 V c 3 t) : sProp 𝕄) ⊢ pt c (st0_3 t) ((whole0_3 t).unread (blk0 V c 3 t)) :=
  Cert.KProof.owns_open (whole0_3 t) fullShare (blk0 V c 3 t)
theorem give0_4 (c : Dev nD) (t : Fin cfg0.N) : pt c (st0_4 t) ((whole0_4 t).unread (blk0 V c 4 t)) ⊢ (owns c (st0_4 t) fullShare (blk0 V c 4 t) : sProp 𝕄) :=
  Cert.KProof.owns_close (whole0_4 t) fullShare (blk0 V c 4 t) _ ((whole0_4 t).read_unread _)
theorem take0_4 (c : Dev nD) (t : Fin cfg0.N) : (owns c (st0_4 t) fullShare (blk0 V c 4 t) : sProp 𝕄) ⊢ pt c (st0_4 t) ((whole0_4 t).unread (blk0 V c 4 t)) :=
  Cert.KProof.owns_open (whole0_4 t) fullShare (blk0 V c 4 t)
theorem give0_5 (c : Dev nD) (t : Fin cfg0.N) : pt c (st0_5 t) ((whole0_5 t).unread (blk0 V c 5 t)) ⊢ (owns c (st0_5 t) fullShare (blk0 V c 5 t) : sProp 𝕄) :=
  Cert.KProof.owns_close (whole0_5 t) fullShare (blk0 V c 5 t) _ ((whole0_5 t).read_unread _)
theorem take0_5 (c : Dev nD) (t : Fin cfg0.N) : (owns c (st0_5 t) fullShare (blk0 V c 5 t) : sProp 𝕄) ⊢ pt c (st0_5 t) ((whole0_5 t).unread (blk0 V c 5 t)) :=
  Cert.KProof.owns_open (whole0_5 t) fullShare (blk0 V c 5 t)
theorem give0_6 (c : Dev nD) (t : Fin cfg0.N) : pt c (st0_6 t) ((whole0_6 t).unread (blk0 V c 6 t)) ⊢ (owns c (st0_6 t) fullShare (blk0 V c 6 t) : sProp 𝕄) :=
  Cert.KProof.owns_close (whole0_6 t) fullShare (blk0 V c 6 t) _ ((whole0_6 t).read_unread _)
theorem take0_6 (c : Dev nD) (t : Fin cfg0.N) : (owns c (st0_6 t) fullShare (blk0 V c 6 t) : sProp 𝕄) ⊢ pt c (st0_6 t) ((whole0_6 t).unread (blk0 V c 6 t)) :=
  Cert.KProof.owns_open (whole0_6 t) fullShare (blk0 V c 6 t)
theorem give0_7 (c : Dev nD) (t : Fin cfg0.N) (X : (cfg0.win 7).block.Idx → Elt F (cfg0.win 7).elt) : pt c (st0_7 t) ((whole0_7 t).unread X) ⊢ (owns c (st0_7 t) fullShare X : sProp 𝕄) :=
  Cert.KProof.owns_close (whole0_7 t) fullShare X _ ((whole0_7 t).read_unread _)
theorem take0_7 (c : Dev nD) (t : Fin cfg0.N) (X : (cfg0.win 7).block.Idx → Elt F (cfg0.win 7).elt) : (owns c (st0_7 t) fullShare X : sProp 𝕄) ⊢ pt c (st0_7 t) ((whole0_7 t).unread X) :=
  Cert.KProof.owns_open (whole0_7 t) fullShare X

/-- The body at point `t`, from the scratch and the staging buffers to those after it. -/
abbrev step0 (c : Dev nD) (t : Fin cfg0.N) : Prop :=
  iprop(inv0 V hV c t.val ∗ (dat0 V hV c).owesAt () t.castSucc ∗ (∃ d : (cfg0.win 0).block.Idx → Elt F (cfg0.win 0).elt, owns c (st0_0 t) fullShare (blk0 V c 0 t)) ∗ (∃ d : (cfg0.win 1).block.Idx → Elt F (cfg0.win 1).elt, owns c (st0_1 t) fullShare (blk0 V c 1 t)) ∗ (∃ d : (cfg0.win 2).block.Idx → Elt F (cfg0.win 2).elt, owns c (st0_2 t) fullShare (blk0 V c 2 t)) ∗ (∃ d : (cfg0.win 3).block.Idx → Elt F (cfg0.win 3).elt, owns c (st0_3 t) fullShare (blk0 V c 3 t)) ∗ (∃ d : (cfg0.win 4).block.Idx → Elt F (cfg0.win 4).elt, owns c (st0_4 t) fullShare (blk0 V c 4 t)) ∗ (∃ d : (cfg0.win 5).block.Idx → Elt F (cfg0.win 5).elt, owns c (st0_5 t) fullShare (blk0 V c 5 t)) ∗ (∃ d : (cfg0.win 6).block.Idx → Elt F (cfg0.win 6).elt, owns c (st0_6 t) fullShare (blk0 V c 6 t)) ∗ (∃ d, owns c (st0_7 t) fullShare ((dat0 V hV c).before 7 t d))) ⊢
    wp frame (wpE (defs₀ (F := F)) Variants.none c none) Set.univ (bodyAt0 t) fun _ => iprop(inv0 V hV c (t.val + 1) ∗ (dat0 V hV c).owesAt () t.castSucc ∗ owns c (st0_0 t) fullShare (blk0 V c 0 t) ∗ owns c (st0_1 t) fullShare (blk0 V c 1 t) ∗ owns c (st0_2 t) fullShare (blk0 V c 2 t) ∗ owns c (st0_3 t) fullShare (blk0 V c 3 t) ∗ owns c (st0_4 t) fullShare (blk0 V c 4 t) ∗ owns c (st0_5 t) fullShare (blk0 V c 5 t) ∗ owns c (st0_6 t) fullShare (blk0 V c 6 t) ∗ leave0 V hV c t)

/-- What the last step stores closes to the output block. -/
theorem runL_close (c : Dev nD) (t : Fin cfg0.N) (f10 : Bf (F := F) c (Memref.whole cc0_scratch1)) (f11 : Bf (F := F) c (Memref.whole cc0_scratch2)) (hc1) (hc2) (h7 : t.val = 7)
    (h : (Memref.whole cc0_scratch1).view.read (Elt F) f10 = acc0 V hV c t.val) :
    pt c (st0_7 t) (runL V hV c t f10 f11 hc1 hc2).1.2 ⊢ (owns c (st0_7 t) fullShare (out0 V hV c t) : sProp 𝕄) := by
  refine Cert.KProof.owns_close (whole0_7 t) fullShare (out0 V hV c t) (runL V hV c t f10 f11 hc1 hc2).1.2 ?_
  have e : f10 = accBuf V hV c t.val := (Memref.isWhole_whole cc0_scratch1).eq_unread h
  subst e
  unfold out0
  rw [dif_pos h7]
  exact congrArg _ (runL_indep V hV c t _ f11 _ hc1 hc2)

set_option maxHeartbeats 4000000 in
/-- The first step does what the region asks of it; -/
theorem step0_F (c : Dev nD) (t : Fin cfg0.N) (h : t.val = 0) : step0 V hV c t := by
  unfold step0
  rw [leave0_before V hV c t (by omega)]
  unfold inv0
  iintro ⟨⟨⟨%f9, S9⟩, ⟨%f10, -, S10⟩, ⟨%f11, S11⟩, R⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := take0_0 V c t $$ H0
  ihave H1 := take0_1 V c t $$ H1
  ihave H2 := take0_2 V c t $$ H2
  ihave H3 := take0_3 V c t $$ H3
  ihave H4 := take0_4 V c t $$ H4
  ihave H5 := take0_5 V c t $$ H5
  ihave H6 := take0_6 V c t $$ H6
  ihave H7 := take0_7 c t _ $$ H7
  iapply (runF V hV c t f11 (guard0_first t h) (cond0_before t (by omega))).2 ((whole0_7 t).unread _) f9 f10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  iintro ⟨H0, H1, H2, H3, H4, H5, H6, H7, S9, S10, S11⟩
  isplitl [R S9 S10 S11]
  · isplitl [S9]; · iexact S9
    isplitl [S10]
    · iexists (runF V hV c t f11 (guard0_first t h) (cond0_before t (by omega))).1
      isplitr
      · ipureintro; exact fun _ => runF_read V hV c t f11 (guard0_first t h) (cond0_before t (by omega)) h
      · iexact S10
    isplitl [S11]; · iexact S11
    iexact R
  isplitl [HO]; · iexact HO
  isplitl [H0]
  · iapply (give0_0 V c t); iexact H0
  isplitl [H1]
  · iapply (give0_1 V c t); iexact H1
  isplitl [H2]
  · iapply (give0_2 V c t); iexact H2
  isplitl [H3]
  · iapply (give0_3 V c t); iexact H3
  isplitl [H4]
  · iapply (give0_4 V c t); iexact H4
  isplitl [H5]
  · iapply (give0_5 V c t); iexact H5
  isplitl [H6]
  · iapply (give0_6 V c t); iexact H6
  iexists d7
  iapply (give0_7 c t _)
  iexact H7

set_option maxHeartbeats 4000000 in
/-- so do the middle steps, -/
theorem step0_M (c : Dev nD) (t : Fin cfg0.N) (h : t.val ≠ 0) (h7 : t.val ≠ 7) : step0 V hV c t := by
  unfold step0
  rw [leave0_before V hV c t (by omega)]
  unfold inv0
  iintro ⟨⟨⟨%f9, S9⟩, ⟨%f10, %hf, S10⟩, ⟨%f11, S11⟩, R⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := take0_0 V c t $$ H0
  ihave H1 := take0_1 V c t $$ H1
  ihave H2 := take0_2 V c t $$ H2
  ihave H3 := take0_3 V c t $$ H3
  ihave H4 := take0_4 V c t $$ H4
  ihave H5 := take0_5 V c t $$ H5
  ihave H6 := take0_6 V c t $$ H6
  ihave H7 := take0_7 c t _ $$ H7
  iapply (runM V hV c t f10 f11 (guard0_later t h) (cond0_before t h7)).2 ((whole0_7 t).unread _) f9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  iintro ⟨H0, H1, H2, H3, H4, H5, H6, H7, S9, S10, S11⟩
  isplitl [R S9 S10 S11]
  · isplitl [S9]; · iexact S9
    isplitl [S10]
    · iexists (runM V hV c t f10 f11 (guard0_later t h) (cond0_before t h7)).1
      isplitr
      · ipureintro; exact fun _ => runM_read V hV c t f10 f11 (guard0_later t h) (cond0_before t h7) (hf h)
      · iexact S10
    isplitl [S11]; · iexact S11
    iexact R
  isplitl [HO]; · iexact HO
  isplitl [H0]
  · iapply (give0_0 V c t); iexact H0
  isplitl [H1]
  · iapply (give0_1 V c t); iexact H1
  isplitl [H2]
  · iapply (give0_2 V c t); iexact H2
  isplitl [H3]
  · iapply (give0_3 V c t); iexact H3
  isplitl [H4]
  · iapply (give0_4 V c t); iexact H4
  isplitl [H5]
  · iapply (give0_5 V c t); iexact H5
  isplitl [H6]
  · iapply (give0_6 V c t); iexact H6
  iexists d7
  iapply (give0_7 c t _)
  iexact H7

set_option maxHeartbeats 4000000 in
/-- and the last; -/
theorem step0_L (c : Dev nD) (t : Fin cfg0.N) (h7 : t.val = 7) : step0 V hV c t := by
  unfold step0
  rw [leave0_last V hV c t h7]
  unfold inv0
  iintro ⟨⟨⟨%f9, S9⟩, ⟨%f10, %hf, S10⟩, ⟨%f11, S11⟩, R⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := take0_0 V c t $$ H0
  ihave H1 := take0_1 V c t $$ H1
  ihave H2 := take0_2 V c t $$ H2
  ihave H3 := take0_3 V c t $$ H3
  ihave H4 := take0_4 V c t $$ H4
  ihave H5 := take0_5 V c t $$ H5
  ihave H6 := take0_6 V c t $$ H6
  ihave H7 := take0_7 c t _ $$ H7
  iapply (runL V hV c t f10 f11 (guard0_later t (by omega)) (cond0_last t h7)).2 ((whole0_7 t).unread _) f9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  iintro ⟨H0, H1, H2, H3, H4, H5, H6, H7, S9, S10, S11⟩
  isplitl [R S9 S10 S11]
  · isplitl [S9]; · iexact S9
    isplitl [S10]
    · iexists (runL V hV c t f10 f11 (guard0_later t (by omega)) (cond0_last t h7)).1.1
      isplitr
      · ipureintro; exact fun _ => runL_read V hV c t f10 f11 (guard0_later t (by omega)) (cond0_last t h7) (hf (by omega))
      · iexact S10
    isplitl [S11]; · iexact S11
    iexact R
  isplitl [HO]; · iexact HO
  isplitl [H0]
  · iapply (give0_0 V c t); iexact H0
  isplitl [H1]
  · iapply (give0_1 V c t); iexact H1
  isplitl [H2]
  · iapply (give0_2 V c t); iexact H2
  isplitl [H3]
  · iapply (give0_3 V c t); iexact H3
  isplitl [H4]
  · iapply (give0_4 V c t); iexact H4
  isplitl [H5]
  · iapply (give0_5 V c t); iexact H5
  isplitl [H6]
  · iapply (give0_6 V c t); iexact H6
  iapply (runL_close V hV c t f10 f11 (guard0_later t (by omega)) (cond0_last t h7) h7 (hf (by omega)))
  iexact H7

/-- so every step does. -/
theorem step0_all (c : Dev nD) (t : Fin cfg0.N) : step0 V hV c t := by
  by_cases h : t.val = 0
  · exact step0_F V hV c t h
  · by_cases h7 : t.val = 7
    · exact step0_L V hV c t h7
    · exact step0_M V hV c t h h7

set_option maxRecDepth 16384 in
set_option maxHeartbeats 4000000 in
/-- The body's obligation over the grid. -/
theorem body0 (c : Dev nD) : BodyObligation (dat0 V hV c) (defs₀ (F := F)) Variants.none () Set.univ := fun t => by
  rw [bigSep_W0, bigSep_W0]
  show iprop(inv0 V hV c t.val ∗ (dat0 V hV c).owesAt () t.castSucc ∗ (∃ d, owns c (st0_0 t) fullShare ((dat0 V hV c).before 0 t d)) ∗ (∃ d, owns c (st0_1 t) fullShare ((dat0 V hV c).before 1 t d)) ∗ (∃ d, owns c (st0_2 t) fullShare ((dat0 V hV c).before 2 t d)) ∗ (∃ d, owns c (st0_3 t) fullShare ((dat0 V hV c).before 3 t d)) ∗ (∃ d, owns c (st0_4 t) fullShare ((dat0 V hV c).before 4 t d)) ∗ (∃ d, owns c (st0_5 t) fullShare ((dat0 V hV c).before 5 t d)) ∗ (∃ d, owns c (st0_6 t) fullShare ((dat0 V hV c).before 6 t d)) ∗ (∃ d, owns c (st0_7 t) fullShare ((dat0 V hV c).before 7 t d))) ⊢
    wp frame (wpE (defs₀ (F := F)) Variants.none c none) Set.univ (bodyAt0 t) fun _ => iprop(inv0 V hV c (t.val + 1) ∗ (dat0 V hV c).owesAt () t.castSucc ∗ owns c (st0_0 t) fullShare ((dat0 V hV c).after 0 t) ∗ owns c (st0_1 t) fullShare ((dat0 V hV c).after 1 t) ∗ owns c (st0_2 t) fullShare ((dat0 V hV c).after 2 t) ∗ owns c (st0_3 t) fullShare ((dat0 V hV c).after 3 t) ∗ owns c (st0_4 t) fullShare ((dat0 V hV c).after 4 t) ∗ owns c (st0_5 t) fullShare ((dat0 V hV c).after 5 t) ∗ owns c (st0_6 t) fullShare ((dat0 V hV c).after 6 t) ∗ leave0 V hV c t)
  simp only [before0_0, before0_1, before0_2, before0_3, before0_4, before0_5, before0_6]
  rw [after0_0, after0_1, after0_2, after0_3, after0_4, after0_5, after0_6]
  exact step0_all V hV c t

end Cert.KernelIdealProof

end
-- ==== Proof.Region1.lean ====
/- The main kernel over its grid: the contents of each window at each step, and the body at each step against them. -/
module

public import proofs.«01_k».proof.Proof.Gen.KernelIdeal.Skeleton
public import proofs.«01_k».proof.Proof.Gen.KernelIdeal
public import Idealize.ShloMosaic.Lib.Tactic
public import proofs.«01_k».proof.Proof.Common
public import proofs.«01_k».proof.Proof.Words

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose)

variable {F : FTy → Type} [FloatOps F]

local notation "𝕄" => MT nD τ sig Unit (Elt F) ℕ (URounds (GSem nD τ sig) Unit) ℕ

/-! The main call's region: what each window's staging buffer holds at a point, and the body's run from there. -/

variable (V : Dev nD → Valuation τ sig (Elt F)) (hV : OkV V)

/-- Window `w`'s block of its array at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

include hV in
/-- Every segment's adapter that a step reads is in range. -/
theorem ada1 (c : Dev nD) (t : Fin cfg1.N) (M : Memref sig .tc .smem S9 .i32) (h : M.IsWhole) (r : Rect S9) (i) :
    k1_chk1 (M.view.readAt (Elt F) r.toLoadRect (h.unread (blk1 V c 2 t)) i) := by
  have e := congrFun (h.read_unread (Val := Elt F) (blk1 V c 2 t)) (r.idx i)
  refine (congrArg k1_chk1 e).mpr (k1_slot _ ?_)
  exact hV.ada c _

include hV in
/-- Every adapter's first row that a step reads is in range. -/
theorem sta1 (c : Dev nD) (t : Fin cfg1.N) (M : Memref sig .tc .smem S15 .i32) (h : M.IsWhole) (r : Rect S15) (i) :
    k1_chk2 (M.view.readAt (Elt F) r.toLoadRect (h.unread (blk1 V c 0 t)) i) := by
  have e := congrFun (h.read_unread (Val := Elt F) (blk1 V c 0 t)) (r.idx i)
  refine (congrArg k1_chk2 e).mpr (k1_rows _ ?_)
  exact hV.sta c _

/-- Each window's buffer is whole. -/
theorem whole1_0 (t : Fin cfg1.N) : (st1_0 t).IsWhole := hstage1_0 ((cfg1.slots t 0).cast nbuf1_0)
theorem whole1_1 (t : Fin cfg1.N) : (st1_1 t).IsWhole := hstage1_1 ((cfg1.slots t 1).cast nbuf1_1)
theorem whole1_2 (t : Fin cfg1.N) : (st1_2 t).IsWhole := hstage1_2 ((cfg1.slots t 2).cast nbuf1_2)
theorem whole1_3 (t : Fin cfg1.N) : (st1_3 t).IsWhole := hstage1_3 ((cfg1.slots t 3).cast nbuf1_3)
theorem whole1_4 (t : Fin cfg1.N) : (st1_4 t).IsWhole := hstage1_4 ((cfg1.slots t 4).cast nbuf1_4)
theorem whole1_5 (t : Fin cfg1.N) : (st1_5 t).IsWhole := hstage1_5 ((cfg1.slots t 5).cast nbuf1_5)
theorem whole1_6 (t : Fin cfg1.N) : (st1_6 t).IsWhole := hstage1_6 ((cfg1.slots t 6).cast nbuf1_6)
theorem whole1_7 (t : Fin cfg1.N) : (st1_7 t).IsWhole := hstage1_7 ((cfg1.slots t 7).cast nbuf1_7)
theorem whole1_8 (t : Fin cfg1.N) : (st1_8 t).IsWhole := hstage1_8 ((cfg1.slots t 8).cast nbuf1_8)

/-- The block the body leaves in the output's staging buffer. -/
def out1 (c : Dev nD) (t : Fin cfg1.N) : S768x256.Idx → Elt F .bf16 :=
  mainOut c (st1_0 t) (st1_2 t) (st1_7 t) (Memref.whole cc1_scratch1) ((whole1_0 t).unread (blk1 V c 0 t)) ((whole1_2 t).unread (blk1 V c 2 t))
    ((whole1_7 t).unread (blk1 V c 7 t)) (st1_1 t) (st1_3 t) (st1_4 t) (st1_5 t) (st1_6 t) (Memref.whole cc1_scratch0)
    ((whole1_1 t).unread (blk1 V c 1 t)) ((whole1_3 t).unread (blk1 V c 3 t)) ((whole1_4 t).unread (blk1 V c 4 t))
    ((whole1_5 t).unread (blk1 V c 5 t)) ((whole1_6 t).unread (blk1 V c 6 t))
    (ada1 V hV c t _ _) (sta1 V hV c t _ _)

/-- The region's data: the arrays at `V`, the inputs' blocks and the body's block, nothing owed. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => out1 V hV c t
  Φ _ := Pipeline.scopedRest (Ix := Unit) (Name := ℕ) (U := UR sig nD τ) (Lvl := ℕ) (Val := Elt F) spec1 c
  q _ := fullShare
  owed _ := 0

/-- The arrays the windows are cut from. -/
theorem dat1_A (c : Dev nD) (w) : (dat1 V hV c).A w = V c (Proc.devRef .tc (Pipeline.arrRef spec1 w)) := by dsimp only [dat1]
/-- An input window holds its block after each step, the output window the output block. -/
theorem after1_0 (c : Dev nD) (t : Fin cfg1.N) : (dat1 V hV c).after 0 t = blk1 V c 0 t := by dsimp only [dat1]
theorem after1_1 (c : Dev nD) (t : Fin cfg1.N) : (dat1 V hV c).after 1 t = blk1 V c 1 t := by dsimp only [dat1]
theorem after1_2 (c : Dev nD) (t : Fin cfg1.N) : (dat1 V hV c).after 2 t = blk1 V c 2 t := by dsimp only [dat1]
theorem after1_3 (c : Dev nD) (t : Fin cfg1.N) : (dat1 V hV c).after 3 t = blk1 V c 3 t := by dsimp only [dat1]
theorem after1_4 (c : Dev nD) (t : Fin cfg1.N) : (dat1 V hV c).after 4 t = blk1 V c 4 t := by dsimp only [dat1]
theorem after1_5 (c : Dev nD) (t : Fin cfg1.N) : (dat1 V hV c).after 5 t = blk1 V c 5 t := by dsimp only [dat1]
theorem after1_6 (c : Dev nD) (t : Fin cfg1.N) : (dat1 V hV c).after 6 t = blk1 V c 6 t := by dsimp only [dat1]
theorem after1_7 (c : Dev nD) (t : Fin cfg1.N) : (dat1 V hV c).after 7 t = blk1 V c 7 t := by dsimp only [dat1]
theorem after1_8 (c : Dev nD) (t : Fin cfg1.N) : (dat1 V hV c).after 8 t = out1 V hV c t := by dsimp only [dat1]

/-- An input window holds its block before each step. -/
theorem before1_0 (c : Dev nD) (t : Fin cfg1.N) (d : (cfg1.win 0).block.Idx → Elt F (cfg1.win 0).elt) : (dat1 V hV c).before 0 t d = blk1 V c 0 t :=
  ((dat1 V hV c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d : (cfg1.win 1).block.Idx → Elt F (cfg1.win 1).elt) : (dat1 V hV c).before 1 t d = blk1 V c 1 t :=
  ((dat1 V hV c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d : (cfg1.win 2).block.Idx → Elt F (cfg1.win 2).elt) : (dat1 V hV c).before 2 t d = blk1 V c 2 t :=
  ((dat1 V hV c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem before1_3 (c : Dev nD) (t : Fin cfg1.N) (d : (cfg1.win 3).block.Idx → Elt F (cfg1.win 3).elt) : (dat1 V hV c).before 3 t d = blk1 V c 3 t :=
  ((dat1 V hV c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem before1_4 (c : Dev nD) (t : Fin cfg1.N) (d : (cfg1.win 4).block.Idx → Elt F (cfg1.win 4).elt) : (dat1 V hV c).before 4 t d = blk1 V c 4 t :=
  ((dat1 V hV c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)
theorem before1_5 (c : Dev nD) (t : Fin cfg1.N) (d : (cfg1.win 5).block.Idx → Elt F (cfg1.win 5).elt) : (dat1 V hV c).before 5 t d = blk1 V c 5 t :=
  ((dat1 V hV c).before_in_eq_fetched 5 rfl (fun _ => rfl) (fun _ _ _ => rfl) (fun t => by rw [after1_5]; unfold Dat.blockOf blk1; rw [dat1_A]; try rfl) t d).trans
    (by unfold Dat.fetched Dat.blockOf blk1; rw [dat1_A]; try rfl)
theorem before1_6 (c : Dev nD) (t : Fin cfg1.N) (d : (cfg1.win 6).block.Idx → Elt F (cfg1.win 6).elt) : (dat1 V hV c).before 6 t d = blk1 V c 6 t :=
  ((dat1 V hV c).before_in_eq_fetched 6 rfl (fun _ => rfl) (fun _ _ _ => rfl) (fun t => by rw [after1_6]; unfold Dat.blockOf blk1; rw [dat1_A]; try rfl) t d).trans
    (by unfold Dat.fetched Dat.blockOf blk1; rw [dat1_A]; try rfl)
theorem before1_7 (c : Dev nD) (t : Fin cfg1.N) (d : (cfg1.win 7).block.Idx → Elt F (cfg1.win 7).elt) : (dat1 V hV c).before 7 t d = blk1 V c 7 t :=
  ((dat1 V hV c).before_in_eq_fetched 7 rfl (fun _ => rfl) (fun _ _ _ => rfl) (fun t => by rw [after1_7]; unfold Dat.blockOf blk1; rw [dat1_A]; try rfl) t d).trans
    (by unfold Dat.fetched Dat.blockOf blk1; rw [dat1_A]; try rfl)

/-- The body's run at point `t`; -/
def run1 (c : Dev nD) (t : Fin cfg1.N) (f11 : Bf (F := F) c (Memref.whole cc1_scratch1)) :=
  mainRun c (grid1.coords t) (st1_0 t) (whole1_0 t) (st1_1 t) (whole1_1 t) (st1_2 t) (whole1_2 t) (st1_3 t) (whole1_3 t) (st1_4 t) (whole1_4 t) (st1_5 t) (whole1_5 t) (st1_6 t) (whole1_6 t) (st1_7 t) (whole1_7 t) (st1_8 t) (whole1_8 t) (Memref.whole cc1_scratch0) (Memref.isWhole_whole _) (Memref.whole cc1_scratch1) (Memref.isWhole_whole _)
    ((whole1_0 t).unread (blk1 V c 0 t)) ((whole1_1 t).unread (blk1 V c 1 t)) ((whole1_2 t).unread (blk1 V c 2 t)) ((whole1_3 t).unread (blk1 V c 3 t)) ((whole1_4 t).unread (blk1 V c 4 t)) ((whole1_5 t).unread (blk1 V c 5 t)) ((whole1_6 t).unread (blk1 V c 6 t)) ((whole1_7 t).unread (blk1 V c 7 t)) f11 (ada1 V hV c t _ _) (sta1 V hV c t _ _)

/-- and what it leaves in the output's buffer. -/
theorem run1_read (c : Dev nD) (t : Fin cfg1.N) (f11 : Bf (F := F) c (Memref.whole cc1_scratch1)) :
    (st1_8 t).view.read (Elt F) (run1 V hV c t f11).1 = out1 V hV c t :=
  mainRun_read c (st1_0 t) (st1_2 t) (st1_7 t) (Memref.whole cc1_scratch1) ((whole1_0 t).unread (blk1 V c 0 t)) ((whole1_2 t).unread (blk1 V c 2 t))
    ((whole1_7 t).unread (blk1 V c 7 t)) (st1_1 t) (st1_3 t) (st1_4 t) (st1_5 t) (st1_6 t) (st1_8 t) (Memref.whole cc1_scratch0) (whole1_0 t) (whole1_1 t) (whole1_2 t) (whole1_3 t) (whole1_4 t) (whole1_5 t) (whole1_6 t) (whole1_7 t) (whole1_8 t) (Memref.isWhole_whole _) (Memref.isWhole_whole _)
    ((whole1_1 t).unread (blk1 V c 1 t)) ((whole1_3 t).unread (blk1 V c 3 t)) ((whole1_4 t).unread (blk1 V c 4 t)) ((whole1_5 t).unread (blk1 V c 5 t)) ((whole1_6 t).unread (blk1 V c 6 t))
    (ada1 V hV c t _ _) (sta1 V hV c t _ _) (grid1.coords t) f11

/-- What a step stores closes to the output block. -/
theorem run1_close (c : Dev nD) (t : Fin cfg1.N) (f11 : Bf (F := F) c (Memref.whole cc1_scratch1)) :
    pt c (st1_8 t) (run1 V hV c t f11).1 ⊢ (owns c (st1_8 t) fullShare (out1 V hV c t) : sProp 𝕄) :=
  Cert.KProof.owns_close (whole1_8 t) fullShare (out1 V hV c t) (run1 V hV c t f11).1 (run1_read V hV c t f11)

set_option maxHeartbeats 4000000 in
/-- The body's obligation over the grid. -/
theorem body1 (c : Dev nD) : BodyObligation (dat1 V hV c) (defs₀ (F := F)) Variants.none () Set.univ := fun t => by
  rw [bigSep_W1, bigSep_W1]
  show iprop((dat1 V hV c).Φ t.castSucc ∗ (dat1 V hV c).owesAt () t.castSucc ∗ (∃ d, owns c (st1_0 t) fullShare ((dat1 V hV c).before 0 t d)) ∗ (∃ d, owns c (st1_1 t) fullShare ((dat1 V hV c).before 1 t d)) ∗ (∃ d, owns c (st1_2 t) fullShare ((dat1 V hV c).before 2 t d)) ∗ (∃ d, owns c (st1_3 t) fullShare ((dat1 V hV c).before 3 t d)) ∗ (∃ d, owns c (st1_4 t) fullShare ((dat1 V hV c).before 4 t d)) ∗ (∃ d, owns c (st1_5 t) fullShare ((dat1 V hV c).before 5 t d)) ∗ (∃ d, owns c (st1_6 t) fullShare ((dat1 V hV c).before 6 t d)) ∗ (∃ d, owns c (st1_7 t) fullShare ((dat1 V hV c).before 7 t d)) ∗ (∃ d, owns c (st1_8 t) fullShare ((dat1 V hV c).before 8 t d))) ⊢
    wp frame (wpE (defs₀ (F := F)) Variants.none c none) Set.univ (bodyAt1 t) fun _ => iprop((dat1 V hV c).Φ t.succ ∗ (dat1 V hV c).owesAt () t.succ ∗ owns c (st1_0 t) fullShare ((dat1 V hV c).after 0 t) ∗ owns c (st1_1 t) fullShare ((dat1 V hV c).after 1 t) ∗ owns c (st1_2 t) fullShare ((dat1 V hV c).after 2 t) ∗ owns c (st1_3 t) fullShare ((dat1 V hV c).after 3 t) ∗ owns c (st1_4 t) fullShare ((dat1 V hV c).after 4 t) ∗ owns c (st1_5 t) fullShare ((dat1 V hV c).after 5 t) ∗ owns c (st1_6 t) fullShare ((dat1 V hV c).after 6 t) ∗ owns c (st1_7 t) fullShare ((dat1 V hV c).after 7 t) ∗ owns c (st1_8 t) fullShare ((dat1 V hV c).after 8 t))
  simp only [before1_0]
  simp only [before1_1]
  simp only [before1_2]
  simp only [before1_3]
  simp only [before1_4]
  simp only [before1_5]
  simp only [before1_6]
  simp only [before1_7]
  rw [after1_0, after1_1, after1_2, after1_3, after1_4, after1_5, after1_6, after1_7, after1_8]
  rw [show (dat1 V hV c).owesAt () t.succ = (dat1 V hV c).owesAt () t.castSucc from rfl]
  rw [show (dat1 V hV c).Φ t.castSucc = Pipeline.scopedRest spec1 c from rfl, show (dat1 V hV c).Φ t.succ = Pipeline.scopedRest spec1 c from rfl,
    scopedRest1_eq]
  iintro ⟨⟨R0, R1, R2, R3, R4, R5, R6, R7, ⟨%f10, S10⟩, ⟨%f11, S11⟩, R10, R11, R12, R13, R14⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := Cert.KProof.owns_open (whole1_0 t) _ _ $$ H0
  ihave H1 := Cert.KProof.owns_open (whole1_1 t) _ _ $$ H1
  ihave H2 := Cert.KProof.owns_open (whole1_2 t) _ _ $$ H2
  ihave H3 := Cert.KProof.owns_open (whole1_3 t) _ _ $$ H3
  ihave H4 := Cert.KProof.owns_open (whole1_4 t) _ _ $$ H4
  ihave H5 := Cert.KProof.owns_open (whole1_5 t) _ _ $$ H5
  ihave H6 := Cert.KProof.owns_open (whole1_6 t) _ _ $$ H6
  ihave H7 := Cert.KProof.owns_open (whole1_7 t) _ _ $$ H7
  ihave H8 := Cert.KProof.owns_open (whole1_8 t) _ _ $$ H8
  iapply (run1 V hV c t f11).2 ((whole1_8 t).unread _) f10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S10]; · iexact S10
  isplitl [S11]; · iexact S11
  iintro ⟨H0, H1, H2, H3, H4, H5, H6, H7, H8, S10, S11⟩
  isplitl [R0 R1 R2 R3 R4 R5 R6 R7 S10 S11 R10 R11 R12 R13 R14]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [S10]; · iexact S10
    isplitl [S11]; · iexact S11
    isplitl [R10]; · iexact R10
    isplitl [R11]; · iexact R11
    isplitl [R12]; · iexact R12
    isplitl [R13]; · iexact R13
    iexact R14
  isplitl [HO]; · iexact HO
  isplitl [H0]
  · iapply (Cert.KProof.owns_close (whole1_0 t) fullShare (blk1 V c 0 t) _ ((whole1_0 t).read_unread _)); iexact H0
  isplitl [H1]
  · iapply (Cert.KProof.owns_close (whole1_1 t) fullShare (blk1 V c 1 t) _ ((whole1_1 t).read_unread _)); iexact H1
  isplitl [H2]
  · iapply (Cert.KProof.owns_close (whole1_2 t) fullShare (blk1 V c 2 t) _ ((whole1_2 t).read_unread _)); iexact H2
  isplitl [H3]
  · iapply (Cert.KProof.owns_close (whole1_3 t) fullShare (blk1 V c 3 t) _ ((whole1_3 t).read_unread _)); iexact H3
  isplitl [H4]
  · iapply (Cert.KProof.owns_close (whole1_4 t) fullShare (blk1 V c 4 t) _ ((whole1_4 t).read_unread _)); iexact H4
  isplitl [H5]
  · iapply (Cert.KProof.owns_close (whole1_5 t) fullShare (blk1 V c 5 t) _ ((whole1_5 t).read_unread _)); iexact H5
  isplitl [H6]
  · iapply (Cert.KProof.owns_close (whole1_6 t) fullShare (blk1 V c 6 t) _ ((whole1_6 t).read_unread _)); iexact H6
  isplitl [H7]
  · iapply (Cert.KProof.owns_close (whole1_7 t) fullShare (blk1 V c 7 t) _ ((whole1_7 t).read_unread _)); iexact H7
  iapply (run1_close V hV c t f11)
  iexact H8

end Cert.KernelIdealProof

end
-- ==== Proof.Run.lean ====
/- The whole program: host operations and the two calls in order, and the memory it ends in. -/
module

public import proofs.«01_k».proof.Proof.Gen.KernelIdeal.Skeleton
public import proofs.«01_k».proof.Proof.Gen.KernelIdeal
public import Idealize.ShloMosaic.Lib.Tactic
public import proofs.«01_k».proof.Proof.Common
public import proofs.«01_k».proof.Proof.Region0
public import proofs.«01_k».proof.Proof.Region1
public import proofs.«01_k».proof.Proof.Gen.KernelIdeal.Regions
public import Idealize.ShloMosaic.Lib.Pipeline.RegionArraysS

@[expose] public section

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window Seg HostSeg RegionSeg BodyObligation BodyObligationLoose)

variable {F : FTy → Type} [FloatOps F]

local notation "𝕄" => MT nD τ sig Unit (Elt F) ℕ (URounds (GSem nD τ sig) Unit) ℕ

/-! The whole program's run: from a memory with the words in range, every weakly fair execution ends, and every
buffer then holds what the two regions' data say. -/

variable (m : (ℓ : Loc nD τ sig) → Buf (Elt F) ℓ) (hV : OkV (V0 m))

include hV in
/-- The words are still in bounds after the first host operations; -/
theorem ok1 : OkV (V1 m) where
  ada c j := by rw [V1_of m c main_arg9 (by decide)]; exact hV.ada c j
  sta c j := by rw [V1_of m c main_arg5 (by decide)]; exact hV.sta c j

/-- The buffers after the shrink call, as its region leaves them; -/
def W2 (c : Dev nD) : Valuation τ sig (Elt F) := Pipeline.afterRegion (dat0 (V1 m) (ok1 m hV) c) (V1 m c)
/-- as the main call finds them; -/
def U2 (c : Dev nD) : Valuation τ sig (Elt F) := Function.update (V1 m c) main_v1 (W2 m hV c main_v1)

/-- The first call changes its result alone; -/
theorem U2_of (c : Dev nD) (r : Ref sig .tc) (h : r ∉ ([main_v1] : List (Ref sig .tc))) : U2 m hV c r = V1 m c r := by
  simp only [U2, Function.update_of_ne (StableHlo.devRef_ne_of_ne (List.ne_of_not_mem_cons h) : (Proc.devRef .tc r : DevRef τ sig) ≠ Proc.devRef .tc main_v1)]

/-- so the words are still in bounds after it. -/
theorem ok2 : OkV (U2 m hV) where
  ada c j := by rw [U2_of m hV c main_arg9 (by decide)]; exact (ok1 m hV).ada c j
  sta c j := by rw [U2_of m hV c main_arg5 (by decide)]; exact (ok1 m hV).sta c j

/-- and after it. -/
def W3 (c : Dev nD) : Valuation τ sig (Elt F) := Pipeline.afterRegion (dat1 (U2 m hV) (ok2 m hV) c) (U2 m hV c)

/-- What the regions leave. -/
def outs : Outs (F := F) := fun J r c => match J with | 2 => W2 m hV c r | _ => W3 m hV c r

/-- The two ways of writing the memory after the first call agree. -/
theorem V2_eq (c : Dev nD) : V2 m (outs m hV) c = U2 m hV c := rfl

/-- The two regions' data. -/
def pd : (p : Fin 2) → (c : Dev nD) → Dat τ (Elt F) Unit ℕ (URounds (GSem nD τ sig) Unit) ℕ (cfgs p) c
  | 0 => fun c => dat0 (V1 m) (ok1 m hV) c
  | 1 => fun c => dat1 (U2 m hV) (ok2 m hV) c
  | ⟨_ + 2, h⟩ => absurd h (Nat.not_lt.2 (Nat.le_add_left _ _))

/-- Every cell of a core waits at level zero. -/
def lvL (g : GSem nD τ sig) : Finset Unit := if g.1.2 = .tc then {()} else ∅
/-- One level for all semaphores. -/
def lv0 (_ : GSem nD τ sig) (_ : Unit) : ℕ := 0

/-- What a core owns beside the buffers between two items: nothing owed. -/
def rest (_ : Fin 3) (c : Dev nD) : sProp 𝕄 :=
  iprop((∃ W, owes (c : Thread nD τ) ((0 : Dev nD → CellTallies nD τ sig Unit) c) W) ∗ emp ∗ emp)

/-- No call waits on a semaphore of the other. -/
theorem cut (p : Fin 2) : Pipeline.LevelCut (pcfgs (F := F)) adm () lvL lv0 p (0 : Dev nD → CellTallies nD τ sig Unit) (fun _ => 0) where
  hι _ _ _ := by unfold lvL; rw [if_pos rfl]; exact Finset.mem_singleton_self _
  hιb _ _ _ := Nat.le_refl 0
  hD _ _ _ h := absurd h (Nat.lt_irrefl 0)

/-- The first call's scratch enters its invariant, -/
theorem inv_in (c : Dev nD) : iprop(Pipeline.scopedRest (Ix := Unit) (Name := ℕ) (U := UR sig nD τ) (Lvl := ℕ) (Val := Elt F) spec0 c ∗ emp)
    ⊢ inv0 (V1 m) (ok1 m hV) c 0 := by
  rw [scopedRest0_eq]
  unfold inv0 rest0
  iintro ⟨⟨S0, ⟨%f, S1⟩, S2, R⟩, -⟩
  isplitl [S0]; · iexact S0
  isplitl [S1]
  · iexists f
    isplitr
    · ipureintro; exact fun h => absurd rfl h
    · iexact S1
  isplitl [S2]; · iexact S2
  iexact R

/-- and leaves it. -/
theorem inv_out (c : Dev nD) (n : ℕ) : inv0 (V1 m) (ok1 m hV) c n
    ⊢ iprop(Pipeline.scopedRest (Ix := Unit) (Name := ℕ) (U := UR sig nD τ) (Lvl := ℕ) (Val := Elt F) spec0 c ∗ emp) := by
  rw [scopedRest0_eq]
  unfold inv0 rest0
  iintro ⟨S0, ⟨%f, -, S1⟩, S2, R⟩
  isplitl
  · isplitl [S0]; · iexact S0
    isplitl [S1]; · iexists f; iexact S1
    isplitl [S2]; · iexact S2
    iexact R
  iempintro

/-- The second call's scratch enters its region, -/
theorem scr_in (c : Dev nD) : iprop(Pipeline.scopedRest (Ix := Unit) (Name := ℕ) (U := UR sig nD τ) (Lvl := ℕ) (Val := Elt F) spec1 c ∗ emp)
    ⊢ (Pipeline.scopedRest (Ix := Unit) (Name := ℕ) (U := UR sig nD τ) (Lvl := ℕ) (Val := Elt F) spec1 c : sProp 𝕄) := by
  iintro ⟨H, -⟩
  iexact H

/-- and leaves it. -/
theorem scr_out (c : Dev nD) : (Pipeline.scopedRest (Ix := Unit) (Name := ℕ) (U := UR sig nD τ) (Lvl := ℕ) (Val := Elt F) spec1 c : sProp 𝕄)
    ⊢ iprop(Pipeline.scopedRest (Ix := Unit) (Name := ℕ) (U := UR sig nD τ) (Lvl := ℕ) (Val := Elt F) spec1 c ∗ emp) := by
  iintro H
  isplitl [H]
  · iexact H
  · iempintro

/-- The shrink call's region; -/
def reg0 : RegionSeg (pcfgs (F := F)) adm (pd m hV) () defs₀ Variants.none lvL lv0 0 :=
  RegionSeg.ofHeldIn (pcfgs (F := F)) adm (pd m hV) () defs₀ Variants.none lvL lv0 0 (0 : Dev nD → CellTallies nD τ sig Unit) (Pipeline.ucRefs τ sig)
    (fun _ => iprop(emp)) (fun _ => iprop(emp)) launch0.toP rfl (fun c => (body0 (V1 m) (ok1 m hV) c).loose) (fun _ _ => rfl) (fun _ => rfl)
    (fun c => (dat0 (V1 m) (ok1 m hV) c).share_full fun _ => rfl) (fun c => inv_in m hV c) (fun c => inv_out m hV c _) (fun _ => 0) (cut 0)
    (fun _ => iprop(emp)) (V1 m) (fun _ _ => rfl)

/-- the main call's. -/
def reg1 : RegionSeg (pcfgs (F := F)) adm (pd m hV) () defs₀ Variants.none lvL lv0 1 :=
  RegionSeg.ofHeldIn (pcfgs (F := F)) adm (pd m hV) () defs₀ Variants.none lvL lv0 1 (0 : Dev nD → CellTallies nD τ sig Unit) (Pipeline.ucRefs τ sig)
    (fun _ => iprop(emp)) (fun _ => iprop(emp)) launch1.toP rfl (fun c => (body1 (U2 m hV) (ok2 m hV) c).loose) (fun _ _ => rfl) (fun _ => rfl)
    (fun c => (dat1 (U2 m hV) (ok2 m hV) c).share_full fun _ => rfl) (fun c => scr_in c) (fun c => scr_out c) (fun _ => 0) (cut 1)
    (fun _ => iprop(emp)) (U2 m hV) (fun _ _ => rfl)

/-- The calls' arrays are among the program's. -/
theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)

/-- Each call's only output is its result. -/
theorem arrRef0_out : ∀ w : Fin 8, Pipeline.arrRef spec0 w ≠ main_v1 → (cfg0.win w).isOut = false := by decide
theorem arrRef1_out : ∀ w : Fin 9, Pipeline.arrRef spec1 w ≠ main_v2 → (cfg1.win w).isOut = false := by decide

/-- The memory after the first call, as the region gives it, is the one stated. -/
theorem W2_eq (c : Dev nD) (b : DevRef τ sig) (hb : b ∈ Pipeline.ucRefs τ sig) : W2 m hV c b = U2 m hV c b := by
  obtain ⟨r, -, rfl⟩ := Finset.mem_map.mp (Finset.mem_filter.mp hb).1
  by_cases h : r = main_v1
  · subst h
    exact (Function.update_self (f := V1 m c) _ _).symm
  · refine Eq.trans ?_ (U2_of m hV c r (by simpa using h)).symm
    exact Pipeline.afterRegion_keeps (dat0 (V1 m) (ok1 m hV) c) (V1 m c) launch0.win.arr_inj (fun w => dat0_A ..) r
      (fun w e => arrRef0_out w (e ▸ h))

/-- The memory after the second call, as the region gives it, is the one stated. -/
theorem W3_eq (c : Dev nD) (b : DevRef τ sig) (hb : b ∈ Pipeline.ucRefs τ sig) : W3 m hV c b = V3 m (outs m hV) c b := by
  obtain ⟨r, -, rfl⟩ := Finset.mem_map.mp (Finset.mem_filter.mp hb).1
  by_cases h : r = main_v2
  · subst h
    exact (Function.update_self (f := V2 m (outs m hV) c) _ _).symm
  · refine Eq.trans ?_ (V3_of m (outs m hV) c r (by simpa using h)).symm
    exact Pipeline.afterRegion_keeps (dat1 (U2 m hV) (ok2 m hV) c) (U2 m hV c) launch1.win.arr_inj (fun w => dat1_A ..) r
      (fun w e => arrRef1_out w (e ▸ h))

/-- What is held before the first call is the call's precondition, -/
theorem pre0 (c : Dev nD) : iprop(StableHlo.held (c : Thread nD τ) (Pipeline.ucRefs τ sig) (V1 m c) ∗ rest 0 c) ⊢ (reg0 m hV).pre c := by
  unfold rest reg0
  exact RegionSeg.ofHeldIn_pre (pcs := pcfgs (F := F)) (a := adm) (pdats := pd m hV) (ι := ()) (defs₀ := defs₀) (𝒱₀ := Variants.none) (L := lvL) (lv := lv0) (p := 0) (D := (0 : Dev nD → CellTallies nD τ sig Unit)) (S := Pipeline.ucRefs τ sig) (X := fun _ => iprop(emp)) (Y := fun _ => iprop(emp)) (R := fun _ => iprop(emp)) (W := V1 m) arrs0 c

/-- and its postcondition is what is held after it; -/
theorem post0 (c : Dev nD) : (reg0 m hV).post c ⊢ iprop(StableHlo.held (c : Thread nD τ) (Pipeline.ucRefs τ sig) (V2 m (outs m hV) c) ∗ rest 1 c) := by
  unfold rest
  have h : (reg0 m hV).post c ⊢ iprop(StableHlo.held (c : Thread nD τ) (Pipeline.ucRefs τ sig) (W2 m hV c)
      ∗ ((∃ W, owes (c : Thread nD τ) ((0 : Dev nD → CellTallies nD τ sig Unit) c) W) ∗ emp ∗ emp)) := by
    unfold reg0 W2
    exact RegionSeg.ofHeldIn_post (pcs := pcfgs (F := F)) (a := adm) (pdats := pd m hV) (ι := ()) (defs₀ := defs₀) (𝒱₀ := Variants.none) (L := lvL) (lv := lv0) (p := 0) (D := (0 : Dev nD → CellTallies nD τ sig Unit)) (S := Pipeline.ucRefs τ sig) (X := fun _ => iprop(emp)) (Y := fun _ => iprop(emp)) (R := fun _ => iprop(emp)) (W := V1 m) arrs0 c
  rw [← StableHlo.held_congr (c : Thread nD τ) (V := W2 m hV c) (V' := V2 m (outs m hV) c) (fun b hb => W2_eq m hV c b hb)]
  exact h

/-- so for the second call, before -/
theorem pre1 (c : Dev nD) : iprop(StableHlo.held (c : Thread nD τ) (Pipeline.ucRefs τ sig) (V2 m (outs m hV) c) ∗ rest 1 c) ⊢ (reg1 m hV).pre c := by
  unfold rest reg1
  exact RegionSeg.ofHeldIn_pre (pcs := pcfgs (F := F)) (a := adm) (pdats := pd m hV) (ι := ()) (defs₀ := defs₀) (𝒱₀ := Variants.none) (L := lvL) (lv := lv0) (p := 1) (D := (0 : Dev nD → CellTallies nD τ sig Unit)) (S := Pipeline.ucRefs τ sig) (X := fun _ => iprop(emp)) (Y := fun _ => iprop(emp)) (R := fun _ => iprop(emp)) (W := U2 m hV) arrs1 c

/-- and after. -/
theorem post1 (c : Dev nD) : (reg1 m hV).post c ⊢ iprop(StableHlo.held (c : Thread nD τ) (Pipeline.ucRefs τ sig) (V3 m (outs m hV) c) ∗ rest 2 c) := by
  unfold rest
  have h : (reg1 m hV).post c ⊢ iprop(StableHlo.held (c : Thread nD τ) (Pipeline.ucRefs τ sig) (W3 m hV c)
      ∗ ((∃ W, owes (c : Thread nD τ) ((0 : Dev nD → CellTallies nD τ sig Unit) c) W) ∗ emp ∗ emp)) := by
    unfold reg1 W3
    exact RegionSeg.ofHeldIn_post (pcs := pcfgs (F := F)) (a := adm) (pdats := pd m hV) (ι := ()) (defs₀ := defs₀) (𝒱₀ := Variants.none) (L := lvL) (lv := lv0) (p := 1) (D := (0 : Dev nD → CellTallies nD τ sig Unit)) (S := Pipeline.ucRefs τ sig) (X := fun _ => iprop(emp)) (Y := fun _ => iprop(emp)) (R := fun _ => iprop(emp)) (W := U2 m hV) arrs1 c
  rw [← StableHlo.held_congr (c : Thread nD τ) (V := W3 m hV c) (V' := V3 m (outs m hV) c) (fun b hb => W3_eq m hV c b hb)]
  exact h

/-- The ghost state the calls start from. -/
theorem launch_ghost : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
      ∗ bigSep Finset.univ (fun _ : Dev nD => (BI.emp : sProp 𝕄))) := by
  iintro Hu; imodintro; isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const]); iempintro

/-- What is held beside the arrays at the start, -/
theorem rest_start (ρ : Dev nD → PrngReg) :
    iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ emp)) ∗ levAts lvL lv0)
      ⊢ (|={Set.univ}=> bigSep Finset.univ (rest 0) : sProp 𝕄) :=
  Pipeline.initEach lvL lv0 fun c => by
    unfold rest
    iintro ⟨⟨-, HO, -, -, -⟩, -⟩
    imodintro
    isplitl [HO]; · iexists ∅; iexact HO
    isplitl <;> iempintro

/-- and at the end. -/
theorem rest_end (c : Dev nD) : rest 2 c ⊢ (iprop(∃ W, owes (c : Thread nD τ) (0 : CellTallies nD τ sig Unit) W) : sProp 𝕄) := by
  unfold rest
  iintro ⟨H, -, -⟩
  iexact H

set_option backward.isDefEq.respectTransparency.types false in
/-- The program runs from any memory whose words are in bounds, to the memory stated, with every semaphore at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V4 m (outs m hV) c b) ∧ r.2.sem = fun _ => 0) := by
  refine Pipeline.θ_run_regions_kit_dev_sems (pcfgs (F := F)) adm (pd m hV) () cellOf_inj emb₁ defs₀ Variants.none lvL lv0 m ρ main
    (segs m (outs m hV) Variants.none lvL lv0 rest () (pd m hV) (reg0 m hV) (reg1 m hV))
    (fun c Q => by
      rewrite [main_chain c, Seg.run_eq_chain,
        show (segs m (outs m hV) Variants.none lvL lv0 rest () (pd m hV) (reg0 m hV) (reg1 m hV) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun g hg => if_neg hg) (fun _ => iprop(emp)) (initOf (Pipeline.cells cfgs cellOf_inj) (Pipeline.launchToks cfgs cellOf_inj)) launch_ghost
    (T₀ := fun c => iprop(StableHlo.held (c : Thread nD τ) (Pipeline.ucRefs τ sig) (V0 m c) ∗ rest 0 c))
    (Tₙ := fun c => StableHlo.held (c : Thread nD τ) (Pipeline.ucRefs τ sig) (V4 m (outs m hV) c))
    (hch := fun c => ⟨.rfl, pre0 m hV c, (post0 m hV c).trans (pre1 m hV c), post1 m hV c, sep_mono .rfl (rest_end c)⟩)
    (hinit := ?_) (QY := fun c s => ∀ b ∈ Pipeline.ucRefs τ sig, s.mem ((c : Thread nD τ).1, b) = V4 m (outs m hV) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
            : sProp (MT nD τ sig Unit (Elt F) ℕ (URounds (GSem nD τ sig) Unit) ℕ)) := by
      rw [← bigSep_sep']
      exact bigSep_mono fun c _ => by rw [← Pipeline.unscopedBufs_held (Ix := Unit) (Name := ℕ) (U := URounds (GSem nD τ sig) Unit) (Lvl := ℕ) c (V0 m c)]; exact BI.Entails.refl _
    iintro ⟨H, Hla⟩
    ihave H' := hsplit $$ H
    icases H' with ⟨Hh, Hr⟩
    imod (rest_start ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m hV) c) s') $$ [Hh HSI]
    · isplitl [Hh] <;> iassumption
    icases Hr with ⟨%h, HSI⟩
    imodintro
    isplitr
    · ipureintro
      exact h
    · iexact HSI

end Cert.KernelIdealProof

end
-- ==== Proof.InRange.lean ====
/- What the two preconditions say of the integer arrays, read off their printed predicates: the adapters' first rows, the
   segments' adapters, and (the second only) the segments' boundaries. -/
module

public import proofs.«01_k».proof.Proof.Gen.Pre_in_bounds
public import proofs.«01_k».proof.Proof.Gen.Pre_in_range
public import Idealize.ShloMosaic.Lib.ReduceAll
public import Idealize.ShloMosaic.Lib.Affine

@[expose] public section

noncomputable section

namespace Cert.KProof

open Idealize.ShloMosaic Cert.Pre_in_range

/-- Boundary `k` of the segments, as an index. -/
def bd (k : Fin 10) : S10.Idx := fun a => match a with | 0 => k

/-- The precondition `in_bounds`, as facts about the words. -/
structure InBounds (starts : IVec S15 32) (seg : IVec S9 32) : Prop where
  start : ∀ j, (starts j).toNat ≤ 2071
  adapter : ∀ j, (seg j).toNat < 15

/-- The precondition `in_range`, as facts about the words. -/
structure InRange (starts : IVec S15 32) (offs : IVec S10 32) (seg : IVec S9 32) : Prop where
  start : ∀ j, (starts j).toNat ≤ 2071
  adapter : ∀ j, (seg j).toNat < 15
  first : (offs (bd 0)).toInt ≤ 0
  last : 768 ≤ (offs (bd 9)).toInt
  mono : ∀ s : Fin 9, (offs (bd s.castSucc)).toInt ≤ (offs (bd s.succ)).toInt

/-- A word that is from 0 to `n` as a signed number is at most `n` as an unsigned one. -/
theorem word_le (w : BitVec 32) (n : ℕ) (hn : n < 2147483648) (h0 : 0 ≤ w.toInt) (h1 : w.toInt ≤ n) : w.toNat ≤ n := by
  rw [BitVec.toInt_eq_toNat_cond] at h0 h1
  have := w.isLt
  split at h0 <;> split at h1 <;> omega

instance : Subsingleton S_.Idx := ⟨fun a b => funext fun i => i.elim0⟩

/-- Where the printed predicate `in_bounds` is true, its facts hold. -/
theorem inBounds_of_fn {F : FTy → Type} [FloatOps F] {a0 a1 a2 a3 a4 a5 a6 a7 a8 a9}
    (h : Cert.Pre_in_bounds.fn (F := F) a0 a1 a2 a3 a4 a5 a6 a7 a8 a9 = (fun _ => 1#1)) : InBounds a5 a9 := by
  have e := congrFun h (fun a => a.elim0)
  simp only [Cert.Pre_in_bounds.fn, andi, cmpi, broadcastInDim, constantI] at e
  rw [IntOp.andi_eq_one] at e
  obtain ⟨e5, e11⟩ := e
  refine ⟨fun j => ?_, fun j => ?_⟩
  · obtain ⟨h0, h1⟩ := IntOp.andi_eq_one.1 (Host.reduce_andi_all _ _ _ _ _ e5 j)
    exact word_le _ 2071 (by decide) (IntOp.cmpi_sge.1 h0) (IntOp.cmpi_sle.1 h1)
  · obtain ⟨h0, h1⟩ := IntOp.andi_eq_one.1 (Host.reduce_andi_all _ _ _ _ _ e11 j)
    have h2 := IntOp.cmpi_slt.1 h1
    exact Nat.lt_succ_of_le (word_le _ 14 (by decide) (IntOp.cmpi_sge.1 h0) (Int.le_of_lt_add_one h2))

/-- Where the printed predicate `in_range` is true, its facts hold. -/
theorem inRange_of_fn {F : FTy → Type} [FloatOps F] {a0 a1 a2 a3 a4 a5 a6 a7 a8 a9}
    (h : Cert.Pre_in_range.fn (F := F) a0 a1 a2 a3 a4 a5 a6 a7 a8 a9 = (fun _ => 1#1)) : InRange a5 a8 a9 := by
  have e := congrFun h (fun a => a.elim0)
  simp only [Cert.Pre_in_range.fn, fn_part1, andi, cmpi, broadcastInDim, constantI] at e
  rw [IntOp.andi_eq_one, IntOp.andi_eq_one, IntOp.andi_eq_one, IntOp.andi_eq_one] at e
  obtain ⟨⟨⟨⟨e5, e11⟩, e15⟩, e19⟩, e24⟩ := e
  refine ⟨fun j => ?_, fun j => ?_, ?_, ?_, fun s => ?_⟩
  · obtain ⟨h0, h1⟩ := IntOp.andi_eq_one.1 (Host.reduce_andi_all _ _ _ _ _ e5 j)
    exact word_le _ 2071 (by decide) (IntOp.cmpi_sge.1 h0) (IntOp.cmpi_sle.1 h1)
  · obtain ⟨h0, h1⟩ := IntOp.andi_eq_one.1 (Host.reduce_andi_all _ _ _ _ _ e11 j)
    have h2 := IntOp.cmpi_slt.1 h1
    exact Nat.lt_succ_of_le (word_le _ 14 (by decide) (IntOp.cmpi_sge.1 h0) (Int.le_of_lt_add_one h2))
  · have h1 := IntOp.cmpi_sle.1 e15
    refine le_of_eq_of_le (congrArg (fun i => (a8 i).toInt) (funext fun a => ?_)) h1
    match a with
    | 0 => rfl
  · have h1 := IntOp.cmpi_sge.1 e19
    refine le_of_le_of_eq h1 (congrArg (fun i => (a8 i).toInt) (funext fun a => ?_))
    match a with
    | 0 => rfl
  · have h1 := IntOp.cmpi_sle.1 (Host.reduce_andi_all _ _ _ _ _ e24 (fun a => ⟨s.val, by match a with | 0 => exact s.isLt⟩))
    refine le_of_eq_of_le (congrArg (fun i => (a8 i).toInt) (funext fun a => ?_)) (le_of_le_of_eq h1 (congrArg (fun i => (a8 i).toInt) (funext fun a => ?_)))
    · match a with
      | 0 => exact Fin.ext (Nat.zero_add _).symm
    · match a with
      | 0 => exact Fin.ext (Nat.add_comm _ _)

end Cert.KProof

end
-- ==== Proof.Frame.lean ====
/- The frame of the idealised program: it runs, and its arguments end as they began. -/
module

public import proofs.«01_k».proof.Proof.Run
public import proofs.«01_k».proof.Proof.InRange
public import proofs.«01_k».proof.Defs
public import Idealize.ShloMosaic.Lib.Claim

@[expose] public section

noncomputable section

namespace Cert.KernelIdealProof

open Idealize.ShloMosaic Idealize.ShloMosaic.TcCoe Idealize.SL.Sem
open Cert.KernelIdeal Cert.KernelIdeal.Gen

/-- The precondition gives the bounds of the words the kernels read. -/
theorem okV_of_pre (m : (ℓ : Loc nD τ sig) → Buf (Elt Ideal) ℓ) (hpre : Cert.Pre_KernelIdeal m) : OkV (F := Ideal) (V0 m) :=
  ⟨fun c j => (Cert.KProof.inBounds_of_fn (hpre c)).adapter j, fun c j => (Cert.KProof.inBounds_of_fn (hpre c)).start j⟩

/-- The stronger precondition gives them too. -/
theorem okV_of_pre_in_range (m : (ℓ : Loc nD τ sig) → Buf (Elt Ideal) ℓ) (hpre : Cert.Pre_KernelIdeal_in_range m) :
    OkV (F := Ideal) (V0 m) :=
  ⟨fun c j => (Cert.KProof.inRange_of_fn (hpre c)).adapter j, fun c j => (Cert.KProof.inRange_of_fn (hpre c)).start j⟩

/-- The run from any memory whose words are within those bounds: it ends, no argument changes, no semaphore is left up. -/
theorem frame_of_ok (m : (ℓ : Loc nD τ sig) → Buf (Elt Ideal) ℓ) (g : Dev nD → PrngReg) (hV : OkV (F := Ideal) (V0 m)) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine θ_run_mono (run_all m hV g) fun r hr => ⟨fun c => ⟨
      by
        have h := (hr.1 c) _ (Finset.mem_filter.mpr ⟨StableHlo.devRef_mem_tcRefs main_arg0, by decide⟩)
        exact h.trans (V4_main_arg0 m (outs m hV) c),
      by
        have h := (hr.1 c) _ (Finset.mem_filter.mpr ⟨StableHlo.devRef_mem_tcRefs main_arg1, by decide⟩)
        exact h.trans (V4_main_arg1 m (outs m hV) c),
      by
        have h := (hr.1 c) _ (Finset.mem_filter.mpr ⟨StableHlo.devRef_mem_tcRefs main_arg2, by decide⟩)
        exact h.trans (V4_main_arg2 m (outs m hV) c),
      by
        have h := (hr.1 c) _ (Finset.mem_filter.mpr ⟨StableHlo.devRef_mem_tcRefs main_arg3, by decide⟩)
        exact h.trans (V4_main_arg3 m (outs m hV) c),
      by
        have h := (hr.1 c) _ (Finset.mem_filter.mpr ⟨StableHlo.devRef_mem_tcRefs main_arg4, by decide⟩)
        exact h.trans (V4_main_arg4 m (outs m hV) c),
      by
        have h := (hr.1 c) _ (Finset.mem_filter.mpr ⟨StableHlo.devRef_mem_tcRefs main_arg5, by decide⟩)
        exact h.trans (V4_main_arg5 m (outs m hV) c),
      by
        have h := (hr.1 c) _ (Finset.mem_filter.mpr ⟨StableHlo.devRef_mem_tcRefs main_arg6, by decide⟩)
        exact h.trans (V4_main_arg6 m (outs m hV) c),
      by
        have h := (hr.1 c) _ (Finset.mem_filter.mpr ⟨StableHlo.devRef_mem_tcRefs main_arg7, by decide⟩)
        exact h.trans (V4_main_arg7 m (outs m hV) c),
      by
        have h := (hr.1 c) _ (Finset.mem_filter.mpr ⟨StableHlo.devRef_mem_tcRefs main_arg8, by decide⟩)
        exact h.trans (V4_main_arg8 m (outs m hV) c),
      by
        have h := (hr.1 c) _ (Finset.mem_filter.mpr ⟨StableHlo.devRef_mem_tcRefs main_arg9, by decide⟩)
        exact h.trans (V4_main_arg9 m (outs m hV) c)⟩, hr.2⟩

/-- The frame, where the pools' and the adapters' indices are in bounds. -/
theorem frame : Cert.quiescent_KernelIdeal := fun m g hpre => frame_of_ok m g (okV_of_pre m hpre)

/-- The same frame under the value claim's precondition. -/
theorem frame_in_range : Cert.quiescent_KernelIdeal_pre_in_range := fun m g hpre =>
  frame_of_ok m g (okV_of_pre_in_range m hpre)

end Cert.KernelIdealProof

end
-- ==== Proof.BitsMainRun.lean ====
/- One grid step of the main kernel: its body runs, and the stores it makes. For the printed program. -/
module

public import proofs.«01_k».proof.Proof.Gen.Kernel.Skeleton
public import proofs.«01_k».proof.Proof.Gen.Kernel
public import Idealize.ShloMosaic.Lib.Tactic

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (URounds (GSem nD τ sig) Unit) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body runs from any contents of its buffers that hold indices in range; the fields name what it stores. -/
def mainRun (c : Dev nD) (i : grid1.Coords)
    (M1 : Memref sig .tc .smem S15 .i32) (h1 : M1.IsWhole) (M2 : Memref sig .tc .smem S10 .i32) (h2 : M2.IsWhole)
    (M3 : Memref sig .tc .smem S9 .i32) (h3 : M3.IsWhole) (M4 : Memref sig .tc .vmem S768x4096 .bf16) (h4 : M4.IsWhole)
    (M5 : Memref sig .tc .vmem S512x256 .i32) (h5 : M5.IsWhole) (M6 : Memref sig .tc .vmem S32x256 .bf16) (h6 : M6.IsWhole)
    (M7 : Memref sig .tc .vmem S768x128 .bf16) (h7 : M7.IsWhole) (M8 : Memref sig .tc .vmem S2200x256 .bf16) (h8 : M8.IsWhole)
    (M9 : Memref sig .tc .vmem S768x256 .bf16) (h9 : M9.IsWhole) (M10 : Memref sig .tc .vmem S1152x256 .bf16) (h10 : M10.IsWhole)
    (M11 : Memref sig .tc .vmem S72x128 .i32) (h11 : M11.IsWhole)
    (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8)
    (f11 : Bf (F := F) c M11)
    (hada : ∀ r : Rect S9, ∀ i, k1_chk1 (M3.view.readAt (Elt F) r.toLoadRect f3 i))
    (hsta : ∀ r : Rect S15, ∀ i, k1_chk2 (M1.view.readAt (Elt F) r.toLoadRect f1 i)) :
    { W : Bf (F := F) c M9 //
      ∀ (f9 : Bf (F := F) c M9) (f10 : Bf (F := F) c M10) (E : Set ℕ) (Q : PUnit → sProp 𝕄),
        iprop(pt c M1 f1 ∗ pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7
            ∗ pt c M8 f8 ∗ pt c M9 W ∗ (∃ f, pt c M10 f) ∗ (∃ f, pt c M11 f)) -∗ Q ⟨⟩))
        ⊢ wp frame (wpE (defs₀ (F := F)) Variants.none c none) E
            (cc1_main i M1 h1 M2 h2 M3 h3 M4 h4 M5 h5 M6 h6 M7 h7 M8 h8 M9 h9 M10 h10 M11 h11) Q } := by
  refine ⟨?_, fun f9 f10 E Q => ?run⟩
  case run =>
    iintro ⟨H1, H2, H3, H4, H5, H6, H7, H8, H9, H10, H11, Hk⟩
    sl_exec_parts! (disch := first | exact hada _ _ | exact hsta _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Cert.KernelProof

end
-- ==== Proof.BitsMainVal.lean ====
/- What one grid step of the main kernel leaves in its output block: the stacked realigned rows, then the two products. For the printed program. -/
module

public import proofs.«01_k».proof.Proof.Gen.Kernel.Skeleton
public import proofs.«01_k».proof.Proof.Gen.Kernel
public import Idealize.ShloMosaic.Lib.Tactic
public import proofs.«01_k».proof.Proof.Common
public import proofs.«01_k».proof.Proof.BitsMainRun

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (URounds (GSem nD τ sig) Unit) ℕ

/-! What the main kernel's body leaves in its output block, with the scratch of the shifted rows gone from it:
the nine realigned adapter slices, two lane groups each, as one list of eighteen blocks. -/

/-- Where the pair of rows that holds row `v` starts, within an aligned group of eight. -/
theorem pair_start (v : BitVec 32) : (Scalar.shrsi (Scalar.andi v 7#32) 1#32).toNat ≤ 3
    ∧ (Scalar.addi (Scalar.shrsi (Scalar.andi v 7#32) 1#32) 1#32).toNat ≤ 4 := by
  obtain ⟨k, hk⟩ := Cert.KProof.and7_cases v
  have : Scalar.andi v 7#32 = BitVec.ofNat 32 k.val := hk
  rw [this]
  exact (by decide : ∀ k : Fin 8, (Scalar.shrsi (BitVec.ofNat 32 k.val) 1#32).toNat ≤ 3
    ∧ (Scalar.addi (Scalar.shrsi (BitVec.ofNat 32 k.val) 1#32) 1#32).toNat ≤ 4) k

/-- The row pairs that the realignment reads are among the 68 just stored: from the first pair, -/
theorem main_lo (v : BitVec 32) : ∀ a, k1_off3 v a + S64x128.size a ≤ S68x128.size a := by
  have := (pair_start v).1
  intro a
  match a with
  | 0 => show (Scalar.shrsi (Scalar.andi v 7#32) 1#32).toNat + 64 ≤ 68; omega
  | 1 => exact Nat.le_refl 128

/-- and from the next. -/
theorem main_hi (v : BitVec 32) : ∀ a, k1_off4 v a + S64x128.size a ≤ S68x128.size a := by
  have := (pair_start v).2
  intro a
  match a with
  | 0 => show (Scalar.addi (Scalar.shrsi (Scalar.andi v 7#32) 1#32) 1#32).toNat + 64 ≤ 68; omega
  | 1 => exact Nat.le_refl 128

/-- The 68 stored pairs are in the scratch. -/
theorem main_box_inb : ∀ a, (![0, 0] : Fin 2 → ℕ) a + S68x128.size a ≤ S72x128.size a := by decide

/-- The aligned start of lane group `g`'s piece of the pool. -/
def mainOff (v : BitVec 32) (g : ℕ) : Fin 2 → ℕ := ![(Scalar.andi v 4294967288#32).toNat, 128 * g]

/-- Lane group `g`'s 136 rows are in the pool's block. -/
theorem mainOff_inb {v : BitVec 32} (h : k1_chk2 v) (g : ℕ) : ∀ a, mainOff v (g % 2) a + S136x128.size a ≤ S2200x256.size a := by
  rcases Nat.mod_two_eq_zero_or_one g with e | e
  · rw [e]; exact h.2.1
  · rw [e]; exact h.2.2.2.2.2

section
variable (c : Dev nD) (M1 : Memref sig .tc .smem S15 .i32) (M3 : Memref sig .tc .smem S9 .i32)
  (M8 : Memref sig .tc .vmem S2200x256 .bf16) (M11 : Memref sig .tc .vmem S72x128 .i32)
  (f1 : Bf (F := F) c M1) (f3 : Bf (F := F) c M3) (f8 : Bf (F := F) c M8)
  (M2 : Memref sig .tc .smem S10 .i32) (M4 : Memref sig .tc .vmem S768x4096 .bf16) (M5 : Memref sig .tc .vmem S512x256 .i32)
  (M6 : Memref sig .tc .vmem S32x256 .bf16) (M7 : Memref sig .tc .vmem S768x128 .bf16) (M9 : Memref sig .tc .vmem S768x256 .bf16)
  (M10 : Memref sig .tc .vmem S1152x256 .bf16)
  (h1 : M1.IsWhole) (h2 : M2.IsWhole) (h3 : M3.IsWhole) (h4 : M4.IsWhole) (h5 : M5.IsWhole) (h6 : M6.IsWhole) (h7 : M7.IsWhole)
  (h8 : M8.IsWhole) (h9 : M9.IsWhole) (h10 : M10.IsWhole) (h11 : M11.IsWhole)
  (f2 : Bf (F := F) c M2) (f4 : Bf (F := F) c M4) (f5 : Bf (F := F) c M5) (f6 : Bf (F := F) c M6) (f7 : Bf (F := F) c M7)
  (hada : ∀ r : Rect S9, ∀ i, k1_chk1 (M3.view.readAt (Elt F) r.toLoadRect f3 i))
  (hsta : ∀ r : Rect S15, ∀ i, k1_chk2 (M1.view.readAt (Elt F) r.toLoadRect f1 i))

/-- The adapter of segment `s`. -/
def mainAda (s : ℕ) (hs : ∀ a, ![s] a + S1.size a ≤ S9.size a) : BitVec 32 :=
  M3.view.readAt (Elt F) (Rect.unit (s := S9) ![s] S1.size hs).toLoadRect f3 (Shape.Idx.first (show 0 < S1.numel by decide))

/-- The first pool row of adapter word `w`. -/
def mainSta (w : BitVec 32) (hw : k1_chk1 w) : BitVec 32 :=
  M1.view.readAt (Elt F) (Rect.unit (s := S15) (k1_off1 w) S1.size (k1_off1_inb w hw)).toLoadRect f1 (Shape.Idx.first (show 0 < S1.numel by decide))

/-- The aligned rows a block is cut from, as the row pairs the scratch holds. -/
def mainRows (v : BitVec 32) (hv : k1_chk2 v) (g : ℕ) : Vec F S68x128 .i32 :=
  k1_pay2 (M8.view.readAt (Elt F) (Rect.unit (s := S2200x256) (mainOff v (g % 2)) S136x128.size (mainOff_inb hv g)).toLoadRect f8)

/-- The box the row pairs are stored in. -/
abbrev mainBox : Rect S72x128 := Rect.unit (s := S72x128) ![0, 0] S68x128.size main_box_inb

/-- A realigned block, out of scratch contents `fT`. -/
def mainCut (v : BitVec 32) (hv : k1_chk2 v) (fT : Bf (F := F) c M11) : FVec F S128x128 .bf16 :=
  k1_pay3 v (M11.view.readAt (Elt F) (Rect.unit (s := S72x128) (k1_off3 v) S64x128.size hv.2.2.1).toLoadRect fT)
    (M11.view.readAt (Elt F) (Rect.unit (s := S72x128) (k1_off4 v) S64x128.size hv.2.2.2.1).toLoadRect fT)

/-- A realigned block depends on the rows stored last, not on what the scratch held before. -/
theorem mainCut_indep (v : BitVec 32) (hv : k1_chk2 v) (p : Vec F S68x128 .i32) (f : Bf (F := F) c M11)
    (L : List (View.Piece (Elt F) S72x128 .i32)) :
    mainCut c M11 v hv (M11.view.writes (Elt F) f (⟨mainBox, p⟩ :: L))
      = mainCut c M11 v hv (M11.view.writes (Elt F) M11.view.junk [⟨mainBox, p⟩]) := by
  have e3 := Cert.KProof.readAt_last M11.view f mainBox p L _ (Cert.KProof.idx_mem_box (inb := hv.2.2.1) (inb0 := main_box_inb) (by decide) (main_lo v))
  have e4 := Cert.KProof.readAt_last M11.view f mainBox p L _ (Cert.KProof.idx_mem_box (inb := hv.2.2.2.1) (inb0 := main_box_inb) (by decide) (main_hi v))
  exact congrArg₂ (k1_pay3 v) e3 e4

/-- Block `k`: segment `k / 2`, lane group `k % 2`. -/
def mainBlk (k : ℕ) : FVec F S128x128 .bf16 :=
  let v := mainSta c M1 f1 (mainAda c M3 f3 (k / 2 % 9) (fun a => by match a with | 0 => show k / 2 % 9 + 1 ≤ 9; omega)) (hada _ _)
  mainCut c M11 v (hsta _ _) (M11.view.writes (Elt F) M11.view.junk [⟨mainBox, mainRows c M8 f8 v (hsta _ _) k⟩])

/-- The first `n` blocks, the last first, each at its place in the stacked slices. -/
def mainPieces : ℕ → List (View.Piece (Elt F) S1152x256 .bf16)
  | 0 => []
  | k + 1 => ⟨Rect.unit (s := S1152x256) ![128 * (k / 2 % 9), 128 * (k % 2)] S128x128.size (fun a => by
      match a with
      | 0 => show 128 * (k / 2 % 9) + 128 ≤ 1152; omega
      | 1 => show 128 * (k % 2) + 128 ≤ 256; omega), mainBlk c M1 M3 M8 M11 f1 f3 f8 hada hsta k⟩ :: mainPieces k

/-- One more block put in front of the list of blocks stored. -/
theorem main_step (f11 : Bf (F := F) c M11) {off : Fin 2 → ℕ} {inb : ∀ a, off a + S128x128.size a ≤ S1152x256.size a}
    {v : BitVec 32} {hv : k1_chk2 v} {p : Vec F S68x128 .i32} {L : List (View.Piece (Elt F) S72x128 .i32)}
    {A B : List (View.Piece (Elt F) S1152x256 .bf16)} (h : A = B) :
    ((⟨Rect.unit (s := S1152x256) off S128x128.size inb, mainCut c M11 v hv (M11.view.writes (Elt F) f11 (⟨mainBox, p⟩ :: L))⟩ :
      View.Piece (Elt F) S1152x256 .bf16) :: A)
      = ⟨Rect.unit (s := S1152x256) off S128x128.size inb, mainCut c M11 v hv (M11.view.writes (Elt F) M11.view.junk [⟨mainBox, p⟩])⟩ :: B := by
  rw [h, mainCut_indep]

/-- The stores of the body into the stacked slices are the blocks, in order. -/
theorem mainPieces_eq (f11 : Bf (F := F) c M11) :
    mainRun.sl.H10_18 c M1 M3 M8 M11 f1 f3 f8 f11 hada hsta = mainPieces c M1 M3 M8 M11 f1 f3 f8 hada hsta 18 := by
  iterate 18 refine main_step c M11 f11 (hv := by exact hsta _ _) ?_
  rfl

/-- The stacked slices as the second product reads them. -/
def mainB : Vec F S1152x256 .bf16 :=
  M10.view.readCov (mainPieces c M1 M3 M8 M11 f1 f3 f8 hada hsta 18) (Rect.unit (s := S1152x256) ![0, 0] S1152x256.size (by decide)).toLoadRect

/-- So the slices are the stacked blocks, whatever the scratch held. -/
theorem mainB_eq (f11 : Bf (F := F) c M11) :
    mainRun.sl.v685 c M1 M3 M8 M10 M11 f1 f3 f8 f11 hada hsta = mainB c M1 M3 M8 M11 f1 f3 f8 M10 hada hsta :=
  congrArg (fun L => M10.view.readCov L (Rect.unit (s := S1152x256) ![0, 0] S1152x256.size (by decide)).toLoadRect)
    (mainPieces_eq c M1 M3 M8 M11 f1 f3 f8 hada hsta f11)

/-- The output block the body leaves. -/
def mainOut : FVec F S768x256 .bf16 :=
  k1_pay1 (mainRun.sl.r_44 c M2 M7 f2 f7) (mainRun.sl.r_45 c M4 M5 M6 f4 f5 f6)
    (mainB c M1 M3 M8 M11 f1 f3 f8 M10 hada hsta) mainRun.sl.cst_312

/-- The output window reads the output block after the body. -/
theorem mainRun_read (i : grid1.Coords) (f11 : Bf (F := F) c M11) :
    M9.view.read (Elt F) (mainRun c i M1 h1 M2 h2 M3 h3 M4 h4 M5 h5 M6 h6 M7 h7 M8 h8 M9 h9 M10 h10 M11 h11
      f1 f2 f3 f4 f5 f6 f7 f8 f11 hada hsta).1
      = mainOut c M1 M3 M8 M11 f1 f3 f8 M2 M4 M5 M6 M7 M10 f2 f4 f5 f6 f7 hada hsta := by
  unfold mainRun
  dsimp only
  unfold mainRun.sl.H9_1
  rw [mainB_eq]
  exact Cert.KProof.read_writes_full M9.view _ _ _ (by decide)

end

end Cert.KernelProof

end
-- ==== Proof.BitsShrinkFirst.lean ====
/- The first grid step of the shrinking kernel: its body runs, clearing the accumulator first. For the printed program. -/
module

public import proofs.«01_k».proof.Proof.Gen.Kernel.Skeleton
public import proofs.«01_k».proof.Proof.Gen.Kernel
public import Idealize.ShloMosaic.Lib.Tactic
public import proofs.«01_k».proof.Proof.BitsMainRun

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (URounds (GSem nD τ sig) Unit) ℕ

/-- The body of the first step runs from any contents that hold indices in range; the fields name what it stores. -/
def shrinkFirst (c : Dev nD) (i : grid0.Coords)
    (M1 : Memref sig .tc .smem S15 .i32) (h1 : M1.IsWhole)    (M2 : Memref sig .tc .smem S15 .i32) (h2 : M2.IsWhole)
    (M3 : Memref sig .tc .smem S10 .i32) (h3 : M3.IsWhole)    (M4 : Memref sig .tc .smem S9 .i32) (h4 : M4.IsWhole)
    (M5 : Memref sig .tc .smem S15 .f32) (h5 : M5.IsWhole)    (M6 : Memref sig .tc .vmem S768x512 .bf16) (h6 : M6.IsWhole)
    (M7 : Memref sig .tc .vmem S2200x512 .bf16) (h7 : M7.IsWhole)    (M8 : Memref sig .tc .vmem S768x128 .bf16) (h8 : M8.IsWhole)
    (M9 : Memref sig .tc .vmem S1152x512 .bf16) (h9 : M9.IsWhole)    (M10 : Memref sig .tc .vmem S768x1152 .f32) (h10 : M10.IsWhole)
    (M11 : Memref sig .tc .vmem S72x128 .i32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7)
    (f11 : Bf (F := F) c M11)
    (hc1 : (Scalar.cmpi .ne (Scalar.extui (Scalar.cmpi .eq (BitVec.ofNat 32 (i 0).val) 0#32) : BitVec 32) 0#32 = 1#1)) (hc2 : ¬ (k0_cond2 i = 1#1))
    (hada : ∀ r : Rect S9, ∀ j, k0_chk1 (M4.view.readAt (Elt F) r.toLoadRect f4 j))
    (hsta : ∀ r : Rect S15, ∀ j, k0_chk2 (M1.view.readAt (Elt F) r.toLoadRect f1 j))
 :
    { W : Bf (F := F) c M10 //
      ∀ (f8 : Bf (F := F) c M8) (f9 : Bf (F := F) c M9) (f10 : Bf (F := F) c M10) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7 ∗ pt c M8 f8 ∗ (∃ f, pt c M9 f) ∗ pt c M10 W ∗ (∃ f, pt c M11 f)) -∗ Q ⟨⟩))
        ⊢ wp frame (wpE (defs₀ (F := F)) Variants.none c none) E
            (cc0_shrink i M1 h1 M2 h2 M3 h3 M4 h4 M5 h5 M6 h6 M7 h7 M8 h8 M9 h9 M10 h10 M11 h11) Q } := by
  refine ⟨?_, fun f8 f9 f10 E Q => ?run⟩
  case run =>
    iintro ⟨H1, H2, H3, H4, H5, H6, H7, H8, H9, H10, H11, Hk⟩
    sl_exec_parts! (disch := first | exact hc1 | exact hc2 | exact hada _ _ | exact hsta _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexists _; iexact H11

end Cert.KernelProof

end
-- ==== Proof.BitsShrinkMid.lean ====
/- A grid step of the shrinking kernel between the first and the last: its body runs. For the printed program. -/
module

public import proofs.«01_k».proof.Proof.Gen.Kernel.Skeleton
public import proofs.«01_k».proof.Proof.Gen.Kernel
public import Idealize.ShloMosaic.Lib.Tactic
public import proofs.«01_k».proof.Proof.BitsMainRun

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (URounds (GSem nD τ sig) Unit) ℕ

/-- The body of a middle step runs from any contents that hold indices in range; the fields name what it stores. -/
def shrinkMid (c : Dev nD) (i : grid0.Coords)
    (M1 : Memref sig .tc .smem S15 .i32) (h1 : M1.IsWhole)    (M2 : Memref sig .tc .smem S15 .i32) (h2 : M2.IsWhole)
    (M3 : Memref sig .tc .smem S10 .i32) (h3 : M3.IsWhole)    (M4 : Memref sig .tc .smem S9 .i32) (h4 : M4.IsWhole)
    (M5 : Memref sig .tc .smem S15 .f32) (h5 : M5.IsWhole)    (M6 : Memref sig .tc .vmem S768x512 .bf16) (h6 : M6.IsWhole)
    (M7 : Memref sig .tc .vmem S2200x512 .bf16) (h7 : M7.IsWhole)    (M8 : Memref sig .tc .vmem S768x128 .bf16) (h8 : M8.IsWhole)
    (M9 : Memref sig .tc .vmem S1152x512 .bf16) (h9 : M9.IsWhole)    (M10 : Memref sig .tc .vmem S768x1152 .f32) (h10 : M10.IsWhole)
    (M11 : Memref sig .tc .vmem S72x128 .i32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7)
    (f10 : Bf (F := F) c M10) (f11 : Bf (F := F) c M11)
    (hc1 : ¬ (Scalar.cmpi .ne (Scalar.extui (Scalar.cmpi .eq (BitVec.ofNat 32 (i 0).val) 0#32) : BitVec 32) 0#32 = 1#1)) (hc2 : ¬ (k0_cond2 i = 1#1))
    (hada : ∀ r : Rect S9, ∀ j, k0_chk1 (M4.view.readAt (Elt F) r.toLoadRect f4 j))
    (hsta : ∀ r : Rect S15, ∀ j, k0_chk2 (M1.view.readAt (Elt F) r.toLoadRect f1 j))
 :
    { W : Bf (F := F) c M10 //
      ∀ (f8 : Bf (F := F) c M8) (f9 : Bf (F := F) c M9) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7 ∗ pt c M8 f8 ∗ (∃ f, pt c M9 f) ∗ pt c M10 W ∗ (∃ f, pt c M11 f)) -∗ Q ⟨⟩))
        ⊢ wp frame (wpE (defs₀ (F := F)) Variants.none c none) E
            (cc0_shrink i M1 h1 M2 h2 M3 h3 M4 h4 M5 h5 M6 h6 M7 h7 M8 h8 M9 h9 M10 h10 M11 h11) Q } := by
  refine ⟨?_, fun f8 f9 E Q => ?run⟩
  case run =>
    iintro ⟨H1, H2, H3, H4, H5, H6, H7, H8, H9, H10, H11, Hk⟩
    sl_exec_parts! (disch := first | exact hc1 | exact hc2 | exact hada _ _ | exact hsta _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexists _; iexact H11

end Cert.KernelProof

end
-- ==== Proof.BitsShrinkLast.lean ====
/- The last grid step of the shrinking kernel: its body runs, and writes the output block. For the printed program. -/
module

public import proofs.«01_k».proof.Proof.Gen.Kernel.Skeleton
public import proofs.«01_k».proof.Proof.Gen.Kernel
public import Idealize.ShloMosaic.Lib.Tactic
public import proofs.«01_k».proof.Proof.BitsMainRun

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (URounds (GSem nD τ sig) Unit) ℕ

/-- The body of the last step runs from any contents that hold indices in range; the fields name what it stores. -/
def shrinkLast (c : Dev nD) (i : grid0.Coords)
    (M1 : Memref sig .tc .smem S15 .i32) (h1 : M1.IsWhole)    (M2 : Memref sig .tc .smem S15 .i32) (h2 : M2.IsWhole)
    (M3 : Memref sig .tc .smem S10 .i32) (h3 : M3.IsWhole)    (M4 : Memref sig .tc .smem S9 .i32) (h4 : M4.IsWhole)
    (M5 : Memref sig .tc .smem S15 .f32) (h5 : M5.IsWhole)    (M6 : Memref sig .tc .vmem S768x512 .bf16) (h6 : M6.IsWhole)
    (M7 : Memref sig .tc .vmem S2200x512 .bf16) (h7 : M7.IsWhole)    (M8 : Memref sig .tc .vmem S768x128 .bf16) (h8 : M8.IsWhole)
    (M9 : Memref sig .tc .vmem S1152x512 .bf16) (h9 : M9.IsWhole)    (M10 : Memref sig .tc .vmem S768x1152 .f32) (h10 : M10.IsWhole)
    (M11 : Memref sig .tc .vmem S72x128 .i32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7)
    (f10 : Bf (F := F) c M10) (f11 : Bf (F := F) c M11)
    (hc1 : ¬ (Scalar.cmpi .ne (Scalar.extui (Scalar.cmpi .eq (BitVec.ofNat 32 (i 0).val) 0#32) : BitVec 32) 0#32 = 1#1)) (hc2 : (k0_cond2 i = 1#1))
    (hada : ∀ r : Rect S9, ∀ j, k0_chk1 (M4.view.readAt (Elt F) r.toLoadRect f4 j))
    (hsta : ∀ r : Rect S15, ∀ j, k0_chk2 (M1.view.readAt (Elt F) r.toLoadRect f1 j))
    (hlast : ∀ r : Rect S9, ∀ j, k0_chk19 i (M4.view.readAt (Elt F) r.toLoadRect f4 j)) :
    { W : Bf (F := F) c M10 × Bf (F := F) c M8 //
      ∀ (f8 : Bf (F := F) c M8) (f9 : Bf (F := F) c M9) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 f7 ∗ pt c M8 W.2 ∗ (∃ f, pt c M9 f) ∗ pt c M10 W.1 ∗ (∃ f, pt c M11 f)) -∗ Q ⟨⟩))
        ⊢ wp frame (wpE (defs₀ (F := F)) Variants.none c none) E
            (cc0_shrink i M1 h1 M2 h2 M3 h3 M4 h4 M5 h5 M6 h6 M7 h7 M8 h8 M9 h9 M10 h10 M11 h11) Q } := by
  refine ⟨⟨?_, ?_⟩, fun f8 f9 E Q => ?run⟩
  case run =>
    iintro ⟨H1, H2, H3, H4, H5, H6, H7, H8, H9, H10, H11, Hk⟩
    sl_exec_parts! (disch := first | exact hc1 | exact hc2 | exact hada _ _ | exact hsta _ _ | exact hlast _ _)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    iexists _; iexact H11

end Cert.KernelProof

end
-- ==== Proof.BitsShrinkVal.lean ====
/- What a grid step of the shrinking kernel leaves: the stacked realigned rows, the accumulator, and at the last step the
   output block. For the printed program. -/
module

public import proofs.«01_k».proof.Proof.Gen.Kernel.Skeleton
public import proofs.«01_k».proof.Proof.Gen.Kernel
public import Idealize.ShloMosaic.Lib.Tactic
public import proofs.«01_k».proof.Proof.Common
public import proofs.«01_k».proof.Proof.BitsMainVal
public import proofs.«01_k».proof.Proof.BitsShrinkFirst
public import proofs.«01_k».proof.Proof.BitsShrinkMid
public import proofs.«01_k».proof.Proof.BitsShrinkLast

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (URounds (GSem nD τ sig) Unit) ℕ

/-! What a point of the shrink kernel leaves in its accumulator and, at the last point, in its output block, with the
scratch of the shifted rows gone from it: the nine realigned adapter slices, four lane groups each, as one list of
thirty-six blocks. -/

/-- The row pairs that the realignment reads are among the 68 just stored: from the first pair, -/
theorem shr_lo (v : BitVec 32) : ∀ a, k0_off3 v a + S64x128.size a ≤ S68x128.size a := main_lo v
/-- and from the next. -/
theorem shr_hi (v : BitVec 32) : ∀ a, k0_off4 v a + S64x128.size a ≤ S68x128.size a := main_hi v

/-- The aligned start of lane group `g`'s piece of the pool. -/
def shrOff (v : BitVec 32) (g : ℕ) : Fin 2 → ℕ := ![(Scalar.andi v 4294967288#32).toNat, 128 * g]

/-- Lane group `g`'s 136 rows are in the pool's block. -/
theorem shrOff_inb {v : BitVec 32} (h : k0_chk2 v) (g : ℕ) : ∀ a, shrOff v (g % 4) a + S136x128.size a ≤ S2200x512.size a := by
  have e : g % 4 = 0 ∨ g % 4 = 1 ∨ g % 4 = 2 ∨ g % 4 = 3 := by omega
  rcases e with e | e | e | e
  · rw [e]; exact h.2.1
  · rw [e]; exact h.2.2.2.2.2.1
  · rw [e]; exact h.2.2.2.2.2.2.2.1
  · rw [e]; exact h.2.2.2.2.2.2.2.2.2

section
variable (c : Dev nD) (M1 : Memref sig .tc .smem S15 .i32) (M4 : Memref sig .tc .smem S9 .i32)
  (M7 : Memref sig .tc .vmem S2200x512 .bf16) (M11 : Memref sig .tc .vmem S72x128 .i32)
  (f1 : Bf (F := F) c M1) (f4 : Bf (F := F) c M4) (f7 : Bf (F := F) c M7)
  (M2 : Memref sig .tc .smem S15 .i32) (M3 : Memref sig .tc .smem S10 .i32) (M5 : Memref sig .tc .smem S15 .f32)
  (M6 : Memref sig .tc .vmem S768x512 .bf16) (M8 : Memref sig .tc .vmem S768x128 .bf16)
  (M9 : Memref sig .tc .vmem S1152x512 .bf16) (M10 : Memref sig .tc .vmem S768x1152 .f32)
  (h1 : M1.IsWhole) (h2 : M2.IsWhole) (h3 : M3.IsWhole) (h4 : M4.IsWhole) (h5 : M5.IsWhole) (h6 : M6.IsWhole) (h7 : M7.IsWhole)
  (h8 : M8.IsWhole) (h9 : M9.IsWhole) (h10 : M10.IsWhole) (h11 : M11.IsWhole)
  (f2 : Bf (F := F) c M2) (f3 : Bf (F := F) c M3) (f5 : Bf (F := F) c M5) (f6 : Bf (F := F) c M6)
  (hada : ∀ r : Rect S9, ∀ i, k0_chk1 (M4.view.readAt (Elt F) r.toLoadRect f4 i))
  (hsta : ∀ r : Rect S15, ∀ i, k0_chk2 (M1.view.readAt (Elt F) r.toLoadRect f1 i))

/-- The first pool row of adapter word `w`. -/
def shrSta (w : BitVec 32) (hw : k0_chk1 w) : BitVec 32 :=
  M1.view.readAt (Elt F) (Rect.unit (s := S15) (k0_off1 w) S1.size (k0_off1_inb w hw)).toLoadRect f1 (Shape.Idx.first (show 0 < S1.numel by decide))

/-- The aligned rows a block is cut from, as the row pairs the scratch holds. -/
def shrRows (v : BitVec 32) (hv : k0_chk2 v) (g : ℕ) : Vec F S68x128 .i32 :=
  k0_pay8 (M7.view.readAt (Elt F) (Rect.unit (s := S2200x512) (shrOff v (g % 4)) S136x128.size (shrOff_inb hv g)).toLoadRect f7)

/-- A realigned block, out of scratch contents `fT`. -/
def shrCut (v : BitVec 32) (hv : k0_chk2 v) (fT : Bf (F := F) c M11) : FVec F S128x128 .bf16 :=
  k0_pay9 v
    (M11.view.readAt (Elt F) (Rect.unit (s := S72x128) (k0_off3 v) S64x128.size hv.2.2.1).toLoadRect fT)
    (M11.view.readAt (Elt F) (Rect.unit (s := S72x128) (k0_off4 v) S64x128.size hv.2.2.2.1).toLoadRect fT)

/-- A realigned block depends on the rows stored last, not on what the scratch held before. -/
theorem shrCut_indep (v : BitVec 32) (hv : k0_chk2 v) (p : Vec F S68x128 .i32) (f : Bf (F := F) c M11)
    (L : List (View.Piece (Elt F) S72x128 .i32)) :
    shrCut c M11 v hv (M11.view.writes (Elt F) f (⟨mainBox, p⟩ :: L))
      = shrCut c M11 v hv (M11.view.writes (Elt F) M11.view.junk [⟨mainBox, p⟩]) := by
  have e3 := Cert.KProof.readAt_last M11.view f mainBox p L _ (Cert.KProof.idx_mem_box (inb := hv.2.2.1) (inb0 := main_box_inb) (by decide) (shr_lo v))
  have e4 := Cert.KProof.readAt_last M11.view f mainBox p L _ (Cert.KProof.idx_mem_box (inb := hv.2.2.2.1) (inb0 := main_box_inb) (by decide) (shr_hi v))
  exact congrArg₂ (k0_pay9 v) e3 e4

/-- Block `k`: segment `k / 4`, lane group `k % 4`. -/
def shrBlk (k : ℕ) : FVec F S128x128 .bf16 :=
  let v := shrSta c M1 f1 (mainAda c M4 f4 (k / 4 % 9) (fun a => by match a with | 0 => show k / 4 % 9 + 1 ≤ 9; omega)) (hada _ _)
  shrCut c M11 v (hsta _ _) (M11.view.writes (Elt F) M11.view.junk [⟨mainBox, shrRows c M7 f7 v (hsta _ _) k⟩])

/-- The first `n` blocks, the last first, each at its place in the stacked slices. -/
def shrPieces : ℕ → List (View.Piece (Elt F) S1152x512 .bf16)
  | 0 => []
  | k + 1 => ⟨Rect.unit (s := S1152x512) ![128 * (k / 4 % 9), 128 * (k % 4)] S128x128.size (fun a => by
      match a with
      | 0 => show 128 * (k / 4 % 9) + 128 ≤ 1152; omega
      | 1 => show 128 * (k % 4) + 128 ≤ 512; omega), shrBlk c M1 M4 M7 M11 f1 f4 f7 hada hsta k⟩ :: shrPieces k

/-- One more block put in front of the list of blocks stored. -/
theorem shr_step (f11 : Bf (F := F) c M11) {off : Fin 2 → ℕ} {inb : ∀ a, off a + S128x128.size a ≤ S1152x512.size a}
    {v : BitVec 32} {hv : k0_chk2 v} {p : Vec F S68x128 .i32} {L : List (View.Piece (Elt F) S72x128 .i32)}
    {A B : List (View.Piece (Elt F) S1152x512 .bf16)} (h : A = B) :
    ((⟨Rect.unit (s := S1152x512) off S128x128.size inb, shrCut c M11 v hv (M11.view.writes (Elt F) f11 (⟨mainBox, p⟩ :: L))⟩ :
      View.Piece (Elt F) S1152x512 .bf16) :: A)
      = ⟨Rect.unit (s := S1152x512) off S128x128.size inb, shrCut c M11 v hv (M11.view.writes (Elt F) M11.view.junk [⟨mainBox, p⟩])⟩ :: B := by
  rw [h, shrCut_indep]

/-- The stacked slices as the product reads them. -/
def shrA : Vec F S1152x512 .bf16 :=
  M9.view.readCov (shrPieces c M1 M4 M7 M11 f1 f4 f7 hada hsta 36) (Rect.unit (s := S1152x512) ![0, 0] S1152x512.size (by decide)).toLoadRect

/-- The accumulator after a point that found `acc` in it. -/
def shrAcc (acc : Vec F S768x1152 .f32) : Vec F S768x1152 .f32 :=
  k0_pay1 acc (shrinkMid.sl.r_32 c M6 f6) (shrA c M1 M4 M7 M11 f1 f4 f7 M9 hada hsta) shrinkMid.sl.cst

/-- At the first step the stores into the stacked slices are the blocks, in order; -/
theorem shrA_First (f11 : Bf (F := F) c M11) :
    shrinkFirst.sl.v1113 c M1 M4 M7 M9 M11 f1 f4 f7 f11 hada hsta = shrA c M1 M4 M7 M11 f1 f4 f7 M9 hada hsta := by
  have e : shrinkFirst.sl.H9_36 c M1 M4 M7 M11 f1 f4 f7 f11 hada hsta = shrPieces c M1 M4 M7 M11 f1 f4 f7 hada hsta 36 := by
    iterate 36 refine shr_step c M11 f11 (hv := by exact hsta _ _) ?_
    rfl
  exact congrArg (fun L => M9.view.readCov L (Rect.unit (s := S1152x512) ![0, 0] S1152x512.size (by decide)).toLoadRect) e

/-- so at a middle step, -/
theorem shrA_Mid (f11 : Bf (F := F) c M11) :
    shrinkMid.sl.v1113 c M1 M4 M7 M9 M11 f1 f4 f7 f11 hada hsta = shrA c M1 M4 M7 M11 f1 f4 f7 M9 hada hsta := by
  have e : shrinkMid.sl.H9_36 c M1 M4 M7 M11 f1 f4 f7 f11 hada hsta = shrPieces c M1 M4 M7 M11 f1 f4 f7 hada hsta 36 := by
    iterate 36 refine shr_step c M11 f11 (hv := by exact hsta _ _) ?_
    rfl
  exact congrArg (fun L => M9.view.readCov L (Rect.unit (s := S1152x512) ![0, 0] S1152x512.size (by decide)).toLoadRect) e

/-- and at the last. -/
theorem shrA_Last (f11 : Bf (F := F) c M11) :
    shrinkLast.sl.v1113 c M1 M4 M7 M9 M11 f1 f4 f7 f11 hada hsta = shrA c M1 M4 M7 M11 f1 f4 f7 M9 hada hsta := by
  have e : shrinkLast.sl.H9_36 c M1 M4 M7 M11 f1 f4 f7 f11 hada hsta = shrPieces c M1 M4 M7 M11 f1 f4 f7 hada hsta 36 := by
    iterate 36 refine shr_step c M11 f11 (hv := by exact hsta _ _) ?_
    rfl
  exact congrArg (fun L => M9.view.readCov L (Rect.unit (s := S1152x512) ![0, 0] S1152x512.size (by decide)).toLoadRect) e

/-- After the first step the accumulator is the first partial product; -/
theorem shrinkFirst_read (i : grid0.Coords) (f11 : Bf (F := F) c M11) (hc1) (hc2) :
    M10.view.read (Elt F) (shrinkFirst c i M1 h1 M2 h2 M3 h3 M4 h4 M5 h5 M6 h6 M7 h7 M8 h8 M9 h9 M10 h10 M11 h11
      f1 f2 f3 f4 f5 f6 f7 f11 hc1 hc2 hada hsta).1
      = shrAcc c M1 M4 M7 M11 f1 f4 f7 M6 M9 f6 hada hsta k0_pay93 := by
  unfold shrinkFirst
  dsimp only
  unfold shrinkFirst.sl.H10_2
  rw [shrA_First]
  have e : shrinkFirst.sl.v1110 (F := F) M10 = k0_pay93 :=
    (Cert.KProof.readAt_full M10.view _ (by decide)).trans (Cert.KProof.read_writes_full M10.view _ _ _ (by decide))
  rw [e]
  exact Cert.KProof.read_writes_full M10.view _ _ _ (by decide)

/-- after a middle step, what it was with the partial product added; -/
theorem shrinkMid_read (i : grid0.Coords) (f10 : Bf (F := F) c M10) (f11 : Bf (F := F) c M11) (hc1) (hc2) :
    M10.view.read (Elt F) (shrinkMid c i M1 h1 M2 h2 M3 h3 M4 h4 M5 h5 M6 h6 M7 h7 M8 h8 M9 h9 M10 h10 M11 h11
      f1 f2 f3 f4 f5 f6 f7 f10 f11 hc1 hc2 hada hsta).1
      = shrAcc c M1 M4 M7 M11 f1 f4 f7 M6 M9 f6 hada hsta (M10.view.read (Elt F) f10) := by
  unfold shrinkMid
  dsimp only
  unfold shrinkMid.sl.H10_1
  rw [shrA_Mid, ← Cert.KProof.readAt_full M10.view f10 (inb := inb_S768x1152_S768x1152_0_0) (by decide)]
  exact Cert.KProof.read_writes_full M10.view _ _ _ (by decide)

/-- and so after the last. -/
theorem shrinkLast_read (i : grid0.Coords) (f10 : Bf (F := F) c M10) (f11 : Bf (F := F) c M11) (hc1) (hc2) (hlast) :
    M10.view.read (Elt F) (shrinkLast c i M1 h1 M2 h2 M3 h3 M4 h4 M5 h5 M6 h6 M7 h7 M8 h8 M9 h9 M10 h10 M11 h11
      f1 f2 f3 f4 f5 f6 f7 f10 f11 hc1 hc2 hada hsta hlast).1.1
      = shrAcc c M1 M4 M7 M11 f1 f4 f7 M6 M9 f6 hada hsta (M10.view.read (Elt F) f10) := by
  unfold shrinkLast
  dsimp only
  unfold shrinkLast.sl.H10_1
  rw [shrA_Last, ← Cert.KProof.readAt_full M10.view f10 (inb := inb_S768x1152_S768x1152_0_0) (by decide)]
  exact Cert.KProof.read_writes_full M10.view _ _ _ (by decide)

/-- The output block of the last point does not depend on what the scratch held. -/
theorem shrinkLast_indep (i : grid0.Coords) (f10 : Bf (F := F) c M10) (f11 f11' : Bf (F := F) c M11) (hc1) (hc2) (hlast) :
    (shrinkLast c i M1 h1 M2 h2 M3 h3 M4 h4 M5 h5 M6 h6 M7 h7 M8 h8 M9 h9 M10 h10 M11 h11
      f1 f2 f3 f4 f5 f6 f7 f10 f11 hc1 hc2 hada hsta hlast).1.2
      = (shrinkLast c i M1 h1 M2 h2 M3 h3 M4 h4 M5 h5 M6 h6 M7 h7 M8 h8 M9 h9 M10 h10 M11 h11
      f1 f2 f3 f4 f5 f6 f7 f10 f11' hc1 hc2 hada hsta hlast).1.2 := by
  unfold shrinkLast
  dsimp only
  simp only [shrinkLast.sl.v1202, shrinkLast.sl.r_49, shrinkLast.sl.v1278, shrinkLast.sl.H10_1, shrinkLast.sl.v1164, shrinkLast.sl.v1240, shrinkLast.sl.H8_1, shrinkLast.sl.r_40, shrinkLast.sl.r_59, shrinkLast.sl.v1126, shrinkLast.sl.v1183, shrinkLast.sl.v1259, shrinkLast.sl.v1221, shrinkLast.sl.r_50, shrinkLast.sl.v1145,
    shrA_Last]

end

end Cert.KernelProof

end
-- ==== Proof.BitsWords.lean ====
/- The words the kernels index by: under the bounds on the adapters and on their first rows, every row, pair and array
   index the bodies compute is in range. For the printed program. -/
module

public import proofs.«01_k».proof.Proof.Gen.Kernel.Skeleton
public import proofs.«01_k».proof.Proof.Gen.Kernel
public import Idealize.ShloMosaic.Lib.Tactic
public import proofs.«01_k».proof.Proof.Common
public import proofs.«01_k».proof.Proof.BitsMainVal
public import proofs.«01_k».proof.Proof.BitsShrinkVal
public import proofs.«01_k».proof.Proof.Gen.Kernel.Launch
public import proofs.«01_k».proof.Proof.Gen.Kernel.Points
public import Idealize.ShloMosaic.Lib.Pipeline.Frame
public import Idealize.ShloMosaic.Lib.Pipeline.FrameBody
public import Idealize.ShloMosaic.Lib.Ring

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The words the kernels compute addresses from: with every segment's adapter one of the fifteen, and every
adapter's slice inside the pool, no address leaves its array. -/

/-- The 136 rows from an aligned start are rows of the pool; so for each lane group and for both kernels. -/
theorem k1_aligned2 (v : BitVec 32) (h : v.toNat ≤ 2071) : ∀ a, k1_off2 v a + S136x128.size a ≤ S2200x256.size a := by
  have := Cert.KProof.aligned_le v
  have := Cert.KProof.aligned_dvd v
  intro a
  match a with
  | 0 => show (Scalar.andi v 4294967288#32).toNat + 136 ≤ 2200; omega
  | 1 => exact (by decide : 0 + 128 ≤ 256)

theorem k1_aligned5 (v : BitVec 32) (h : v.toNat ≤ 2071) : ∀ a, k1_off5 v a + S136x128.size a ≤ S2200x256.size a := by
  have := Cert.KProof.aligned_le v
  have := Cert.KProof.aligned_dvd v
  intro a
  match a with
  | 0 => show (Scalar.andi v 4294967288#32).toNat + 136 ≤ 2200; omega
  | 1 => exact (by decide : 128 + 128 ≤ 256)

theorem k0_aligned2 (v : BitVec 32) (h : v.toNat ≤ 2071) : ∀ a, k0_off2 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 0 + 128 ≤ 512)

theorem k0_aligned5 (v : BitVec 32) (h : v.toNat ≤ 2071) : ∀ a, k0_off5 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 128 + 128 ≤ 512)

theorem k0_aligned6 (v : BitVec 32) (h : v.toNat ≤ 2071) : ∀ a, k0_off6 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 256 + 128 ≤ 512)

theorem k0_aligned7 (v : BitVec 32) (h : v.toNat ≤ 2071) : ∀ a, k0_off7 v a + S136x128.size a ≤ S2200x512.size a := by
  have := Cert.KProof.aligned_le v
  have := Cert.KProof.aligned_dvd v
  intro a
  match a with
  | 0 => show (Scalar.andi v 4294967288#32).toNat + 136 ≤ 2200; omega
  | 1 => exact (by decide : 384 + 128 ≤ 512)

/-- The 64 row pairs from the first row's pair are in the scratch; likewise those from the pair after it. -/
theorem k1_first (v : BitVec 32) : ∀ a, k1_off3 v a + S64x128.size a ≤ S72x128.size a := fun a =>
  (main_lo v a).trans (by match a with | 0 => decide | 1 => decide)

theorem k1_second (v : BitVec 32) : ∀ a, k1_off4 v a + S64x128.size a ≤ S72x128.size a := fun a =>
  (main_hi v a).trans (by match a with | 0 => decide | 1 => decide)

theorem k0_first (v : BitVec 32) : ∀ a, k0_off3 v a + S64x128.size a ≤ S72x128.size a := fun a =>
  (shr_lo v a).trans (by match a with | 0 => decide | 1 => decide)

theorem k0_second (v : BitVec 32) : ∀ a, k0_off4 v a + S64x128.size a ≤ S72x128.size a := fun a =>
  (shr_hi v a).trans (by match a with | 0 => decide | 1 => decide)

/-- A segment's adapter indexes the arrays of fifteen. -/
theorem k1_slot (w : BitVec 32) (h : w.toNat < 15) : k1_chk1 w := fun a => by
  match a with
  | 0 => show w.toNat + 1 ≤ 15; omega

theorem k0_slot (w : BitVec 32) (h : w.toNat < 15) : k0_chk1 w := fun a => by
  match a with
  | 0 => show w.toNat + 1 ≤ 15; omega

/-- All reads of the pool for one adapter are in range, in the main kernel; -/
theorem k1_rows (v : BitVec 32) (h : v.toNat ≤ 2071) : k1_chk2 v :=
  ⟨Cert.KProof.aligned_dvd v, k1_aligned2 v h, k1_first v, k1_second v, Cert.KProof.aligned_dvd v, k1_aligned5 v h⟩

/-- and in the shrinking kernel. -/
theorem k0_rows (v : BitVec 32) (h : v.toNat ≤ 2071) : k0_chk2 v :=
  ⟨Cert.KProof.aligned_dvd v, k0_aligned2 v h, k0_first v, k0_second v, Cert.KProof.aligned_dvd v, k0_aligned5 v h,
    Cert.KProof.aligned_dvd v, k0_aligned6 v h, Cert.KProof.aligned_dvd v, k0_aligned7 v h⟩

/-- What the precondition says of the words. -/
structure OkV {F : FTy → Type} [BitOps F] (V : Dev nD → Valuation τ sig (Elt F)) : Prop where
  ada : ∀ (c : Dev nD) (j : S9.Idx), (show BitVec 32 from (V c (Proc.devRef .tc main_arg9) : S9.Idx → Elt F .i32) j).toNat < 15
  sta : ∀ (c : Dev nD) (j : S15.Idx), (show BitVec 32 from (V c (Proc.devRef .tc main_arg5) : S15.Idx → Elt F .i32) j).toNat ≤ 2071

end Cert.KernelProof

end
-- ==== Proof.BitsRegion0.lean ====
/- The shrinking kernel over its grid: the contents of each window at each step, the accumulator between steps, and the body
   at each step against them. For the printed program. -/
module

public import proofs.«01_k».proof.Proof.Gen.Kernel.Skeleton
public import proofs.«01_k».proof.Proof.Gen.Kernel
public import Idealize.ShloMosaic.Lib.Tactic
public import proofs.«01_k».proof.Proof.Common
public import proofs.«01_k».proof.Proof.BitsWords

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose)

variable {F : FTy → Type} [BitOps F]

local notation "𝕄" => MT nD τ sig Unit (Elt F) ℕ (URounds (GSem nD τ sig) Unit) ℕ

/-! The shrink call's region: the accumulator after each point, what each staging buffer holds, and the body's run
at the first point, at the points between and at the last. -/

variable (V : Dev nD → Valuation τ sig (Elt F)) (hV : OkV V)

/-- Window `w`'s block of its array at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

include hV in
/-- Every segment's adapter that a step reads is in range. -/
theorem ada0 (c : Dev nD) (t : Fin cfg0.N) (M : Memref sig .tc .smem S9 .i32) (h : M.IsWhole) (r : Rect S9) (i) :
    k0_chk1 (M.view.readAt (Elt F) r.toLoadRect (h.unread (blk0 V c 3 t)) i) := by
  have e := congrFun (h.read_unread (Val := Elt F) (blk0 V c 3 t)) (r.idx i)
  refine (congrArg k0_chk1 e).mpr (k0_slot _ ?_)
  exact hV.ada c _

include hV in
/-- Every adapter's first row that a step reads is in range. -/
theorem sta0 (c : Dev nD) (t : Fin cfg0.N) (M : Memref sig .tc .smem S15 .i32) (h : M.IsWhole) (r : Rect S15) (i) :
    k0_chk2 (M.view.readAt (Elt F) r.toLoadRect (h.unread (blk0 V c 0 t)) i) := by
  have e := congrFun (h.read_unread (Val := Elt F) (blk0 V c 0 t)) (r.idx i)
  refine (congrArg k0_chk2 e).mpr (k0_rows _ ?_)
  exact hV.sta c _

include hV in
/-- The adapters that the last step reads again are in range. -/
theorem lst0 (c : Dev nD) (t : Fin cfg0.N) (i : grid0.Coords) (M : Memref sig .tc .smem S9 .i32) (h : M.IsWhole) (r : Rect S9) (j) :
    k0_chk19 i (M.view.readAt (Elt F) r.toLoadRect (h.unread (blk0 V c 3 t)) j) :=
  fun _ => ada0 V hV c t M h r j

/-- Each window's buffer is whole. -/
theorem whole0_0 (t : Fin cfg0.N) : (st0_0 t).IsWhole := hstage0_0 ((cfg0.slots t 0).cast nbuf0_0)
theorem whole0_1 (t : Fin cfg0.N) : (st0_1 t).IsWhole := hstage0_1 ((cfg0.slots t 1).cast nbuf0_1)
theorem whole0_2 (t : Fin cfg0.N) : (st0_2 t).IsWhole := hstage0_2 ((cfg0.slots t 2).cast nbuf0_2)
theorem whole0_3 (t : Fin cfg0.N) : (st0_3 t).IsWhole := hstage0_3 ((cfg0.slots t 3).cast nbuf0_3)
theorem whole0_4 (t : Fin cfg0.N) : (st0_4 t).IsWhole := hstage0_4 ((cfg0.slots t 4).cast nbuf0_4)
theorem whole0_5 (t : Fin cfg0.N) : (st0_5 t).IsWhole := hstage0_5 ((cfg0.slots t 5).cast nbuf0_5)
theorem whole0_6 (t : Fin cfg0.N) : (st0_6 t).IsWhole := hstage0_6 ((cfg0.slots t 6).cast nbuf0_6)
theorem whole0_7 (t : Fin cfg0.N) : (st0_7 t).IsWhole := hstage0_7 ((cfg0.slots t 7).cast nbuf0_7)

/-- The accumulator after the points before `n`. -/
def acc0 (c : Dev nD) : ℕ → Vec F S768x1152 .f32
  | 0 => k0_pay93
  | n + 1 => if h : n < cfg0.N then
      let t : Fin cfg0.N := ⟨n, h⟩
      shrAcc c (st0_0 t) (st0_3 t) (st0_6 t) (Memref.whole cc0_scratch2) ((whole0_0 t).unread (blk0 V c 0 t)) ((whole0_3 t).unread (blk0 V c 3 t))
        ((whole0_6 t).unread (blk0 V c 6 t)) (st0_5 t) (Memref.whole cc0_scratch0) ((whole0_5 t).unread (blk0 V c 5 t))
        (ada0 V hV c t _ _) (sta0 V hV c t _ _) (acc0 c n)
    else acc0 c n

/-- The accumulator after a step, from the one before it. -/
theorem acc0_succ (c : Dev nD) (t : Fin cfg0.N) : acc0 V hV c (t.val + 1) =
    shrAcc c (st0_0 t) (st0_3 t) (st0_6 t) (Memref.whole cc0_scratch2) ((whole0_0 t).unread (blk0 V c 0 t)) ((whole0_3 t).unread (blk0 V c 3 t))
        ((whole0_6 t).unread (blk0 V c 6 t)) (st0_5 t) (Memref.whole cc0_scratch0) ((whole0_5 t).unread (blk0 V c 5 t))
        (ada0 V hV c t _ _) (sta0 V hV c t _ _) (acc0 V hV c t.val) := by
  rw [acc0]
  exact dif_pos t.isLt

/-- The guard of the accumulator's reset. -/
abbrev guard0 (i : grid0.Coords) : Prop :=
  Scalar.cmpi .ne (Scalar.extui (Scalar.cmpi .eq (BitVec.ofNat 32 (i 0).val) 0#32) : BitVec 32) 0#32 = 1#1

/-- The accumulator is cleared at the first step and at no other; the output is written at the last and at no other. -/
theorem guard0_first : ∀ t : Fin cfg0.N, t.val = 0 → guard0 (grid0.coords t) := by decide +kernel
theorem guard0_later : ∀ t : Fin cfg0.N, t.val ≠ 0 → ¬ guard0 (grid0.coords t) := by decide +kernel
theorem cond0_last : ∀ t : Fin cfg0.N, t.val = 7 → k0_cond2 (grid0.coords t) = 1#1 := by decide +kernel
theorem cond0_before : ∀ t : Fin cfg0.N, t.val ≠ 7 → ¬ k0_cond2 (grid0.coords t) = 1#1 := by decide +kernel

/-- The body's run at the first point; -/
def runF (c : Dev nD) (t : Fin cfg0.N) (f11 : Bf (F := F) c (Memref.whole cc0_scratch2)) (hc1 : guard0 (grid0.coords t)) (hc2 : ¬ k0_cond2 (grid0.coords t) = 1#1) :=
  shrinkFirst c (grid0.coords t) (st0_0 t) (whole0_0 t) (st0_1 t) (whole0_1 t) (st0_2 t) (whole0_2 t) (st0_3 t) (whole0_3 t) (st0_4 t) (whole0_4 t) (st0_5 t) (whole0_5 t) (st0_6 t) (whole0_6 t) (st0_7 t) (whole0_7 t) (Memref.whole cc0_scratch0) (Memref.isWhole_whole _) (Memref.whole cc0_scratch1) (Memref.isWhole_whole _) (Memref.whole cc0_scratch2) (Memref.isWhole_whole _)
    ((whole0_0 t).unread (blk0 V c 0 t)) ((whole0_1 t).unread (blk0 V c 1 t)) ((whole0_2 t).unread (blk0 V c 2 t)) ((whole0_3 t).unread (blk0 V c 3 t)) ((whole0_4 t).unread (blk0 V c 4 t)) ((whole0_5 t).unread (blk0 V c 5 t)) ((whole0_6 t).unread (blk0 V c 6 t)) f11 hc1 hc2 (ada0 V hV c t _ _) (sta0 V hV c t _ _)

/-- at a point between; -/
def runM (c : Dev nD) (t : Fin cfg0.N) (f10 : Bf (F := F) c (Memref.whole cc0_scratch1)) (f11 : Bf (F := F) c (Memref.whole cc0_scratch2)) (hc1 : ¬ guard0 (grid0.coords t)) (hc2 : ¬ k0_cond2 (grid0.coords t) = 1#1) :=
  shrinkMid c (grid0.coords t) (st0_0 t) (whole0_0 t) (st0_1 t) (whole0_1 t) (st0_2 t) (whole0_2 t) (st0_3 t) (whole0_3 t) (st0_4 t) (whole0_4 t) (st0_5 t) (whole0_5 t) (st0_6 t) (whole0_6 t) (st0_7 t) (whole0_7 t) (Memref.whole cc0_scratch0) (Memref.isWhole_whole _) (Memref.whole cc0_scratch1) (Memref.isWhole_whole _) (Memref.whole cc0_scratch2) (Memref.isWhole_whole _)
    ((whole0_0 t).unread (blk0 V c 0 t)) ((whole0_1 t).unread (blk0 V c 1 t)) ((whole0_2 t).unread (blk0 V c 2 t)) ((whole0_3 t).unread (blk0 V c 3 t)) ((whole0_4 t).unread (blk0 V c 4 t)) ((whole0_5 t).unread (blk0 V c 5 t)) ((whole0_6 t).unread (blk0 V c 6 t)) f10 f11 hc1 hc2 (ada0 V hV c t _ _) (sta0 V hV c t _ _)

/-- and at the last. -/
def runL (c : Dev nD) (t : Fin cfg0.N) (f10 : Bf (F := F) c (Memref.whole cc0_scratch1)) (f11 : Bf (F := F) c (Memref.whole cc0_scratch2)) (hc1 : ¬ guard0 (grid0.coords t)) (hc2 : k0_cond2 (grid0.coords t) = 1#1) :=
  shrinkLast c (grid0.coords t) (st0_0 t) (whole0_0 t) (st0_1 t) (whole0_1 t) (st0_2 t) (whole0_2 t) (st0_3 t) (whole0_3 t) (st0_4 t) (whole0_4 t) (st0_5 t) (whole0_5 t) (st0_6 t) (whole0_6 t) (st0_7 t) (whole0_7 t) (Memref.whole cc0_scratch0) (Memref.isWhole_whole _) (Memref.whole cc0_scratch1) (Memref.isWhole_whole _) (Memref.whole cc0_scratch2) (Memref.isWhole_whole _)
    ((whole0_0 t).unread (blk0 V c 0 t)) ((whole0_1 t).unread (blk0 V c 1 t)) ((whole0_2 t).unread (blk0 V c 2 t)) ((whole0_3 t).unread (blk0 V c 3 t)) ((whole0_4 t).unread (blk0 V c 4 t)) ((whole0_5 t).unread (blk0 V c 5 t)) ((whole0_6 t).unread (blk0 V c 6 t)) f10 f11 hc1 hc2 (ada0 V hV c t _ _) (sta0 V hV c t _ _) (lst0 V hV c t _ _ _)

/-- The accumulator after the first step, a middle step and the last is the next of the sequence. -/
theorem runF_read (c : Dev nD) (t : Fin cfg0.N) (f11 : Bf (F := F) c (Memref.whole cc0_scratch2)) (hc1) (hc2) (h : t.val = 0) :
    (Memref.whole cc0_scratch1).view.read (Elt F) (runF V hV c t f11 hc1 hc2).1 = acc0 V hV c (t.val + 1) := by
  rw [acc0_succ, h]
  exact shrinkFirst_read c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f11 hc1 hc2

theorem runM_read (c : Dev nD) (t : Fin cfg0.N) (f10 : Bf (F := F) c (Memref.whole cc0_scratch1)) (f11 : Bf (F := F) c (Memref.whole cc0_scratch2)) (hc1) (hc2)
    (h : (Memref.whole cc0_scratch1).view.read (Elt F) f10 = acc0 V hV c t.val) :
    (Memref.whole cc0_scratch1).view.read (Elt F) (runM V hV c t f10 f11 hc1 hc2).1 = acc0 V hV c (t.val + 1) := by
  rw [acc0_succ, ← h]
  exact shrinkMid_read c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f10 f11 hc1 hc2

theorem runL_read (c : Dev nD) (t : Fin cfg0.N) (f10 : Bf (F := F) c (Memref.whole cc0_scratch1)) (f11 : Bf (F := F) c (Memref.whole cc0_scratch2)) (hc1) (hc2)
    (h : (Memref.whole cc0_scratch1).view.read (Elt F) f10 = acc0 V hV c t.val) :
    (Memref.whole cc0_scratch1).view.read (Elt F) (runL V hV c t f10 f11 hc1 hc2).1.1 = acc0 V hV c (t.val + 1) := by
  rw [acc0_succ, ← h]
  exact shrinkLast_read c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f10 f11 hc1 hc2 (lst0 V hV c t _ _ _)

/-- The output block at the last step does not depend on what the scratch held. -/
theorem runL_indep (c : Dev nD) (t : Fin cfg0.N) (f10 : Bf (F := F) c (Memref.whole cc0_scratch1)) (f11 f11' : Bf (F := F) c (Memref.whole cc0_scratch2)) (hc1) (hc2) :
    (runL V hV c t f10 f11 hc1 hc2).1.2 = (runL V hV c t f10 f11' hc1 hc2).1.2 :=
  shrinkLast_indep c (st0_0 t) (st0_3 t) (st0_6 t) (Memref.whole cc0_scratch2) ((whole0_0 t).unread (blk0 V c 0 t)) ((whole0_3 t).unread (blk0 V c 3 t)) ((whole0_6 t).unread (blk0 V c 6 t))
    (st0_1 t) (st0_2 t) (st0_4 t) (st0_5 t) (st0_7 t) (Memref.whole cc0_scratch0) (Memref.whole cc0_scratch1)
    (whole0_0 t) (whole0_1 t) (whole0_2 t) (whole0_3 t) (whole0_4 t) (whole0_5 t) (whole0_6 t) (whole0_7 t) (Memref.isWhole_whole _) (Memref.isWhole_whole _) (Memref.isWhole_whole _)
    ((whole0_1 t).unread (blk0 V c 1 t)) ((whole0_2 t).unread (blk0 V c 2 t)) ((whole0_4 t).unread (blk0 V c 4 t)) ((whole0_5 t).unread (blk0 V c 5 t))
    (ada0 V hV c t _ _) (sta0 V hV c t _ _) (grid0.coords t) f10 f11 f11' hc1 hc2 (lst0 V hV c t _ _ _)

/-- The accumulator's buffer at the contents it has before point `t`. -/
def accBuf (c : Dev nD) (n : ℕ) : Bf (F := F) c (Memref.whole cc0_scratch1) := (Memref.isWhole_whole cc0_scratch1).unread (acc0 V hV c n)

/-- The block the last point leaves in the output's staging buffer (at the others it is not written). -/
def out0 (c : Dev nD) (t : Fin cfg0.N) : S768x128.Idx → Elt F .bf16 :=
  if h : t.val = 7 then
    (st0_7 t).view.read (Elt F) (runL V hV c t (accBuf V hV c t.val) (Memref.whole cc0_scratch2).view.junk
      (guard0_later t (by omega)) (cond0_last t h)).1.2
  else blk0 V c 7 t

/-- The call's scratch that the body leaves alone. -/
def rest0 (c : Dev nD) : sProp 𝕄 :=
  iprop((∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The scratch before point `t`: the accumulator at the sum so far, once there is one. -/
def inv0 (c : Dev nD) (n : ℕ) : sProp 𝕄 :=
  iprop((∃ f, pt c (Memref.whole cc0_scratch0) f) ∗ (∃ f, ⌜n ≠ 0 → (Memref.whole cc0_scratch1).view.read (Elt F) f = acc0 V hV c n⌝ ∗ pt c (Memref.whole cc0_scratch1) f)
    ∗ (∃ f, pt c (Memref.whole cc0_scratch2) f) ∗ rest0 c)

/-- The region's data. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => out0 V hV c t
  Φ t := inv0 V hV c t.val
  q _ := fullShare
  owed _ := 0

/-- The arrays the windows are cut from. -/
theorem dat0_A (c : Dev nD) (w) : (dat0 V hV c).A w = V c (Proc.devRef .tc (Pipeline.arrRef spec0 w)) := by dsimp only [dat0]
/-- An input window holds its block after each step, the output window the output block. -/
theorem after0_0 (c : Dev nD) (t : Fin cfg0.N) : (dat0 V hV c).after 0 t = blk0 V c 0 t := by dsimp only [dat0]
theorem after0_1 (c : Dev nD) (t : Fin cfg0.N) : (dat0 V hV c).after 1 t = blk0 V c 1 t := by dsimp only [dat0]
theorem after0_2 (c : Dev nD) (t : Fin cfg0.N) : (dat0 V hV c).after 2 t = blk0 V c 2 t := by dsimp only [dat0]
theorem after0_3 (c : Dev nD) (t : Fin cfg0.N) : (dat0 V hV c).after 3 t = blk0 V c 3 t := by dsimp only [dat0]
theorem after0_4 (c : Dev nD) (t : Fin cfg0.N) : (dat0 V hV c).after 4 t = blk0 V c 4 t := by dsimp only [dat0]
theorem after0_5 (c : Dev nD) (t : Fin cfg0.N) : (dat0 V hV c).after 5 t = blk0 V c 5 t := by dsimp only [dat0]
theorem after0_6 (c : Dev nD) (t : Fin cfg0.N) : (dat0 V hV c).after 6 t = blk0 V c 6 t := by dsimp only [dat0]
theorem after0_7 (c : Dev nD) (t : Fin cfg0.N) : (dat0 V hV c).after 7 t = out0 V hV c t := by dsimp only [dat0]

/-- An input window holds its block before each step. -/
theorem before0_0 (c : Dev nD) (t : Fin cfg0.N) (d : (cfg0.win 0).block.Idx → Elt F (cfg0.win 0).elt) : (dat0 V hV c).before 0 t d = blk0 V c 0 t :=
  ((dat0 V hV c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d : (cfg0.win 1).block.Idx → Elt F (cfg0.win 1).elt) : (dat0 V hV c).before 1 t d = blk0 V c 1 t :=
  ((dat0 V hV c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
theorem before0_2 (c : Dev nD) (t : Fin cfg0.N) (d : (cfg0.win 2).block.Idx → Elt F (cfg0.win 2).elt) : (dat0 V hV c).before 2 t d = blk0 V c 2 t :=
  ((dat0 V hV c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)
theorem before0_3 (c : Dev nD) (t : Fin cfg0.N) (d : (cfg0.win 3).block.Idx → Elt F (cfg0.win 3).elt) : (dat0 V hV c).before 3 t d = blk0 V c 3 t :=
  ((dat0 V hV c).before_in_eq_fetched 3 rfl (fun _ => rfl) (fun _ _ _ => rfl) (fun t => by rw [after0_3]; unfold Dat.blockOf blk0; rw [dat0_A]; try rfl) t d).trans
    (by unfold Dat.fetched Dat.blockOf blk0; rw [dat0_A]; try rfl)
theorem before0_4 (c : Dev nD) (t : Fin cfg0.N) (d : (cfg0.win 4).block.Idx → Elt F (cfg0.win 4).elt) : (dat0 V hV c).before 4 t d = blk0 V c 4 t :=
  ((dat0 V hV c).before_in_eq_fetched 4 rfl (fun _ => rfl) (fun _ _ _ => rfl) (fun t => by rw [after0_4]; unfold Dat.blockOf blk0; rw [dat0_A]; try rfl) t d).trans
    (by unfold Dat.fetched Dat.blockOf blk0; rw [dat0_A]; try rfl)
theorem before0_5 (c : Dev nD) (t : Fin cfg0.N) (d : (cfg0.win 5).block.Idx → Elt F (cfg0.win 5).elt) : (dat0 V hV c).before 5 t d = blk0 V c 5 t :=
  ((dat0 V hV c).before_in_eq_fetched 5 rfl (fun _ => rfl) (fun _ _ _ => rfl) (fun t => by rw [after0_5]; unfold Dat.blockOf blk0; rw [dat0_A]; try rfl) t d).trans
    (by unfold Dat.fetched Dat.blockOf blk0; rw [dat0_A]; try rfl)
theorem before0_6 (c : Dev nD) (t : Fin cfg0.N) (d : (cfg0.win 6).block.Idx → Elt F (cfg0.win 6).elt) : (dat0 V hV c).before 6 t d = blk0 V c 6 t :=
  ((dat0 V hV c).before_in_eq_fetched 6 rfl (fun _ => rfl) (fun _ _ _ => rfl) (fun t => by rw [after0_6]; unfold Dat.blockOf blk0; rw [dat0_A]; try rfl) t d).trans
    (by unfold Dat.fetched Dat.blockOf blk0; rw [dat0_A]; try rfl)

/-- Before the last step the output window is idle; at the last it is not. -/
theorem idle0_before : ∀ t : Fin cfg0.N, t.val ≠ 7 → idle0 7 (grid0.coords t) = true := by decide +kernel
theorem idle0_last : ∀ t : Fin cfg0.N, t.val = 7 → idle0 7 (grid0.coords t) = false := by decide +kernel
/-- Before the last step the output block is not sent back. -/
theorem keep0_before (t : Fin cfg0.N) (h : t.val ≠ 7) : (cfg0.win 7).flush t = false :=
  Bool.eq_false_iff.mpr fun e => by
    have := (flush0_7 t).mp e
    have := t.isLt
    have : cfg0.N = 8 := rfl
    omega

/-- The output's staging buffer after the body: as it was, unless the point writes the block back. -/
def leave0 (c : Dev nD) (t : Fin cfg0.N) : sProp 𝕄 :=
  match cfg0.idle 7 (cfg0.grid.coords t) with
  | true =>
    match (cfg0.win 7).flush t with
    | false => iprop(∃ d, owns c (st0_7 t) fullShare ((dat0 V hV c).before 7 t d))
    | true => owns c (st0_7 t) fullShare ((dat0 V hV c).after 7 t)
  | false => owns c (st0_7 t) fullShare ((dat0 V hV c).after 7 t)

/-- Before the last step the output window is left as it was; -/
theorem leave0_before (c : Dev nD) (t : Fin cfg0.N) (h : t.val ≠ 7) :
    leave0 V hV c t = iprop(∃ d, owns c (st0_7 t) fullShare ((dat0 V hV c).before 7 t d)) := by
  unfold leave0
  rw [show cfg0.idle 7 (cfg0.grid.coords t) = true from idle0_before t h, keep0_before t h]

/-- the last leaves the output block in it. -/
theorem leave0_last (c : Dev nD) (t : Fin cfg0.N) (h : t.val = 7) :
    leave0 V hV c t = owns c (st0_7 t) fullShare (out0 V hV c t) := by
  unfold leave0
  rw [show cfg0.idle 7 (cfg0.grid.coords t) = false from idle0_last t h, after0_7]

/-- A window's buffer, held at the contents that read as a block, is the window held at that block, and back; so for each. -/
theorem give0_0 (c : Dev nD) (t : Fin cfg0.N) : pt c (st0_0 t) ((whole0_0 t).unread (blk0 V c 0 t)) ⊢ (owns c (st0_0 t) fullShare (blk0 V c 0 t) : sProp 𝕄) :=
  Cert.KProof.owns_close (whole0_0 t) fullShare (blk0 V c 0 t) _ ((whole0_0 t).read_unread _)
theorem take0_0 (c : Dev nD) (t : Fin cfg0.N) : (owns c (st0_0 t) fullShare (blk0 V c 0 t) : sProp 𝕄) ⊢ pt c (st0_0 t) ((whole0_0 t).unread (blk0 V c 0 t)) :=
  Cert.KProof.owns_open (whole0_0 t) fullShare (blk0 V c 0 t)
theorem give0_1 (c : Dev nD) (t : Fin cfg0.N) : pt c (st0_1 t) ((whole0_1 t).unread (blk0 V c 1 t)) ⊢ (owns c (st0_1 t) fullShare (blk0 V c 1 t) : sProp 𝕄) :=
  Cert.KProof.owns_close (whole0_1 t) fullShare (blk0 V c 1 t) _ ((whole0_1 t).read_unread _)
theorem take0_1 (c : Dev nD) (t : Fin cfg0.N) : (owns c (st0_1 t) fullShare (blk0 V c 1 t) : sProp 𝕄) ⊢ pt c (st0_1 t) ((whole0_1 t).unread (blk0 V c 1 t)) :=
  Cert.KProof.owns_open (whole0_1 t) fullShare (blk0 V c 1 t)
theorem give0_2 (c : Dev nD) (t : Fin cfg0.N) : pt c (st0_2 t) ((whole0_2 t).unread (blk0 V c 2 t)) ⊢ (owns c (st0_2 t) fullShare (blk0 V c 2 t) : sProp 𝕄) :=
  Cert.KProof.owns_close (whole0_2 t) fullShare (blk0 V c 2 t) _ ((whole0_2 t).read_unread _)
theorem take0_2 (c : Dev nD) (t : Fin cfg0.N) : (owns c (st0_2 t) fullShare (blk0 V c 2 t) : sProp 𝕄) ⊢ pt c (st0_2 t) ((whole0_2 t).unread (blk0 V c 2 t)) :=
  Cert.KProof.owns_open (whole0_2 t) fullShare (blk0 V c 2 t)
theorem give0_3 (c : Dev nD) (t : Fin cfg0.N) : pt c (st0_3 t) ((whole0_3 t).unread (blk0 V c 3 t)) ⊢ (owns c (st0_3 t) fullShare (blk0 V c 3 t) : sProp 𝕄) :=
  Cert.KProof.owns_close (whole0_3 t) fullShare (blk0 V c 3 t) _ ((whole0_3 t).read_unread _)
theorem take0_3 (c : Dev nD) (t : Fin cfg0.N) : (owns c (st0_3 t) fullShare (blk0 V c 3 t) : sProp 𝕄) ⊢ pt c (st0_3 t) ((whole0_3 t).unread (blk0 V c 3 t)) :=
  Cert.KProof.owns_open (whole0_3 t) fullShare (blk0 V c 3 t)
theorem give0_4 (c : Dev nD) (t : Fin cfg0.N) : pt c (st0_4 t) ((whole0_4 t).unread (blk0 V c 4 t)) ⊢ (owns c (st0_4 t) fullShare (blk0 V c 4 t) : sProp 𝕄) :=
  Cert.KProof.owns_close (whole0_4 t) fullShare (blk0 V c 4 t) _ ((whole0_4 t).read_unread _)
theorem take0_4 (c : Dev nD) (t : Fin cfg0.N) : (owns c (st0_4 t) fullShare (blk0 V c 4 t) : sProp 𝕄) ⊢ pt c (st0_4 t) ((whole0_4 t).unread (blk0 V c 4 t)) :=
  Cert.KProof.owns_open (whole0_4 t) fullShare (blk0 V c 4 t)
theorem give0_5 (c : Dev nD) (t : Fin cfg0.N) : pt c (st0_5 t) ((whole0_5 t).unread (blk0 V c 5 t)) ⊢ (owns c (st0_5 t) fullShare (blk0 V c 5 t) : sProp 𝕄) :=
  Cert.KProof.owns_close (whole0_5 t) fullShare (blk0 V c 5 t) _ ((whole0_5 t).read_unread _)
theorem take0_5 (c : Dev nD) (t : Fin cfg0.N) : (owns c (st0_5 t) fullShare (blk0 V c 5 t) : sProp 𝕄) ⊢ pt c (st0_5 t) ((whole0_5 t).unread (blk0 V c 5 t)) :=
  Cert.KProof.owns_open (whole0_5 t) fullShare (blk0 V c 5 t)
theorem give0_6 (c : Dev nD) (t : Fin cfg0.N) : pt c (st0_6 t) ((whole0_6 t).unread (blk0 V c 6 t)) ⊢ (owns c (st0_6 t) fullShare (blk0 V c 6 t) : sProp 𝕄) :=
  Cert.KProof.owns_close (whole0_6 t) fullShare (blk0 V c 6 t) _ ((whole0_6 t).read_unread _)
theorem take0_6 (c : Dev nD) (t : Fin cfg0.N) : (owns c (st0_6 t) fullShare (blk0 V c 6 t) : sProp 𝕄) ⊢ pt c (st0_6 t) ((whole0_6 t).unread (blk0 V c 6 t)) :=
  Cert.KProof.owns_open (whole0_6 t) fullShare (blk0 V c 6 t)
theorem give0_7 (c : Dev nD) (t : Fin cfg0.N) (X : (cfg0.win 7).block.Idx → Elt F (cfg0.win 7).elt) : pt c (st0_7 t) ((whole0_7 t).unread X) ⊢ (owns c (st0_7 t) fullShare X : sProp 𝕄) :=
  Cert.KProof.owns_close (whole0_7 t) fullShare X _ ((whole0_7 t).read_unread _)
theorem take0_7 (c : Dev nD) (t : Fin cfg0.N) (X : (cfg0.win 7).block.Idx → Elt F (cfg0.win 7).elt) : (owns c (st0_7 t) fullShare X : sProp 𝕄) ⊢ pt c (st0_7 t) ((whole0_7 t).unread X) :=
  Cert.KProof.owns_open (whole0_7 t) fullShare X

/-- The body at point `t`, from the scratch and the staging buffers to those after it. -/
abbrev step0 (c : Dev nD) (t : Fin cfg0.N) : Prop :=
  iprop(inv0 V hV c t.val ∗ (dat0 V hV c).owesAt () t.castSucc ∗ (∃ d : (cfg0.win 0).block.Idx → Elt F (cfg0.win 0).elt, owns c (st0_0 t) fullShare (blk0 V c 0 t)) ∗ (∃ d : (cfg0.win 1).block.Idx → Elt F (cfg0.win 1).elt, owns c (st0_1 t) fullShare (blk0 V c 1 t)) ∗ (∃ d : (cfg0.win 2).block.Idx → Elt F (cfg0.win 2).elt, owns c (st0_2 t) fullShare (blk0 V c 2 t)) ∗ (∃ d : (cfg0.win 3).block.Idx → Elt F (cfg0.win 3).elt, owns c (st0_3 t) fullShare (blk0 V c 3 t)) ∗ (∃ d : (cfg0.win 4).block.Idx → Elt F (cfg0.win 4).elt, owns c (st0_4 t) fullShare (blk0 V c 4 t)) ∗ (∃ d : (cfg0.win 5).block.Idx → Elt F (cfg0.win 5).elt, owns c (st0_5 t) fullShare (blk0 V c 5 t)) ∗ (∃ d : (cfg0.win 6).block.Idx → Elt F (cfg0.win 6).elt, owns c (st0_6 t) fullShare (blk0 V c 6 t)) ∗ (∃ d, owns c (st0_7 t) fullShare ((dat0 V hV c).before 7 t d))) ⊢
    wp frame (wpE (defs₀ (F := F)) Variants.none c none) Set.univ (bodyAt0 t) fun _ => iprop(inv0 V hV c (t.val + 1) ∗ (dat0 V hV c).owesAt () t.castSucc ∗ owns c (st0_0 t) fullShare (blk0 V c 0 t) ∗ owns c (st0_1 t) fullShare (blk0 V c 1 t) ∗ owns c (st0_2 t) fullShare (blk0 V c 2 t) ∗ owns c (st0_3 t) fullShare (blk0 V c 3 t) ∗ owns c (st0_4 t) fullShare (blk0 V c 4 t) ∗ owns c (st0_5 t) fullShare (blk0 V c 5 t) ∗ owns c (st0_6 t) fullShare (blk0 V c 6 t) ∗ leave0 V hV c t)

/-- What the last step stores closes to the output block. -/
theorem runL_close (c : Dev nD) (t : Fin cfg0.N) (f10 : Bf (F := F) c (Memref.whole cc0_scratch1)) (f11 : Bf (F := F) c (Memref.whole cc0_scratch2)) (hc1) (hc2) (h7 : t.val = 7)
    (h : (Memref.whole cc0_scratch1).view.read (Elt F) f10 = acc0 V hV c t.val) :
    pt c (st0_7 t) (runL V hV c t f10 f11 hc1 hc2).1.2 ⊢ (owns c (st0_7 t) fullShare (out0 V hV c t) : sProp 𝕄) := by
  refine Cert.KProof.owns_close (whole0_7 t) fullShare (out0 V hV c t) (runL V hV c t f10 f11 hc1 hc2).1.2 ?_
  have e : f10 = accBuf V hV c t.val := (Memref.isWhole_whole cc0_scratch1).eq_unread h
  subst e
  unfold out0
  rw [dif_pos h7]
  exact congrArg _ (runL_indep V hV c t _ f11 _ hc1 hc2)

set_option maxHeartbeats 4000000 in
/-- The first step does what the region asks of it; -/
theorem step0_F (c : Dev nD) (t : Fin cfg0.N) (h : t.val = 0) : step0 V hV c t := by
  unfold step0
  rw [leave0_before V hV c t (by omega)]
  unfold inv0
  iintro ⟨⟨⟨%f9, S9⟩, ⟨%f10, -, S10⟩, ⟨%f11, S11⟩, R⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := take0_0 V c t $$ H0
  ihave H1 := take0_1 V c t $$ H1
  ihave H2 := take0_2 V c t $$ H2
  ihave H3 := take0_3 V c t $$ H3
  ihave H4 := take0_4 V c t $$ H4
  ihave H5 := take0_5 V c t $$ H5
  ihave H6 := take0_6 V c t $$ H6
  ihave H7 := take0_7 c t _ $$ H7
  iapply (runF V hV c t f11 (guard0_first t h) (cond0_before t (by omega))).2 ((whole0_7 t).unread _) f9 f10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  iintro ⟨H0, H1, H2, H3, H4, H5, H6, H7, S9, S10, S11⟩
  isplitl [R S9 S10 S11]
  · isplitl [S9]; · iexact S9
    isplitl [S10]
    · iexists (runF V hV c t f11 (guard0_first t h) (cond0_before t (by omega))).1
      isplitr
      · ipureintro; exact fun _ => runF_read V hV c t f11 (guard0_first t h) (cond0_before t (by omega)) h
      · iexact S10
    isplitl [S11]; · iexact S11
    iexact R
  isplitl [HO]; · iexact HO
  isplitl [H0]
  · iapply (give0_0 V c t); iexact H0
  isplitl [H1]
  · iapply (give0_1 V c t); iexact H1
  isplitl [H2]
  · iapply (give0_2 V c t); iexact H2
  isplitl [H3]
  · iapply (give0_3 V c t); iexact H3
  isplitl [H4]
  · iapply (give0_4 V c t); iexact H4
  isplitl [H5]
  · iapply (give0_5 V c t); iexact H5
  isplitl [H6]
  · iapply (give0_6 V c t); iexact H6
  iexists d7
  iapply (give0_7 c t _)
  iexact H7

set_option maxHeartbeats 4000000 in
/-- so do the middle steps, -/
theorem step0_M (c : Dev nD) (t : Fin cfg0.N) (h : t.val ≠ 0) (h7 : t.val ≠ 7) : step0 V hV c t := by
  unfold step0
  rw [leave0_before V hV c t (by omega)]
  unfold inv0
  iintro ⟨⟨⟨%f9, S9⟩, ⟨%f10, %hf, S10⟩, ⟨%f11, S11⟩, R⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := take0_0 V c t $$ H0
  ihave H1 := take0_1 V c t $$ H1
  ihave H2 := take0_2 V c t $$ H2
  ihave H3 := take0_3 V c t $$ H3
  ihave H4 := take0_4 V c t $$ H4
  ihave H5 := take0_5 V c t $$ H5
  ihave H6 := take0_6 V c t $$ H6
  ihave H7 := take0_7 c t _ $$ H7
  iapply (runM V hV c t f10 f11 (guard0_later t h) (cond0_before t h7)).2 ((whole0_7 t).unread _) f9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  iintro ⟨H0, H1, H2, H3, H4, H5, H6, H7, S9, S10, S11⟩
  isplitl [R S9 S10 S11]
  · isplitl [S9]; · iexact S9
    isplitl [S10]
    · iexists (runM V hV c t f10 f11 (guard0_later t h) (cond0_before t h7)).1
      isplitr
      · ipureintro; exact fun _ => runM_read V hV c t f10 f11 (guard0_later t h) (cond0_before t h7) (hf h)
      · iexact S10
    isplitl [S11]; · iexact S11
    iexact R
  isplitl [HO]; · iexact HO
  isplitl [H0]
  · iapply (give0_0 V c t); iexact H0
  isplitl [H1]
  · iapply (give0_1 V c t); iexact H1
  isplitl [H2]
  · iapply (give0_2 V c t); iexact H2
  isplitl [H3]
  · iapply (give0_3 V c t); iexact H3
  isplitl [H4]
  · iapply (give0_4 V c t); iexact H4
  isplitl [H5]
  · iapply (give0_5 V c t); iexact H5
  isplitl [H6]
  · iapply (give0_6 V c t); iexact H6
  iexists d7
  iapply (give0_7 c t _)
  iexact H7

set_option maxHeartbeats 4000000 in
/-- and the last; -/
theorem step0_L (c : Dev nD) (t : Fin cfg0.N) (h7 : t.val = 7) : step0 V hV c t := by
  unfold step0
  rw [leave0_last V hV c t h7]
  unfold inv0
  iintro ⟨⟨⟨%f9, S9⟩, ⟨%f10, %hf, S10⟩, ⟨%f11, S11⟩, R⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := take0_0 V c t $$ H0
  ihave H1 := take0_1 V c t $$ H1
  ihave H2 := take0_2 V c t $$ H2
  ihave H3 := take0_3 V c t $$ H3
  ihave H4 := take0_4 V c t $$ H4
  ihave H5 := take0_5 V c t $$ H5
  ihave H6 := take0_6 V c t $$ H6
  ihave H7 := take0_7 c t _ $$ H7
  iapply (runL V hV c t f10 f11 (guard0_later t (by omega)) (cond0_last t h7)).2 ((whole0_7 t).unread _) f9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  isplitl [S11]; · iexact S11
  iintro ⟨H0, H1, H2, H3, H4, H5, H6, H7, S9, S10, S11⟩
  isplitl [R S9 S10 S11]
  · isplitl [S9]; · iexact S9
    isplitl [S10]
    · iexists (runL V hV c t f10 f11 (guard0_later t (by omega)) (cond0_last t h7)).1.1
      isplitr
      · ipureintro; exact fun _ => runL_read V hV c t f10 f11 (guard0_later t (by omega)) (cond0_last t h7) (hf (by omega))
      · iexact S10
    isplitl [S11]; · iexact S11
    iexact R
  isplitl [HO]; · iexact HO
  isplitl [H0]
  · iapply (give0_0 V c t); iexact H0
  isplitl [H1]
  · iapply (give0_1 V c t); iexact H1
  isplitl [H2]
  · iapply (give0_2 V c t); iexact H2
  isplitl [H3]
  · iapply (give0_3 V c t); iexact H3
  isplitl [H4]
  · iapply (give0_4 V c t); iexact H4
  isplitl [H5]
  · iapply (give0_5 V c t); iexact H5
  isplitl [H6]
  · iapply (give0_6 V c t); iexact H6
  iapply (runL_close V hV c t f10 f11 (guard0_later t (by omega)) (cond0_last t h7) h7 (hf (by omega)))
  iexact H7

/-- so every step does. -/
theorem step0_all (c : Dev nD) (t : Fin cfg0.N) : step0 V hV c t := by
  by_cases h : t.val = 0
  · exact step0_F V hV c t h
  · by_cases h7 : t.val = 7
    · exact step0_L V hV c t h7
    · exact step0_M V hV c t h h7

set_option maxRecDepth 16384 in
set_option maxHeartbeats 4000000 in
/-- The body's obligation over the grid. -/
theorem body0 (c : Dev nD) : BodyObligation (dat0 V hV c) (defs₀ (F := F)) Variants.none () Set.univ := fun t => by
  rw [bigSep_W0, bigSep_W0]
  show iprop(inv0 V hV c t.val ∗ (dat0 V hV c).owesAt () t.castSucc ∗ (∃ d, owns c (st0_0 t) fullShare ((dat0 V hV c).before 0 t d)) ∗ (∃ d, owns c (st0_1 t) fullShare ((dat0 V hV c).before 1 t d)) ∗ (∃ d, owns c (st0_2 t) fullShare ((dat0 V hV c).before 2 t d)) ∗ (∃ d, owns c (st0_3 t) fullShare ((dat0 V hV c).before 3 t d)) ∗ (∃ d, owns c (st0_4 t) fullShare ((dat0 V hV c).before 4 t d)) ∗ (∃ d, owns c (st0_5 t) fullShare ((dat0 V hV c).before 5 t d)) ∗ (∃ d, owns c (st0_6 t) fullShare ((dat0 V hV c).before 6 t d)) ∗ (∃ d, owns c (st0_7 t) fullShare ((dat0 V hV c).before 7 t d))) ⊢
    wp frame (wpE (defs₀ (F := F)) Variants.none c none) Set.univ (bodyAt0 t) fun _ => iprop(inv0 V hV c (t.val + 1) ∗ (dat0 V hV c).owesAt () t.castSucc ∗ owns c (st0_0 t) fullShare ((dat0 V hV c).after 0 t) ∗ owns c (st0_1 t) fullShare ((dat0 V hV c).after 1 t) ∗ owns c (st0_2 t) fullShare ((dat0 V hV c).after 2 t) ∗ owns c (st0_3 t) fullShare ((dat0 V hV c).after 3 t) ∗ owns c (st0_4 t) fullShare ((dat0 V hV c).after 4 t) ∗ owns c (st0_5 t) fullShare ((dat0 V hV c).after 5 t) ∗ owns c (st0_6 t) fullShare ((dat0 V hV c).after 6 t) ∗ leave0 V hV c t)
  simp only [before0_0, before0_1, before0_2, before0_3, before0_4, before0_5, before0_6]
  rw [after0_0, after0_1, after0_2, after0_3, after0_4, after0_5, after0_6]
  exact step0_all V hV c t

end Cert.KernelProof

end
-- ==== Proof.BitsRegion1.lean ====
/- The main kernel over its grid: the contents of each window at each step, and the body at each step against them. For the printed program. -/
module

public import proofs.«01_k».proof.Proof.Gen.Kernel.Skeleton
public import proofs.«01_k».proof.Proof.Gen.Kernel
public import Idealize.ShloMosaic.Lib.Tactic
public import proofs.«01_k».proof.Proof.Common
public import proofs.«01_k».proof.Proof.BitsWords

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose)

variable {F : FTy → Type} [BitOps F]

local notation "𝕄" => MT nD τ sig Unit (Elt F) ℕ (URounds (GSem nD τ sig) Unit) ℕ

/-! The main call's region: what each window's staging buffer holds at a point, and the body's run from there. -/

variable (V : Dev nD → Valuation τ sig (Elt F)) (hV : OkV V)

/-- Window `w`'s block of its array at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

include hV in
/-- Every segment's adapter that a step reads is in range. -/
theorem ada1 (c : Dev nD) (t : Fin cfg1.N) (M : Memref sig .tc .smem S9 .i32) (h : M.IsWhole) (r : Rect S9) (i) :
    k1_chk1 (M.view.readAt (Elt F) r.toLoadRect (h.unread (blk1 V c 2 t)) i) := by
  have e := congrFun (h.read_unread (Val := Elt F) (blk1 V c 2 t)) (r.idx i)
  refine (congrArg k1_chk1 e).mpr (k1_slot _ ?_)
  exact hV.ada c _

include hV in
/-- Every adapter's first row that a step reads is in range. -/
theorem sta1 (c : Dev nD) (t : Fin cfg1.N) (M : Memref sig .tc .smem S15 .i32) (h : M.IsWhole) (r : Rect S15) (i) :
    k1_chk2 (M.view.readAt (Elt F) r.toLoadRect (h.unread (blk1 V c 0 t)) i) := by
  have e := congrFun (h.read_unread (Val := Elt F) (blk1 V c 0 t)) (r.idx i)
  refine (congrArg k1_chk2 e).mpr (k1_rows _ ?_)
  exact hV.sta c _

/-- Each window's buffer is whole. -/
theorem whole1_0 (t : Fin cfg1.N) : (st1_0 t).IsWhole := hstage1_0 ((cfg1.slots t 0).cast nbuf1_0)
theorem whole1_1 (t : Fin cfg1.N) : (st1_1 t).IsWhole := hstage1_1 ((cfg1.slots t 1).cast nbuf1_1)
theorem whole1_2 (t : Fin cfg1.N) : (st1_2 t).IsWhole := hstage1_2 ((cfg1.slots t 2).cast nbuf1_2)
theorem whole1_3 (t : Fin cfg1.N) : (st1_3 t).IsWhole := hstage1_3 ((cfg1.slots t 3).cast nbuf1_3)
theorem whole1_4 (t : Fin cfg1.N) : (st1_4 t).IsWhole := hstage1_4 ((cfg1.slots t 4).cast nbuf1_4)
theorem whole1_5 (t : Fin cfg1.N) : (st1_5 t).IsWhole := hstage1_5 ((cfg1.slots t 5).cast nbuf1_5)
theorem whole1_6 (t : Fin cfg1.N) : (st1_6 t).IsWhole := hstage1_6 ((cfg1.slots t 6).cast nbuf1_6)
theorem whole1_7 (t : Fin cfg1.N) : (st1_7 t).IsWhole := hstage1_7 ((cfg1.slots t 7).cast nbuf1_7)
theorem whole1_8 (t : Fin cfg1.N) : (st1_8 t).IsWhole := hstage1_8 ((cfg1.slots t 8).cast nbuf1_8)

/-- The block the body leaves in the output's staging buffer. -/
def out1 (c : Dev nD) (t : Fin cfg1.N) : S768x256.Idx → Elt F .bf16 :=
  mainOut c (st1_0 t) (st1_2 t) (st1_7 t) (Memref.whole cc1_scratch1) ((whole1_0 t).unread (blk1 V c 0 t)) ((whole1_2 t).unread (blk1 V c 2 t))
    ((whole1_7 t).unread (blk1 V c 7 t)) (st1_1 t) (st1_3 t) (st1_4 t) (st1_5 t) (st1_6 t) (Memref.whole cc1_scratch0)
    ((whole1_1 t).unread (blk1 V c 1 t)) ((whole1_3 t).unread (blk1 V c 3 t)) ((whole1_4 t).unread (blk1 V c 4 t))
    ((whole1_5 t).unread (blk1 V c 5 t)) ((whole1_6 t).unread (blk1 V c 6 t))
    (ada1 V hV c t _ _) (sta1 V hV c t _ _)

/-- The region's data: the arrays at `V`, the inputs' blocks and the body's block, nothing owed. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => out1 V hV c t
  Φ _ := Pipeline.scopedRest (Ix := Unit) (Name := ℕ) (U := UR sig nD τ) (Lvl := ℕ) (Val := Elt F) spec1 c
  q _ := fullShare
  owed _ := 0

/-- The arrays the windows are cut from. -/
theorem dat1_A (c : Dev nD) (w) : (dat1 V hV c).A w = V c (Proc.devRef .tc (Pipeline.arrRef spec1 w)) := by dsimp only [dat1]
/-- An input window holds its block after each step, the output window the output block. -/
theorem after1_0 (c : Dev nD) (t : Fin cfg1.N) : (dat1 V hV c).after 0 t = blk1 V c 0 t := by dsimp only [dat1]
theorem after1_1 (c : Dev nD) (t : Fin cfg1.N) : (dat1 V hV c).after 1 t = blk1 V c 1 t := by dsimp only [dat1]
theorem after1_2 (c : Dev nD) (t : Fin cfg1.N) : (dat1 V hV c).after 2 t = blk1 V c 2 t := by dsimp only [dat1]
theorem after1_3 (c : Dev nD) (t : Fin cfg1.N) : (dat1 V hV c).after 3 t = blk1 V c 3 t := by dsimp only [dat1]
theorem after1_4 (c : Dev nD) (t : Fin cfg1.N) : (dat1 V hV c).after 4 t = blk1 V c 4 t := by dsimp only [dat1]
theorem after1_5 (c : Dev nD) (t : Fin cfg1.N) : (dat1 V hV c).after 5 t = blk1 V c 5 t := by dsimp only [dat1]
theorem after1_6 (c : Dev nD) (t : Fin cfg1.N) : (dat1 V hV c).after 6 t = blk1 V c 6 t := by dsimp only [dat1]
theorem after1_7 (c : Dev nD) (t : Fin cfg1.N) : (dat1 V hV c).after 7 t = blk1 V c 7 t := by dsimp only [dat1]
theorem after1_8 (c : Dev nD) (t : Fin cfg1.N) : (dat1 V hV c).after 8 t = out1 V hV c t := by dsimp only [dat1]

/-- An input window holds its block before each step. -/
theorem before1_0 (c : Dev nD) (t : Fin cfg1.N) (d : (cfg1.win 0).block.Idx → Elt F (cfg1.win 0).elt) : (dat1 V hV c).before 0 t d = blk1 V c 0 t :=
  ((dat1 V hV c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d : (cfg1.win 1).block.Idx → Elt F (cfg1.win 1).elt) : (dat1 V hV c).before 1 t d = blk1 V c 1 t :=
  ((dat1 V hV c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d : (cfg1.win 2).block.Idx → Elt F (cfg1.win 2).elt) : (dat1 V hV c).before 2 t d = blk1 V c 2 t :=
  ((dat1 V hV c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem before1_3 (c : Dev nD) (t : Fin cfg1.N) (d : (cfg1.win 3).block.Idx → Elt F (cfg1.win 3).elt) : (dat1 V hV c).before 3 t d = blk1 V c 3 t :=
  ((dat1 V hV c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem before1_4 (c : Dev nD) (t : Fin cfg1.N) (d : (cfg1.win 4).block.Idx → Elt F (cfg1.win 4).elt) : (dat1 V hV c).before 4 t d = blk1 V c 4 t :=
  ((dat1 V hV c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)
theorem before1_5 (c : Dev nD) (t : Fin cfg1.N) (d : (cfg1.win 5).block.Idx → Elt F (cfg1.win 5).elt) : (dat1 V hV c).before 5 t d = blk1 V c 5 t :=
  ((dat1 V hV c).before_in_eq_fetched 5 rfl (fun _ => rfl) (fun _ _ _ => rfl) (fun t => by rw [after1_5]; unfold Dat.blockOf blk1; rw [dat1_A]; try rfl) t d).trans
    (by unfold Dat.fetched Dat.blockOf blk1; rw [dat1_A]; try rfl)
theorem before1_6 (c : Dev nD) (t : Fin cfg1.N) (d : (cfg1.win 6).block.Idx → Elt F (cfg1.win 6).elt) : (dat1 V hV c).before 6 t d = blk1 V c 6 t :=
  ((dat1 V hV c).before_in_eq_fetched 6 rfl (fun _ => rfl) (fun _ _ _ => rfl) (fun t => by rw [after1_6]; unfold Dat.blockOf blk1; rw [dat1_A]; try rfl) t d).trans
    (by unfold Dat.fetched Dat.blockOf blk1; rw [dat1_A]; try rfl)
theorem before1_7 (c : Dev nD) (t : Fin cfg1.N) (d : (cfg1.win 7).block.Idx → Elt F (cfg1.win 7).elt) : (dat1 V hV c).before 7 t d = blk1 V c 7 t :=
  ((dat1 V hV c).before_in_eq_fetched 7 rfl (fun _ => rfl) (fun _ _ _ => rfl) (fun t => by rw [after1_7]; unfold Dat.blockOf blk1; rw [dat1_A]; try rfl) t d).trans
    (by unfold Dat.fetched Dat.blockOf blk1; rw [dat1_A]; try rfl)

/-- The body's run at point `t`; -/
def run1 (c : Dev nD) (t : Fin cfg1.N) (f11 : Bf (F := F) c (Memref.whole cc1_scratch1)) :=
  mainRun c (grid1.coords t) (st1_0 t) (whole1_0 t) (st1_1 t) (whole1_1 t) (st1_2 t) (whole1_2 t) (st1_3 t) (whole1_3 t) (st1_4 t) (whole1_4 t) (st1_5 t) (whole1_5 t) (st1_6 t) (whole1_6 t) (st1_7 t) (whole1_7 t) (st1_8 t) (whole1_8 t) (Memref.whole cc1_scratch0) (Memref.isWhole_whole _) (Memref.whole cc1_scratch1) (Memref.isWhole_whole _)
    ((whole1_0 t).unread (blk1 V c 0 t)) ((whole1_1 t).unread (blk1 V c 1 t)) ((whole1_2 t).unread (blk1 V c 2 t)) ((whole1_3 t).unread (blk1 V c 3 t)) ((whole1_4 t).unread (blk1 V c 4 t)) ((whole1_5 t).unread (blk1 V c 5 t)) ((whole1_6 t).unread (blk1 V c 6 t)) ((whole1_7 t).unread (blk1 V c 7 t)) f11 (ada1 V hV c t _ _) (sta1 V hV c t _ _)

/-- and what it leaves in the output's buffer. -/
theorem run1_read (c : Dev nD) (t : Fin cfg1.N) (f11 : Bf (F := F) c (Memref.whole cc1_scratch1)) :
    (st1_8 t).view.read (Elt F) (run1 V hV c t f11).1 = out1 V hV c t :=
  mainRun_read c (st1_0 t) (st1_2 t) (st1_7 t) (Memref.whole cc1_scratch1) ((whole1_0 t).unread (blk1 V c 0 t)) ((whole1_2 t).unread (blk1 V c 2 t))
    ((whole1_7 t).unread (blk1 V c 7 t)) (st1_1 t) (st1_3 t) (st1_4 t) (st1_5 t) (st1_6 t) (st1_8 t) (Memref.whole cc1_scratch0) (whole1_0 t) (whole1_1 t) (whole1_2 t) (whole1_3 t) (whole1_4 t) (whole1_5 t) (whole1_6 t) (whole1_7 t) (whole1_8 t) (Memref.isWhole_whole _) (Memref.isWhole_whole _)
    ((whole1_1 t).unread (blk1 V c 1 t)) ((whole1_3 t).unread (blk1 V c 3 t)) ((whole1_4 t).unread (blk1 V c 4 t)) ((whole1_5 t).unread (blk1 V c 5 t)) ((whole1_6 t).unread (blk1 V c 6 t))
    (ada1 V hV c t _ _) (sta1 V hV c t _ _) (grid1.coords t) f11

/-- What a step stores closes to the output block. -/
theorem run1_close (c : Dev nD) (t : Fin cfg1.N) (f11 : Bf (F := F) c (Memref.whole cc1_scratch1)) :
    pt c (st1_8 t) (run1 V hV c t f11).1 ⊢ (owns c (st1_8 t) fullShare (out1 V hV c t) : sProp 𝕄) :=
  Cert.KProof.owns_close (whole1_8 t) fullShare (out1 V hV c t) (run1 V hV c t f11).1 (run1_read V hV c t f11)

set_option maxHeartbeats 4000000 in
/-- The body's obligation over the grid. -/
theorem body1 (c : Dev nD) : BodyObligation (dat1 V hV c) (defs₀ (F := F)) Variants.none () Set.univ := fun t => by
  rw [bigSep_W1, bigSep_W1]
  show iprop((dat1 V hV c).Φ t.castSucc ∗ (dat1 V hV c).owesAt () t.castSucc ∗ (∃ d, owns c (st1_0 t) fullShare ((dat1 V hV c).before 0 t d)) ∗ (∃ d, owns c (st1_1 t) fullShare ((dat1 V hV c).before 1 t d)) ∗ (∃ d, owns c (st1_2 t) fullShare ((dat1 V hV c).before 2 t d)) ∗ (∃ d, owns c (st1_3 t) fullShare ((dat1 V hV c).before 3 t d)) ∗ (∃ d, owns c (st1_4 t) fullShare ((dat1 V hV c).before 4 t d)) ∗ (∃ d, owns c (st1_5 t) fullShare ((dat1 V hV c).before 5 t d)) ∗ (∃ d, owns c (st1_6 t) fullShare ((dat1 V hV c).before 6 t d)) ∗ (∃ d, owns c (st1_7 t) fullShare ((dat1 V hV c).before 7 t d)) ∗ (∃ d, owns c (st1_8 t) fullShare ((dat1 V hV c).before 8 t d))) ⊢
    wp frame (wpE (defs₀ (F := F)) Variants.none c none) Set.univ (bodyAt1 t) fun _ => iprop((dat1 V hV c).Φ t.succ ∗ (dat1 V hV c).owesAt () t.succ ∗ owns c (st1_0 t) fullShare ((dat1 V hV c).after 0 t) ∗ owns c (st1_1 t) fullShare ((dat1 V hV c).after 1 t) ∗ owns c (st1_2 t) fullShare ((dat1 V hV c).after 2 t) ∗ owns c (st1_3 t) fullShare ((dat1 V hV c).after 3 t) ∗ owns c (st1_4 t) fullShare ((dat1 V hV c).after 4 t) ∗ owns c (st1_5 t) fullShare ((dat1 V hV c).after 5 t) ∗ owns c (st1_6 t) fullShare ((dat1 V hV c).after 6 t) ∗ owns c (st1_7 t) fullShare ((dat1 V hV c).after 7 t) ∗ owns c (st1_8 t) fullShare ((dat1 V hV c).after 8 t))
  simp only [before1_0]
  simp only [before1_1]
  simp only [before1_2]
  simp only [before1_3]
  simp only [before1_4]
  simp only [before1_5]
  simp only [before1_6]
  simp only [before1_7]
  rw [after1_0, after1_1, after1_2, after1_3, after1_4, after1_5, after1_6, after1_7, after1_8]
  rw [show (dat1 V hV c).owesAt () t.succ = (dat1 V hV c).owesAt () t.castSucc from rfl]
  rw [show (dat1 V hV c).Φ t.castSucc = Pipeline.scopedRest spec1 c from rfl, show (dat1 V hV c).Φ t.succ = Pipeline.scopedRest spec1 c from rfl,
    scopedRest1_eq]
  iintro ⟨⟨R0, R1, R2, R3, R4, R5, R6, R7, ⟨%f10, S10⟩, ⟨%f11, S11⟩, R10, R11, R12, R13, R14⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := Cert.KProof.owns_open (whole1_0 t) _ _ $$ H0
  ihave H1 := Cert.KProof.owns_open (whole1_1 t) _ _ $$ H1
  ihave H2 := Cert.KProof.owns_open (whole1_2 t) _ _ $$ H2
  ihave H3 := Cert.KProof.owns_open (whole1_3 t) _ _ $$ H3
  ihave H4 := Cert.KProof.owns_open (whole1_4 t) _ _ $$ H4
  ihave H5 := Cert.KProof.owns_open (whole1_5 t) _ _ $$ H5
  ihave H6 := Cert.KProof.owns_open (whole1_6 t) _ _ $$ H6
  ihave H7 := Cert.KProof.owns_open (whole1_7 t) _ _ $$ H7
  ihave H8 := Cert.KProof.owns_open (whole1_8 t) _ _ $$ H8
  iapply (run1 V hV c t f11).2 ((whole1_8 t).unread _) f10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S10]; · iexact S10
  isplitl [S11]; · iexact S11
  iintro ⟨H0, H1, H2, H3, H4, H5, H6, H7, H8, S10, S11⟩
  isplitl [R0 R1 R2 R3 R4 R5 R6 R7 S10 S11 R10 R11 R12 R13 R14]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [S10]; · iexact S10
    isplitl [S11]; · iexact S11
    isplitl [R10]; · iexact R10
    isplitl [R11]; · iexact R11
    isplitl [R12]; · iexact R12
    isplitl [R13]; · iexact R13
    iexact R14
  isplitl [HO]; · iexact HO
  isplitl [H0]
  · iapply (Cert.KProof.owns_close (whole1_0 t) fullShare (blk1 V c 0 t) _ ((whole1_0 t).read_unread _)); iexact H0
  isplitl [H1]
  · iapply (Cert.KProof.owns_close (whole1_1 t) fullShare (blk1 V c 1 t) _ ((whole1_1 t).read_unread _)); iexact H1
  isplitl [H2]
  · iapply (Cert.KProof.owns_close (whole1_2 t) fullShare (blk1 V c 2 t) _ ((whole1_2 t).read_unread _)); iexact H2
  isplitl [H3]
  · iapply (Cert.KProof.owns_close (whole1_3 t) fullShare (blk1 V c 3 t) _ ((whole1_3 t).read_unread _)); iexact H3
  isplitl [H4]
  · iapply (Cert.KProof.owns_close (whole1_4 t) fullShare (blk1 V c 4 t) _ ((whole1_4 t).read_unread _)); iexact H4
  isplitl [H5]
  · iapply (Cert.KProof.owns_close (whole1_5 t) fullShare (blk1 V c 5 t) _ ((whole1_5 t).read_unread _)); iexact H5
  isplitl [H6]
  · iapply (Cert.KProof.owns_close (whole1_6 t) fullShare (blk1 V c 6 t) _ ((whole1_6 t).read_unread _)); iexact H6
  isplitl [H7]
  · iapply (Cert.KProof.owns_close (whole1_7 t) fullShare (blk1 V c 7 t) _ ((whole1_7 t).read_unread _)); iexact H7
  iapply (run1_close V hV c t f11)
  iexact H8

end Cert.KernelProof

end
-- ==== Proof.BitsRun.lean ====
/- The whole program: host operations and the two calls in order, and the memory it ends in. For the printed program. -/
module

public import proofs.«01_k».proof.Proof.Gen.Kernel.Skeleton
public import proofs.«01_k».proof.Proof.Gen.Kernel
public import Idealize.ShloMosaic.Lib.Tactic
public import proofs.«01_k».proof.Proof.Common
public import proofs.«01_k».proof.Proof.BitsRegion0
public import proofs.«01_k».proof.Proof.BitsRegion1
public import proofs.«01_k».proof.Proof.Gen.Kernel.Regions
public import Idealize.ShloMosaic.Lib.Pipeline.RegionArraysS

@[expose] public section

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window Seg HostSeg RegionSeg BodyObligation BodyObligationLoose)

variable {F : FTy → Type} [BitOps F]

local notation "𝕄" => MT nD τ sig Unit (Elt F) ℕ (URounds (GSem nD τ sig) Unit) ℕ

/-! The whole program's run: from a memory with the words in range, every weakly fair execution ends, and every
buffer then holds what the two regions' data say. -/

variable (m : (ℓ : Loc nD τ sig) → Buf (Elt F) ℓ) (hV : OkV (V0 m))

include hV in
/-- The words are still in bounds after the first host operations; -/
theorem ok1 : OkV (V1 m) where
  ada c j := by rw [V1_of m c main_arg9 (by decide)]; exact hV.ada c j
  sta c j := by rw [V1_of m c main_arg5 (by decide)]; exact hV.sta c j

/-- The buffers after the shrink call, as its region leaves them; -/
def W2 (c : Dev nD) : Valuation τ sig (Elt F) := Pipeline.afterRegion (dat0 (V1 m) (ok1 m hV) c) (V1 m c)
/-- as the main call finds them; -/
def U2 (c : Dev nD) : Valuation τ sig (Elt F) := Function.update (V1 m c) main_v1 (W2 m hV c main_v1)

/-- The first call changes its result alone; -/
theorem U2_of (c : Dev nD) (r : Ref sig .tc) (h : r ∉ ([main_v1] : List (Ref sig .tc))) : U2 m hV c r = V1 m c r := by
  simp only [U2, Function.update_of_ne (StableHlo.devRef_ne_of_ne (List.ne_of_not_mem_cons h) : (Proc.devRef .tc r : DevRef τ sig) ≠ Proc.devRef .tc main_v1)]

/-- so the words are still in bounds after it. -/
theorem ok2 : OkV (U2 m hV) where
  ada c j := by rw [U2_of m hV c main_arg9 (by decide)]; exact (ok1 m hV).ada c j
  sta c j := by rw [U2_of m hV c main_arg5 (by decide)]; exact (ok1 m hV).sta c j

/-- and after it. -/
def W3 (c : Dev nD) : Valuation τ sig (Elt F) := Pipeline.afterRegion (dat1 (U2 m hV) (ok2 m hV) c) (U2 m hV c)

/-- What the regions leave. -/
def outs : Outs (F := F) := fun J r c => match J with | 2 => W2 m hV c r | _ => W3 m hV c r

/-- The two ways of writing the memory after the first call agree. -/
theorem V2_eq (c : Dev nD) : V2 m (outs m hV) c = U2 m hV c := rfl

/-- The two regions' data. -/
def pd : (p : Fin 2) → (c : Dev nD) → Dat τ (Elt F) Unit ℕ (URounds (GSem nD τ sig) Unit) ℕ (cfgs p) c
  | 0 => fun c => dat0 (V1 m) (ok1 m hV) c
  | 1 => fun c => dat1 (U2 m hV) (ok2 m hV) c
  | ⟨_ + 2, h⟩ => absurd h (Nat.not_lt.2 (Nat.le_add_left _ _))

/-- Every cell of a core waits at level zero. -/
def lvL (g : GSem nD τ sig) : Finset Unit := if g.1.2 = .tc then {()} else ∅
/-- One level for all semaphores. -/
def lv0 (_ : GSem nD τ sig) (_ : Unit) : ℕ := 0

/-- What a core owns beside the buffers between two items: nothing owed. -/
def rest (_ : Fin 3) (c : Dev nD) : sProp 𝕄 :=
  iprop((∃ W, owes (c : Thread nD τ) ((0 : Dev nD → CellTallies nD τ sig Unit) c) W) ∗ emp ∗ emp)

/-- No call waits on a semaphore of the other. -/
theorem cut (p : Fin 2) : Pipeline.LevelCut (pcfgs (F := F)) adm () lvL lv0 p (0 : Dev nD → CellTallies nD τ sig Unit) (fun _ => 0) where
  hι _ _ _ := by unfold lvL; rw [if_pos rfl]; exact Finset.mem_singleton_self _
  hιb _ _ _ := Nat.le_refl 0
  hD _ _ _ h := absurd h (Nat.lt_irrefl 0)

/-- The first call's scratch enters its invariant, -/
theorem inv_in (c : Dev nD) : iprop(Pipeline.scopedRest (Ix := Unit) (Name := ℕ) (U := UR sig nD τ) (Lvl := ℕ) (Val := Elt F) spec0 c ∗ emp)
    ⊢ inv0 (V1 m) (ok1 m hV) c 0 := by
  rw [scopedRest0_eq]
  unfold inv0 rest0
  iintro ⟨⟨S0, ⟨%f, S1⟩, S2, R⟩, -⟩
  isplitl [S0]; · iexact S0
  isplitl [S1]
  · iexists f
    isplitr
    · ipureintro; exact fun h => absurd rfl h
    · iexact S1
  isplitl [S2]; · iexact S2
  iexact R

/-- and leaves it. -/
theorem inv_out (c : Dev nD) (n : ℕ) : inv0 (V1 m) (ok1 m hV) c n
    ⊢ iprop(Pipeline.scopedRest (Ix := Unit) (Name := ℕ) (U := UR sig nD τ) (Lvl := ℕ) (Val := Elt F) spec0 c ∗ emp) := by
  rw [scopedRest0_eq]
  unfold inv0 rest0
  iintro ⟨S0, ⟨%f, -, S1⟩, S2, R⟩
  isplitl
  · isplitl [S0]; · iexact S0
    isplitl [S1]; · iexists f; iexact S1
    isplitl [S2]; · iexact S2
    iexact R
  iempintro

/-- The second call's scratch enters its region, -/
theorem scr_in (c : Dev nD) : iprop(Pipeline.scopedRest (Ix := Unit) (Name := ℕ) (U := UR sig nD τ) (Lvl := ℕ) (Val := Elt F) spec1 c ∗ emp)
    ⊢ (Pipeline.scopedRest (Ix := Unit) (Name := ℕ) (U := UR sig nD τ) (Lvl := ℕ) (Val := Elt F) spec1 c : sProp 𝕄) := by
  iintro ⟨H, -⟩
  iexact H

/-- and leaves it. -/
theorem scr_out (c : Dev nD) : (Pipeline.scopedRest (Ix := Unit) (Name := ℕ) (U := UR sig nD τ) (Lvl := ℕ) (Val := Elt F) spec1 c : sProp 𝕄)
    ⊢ iprop(Pipeline.scopedRest (Ix := Unit) (Name := ℕ) (U := UR sig nD τ) (Lvl := ℕ) (Val := Elt F) spec1 c ∗ emp) := by
  iintro H
  isplitl [H]
  · iexact H
  · iempintro

/-- The shrink call's region; -/
def reg0 : RegionSeg (pcfgs (F := F)) adm (pd m hV) () defs₀ Variants.none lvL lv0 0 :=
  RegionSeg.ofHeldIn (pcfgs (F := F)) adm (pd m hV) () defs₀ Variants.none lvL lv0 0 (0 : Dev nD → CellTallies nD τ sig Unit) (Pipeline.ucRefs τ sig)
    (fun _ => iprop(emp)) (fun _ => iprop(emp)) launch0.toP rfl (fun c => (body0 (V1 m) (ok1 m hV) c).loose) (fun _ _ => rfl) (fun _ => rfl)
    (fun c => (dat0 (V1 m) (ok1 m hV) c).share_full fun _ => rfl) (fun c => inv_in m hV c) (fun c => inv_out m hV c _) (fun _ => 0) (cut 0)
    (fun _ => iprop(emp)) (V1 m) (fun _ _ => rfl)

/-- the main call's. -/
def reg1 : RegionSeg (pcfgs (F := F)) adm (pd m hV) () defs₀ Variants.none lvL lv0 1 :=
  RegionSeg.ofHeldIn (pcfgs (F := F)) adm (pd m hV) () defs₀ Variants.none lvL lv0 1 (0 : Dev nD → CellTallies nD τ sig Unit) (Pipeline.ucRefs τ sig)
    (fun _ => iprop(emp)) (fun _ => iprop(emp)) launch1.toP rfl (fun c => (body1 (U2 m hV) (ok2 m hV) c).loose) (fun _ _ => rfl) (fun _ => rfl)
    (fun c => (dat1 (U2 m hV) (ok2 m hV) c).share_full fun _ => rfl) (fun c => scr_in c) (fun c => scr_out c) (fun _ => 0) (cut 1)
    (fun _ => iprop(emp)) (U2 m hV) (fun _ _ => rfl)

/-- The calls' arrays are among the program's. -/
theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)

/-- Each call's only output is its result. -/
theorem arrRef0_out : ∀ w : Fin 8, Pipeline.arrRef spec0 w ≠ main_v1 → (cfg0.win w).isOut = false := by decide
theorem arrRef1_out : ∀ w : Fin 9, Pipeline.arrRef spec1 w ≠ main_v2 → (cfg1.win w).isOut = false := by decide

/-- The memory after the first call, as the region gives it, is the one stated. -/
theorem W2_eq (c : Dev nD) (b : DevRef τ sig) (hb : b ∈ Pipeline.ucRefs τ sig) : W2 m hV c b = U2 m hV c b := by
  obtain ⟨r, -, rfl⟩ := Finset.mem_map.mp (Finset.mem_filter.mp hb).1
  by_cases h : r = main_v1
  · subst h
    exact (Function.update_self (f := V1 m c) _ _).symm
  · refine Eq.trans ?_ (U2_of m hV c r (by simpa using h)).symm
    exact Pipeline.afterRegion_keeps (dat0 (V1 m) (ok1 m hV) c) (V1 m c) launch0.win.arr_inj (fun w => dat0_A ..) r
      (fun w e => arrRef0_out w (e ▸ h))

/-- The memory after the second call, as the region gives it, is the one stated. -/
theorem W3_eq (c : Dev nD) (b : DevRef τ sig) (hb : b ∈ Pipeline.ucRefs τ sig) : W3 m hV c b = V3 m (outs m hV) c b := by
  obtain ⟨r, -, rfl⟩ := Finset.mem_map.mp (Finset.mem_filter.mp hb).1
  by_cases h : r = main_v2
  · subst h
    exact (Function.update_self (f := V2 m (outs m hV) c) _ _).symm
  · refine Eq.trans ?_ (V3_of m (outs m hV) c r (by simpa using h)).symm
    exact Pipeline.afterRegion_keeps (dat1 (U2 m hV) (ok2 m hV) c) (U2 m hV c) launch1.win.arr_inj (fun w => dat1_A ..) r
      (fun w e => arrRef1_out w (e ▸ h))

/-- What is held before the first call is the call's precondition, -/
theorem pre0 (c : Dev nD) : iprop(StableHlo.held (c : Thread nD τ) (Pipeline.ucRefs τ sig) (V1 m c) ∗ rest 0 c) ⊢ (reg0 m hV).pre c := by
  unfold rest reg0
  exact RegionSeg.ofHeldIn_pre (pcs := pcfgs (F := F)) (a := adm) (pdats := pd m hV) (ι := ()) (defs₀ := defs₀) (𝒱₀ := Variants.none) (L := lvL) (lv := lv0) (p := 0) (D := (0 : Dev nD → CellTallies nD τ sig Unit)) (S := Pipeline.ucRefs τ sig) (X := fun _ => iprop(emp)) (Y := fun _ => iprop(emp)) (R := fun _ => iprop(emp)) (W := V1 m) arrs0 c

/-- and its postcondition is what is held after it; -/
theorem post0 (c : Dev nD) : (reg0 m hV).post c ⊢ iprop(StableHlo.held (c : Thread nD τ) (Pipeline.ucRefs τ sig) (V2 m (outs m hV) c) ∗ rest 1 c) := by
  unfold rest
  have h : (reg0 m hV).post c ⊢ iprop(StableHlo.held (c : Thread nD τ) (Pipeline.ucRefs τ sig) (W2 m hV c)
      ∗ ((∃ W, owes (c : Thread nD τ) ((0 : Dev nD → CellTallies nD τ sig Unit) c) W) ∗ emp ∗ emp)) := by
    unfold reg0 W2
    exact RegionSeg.ofHeldIn_post (pcs := pcfgs (F := F)) (a := adm) (pdats := pd m hV) (ι := ()) (defs₀ := defs₀) (𝒱₀ := Variants.none) (L := lvL) (lv := lv0) (p := 0) (D := (0 : Dev nD → CellTallies nD τ sig Unit)) (S := Pipeline.ucRefs τ sig) (X := fun _ => iprop(emp)) (Y := fun _ => iprop(emp)) (R := fun _ => iprop(emp)) (W := V1 m) arrs0 c
  rw [← StableHlo.held_congr (c : Thread nD τ) (V := W2 m hV c) (V' := V2 m (outs m hV) c) (fun b hb => W2_eq m hV c b hb)]
  exact h

/-- so for the second call, before -/
theorem pre1 (c : Dev nD) : iprop(StableHlo.held (c : Thread nD τ) (Pipeline.ucRefs τ sig) (V2 m (outs m hV) c) ∗ rest 1 c) ⊢ (reg1 m hV).pre c := by
  unfold rest reg1
  exact RegionSeg.ofHeldIn_pre (pcs := pcfgs (F := F)) (a := adm) (pdats := pd m hV) (ι := ()) (defs₀ := defs₀) (𝒱₀ := Variants.none) (L := lvL) (lv := lv0) (p := 1) (D := (0 : Dev nD → CellTallies nD τ sig Unit)) (S := Pipeline.ucRefs τ sig) (X := fun _ => iprop(emp)) (Y := fun _ => iprop(emp)) (R := fun _ => iprop(emp)) (W := U2 m hV) arrs1 c

/-- and after. -/
theorem post1 (c : Dev nD) : (reg1 m hV).post c ⊢ iprop(StableHlo.held (c : Thread nD τ) (Pipeline.ucRefs τ sig) (V3 m (outs m hV) c) ∗ rest 2 c) := by
  unfold rest
  have h : (reg1 m hV).post c ⊢ iprop(StableHlo.held (c : Thread nD τ) (Pipeline.ucRefs τ sig) (W3 m hV c)
      ∗ ((∃ W, owes (c : Thread nD τ) ((0 : Dev nD → CellTallies nD τ sig Unit) c) W) ∗ emp ∗ emp)) := by
    unfold reg1 W3
    exact RegionSeg.ofHeldIn_post (pcs := pcfgs (F := F)) (a := adm) (pdats := pd m hV) (ι := ()) (defs₀ := defs₀) (𝒱₀ := Variants.none) (L := lvL) (lv := lv0) (p := 1) (D := (0 : Dev nD → CellTallies nD τ sig Unit)) (S := Pipeline.ucRefs τ sig) (X := fun _ => iprop(emp)) (Y := fun _ => iprop(emp)) (R := fun _ => iprop(emp)) (W := U2 m hV) arrs1 c
  rw [← StableHlo.held_congr (c : Thread nD τ) (V := W3 m hV c) (V' := V3 m (outs m hV) c) (fun b hb => W3_eq m hV c b hb)]
  exact h

/-- The ghost state the calls start from. -/
theorem launch_ghost : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
      ∗ bigSep Finset.univ (fun _ : Dev nD => (BI.emp : sProp 𝕄))) := by
  iintro Hu; imodintro; isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const]); iempintro

/-- What is held beside the arrays at the start, -/
theorem rest_start (ρ : Dev nD → PrngReg) :
    iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ emp)) ∗ levAts lvL lv0)
      ⊢ (|={Set.univ}=> bigSep Finset.univ (rest 0) : sProp 𝕄) :=
  Pipeline.initEach lvL lv0 fun c => by
    unfold rest
    iintro ⟨⟨-, HO, -, -, -⟩, -⟩
    imodintro
    isplitl [HO]; · iexists ∅; iexact HO
    isplitl <;> iempintro

/-- and at the end. -/
theorem rest_end (c : Dev nD) : rest 2 c ⊢ (iprop(∃ W, owes (c : Thread nD τ) (0 : CellTallies nD τ sig Unit) W) : sProp 𝕄) := by
  unfold rest
  iintro ⟨H, -, -⟩
  iexact H

set_option backward.isDefEq.respectTransparency.types false in
/-- The program runs from any memory whose words are in bounds, to the memory stated, with every semaphore at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V4 m (outs m hV) c b) ∧ r.2.sem = fun _ => 0) := by
  refine Pipeline.θ_run_regions_kit_dev_sems (pcfgs (F := F)) adm (pd m hV) () cellOf_inj emb₁ defs₀ Variants.none lvL lv0 m ρ main
    (segs m (outs m hV) Variants.none lvL lv0 rest () (pd m hV) (reg0 m hV) (reg1 m hV))
    (fun c Q => by
      rewrite [main_chain c, Seg.run_eq_chain,
        show (segs m (outs m hV) Variants.none lvL lv0 rest () (pd m hV) (reg0 m hV) (reg1 m hV) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun g hg => if_neg hg) (fun _ => iprop(emp)) (initOf (Pipeline.cells cfgs cellOf_inj) (Pipeline.launchToks cfgs cellOf_inj)) launch_ghost
    (T₀ := fun c => iprop(StableHlo.held (c : Thread nD τ) (Pipeline.ucRefs τ sig) (V0 m c) ∗ rest 0 c))
    (Tₙ := fun c => StableHlo.held (c : Thread nD τ) (Pipeline.ucRefs τ sig) (V4 m (outs m hV) c))
    (hch := fun c => ⟨.rfl, pre0 m hV c, (post0 m hV c).trans (pre1 m hV c), post1 m hV c, sep_mono .rfl (rest_end c)⟩)
    (hinit := ?_) (QY := fun c s => ∀ b ∈ Pipeline.ucRefs τ sig, s.mem ((c : Thread nD τ).1, b) = V4 m (outs m hV) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
            : sProp (MT nD τ sig Unit (Elt F) ℕ (URounds (GSem nD τ sig) Unit) ℕ)) := by
      rw [← bigSep_sep']
      exact bigSep_mono fun c _ => by rw [← Pipeline.unscopedBufs_held (Ix := Unit) (Name := ℕ) (U := URounds (GSem nD τ sig) Unit) (Lvl := ℕ) c (V0 m c)]; exact BI.Entails.refl _
    iintro ⟨H, Hla⟩
    ihave H' := hsplit $$ H
    icases H' with ⟨Hh, Hr⟩
    imod (rest_start ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m hV) c) s') $$ [Hh HSI]
    · isplitl [Hh] <;> iassumption
    icases Hr with ⟨%h, HSI⟩
    imodintro
    isplitr
    · ipureintro
      exact h
    · iexact HSI

end Cert.KernelProof

end
-- ==== Proof.BitsFrame.lean ====
/- The frame of the printed program: it runs, and its arguments end as they began. -/
module

public import proofs.«01_k».proof.Proof.BitsRun
public import proofs.«01_k».proof.Proof.InRange
public import proofs.«01_k».proof.Defs
public import Idealize.ShloMosaic.Lib.Claim

@[expose] public section

noncomputable section

namespace Cert.KernelProof

open Idealize.ShloMosaic Idealize.ShloMosaic.TcCoe Idealize.SL.Sem
open Cert.Kernel Cert.Kernel.Gen

/-- The precondition gives the bounds of the words the kernels read. -/
theorem okV_of_pre (m : (ℓ : Loc nD τ sig) → Buf (Elt Bits) ℓ) (hpre : Cert.Pre_Kernel m) : OkV (F := Bits) (V0 m) :=
  ⟨fun c j => (Cert.KProof.inBounds_of_fn (hpre c)).adapter j, fun c j => (Cert.KProof.inBounds_of_fn (hpre c)).start j⟩

/-- The printed program runs and leaves its arguments alone. -/
theorem frame : Cert.quiescent_Kernel := by
  intro m g hpre
  have hV := okV_of_pre m hpre
  refine θ_run_mono (run_all m hV g) fun r hr => ⟨fun c => ⟨
      by
        have h := (hr.1 c) _ (Finset.mem_filter.mpr ⟨StableHlo.devRef_mem_tcRefs main_arg0, by decide⟩)
        exact h.trans (V4_main_arg0 m (outs m hV) c),
      by
        have h := (hr.1 c) _ (Finset.mem_filter.mpr ⟨StableHlo.devRef_mem_tcRefs main_arg1, by decide⟩)
        exact h.trans (V4_main_arg1 m (outs m hV) c),
      by
        have h := (hr.1 c) _ (Finset.mem_filter.mpr ⟨StableHlo.devRef_mem_tcRefs main_arg2, by decide⟩)
        exact h.trans (V4_main_arg2 m (outs m hV) c),
      by
        have h := (hr.1 c) _ (Finset.mem_filter.mpr ⟨StableHlo.devRef_mem_tcRefs main_arg3, by decide⟩)
        exact h.trans (V4_main_arg3 m (outs m hV) c),
      by
        have h := (hr.1 c) _ (Finset.mem_filter.mpr ⟨StableHlo.devRef_mem_tcRefs main_arg4, by decide⟩)
        exact h.trans (V4_main_arg4 m (outs m hV) c),
      by
        have h := (hr.1 c) _ (Finset.mem_filter.mpr ⟨StableHlo.devRef_mem_tcRefs main_arg5, by decide⟩)
        exact h.trans (V4_main_arg5 m (outs m hV) c),
      by
        have h := (hr.1 c) _ (Finset.mem_filter.mpr ⟨StableHlo.devRef_mem_tcRefs main_arg6, by decide⟩)
        exact h.trans (V4_main_arg6 m (outs m hV) c),
      by
        have h := (hr.1 c) _ (Finset.mem_filter.mpr ⟨StableHlo.devRef_mem_tcRefs main_arg7, by decide⟩)
        exact h.trans (V4_main_arg7 m (outs m hV) c),
      by
        have h := (hr.1 c) _ (Finset.mem_filter.mpr ⟨StableHlo.devRef_mem_tcRefs main_arg8, by decide⟩)
        exact h.trans (V4_main_arg8 m (outs m hV) c),
      by
        have h := (hr.1 c) _ (Finset.mem_filter.mpr ⟨StableHlo.devRef_mem_tcRefs main_arg9, by decide⟩)
        exact h.trans (V4_main_arg9 m (outs m hV) c)⟩, hr.2⟩

end Cert.KernelProof

end
-- ==== Proof.Cut.lean ====
/- The realigned block at an index: row `r` of the block cut at pool row `v` is pool row `v + r`. -/
module

public import proofs.«01_k».proof.Proof.MainVal
public import proofs.«01_k».proof.Proof.ShrinkVal
public import Idealize.ShloMosaic.Lib.Pointwise

@[expose] public section

set_option maxRecDepth 16384

noncomputable section

namespace Cert.KernelIdealProof

open Cert.KernelIdeal Cert.KernelIdeal.Gen
open Idealize.ShloMosaic
open Idealize.SL.Sem

variable {F : FTy → Type} [FloatOps F]

/-- The row pairs hold the rows: pair `w`'s member `p` is row `2 w + p`. -/
theorem rows_apply (x : Vec F S136x128 .bf16) (w : Fin 68) (p : Fin 2) (l : Fin 128) :
    k1_pay2 x (ix3 w p l) = x (ix2 ⟨2 * w.val + p.val, by omega⟩ l) := by
  pointwise [k1_pay2]
  match p with
  | 0 => rfl
  | 1 => rfl

/-- The lowest bit of a word is its parity. -/
theorem andi_one (v : BitVec 32) : Scalar.andi v 1#32 = if v.toNat % 2 = 1 then 1#32 else 0#32 := by
  have h : v.toNat &&& (2 ^ 1 - 1) = v.toNat % 2 ^ 1 := Nat.and_two_pow_sub_one_eq_mod ..
  have h1 : (v &&& 1#32).toNat = v.toNat &&& (2 ^ 1 - 1) := BitVec.toNat_and ..
  show v &&& 1#32 = _
  apply BitVec.eq_of_toNat_eq
  rw [h1, h]
  split <;> rename_i e
  · exact e
  · show _ = 0
    omega

/-- The select's bit says the row is odd. -/
theorem odd_word (v : BitVec 32) :
    IntOp.cmpi .ne (Scalar.muli (Scalar.andi v 1#32) 16#32) 0#32 = if v.toNat % 2 = 1 then 1#1 else 0#1 := by
  rw [andi_one]
  split <;> decide

/-- The realignment, element by element: from an even row the pairs as they are; from an odd row the second of each pair, then the
    first of the next. -/
theorem cut_apply (v : BitVec 32) (a b : Vec F S64x2x128 .bf16) (r l : Fin 128) :
    k1_pay4 (k1_pay3 v a b) (ix2 r l) = if v.toNat % 2 = 1
      then (if r.val % 2 = 0 then a (ix3 ⟨r.val / 2, by omega⟩ 1 l) else b (ix3 ⟨r.val / 2, by omega⟩ 0 l))
      else a (ix3 ⟨r.val / 2, by omega⟩ ⟨r.val % 2, by omega⟩ l) := by
  pointwise [k1_pay4, k1_pay3]
  rw [odd_word]
  by_cases hv : v.toNat % 2 = 1
  · rw [if_pos hv, if_pos hv]; rfl
  · rw [if_neg hv, if_neg hv]
    by_cases hr : r.val % 2 = 0
    · rw [if_pos hr]
      exact congrArg a (congrArg (fun q => ix3 _ q l) (Fin.ext hr.symm))
    · rw [if_neg hr]
      exact congrArg a (congrArg (fun q => ix3 _ q l) (Fin.ext (show 1 = r.val % 2 by omega)))

/-- A pool row rounded down to a multiple of eight. -/
theorem toNat_andi_mask8 (x : BitVec 32) : (Scalar.andi x 4294967288#32).toNat = x.toNat / 8 * 8 := by
  have e : x &&& 4294967288#32 = (x >>> 3) <<< 3 := by
    have hm : (4294967288#32 : BitVec 32) = BitVec.allOnes 32 <<< 3 := by decide
    rw [hm]
    ext i hi
    simp only [BitVec.getElem_and, BitVec.getElem_shiftLeft, BitVec.getElem_ushiftRight, BitVec.getElem_allOnes]
    by_cases h : i < 3
    · simp only [h, decide_true, Bool.not_true, Bool.false_and, Bool.and_false]
    · simp only [h, decide_false, Bool.not_false, Bool.true_and]
      rw [Bool.and_true, show 3 + (i - 3) = i by omega, BitVec.getLsbD_eq_getElem hi]
  show (x &&& 4294967288#32).toNat = _
  rw [e, BitVec.toNat_shiftLeft, BitVec.toNat_ushiftRight, Nat.shiftLeft_eq, Nat.shiftRight_eq_div_pow]
  have := x.isLt
  omega

/-- The pair of the first row within its group of eight, and the next pair. -/
theorem off3_val (v : BitVec 32) : (Scalar.shrsi (Scalar.andi v 7#32) 1#32).toNat = v.toNat % 8 / 2
    ∧ (Scalar.addi (Scalar.shrsi (Scalar.andi v 7#32) 1#32) 1#32).toNat = v.toNat % 8 / 2 + 1 := by
  obtain ⟨k, hk⟩ := Cert.KProof.and7_cases v
  have h : v.toNat &&& (2 ^ 3 - 1) = v.toNat % 2 ^ 3 := Nat.and_two_pow_sub_one_eq_mod ..
  have h7 : (v &&& 7#32).toNat = v.toNat &&& (2 ^ 3 - 1) := BitVec.toNat_and ..
  have hv : v.toNat % 8 = k.val := by
    have e : (v &&& 7#32).toNat = k.val := by rw [hk, BitVec.toNat_ofNat]; omega
    exact h.symm.trans (h7.symm.trans e)
  have : Scalar.andi v 7#32 = BitVec.ofNat 32 k.val := hk
  rw [this, hv]
  exact (by decide : ∀ k : Fin 8, (Scalar.shrsi (BitVec.ofNat 32 k.val) 1#32).toNat = k.val / 2
    ∧ (Scalar.addi (Scalar.shrsi (BitVec.ofNat 32 k.val) 1#32) 1#32).toNat = k.val / 2 + 1) k

/-- A box of the row pairs, read after they are stored. -/
theorem box_read (M11 : Memref sig .tc .vmem S72x2x128 .bf16) (x : Vec F S68x2x128 .bf16) (off : Fin 3 → ℕ) (inb) (o : ℕ)
    (h0 : off 0 = o) (h1 : off 1 = 0) (h2 : off 2 = 0) (ho : o + 64 ≤ 68) (w : Fin 64) (p : Fin 2) (l : Fin 128) :
    M11.view.readAt (Elt F) (Rect.unit (s := S72x2x128) off S64x2x128.size inb).toLoadRect
        (M11.view.writes (Elt F) M11.view.junk [⟨mainBox, x⟩]) (ix3 w p l)
      = x (ix3 ⟨o + w.val, by omega⟩ p l) := by
  rw [View.readAt_writes_junk_eq_canon]
  refine Eq.trans (congrArg (View.canon (Val := Elt F) [⟨mainBox, x⟩]) (?_ : _ = mainBox.emb (ix3 ⟨o + w.val, by omega⟩ p l)))
    (View.canon_cons_emb ..)
  refine funext fun a => Fin.ext ?_
  match a with
  | 0 => show off 0 + 1 * w.val = 0 + 1 * (o + w.val); omega
  | 1 => show off 1 + 1 * p.val = 0 + 1 * p.val; omega
  | 2 => show off 2 + 1 * l.val = 0 + 1 * l.val; omega

section
variable (c : Dev nD) (M11 : Memref sig .tc .vmem S72x2x128 .bf16)

/-- Row `r` of the block cut at `v` is row `v mod 8 + r` of the aligned rows it is cut from. -/
theorem mainCut_apply (v : BitVec 32) (hv : k1_chk2 v) (x : Vec F S136x128 .bf16) (r l : Fin 128) :
    mainCut c M11 v hv (M11.view.writes (Elt F) M11.view.junk [⟨mainBox, k1_pay2 x⟩]) (ix2 r l)
      = x (ix2 ⟨v.toNat % 8 + r.val, by omega⟩ l) := by
  have h3 := (off3_val v).1
  have h4 := (off3_val v).2
  unfold mainCut
  rw [cut_apply]
  split
  · split
    · rw [box_read M11 _ (k1_off3 v) _ (v.toNat % 8 / 2) h3 rfl rfl (by omega), rows_apply]
      exact congrArg (fun q => x (ix2 q l)) (Fin.ext (show 2 * (v.toNat % 8 / 2 + r.val / 2) + 1 = v.toNat % 8 + r.val by omega))
    · rw [box_read M11 _ (k1_off4 v) _ (v.toNat % 8 / 2 + 1) h4 rfl rfl (by omega), rows_apply]
      exact congrArg (fun q => x (ix2 q l)) (Fin.ext (show 2 * (v.toNat % 8 / 2 + 1 + r.val / 2) + 0 = v.toNat % 8 + r.val by omega))
  · rw [box_read M11 _ (k1_off3 v) _ (v.toNat % 8 / 2) h3 rfl rfl (by omega), rows_apply]
    exact congrArg (fun q => x (ix2 q l)) (Fin.ext (show 2 * (v.toNat % 8 / 2 + r.val / 2) + r.val % 2 = v.toNat % 8 + r.val by omega))

/-- Row `r` of a block cut at word `v` is row `v mod 8 + r` of the aligned rows. -/
theorem shrCut_apply (v : BitVec 32) (hv : k0_chk2 v) (x : Vec F S136x128 .bf16) (r l : Fin 128) :
    shrCut c M11 v hv (M11.view.writes (Elt F) M11.view.junk [⟨mainBox, k0_pay7 x⟩]) (ix2 r l)
      = x (ix2 ⟨v.toNat % 8 + r.val, by omega⟩ l) := by
  have h3 := (off3_val v).1
  have h4 := (off3_val v).2
  unfold shrCut
  refine Eq.trans (cut_apply v _ _ r l) ?_
  split
  · split
    · refine (box_read M11 (k1_pay2 x) (k0_off3 v) _ (v.toNat % 8 / 2) h3 rfl rfl (by omega) _ _ _).trans ?_
      rw [rows_apply]
      exact congrArg (fun q => x (ix2 q l)) (Fin.ext (show 2 * (v.toNat % 8 / 2 + r.val / 2) + 1 = v.toNat % 8 + r.val by omega))
    · refine (box_read M11 (k1_pay2 x) (k0_off4 v) _ (v.toNat % 8 / 2 + 1) h4 rfl rfl (by omega) _ _ _).trans ?_
      rw [rows_apply]
      exact congrArg (fun q => x (ix2 q l)) (Fin.ext (show 2 * (v.toNat % 8 / 2 + 1 + r.val / 2) + 0 = v.toNat % 8 + r.val by omega))
  · refine (box_read M11 (k1_pay2 x) (k0_off3 v) _ (v.toNat % 8 / 2) h3 rfl rfl (by omega) _ _ _).trans ?_
    rw [rows_apply]
    exact congrArg (fun q => x (ix2 q l)) (Fin.ext (show 2 * (v.toNat % 8 / 2 + r.val / 2) + r.val % 2 = v.toNat % 8 + r.val by omega))

end

/-- The first pool row of segment `s`: the start of the segment's adapter. -/
def poolStart (starts : IVec S15 32) (seg : IVec S9 32) (s : Fin 9) : ℕ :=
  (starts (ix1 ⟨(seg (ix1 s)).toNat % 15, Nat.mod_lt _ (by decide)⟩)).toNat

/-- The pool row that row `y` of the stacked slices holds. -/
def poolRow (starts : IVec S15 32) (seg : IVec S9 32) (y : Fin 1152) : Fin 2200 :=
  ⟨(poolStart starts seg ⟨y.val / 128, by omega⟩ + y.val % 128) % 2200, Nat.mod_lt _ (by decide)⟩

section
variable (c : Dev nD) (M1 : Memref sig .tc .smem S15 .i32) (M3 : Memref sig .tc .smem S9 .i32)
  (M8 : Memref sig .tc .vmem S2200x256 .bf16) (M11 : Memref sig .tc .vmem S72x2x128 .bf16)
  (f1 : Bf (F := F) c M1) (f3 : Bf (F := F) c M3) (f8 : Bf (F := F) c M8)
  (M10 : Memref sig .tc .vmem S1152x256 .bf16)
  (hada : ∀ r : Rect S9, ∀ i, k1_chk1 (M3.view.readAt (Elt F) r.toLoadRect f3 i))
  (hsta : ∀ r : Rect S15, ∀ i, k1_chk2 (M1.view.readAt (Elt F) r.toLoadRect f1 i))

/-- Segment `s`'s adapter is entry `s` of its array. -/
theorem mainAda_eq (s : Fin 9) (hs) : mainAda c M3 f3 s.val hs = M3.view.read (Elt F) f3 (ix1 s) :=
  congrArg (M3.view.read (Elt F) f3) (funext fun a => Fin.ext (by match a with | 0 => show s.val + 1 * 0 = s.val; omega))

/-- An adapter's first row is its entry of the array of first rows. -/
theorem mainSta_eq (w : BitVec 32) (hw : k1_chk1 w) :
    mainSta c M1 f1 w hw = M1.view.read (Elt F) f1 (ix1 ⟨w.toNat % 15, Nat.mod_lt _ (by decide)⟩) :=
  congrArg (M1.view.read (Elt F) f1) (funext fun a => Fin.ext (by
    have := k1_off1_inb w hw 0
    match a with
    | 0 =>
      show w.toNat + 1 * 0 = w.toNat % 15
      have h : w.toNat + 1 ≤ 15 := this
      omega))

/-- Row `r` of a block cut at word `v` is row `v + r` of the pool. -/
theorem mainBlk_core (v : BitVec 32) (hv : k1_chk2 v) (k : ℕ) (r l : Fin 128) :
    mainCut c M11 v hv (M11.view.writes (Elt F) M11.view.junk [⟨mainBox, mainRows c M8 f8 v hv k⟩]) (ix2 r l)
      = M8.view.read (Elt F) f8 (ix2 ⟨(v.toNat + r.val) % 2200, Nat.mod_lt _ (by decide)⟩ ⟨128 * (k % 2) + l.val, by omega⟩) := by
  have hm := toNat_andi_mask8 v
  have hb : (Scalar.andi v 4294967288#32).toNat + 136 ≤ 2200 := mainOff_inb hv k 0
  refine (mainCut_apply c M11 v hv _ r l).trans (congrArg (M8.view.read (Elt F) f8) (funext fun a => Fin.ext ?_))
  match a with
  | 0 =>
    show (Scalar.andi v 4294967288#32).toNat + 1 * (v.toNat % 8 + r.val) = (v.toNat + r.val) % 2200
    omega
  | 1 =>
    show 128 * (k % 2) + 1 * l.val = 128 * (k % 2) + l.val
    omega

/-- Row `r` of block `k` is row `r` of its segment's adapter. -/
theorem mainBlk_apply (k : ℕ) (r l : Fin 128) :
    mainBlk c M1 M3 M8 M11 f1 f3 f8 hada hsta k (ix2 r l)
      = M8.view.read (Elt F) f8 (ix2 ⟨(poolStart (M1.view.read (Elt F) f1) (M3.view.read (Elt F) f3) ⟨k / 2 % 9, by omega⟩ + r.val) % 2200, Nat.mod_lt _ (by decide)⟩
          ⟨128 * (k % 2) + l.val, by omega⟩) := by
  refine (mainBlk_core c M8 M11 f8 _ (hsta _ _) k r l).trans ?_
  have e : mainSta c M1 f1 (mainAda c M3 f3 (k / 2 % 9) (fun a => by match a with | 0 => show k / 2 % 9 + 1 ≤ 9; omega)) (hada _ _)
      = M1.view.read (Elt F) f1 (ix1 ⟨(M3.view.read (Elt F) f3 (ix1 ⟨k / 2 % 9, by omega⟩)).toNat % 15, Nat.mod_lt _ (by decide)⟩) :=
    (mainSta_eq c M1 f1 _ _).trans (congrArg (M1.view.read (Elt F) f1) (congrArg ix1 (Fin.ext
      (congrArg (fun w : BitVec 32 => w.toNat % 15) (mainAda_eq c M3 f3 ⟨k / 2 % 9, by omega⟩ _)))))
  exact congrArg (M8.view.read (Elt F) f8) (congrArg (fun q => ix2 q _) (Fin.ext
    (congrArg (fun w : BitVec 32 => (w.toNat + r.val) % 2200) e)))

/-- The stacked slices at an index: row `y` is its segment's pool row. -/
theorem mainB_apply (y : Fin 1152) (q : Fin 256) :
    mainB c M1 M3 M8 M11 f1 f3 f8 M10 hada hsta (ix2 y q)
      = M8.view.read (Elt F) f8 (ix2 (poolRow (M1.view.read (Elt F) f1) (M3.view.read (Elt F) f3) y) q) := by
  let G : S1152x256.Idx → Elt F .bf16 := fun j =>
    M8.view.read (Elt F) f8 (ix2 (poolRow (M1.view.read (Elt F) f1) (M3.view.read (Elt F) f3) (j 0)) (j 1))
  have hG : ∀ n, n ≤ 18 → ∀ p ∈ mainPieces c M1 M3 M8 M11 f1 f3 f8 hada hsta n, ∀ x : p.1.shape.Idx, p.2 x = G (p.1.emb x) := by
    intro n
    induction n with
    | zero => intro _ p hp; exact absurd hp List.not_mem_nil
    | succ k ih =>
      intro hn p hp
      rcases List.mem_cons.mp hp with rfl | hp
      · intro x
        have hx0 : (x 0).val < 128 := (x 0).isLt
        have ex : x = ix2 (x 0) (x 1) := eq_ix2 x
        rw [ex]
        refine (mainBlk_apply c M1 M3 M8 M11 f1 f3 f8 hada hsta k (x 0) (x 1)).trans (congrArg (M8.view.read (Elt F) f8) (congrArg₂ ix2 (Fin.ext ?_) (Fin.ext ?_)))
        · show (poolStart _ _ ⟨k / 2 % 9, _⟩ + (x 0).val) % 2200
            = (poolStart _ _ ⟨(128 * (k / 2 % 9) + 1 * (x 0).val) / 128, _⟩ + (128 * (k / 2 % 9) + 1 * (x 0).val) % 128) % 2200
          have e1 : (128 * (k / 2 % 9) + 1 * (x 0).val) / 128 = k / 2 % 9 := by omega
          have e2 : (128 * (k / 2 % 9) + 1 * (x 0).val) % 128 = (x 0).val := by omega
          simp only [e1, e2]
        · show 128 * (k % 2) + (x 1).val = 128 * (k % 2) + 1 * (x 1).val
          omega
      · exact ih (by omega) p hp
  have hmem : ∀ n k, k < n → ∃ p ∈ mainPieces c M1 M3 M8 M11 f1 f3 f8 hada hsta n,
      ∀ j : S1152x256.Idx, (j 0).val / 128 = k / 2 % 9 → (j 1).val / 128 = k % 2 → j ∈ p.1.set := by
    intro n
    induction n with
    | zero => intro k hk; omega
    | succ m ih =>
      intro k hk
      by_cases h : k = m
      · subst h
        refine ⟨_, List.mem_cons_self, fun j h0 h1 => ?_⟩
        have hin : ∀ a : Fin 2, (![128 * (k / 2 % 9), 128 * (k % 2)] : Fin 2 → ℕ) a ≤ (j a).val
            ∧ (j a).val < (![128 * (k / 2 % 9), 128 * (k % 2)] : Fin 2 → ℕ) a + S128x128.size a := by
          intro a
          match a with
          | 0 => show 128 * (k / 2 % 9) ≤ (j 0).val ∧ (j 0).val < 128 * (k / 2 % 9) + 128; omega
          | 1 => show 128 * (k % 2) ≤ (j 1).val ∧ (j 1).val < 128 * (k % 2) + 128; omega
        have hinb : ∀ a : Fin 2, (![128 * (k / 2 % 9), 128 * (k % 2)] : Fin 2 → ℕ) a + S128x128.size a ≤ S1152x256.size a := by
          intro a
          match a with
          | 0 => show 128 * (k / 2 % 9) + 128 ≤ 1152; omega
          | 1 => show 128 * (k % 2) + 128 ≤ 256; omega
        exact (Rect.mem_set_unit (s := S1152x256) (inb := hinb)).mpr hin
      · obtain ⟨p, hp, hj⟩ := ih k (by omega)
        exact ⟨p, List.mem_cons_of_mem _ hp, hj⟩
  have hcov : ∃ p ∈ mainPieces c M1 M3 M8 M11 f1 f3 f8 hada hsta 18, (ix2 y q : S1152x256.Idx) ∈ p.1.set := by
    obtain ⟨p, hp, hj⟩ := hmem 18 (2 * (y.val / 128) + q.val / 128) (by omega)
    exact ⟨p, hp, hj _ (show y.val / 128 = _ by omega) (show q.val / 128 = _ by omega)⟩
  have := View.canon_apply_of_pieces G _ (hG 18 (Nat.le_refl _)) (ix2 y q) hcov
  refine Eq.trans ?_ this
  unfold mainB
  rw [View.readCov_eq_canon']
  refine congrArg (View.canon _) (funext fun a => Fin.ext ?_)
  match a with
  | 0 => show 0 + 1 * y.val = y.val; omega
  | 1 => show 0 + 1 * q.val = q.val; omega

end

section
variable (c : Dev nD) (M1 : Memref sig .tc .smem S15 .i32) (M4 : Memref sig .tc .smem S9 .i32)
  (M7 : Memref sig .tc .vmem S2200x512 .bf16) (M11 : Memref sig .tc .vmem S72x2x128 .bf16)
  (f1 : Bf (F := F) c M1) (f4 : Bf (F := F) c M4) (f7 : Bf (F := F) c M7)
  (M9 : Memref sig .tc .vmem S1152x512 .bf16)
  (hada : ∀ r : Rect S9, ∀ i, k0_chk1 (M4.view.readAt (Elt F) r.toLoadRect f4 i))
  (hsta : ∀ r : Rect S15, ∀ i, k0_chk2 (M1.view.readAt (Elt F) r.toLoadRect f1 i))

/-- An adapter's first row is its entry of the array of first rows. -/
theorem shrSta_eq (w : BitVec 32) (hw : k0_chk1 w) :
    shrSta c M1 f1 w hw = M1.view.read (Elt F) f1 (ix1 ⟨w.toNat % 15, Nat.mod_lt _ (by decide)⟩) :=
  congrArg (M1.view.read (Elt F) f1) (funext fun a => Fin.ext (by
    have := k0_off1_inb w hw 0
    match a with
    | 0 =>
      show w.toNat + 1 * 0 = w.toNat % 15
      have h : w.toNat + 1 ≤ 15 := this
      omega))

/-- Row `r` of a block cut at word `v` is row `v + r` of the pool. -/
theorem shrBlk_core (v : BitVec 32) (hv : k0_chk2 v) (k : ℕ) (r l : Fin 128) :
    shrCut c M11 v hv (M11.view.writes (Elt F) M11.view.junk [⟨mainBox, shrRows c M7 f7 v hv k⟩]) (ix2 r l)
      = M7.view.read (Elt F) f7 (ix2 ⟨(v.toNat + r.val) % 2200, Nat.mod_lt _ (by decide)⟩ ⟨128 * (k % 4) + l.val, by omega⟩) := by
  have hm := toNat_andi_mask8 v
  have hb : (Scalar.andi v 4294967288#32).toNat + 136 ≤ 2200 := shrOff_inb hv k 0
  refine (shrCut_apply c M11 v hv _ r l).trans (congrArg (M7.view.read (Elt F) f7) (funext fun a => Fin.ext ?_))
  match a with
  | 0 =>
    show (Scalar.andi v 4294967288#32).toNat + 1 * (v.toNat % 8 + r.val) = (v.toNat + r.val) % 2200
    omega
  | 1 =>
    show 128 * (k % 4) + 1 * l.val = 128 * (k % 4) + l.val
    omega

/-- Row `r` of block `k` is row `r` of its segment's adapter. -/
theorem shrBlk_apply (k : ℕ) (r l : Fin 128) :
    shrBlk c M1 M4 M7 M11 f1 f4 f7 hada hsta k (ix2 r l)
      = M7.view.read (Elt F) f7 (ix2 ⟨(poolStart (M1.view.read (Elt F) f1) (M4.view.read (Elt F) f4) ⟨k / 4 % 9, by omega⟩ + r.val) % 2200, Nat.mod_lt _ (by decide)⟩
          ⟨128 * (k % 4) + l.val, by omega⟩) := by
  refine (shrBlk_core c M7 M11 f7 _ (hsta _ _) k r l).trans ?_
  have e : shrSta c M1 f1 (mainAda c M4 f4 (k / 4 % 9) (fun a => by match a with | 0 => show k / 4 % 9 + 1 ≤ 9; omega)) (hada _ _)
      = M1.view.read (Elt F) f1 (ix1 ⟨(M4.view.read (Elt F) f4 (ix1 ⟨k / 4 % 9, by omega⟩)).toNat % 15, Nat.mod_lt _ (by decide)⟩) :=
    (shrSta_eq c M1 f1 _ _).trans (congrArg (M1.view.read (Elt F) f1) (congrArg ix1 (Fin.ext
      (congrArg (fun w : BitVec 32 => w.toNat % 15) (mainAda_eq c M4 f4 ⟨k / 4 % 9, by omega⟩ _)))))
  exact congrArg (M7.view.read (Elt F) f7) (congrArg (fun q => ix2 q _) (Fin.ext
    (congrArg (fun w : BitVec 32 => (w.toNat + r.val) % 2200) e)))

/-- The stacked slices at an index: row `y` is its segment's pool row. -/
theorem shrA_apply (y : Fin 1152) (q : Fin 512) :
    shrA c M1 M4 M7 M11 f1 f4 f7 M9 hada hsta (ix2 y q)
      = M7.view.read (Elt F) f7 (ix2 (poolRow (M1.view.read (Elt F) f1) (M4.view.read (Elt F) f4) y) q) := by
  let G : S1152x512.Idx → Elt F .bf16 := fun j =>
    M7.view.read (Elt F) f7 (ix2 (poolRow (M1.view.read (Elt F) f1) (M4.view.read (Elt F) f4) (j 0)) (j 1))
  have hG : ∀ n, n ≤ 36 → ∀ p ∈ shrPieces c M1 M4 M7 M11 f1 f4 f7 hada hsta n, ∀ x : p.1.shape.Idx, p.2 x = G (p.1.emb x) := by
    intro n
    induction n with
    | zero => intro _ p hp; exact absurd hp List.not_mem_nil
    | succ k ih =>
      intro hn p hp
      rcases List.mem_cons.mp hp with rfl | hp
      · intro x
        have hx0 : (x 0).val < 128 := (x 0).isLt
        have ex : x = ix2 (x 0) (x 1) := eq_ix2 x
        rw [ex]
        refine (shrBlk_apply c M1 M4 M7 M11 f1 f4 f7 hada hsta k (x 0) (x 1)).trans (congrArg (M7.view.read (Elt F) f7) (congrArg₂ ix2 (Fin.ext ?_) (Fin.ext ?_)))
        · show (poolStart _ _ ⟨k / 4 % 9, _⟩ + (x 0).val) % 2200
            = (poolStart _ _ ⟨(128 * (k / 4 % 9) + 1 * (x 0).val) / 128, _⟩ + (128 * (k / 4 % 9) + 1 * (x 0).val) % 128) % 2200
          have e1 : (128 * (k / 4 % 9) + 1 * (x 0).val) / 128 = k / 4 % 9 := by omega
          have e2 : (128 * (k / 4 % 9) + 1 * (x 0).val) % 128 = (x 0).val := by omega
          simp only [e1, e2]
        · show 128 * (k % 4) + (x 1).val = 128 * (k % 4) + 1 * (x 1).val
          omega
      · exact ih (by omega) p hp
  have hmem : ∀ n k, k < n → ∃ p ∈ shrPieces c M1 M4 M7 M11 f1 f4 f7 hada hsta n,
      ∀ j : S1152x512.Idx, (j 0).val / 128 = k / 4 % 9 → (j 1).val / 128 = k % 4 → j ∈ p.1.set := by
    intro n
    induction n with
    | zero => intro k hk; omega
    | succ m ih =>
      intro k hk
      by_cases h : k = m
      · subst h
        refine ⟨_, List.mem_cons_self, fun j h0 h1 => ?_⟩
        have hin : ∀ a : Fin 2, (![128 * (k / 4 % 9), 128 * (k % 4)] : Fin 2 → ℕ) a ≤ (j a).val
            ∧ (j a).val < (![128 * (k / 4 % 9), 128 * (k % 4)] : Fin 2 → ℕ) a + S128x128.size a := by
          intro a
          match a with
          | 0 => show 128 * (k / 4 % 9) ≤ (j 0).val ∧ (j 0).val < 128 * (k / 4 % 9) + 128; omega
          | 1 => show 128 * (k % 4) ≤ (j 1).val ∧ (j 1).val < 128 * (k % 4) + 128; omega
        have hinb : ∀ a : Fin 2, (![128 * (k / 4 % 9), 128 * (k % 4)] : Fin 2 → ℕ) a + S128x128.size a ≤ S1152x512.size a := by
          intro a
          match a with
          | 0 => show 128 * (k / 4 % 9) + 128 ≤ 1152; omega
          | 1 => show 128 * (k % 4) + 128 ≤ 512; omega
        exact (Rect.mem_set_unit (s := S1152x512) (inb := hinb)).mpr hin
      · obtain ⟨p, hp, hj⟩ := ih k (by omega)
        exact ⟨p, List.mem_cons_of_mem _ hp, hj⟩
  have hcov : ∃ p ∈ shrPieces c M1 M4 M7 M11 f1 f4 f7 hada hsta 36, (ix2 y q : S1152x512.Idx) ∈ p.1.set := by
    obtain ⟨p, hp, hj⟩ := hmem 36 (4 * (y.val / 128) + q.val / 128) (by omega)
    exact ⟨p, hp, hj _ (show y.val / 128 = _ by omega) (show q.val / 128 = _ by omega)⟩
  have := View.canon_apply_of_pieces G _ (hG 36 (Nat.le_refl _)) (ix2 y q) hcov
  refine Eq.trans ?_ this
  unfold shrA
  rw [View.readCov_eq_canon']
  refine congrArg (View.canon _) (funext fun a => Fin.ext ?_)
  match a with
  | 0 => show 0 + 1 * y.val = y.val; omega
  | 1 => show 0 + 1 * q.val = q.val; omega

end

end Cert.KernelIdealProof

end
-- ==== Proof.Spec.lean ====
/- What the kernel computes, as plain functions of its arguments: the segment of a row of `x`, the adapter's rows, the
   shrunk rows and the results. -/
module

public import proofs.«01_k».proof.Proof.Cut
public import proofs.«01_k».proof.Proof.InRange

@[expose] public section

set_option maxRecDepth 16384

noncomputable section

namespace Cert.KProof

open Cert.KernelIdeal Cert.KernelIdeal.Gen
open Idealize.ShloMosaic

/-- Row `t` lies between the boundaries of segment `s`. -/
def InSeg (offs : IVec S10 32) (s : Fin 9) (t : ℕ) : Prop :=
  (offs (ix1 s.castSucc)).toInt ≤ t ∧ (t : ℤ) < (offs (ix1 s.succ)).toInt

instance (offs : IVec S10 32) (s : Fin 9) (t : ℕ) : Decidable (InSeg offs s t) := by unfold InSeg; infer_instance

/-- How many of the inner boundaries are at or below row `t`. -/
def segCount (offs : IVec S10 32) (t : ℕ) : ℕ :=
  ∑ s : Fin 8, if (offs (ix1 ⟨s.val + 1, by omega⟩)).toInt ≤ t then 1 else 0

/-- Counting eight boundaries gives one of nine segments. -/
theorem segCount_lt (offs : IVec S10 32) (t : ℕ) : segCount offs t < 9 := by
  unfold segCount
  refine Nat.lt_succ_of_le ((Finset.sum_le_sum (g := fun _ => 1) fun s _ => ?_).trans (by simp))
  split <;> simp

/-- The segment of row `t`. -/
def rowSeg (offs : IVec S10 32) (t : ℕ) : Fin 9 := ⟨segCount offs t, segCount_lt offs t⟩

/-- The two ways of writing a boundary index agree. -/
theorem bd_eq (k : Fin 10) : bd k = ix1 k := by
  funext a
  match a with
  | 0 => rfl

/-- A row lies in exactly one segment. -/
theorem inSeg_iff {starts : IVec S15 32} {offs : IVec S10 32} {seg : IVec S9 32} (h : InRange starts offs seg)
    (s : Fin 9) (t : Fin 768) : InSeg offs s t.val ↔ s = rowSeg offs t.val := by
  have hm := h.mono
  have h0 := h.first
  have h9 := h.last
  simp only [bd_eq] at hm h0 h9
  have m0 : (offs (ix1 0)).toInt ≤ (offs (ix1 1)).toInt := hm 0
  have m1 : (offs (ix1 1)).toInt ≤ (offs (ix1 2)).toInt := hm 1
  have m2 : (offs (ix1 2)).toInt ≤ (offs (ix1 3)).toInt := hm 2
  have m3 : (offs (ix1 3)).toInt ≤ (offs (ix1 4)).toInt := hm 3
  have m4 : (offs (ix1 4)).toInt ≤ (offs (ix1 5)).toInt := hm 4
  have m5 : (offs (ix1 5)).toInt ≤ (offs (ix1 6)).toInt := hm 5
  have m6 : (offs (ix1 6)).toInt ≤ (offs (ix1 7)).toInt := hm 6
  have m7 : (offs (ix1 7)).toInt ≤ (offs (ix1 8)).toInt := hm 7
  have m8 : (offs (ix1 8)).toInt ≤ (offs (ix1 9)).toInt := hm 8
  have ht := t.isLt
  have key : ∀ c : Fin 8, ∃ e : ℕ, (if (offs (ix1 ⟨c.val + 1, by omega⟩)).toInt ≤ (t.val : ℤ) then 1 else 0) = e
      ∧ ((offs (ix1 ⟨c.val + 1, by omega⟩)).toInt ≤ (t.val : ℤ) ∧ e = 1 ∨ (t.val : ℤ) < (offs (ix1 ⟨c.val + 1, by omega⟩)).toInt ∧ e = 0) := by
    intro c
    refine ⟨_, rfl, ?_⟩
    split
    · exact Or.inl ⟨by assumption, rfl⟩
    · exact Or.inr ⟨by omega, rfl⟩
  obtain ⟨e1, s1, k1⟩ := key 0
  obtain ⟨e2, s2, k2⟩ := key 1
  obtain ⟨e3, s3, k3⟩ := key 2
  obtain ⟨e4, s4, k4⟩ := key 3
  obtain ⟨e5, s5, k5⟩ := key 4
  obtain ⟨e6, s6, k6⟩ := key 5
  obtain ⟨e7, s7, k7⟩ := key 6
  obtain ⟨e8, s8, k8⟩ := key 7
  have hc : segCount offs t.val = e1 + e2 + e3 + e4 + e5 + e6 + e7 + e8 := by
    unfold segCount
    rw [Fin.sum_univ_eight, s1, s2, s3, s4, s5, s6, s7, s8]
  rw [Fin.ext_iff]
  show _ ↔ s.val = segCount offs t.val
  rw [hc]
  clear hc s1 s2 s3 s4 s5 s6 s7 s8 key hm h
  replace k1 : (offs (ix1 1)).toInt ≤ (t.val : ℤ) ∧ e1 = 1 ∨ (t.val : ℤ) < (offs (ix1 1)).toInt ∧ e1 = 0 := k1
  replace k2 : (offs (ix1 2)).toInt ≤ (t.val : ℤ) ∧ e2 = 1 ∨ (t.val : ℤ) < (offs (ix1 2)).toInt ∧ e2 = 0 := k2
  replace k3 : (offs (ix1 3)).toInt ≤ (t.val : ℤ) ∧ e3 = 1 ∨ (t.val : ℤ) < (offs (ix1 3)).toInt ∧ e3 = 0 := k3
  replace k4 : (offs (ix1 4)).toInt ≤ (t.val : ℤ) ∧ e4 = 1 ∨ (t.val : ℤ) < (offs (ix1 4)).toInt ∧ e4 = 0 := k4
  replace k5 : (offs (ix1 5)).toInt ≤ (t.val : ℤ) ∧ e5 = 1 ∨ (t.val : ℤ) < (offs (ix1 5)).toInt ∧ e5 = 0 := k5
  replace k6 : (offs (ix1 6)).toInt ≤ (t.val : ℤ) ∧ e6 = 1 ∨ (t.val : ℤ) < (offs (ix1 6)).toInt ∧ e6 = 0 := k6
  replace k7 : (offs (ix1 7)).toInt ≤ (t.val : ℤ) ∧ e7 = 1 ∨ (t.val : ℤ) < (offs (ix1 7)).toInt ∧ e7 = 0 := k7
  replace k8 : (offs (ix1 8)).toInt ≤ (t.val : ℤ) ∧ e8 = 1 ∨ (t.val : ℤ) < (offs (ix1 8)).toInt ∧ e8 = 0 := k8
  unfold InSeg
  match s with
  | 0 =>
    show (offs (ix1 0)).toInt ≤ (t.val : ℤ) ∧ (t.val : ℤ) < (offs (ix1 1)).toInt ↔ 0 = e1 + e2 + e3 + e4 + e5 + e6 + e7 + e8
    omega
  | 1 =>
    show (offs (ix1 1)).toInt ≤ (t.val : ℤ) ∧ (t.val : ℤ) < (offs (ix1 2)).toInt ↔ 1 = e1 + e2 + e3 + e4 + e5 + e6 + e7 + e8
    omega
  | 2 =>
    show (offs (ix1 2)).toInt ≤ (t.val : ℤ) ∧ (t.val : ℤ) < (offs (ix1 3)).toInt ↔ 2 = e1 + e2 + e3 + e4 + e5 + e6 + e7 + e8
    omega
  | 3 =>
    show (offs (ix1 3)).toInt ≤ (t.val : ℤ) ∧ (t.val : ℤ) < (offs (ix1 4)).toInt ↔ 3 = e1 + e2 + e3 + e4 + e5 + e6 + e7 + e8
    omega
  | 4 =>
    show (offs (ix1 4)).toInt ≤ (t.val : ℤ) ∧ (t.val : ℤ) < (offs (ix1 5)).toInt ↔ 4 = e1 + e2 + e3 + e4 + e5 + e6 + e7 + e8
    omega
  | 5 =>
    show (offs (ix1 5)).toInt ≤ (t.val : ℤ) ∧ (t.val : ℤ) < (offs (ix1 6)).toInt ↔ 5 = e1 + e2 + e3 + e4 + e5 + e6 + e7 + e8
    omega
  | 6 =>
    show (offs (ix1 6)).toInt ≤ (t.val : ℤ) ∧ (t.val : ℤ) < (offs (ix1 7)).toInt ↔ 6 = e1 + e2 + e3 + e4 + e5 + e6 + e7 + e8
    omega
  | 7 =>
    show (offs (ix1 7)).toInt ≤ (t.val : ℤ) ∧ (t.val : ℤ) < (offs (ix1 8)).toInt ↔ 7 = e1 + e2 + e3 + e4 + e5 + e6 + e7 + e8
    omega
  | 8 =>
    show (offs (ix1 8)).toInt ≤ (t.val : ℤ) ∧ (t.val : ℤ) < (offs (ix1 9)).toInt ↔ 8 = e1 + e2 + e3 + e4 + e5 + e6 + e7 + e8
    omega

/-- Whether row `t` is between two boundaries, as the bit the mask holds. -/
theorem mask_bit (t : Fin 768) (a b : BitVec 32) :
    IntOp.andi (IntOp.cmpi .sge (BitVec.ofNat 32 t.val) a) (IntOp.cmpi .slt (BitVec.ofNat 32 t.val) b)
      = if a.toInt ≤ t.val ∧ (t.val : ℤ) < b.toInt then 1#1 else 0#1 := by
  have ht : (BitVec.ofNat 32 t.val).toInt = t.val := by
    have := t.isLt
    rw [BitVec.toInt_eq_toNat_cond, BitVec.toNat_ofNat]
    split <;> omega
  split
  · rename_i h
    exact IntOp.andi_eq_one.2 ⟨IntOp.cmpi_sge.2 (by rw [ht]; exact h.1), IntOp.cmpi_slt.2 (by rw [ht]; exact h.2)⟩
  · rename_i h
    refine (fun w hw => by revert hw; revert w; decide : ∀ w : BitVec 1, w ≠ 1#1 → w = 0#1) _ fun e => h ?_
    obtain ⟨h0, h1⟩ := IntOp.andi_eq_one.1 e
    have h0 := IntOp.cmpi_sge.1 h0
    have h1 := IntOp.cmpi_slt.1 h1
    rw [ht] at h0 h1
    exact ⟨h0, h1⟩

/-- A select by a decided bit is an if. -/
theorem select_ite {α : Type} (p : Prop) [Decidable p] (a b : α) :
    Scalar.select (if p then 1#1 else 0#1) a b = if p then a else b := by
  split <;> rfl

/-- A masked value: `a` on the rows of segment `s`, nothing elsewhere. -/
theorem mask_sel {α : Type} (offs : IVec S10 32) (s : Fin 9) (t : Fin 768) (a b : α) :
    Scalar.select (IntOp.andi (IntOp.cmpi .sge (BitVec.ofNat 32 t.val) (offs (ix1 s.castSucc)))
      (IntOp.cmpi .slt (BitVec.ofNat 32 t.val) (offs (ix1 s.succ)))) a b = if InSeg offs s t.val then a else b := by
  rw [mask_bit, select_ite]
  rfl

/-- Of the nine segments' blocks only the row's own counts. -/
theorem stack_sum {starts : IVec S15 32} {offs : IVec S10 32} {seg : IVec S9 32} (h : InRange starts offs seg) (t : Fin 768)
    (f : Fin 128 → EReal) (g : Fin 1152 → EReal) :
    ∑ y : Fin 1152, (if InSeg offs ⟨y.val / 128, by omega⟩ t.val then f ⟨y.val % 128, by omega⟩ else 0) * g y
      = ∑ l : Fin 128, f l * g ⟨128 * (rowSeg offs t.val).val + l.val, by have := (rowSeg offs t.val).isLt; omega⟩ := by
  rw [Fin.sum_univ_tiles 9 128 rfl]
  rw [Finset.sum_eq_single (rowSeg offs t.val)]
  · refine Finset.sum_congr rfl fun l _ => ?_
    have hl := l.isLt
    have hr := (rowSeg offs t.val).isLt
    have e1 : (⟨((rowSeg offs t.val).val * 128 + l.val) / 128, by omega⟩ : Fin 9) = rowSeg offs t.val := Fin.ext (by show _ / 128 = _; omega)
    have e2 : (⟨((rowSeg offs t.val).val * 128 + l.val) % 128, by omega⟩ : Fin 128) = l := Fin.ext (by show _ % 128 = _; omega)
    rw [e1, e2, if_pos ((inSeg_iff h _ t).mpr rfl)]
    exact congrArg (fun q => f l * g q) (Fin.ext (by show _ * 128 + _ = 128 * _ + _; omega))
  · intro s _ hs
    refine Finset.sum_eq_zero fun l _ => ?_
    have hl := l.isLt
    have hr := s.isLt
    have e1 : (⟨(s.val * 128 + l.val) / 128, by omega⟩ : Fin 9) = s := Fin.ext (by show _ / 128 = _; omega)
    rw [e1, if_neg (fun hh => hs ((inSeg_iff h _ t).mp hh)), zero_mul]
  · intro hh
    exact absurd (Finset.mem_univ _) hh

end Cert.KProof

end
-- ==== Proof.MainPoint.lean ====
/- The output block of the main kernel at an index. -/
module

public import proofs.«01_k».proof.Proof.Spec

@[expose] public section

set_option maxRecDepth 16384

noncomputable section

namespace Cert.KernelIdealProof

open Cert.KernelIdeal Cert.KernelIdeal.Gen
open Idealize.ShloMosaic
open Idealize.SL.Sem

/-- The signed four-bit code `j` of a packed word. -/
def code (w : BitVec 32) (j : ℕ) : BitVec 32 :=
  IntOp.shrsi .vector (IntOp.shli .vector w (IntOp.subi 28#32 (IntOp.muli 4#32 (BitVec.ofNat 32 j)))) 28#32

/-- An unpacked weight is its code times the scale of its group. -/
theorem weight_apply (w : Vec Ideal S512x256 .i32) (sc : Vec Ideal S32x256 .bf16) (k : Fin 4096) (n : Fin 256) :
    k1_pay52 (F := Ideal) (k1_pay51 (F := Ideal) w) sc (ix2 k n)
      = FloatOps.sitofp (F := Ideal) .bf16 (code (w (ix2 ⟨k.val / 8, by omega⟩ n)) (k.val % 8)) * sc (ix2 ⟨k.val / 128, by omega⟩ n) := by
  pointwise [k1_pay52, k1_pay51]
  rfl

/-- An entry of the stacked copies of the shrunk rows: the row's entry in its segment's columns, zero elsewhere. -/
theorem cell (offs : IVec S10 32) (h : Vec Ideal S768x128 .bf16) (r : Fin 768) (x : Fin 1152) (s : Fin 9)
    (hlo : s.val * 128 ≤ x.val) (hhi : x.val < s.val * 128 + 128) (l : Fin 128) (hl : l.val = x.val - s.val * 128) :
    Scalar.select (IntOp.andi (IntOp.cmpi .sge (BitVec.ofNat 32 r.val) (offs (ix1 s.castSucc)))
      (IntOp.cmpi .slt (BitVec.ofNat 32 r.val) (offs (ix1 s.succ)))) (h (ix2 r l)) 0
      = if Cert.KProof.InSeg offs ⟨x.val / 128, by omega⟩ r.val then h (ix2 r ⟨x.val % 128, by omega⟩) else 0 := by
  rw [Cert.KProof.mask_sel]
  have e1 : (⟨x.val / 128, by omega⟩ : Fin 9) = s := Fin.ext (by show _ / 128 = _; omega)
  have e2 : (⟨x.val % 128, by omega⟩ : Fin 128) = l := Fin.ext (by show _ % 128 = _; omega)
  rw [e1, e2]

/-- The output block at an index: the sum over the weights, and the sum over the stacked slices. -/
theorem pay1_apply (wt : Vec Ideal S4096x256 .bf16) (h : Vec Ideal S768x128 .bf16) (offs : IVec S10 32)
    (x : Vec Ideal S768x4096 .bf16) (B : Vec Ideal S1152x256 .bf16) (r : Fin 768) (n : Fin 256) :
    k1_pay1 (F := Ideal) wt mainRun.sl.v587 (k1_pay53 (F := Ideal) h) (k1_pay54 (F := Ideal) h (offs (ix1 0)) (offs (ix1 1)))
      (k1_pay55 (F := Ideal) h (offs (ix1 1)) (offs (ix1 2))) (k1_pay56 (F := Ideal) h (offs (ix1 2)) (offs (ix1 3)))
      (k1_pay58 (F := Ideal) mainRun.sl.v587 (k1_pay53 (F := Ideal) h) (k1_pay57 (F := Ideal) (offs (ix1 3))) (offs (ix1 4)))
      (k1_pay59 (F := Ideal) mainRun.sl.v587 (k1_pay53 (F := Ideal) h) (offs (ix1 4)) (offs (ix1 5)))
      (k1_pay60 (F := Ideal) mainRun.sl.v587 (k1_pay53 (F := Ideal) h) (offs (ix1 5)) (offs (ix1 6)))
      (k1_pay61 (F := Ideal) mainRun.sl.v587 (k1_pay53 (F := Ideal) h) (offs (ix1 6)) (offs (ix1 7)))
      (k1_pay62 (F := Ideal) mainRun.sl.v587 (k1_pay53 (F := Ideal) h) (offs (ix1 7)) (offs (ix1 8)))
      (offs (ix1 8)) (offs (ix1 9)) x B (ix2 r n)
      = ∑ k : Fin 4096, x (ix2 r k) * wt (ix2 k n)
        + ∑ y : Fin 1152, (if Cert.KProof.InSeg offs ⟨y.val / 128, by omega⟩ r.val then h (ix2 r ⟨y.val % 128, by omega⟩) else 0) * B (ix2 y n) := by
  pointwise [k1_pay1, mainRun.sl.v587, k1_pay53, k1_pay54, k1_pay55, k1_pay56, k1_pay57, k1_pay58, k1_pay59, k1_pay60, k1_pay61, k1_pay62]
  refine congrArg (_ + ·) (Finset.sum_congr rfl fun x _ => congrArg (· * _) ?_)
  have hx := x.isLt
  by_cases h0 : x.val < 128
  · rw [dif_pos h0]
    exact cell offs h r x 0 (by show 0 * 128 ≤ x.val; omega) (by show x.val < 0 * 128 + 128; omega) _ (by show x.val = x.val - 0 * 128; omega)
  rw [dif_neg h0]
  by_cases h1 : x.val - 128 < 128
  · rw [dif_pos h1]
    exact cell offs h r x 1 (by show 1 * 128 ≤ x.val; omega) (by show x.val < 1 * 128 + 128; omega) _ (by show x.val - 128 = x.val - 1 * 128; omega)
  rw [dif_neg h1]
  by_cases h2 : x.val - 128 - 128 < 128
  · rw [dif_pos h2]
    exact cell offs h r x 2 (by show 2 * 128 ≤ x.val; omega) (by show x.val < 2 * 128 + 128; omega) _ (by show x.val - 128 - 128 = x.val - 2 * 128; omega)
  rw [dif_neg h2]
  by_cases h3 : x.val - 128 - 128 - 128 < 128
  · rw [dif_pos h3]
    exact cell offs h r x 3 (by show 3 * 128 ≤ x.val; omega) (by show x.val < 3 * 128 + 128; omega) _ (by show x.val - 128 - 128 - 128 = x.val - 3 * 128; omega)
  rw [dif_neg h3]
  by_cases h4 : x.val - 128 - 128 - 128 - 128 < 128
  · rw [dif_pos h4]
    exact cell offs h r x 4 (by show 4 * 128 ≤ x.val; omega) (by show x.val < 4 * 128 + 128; omega) _ (by show x.val - 128 - 128 - 128 - 128 = x.val - 4 * 128; omega)
  rw [dif_neg h4]
  by_cases h5 : x.val - 128 - 128 - 128 - 128 - 128 < 128
  · rw [dif_pos h5]
    exact cell offs h r x 5 (by show 5 * 128 ≤ x.val; omega) (by show x.val < 5 * 128 + 128; omega) _ (by show x.val - 128 - 128 - 128 - 128 - 128 = x.val - 5 * 128; omega)
  rw [dif_neg h5]
  by_cases h6 : x.val - 128 - 128 - 128 - 128 - 128 - 128 < 128
  · rw [dif_pos h6]
    exact cell offs h r x 6 (by show 6 * 128 ≤ x.val; omega) (by show x.val < 6 * 128 + 128; omega) _ (by show x.val - 128 - 128 - 128 - 128 - 128 - 128 = x.val - 6 * 128; omega)
  rw [dif_neg h6]
  by_cases h7 : x.val - 128 - 128 - 128 - 128 - 128 - 128 - 128 < 128
  · rw [dif_pos h7]
    exact cell offs h r x 7 (by show 7 * 128 ≤ x.val; omega) (by show x.val < 7 * 128 + 128; omega) _ (by show x.val - 128 - 128 - 128 - 128 - 128 - 128 - 128 = x.val - 7 * 128; omega)
  rw [dif_neg h7]
  exact cell offs h r x 8 (by show 8 * 128 ≤ x.val; omega) (by show x.val < 8 * 128 + 128; omega) _ (by show x.val - 128 - 128 - 128 - 128 - 128 - 128 - 128 - 128 = x.val - 8 * 128; omega)

section
variable (c : Dev nD) (M1 : Memref sig .tc .smem S15 .i32) (M3 : Memref sig .tc .smem S9 .i32)
  (M8 : Memref sig .tc .vmem S2200x256 .bf16) (M11 : Memref sig .tc .vmem S72x2x128 .bf16)
  (f1 : Bf (F := Ideal) c M1) (f3 : Bf (F := Ideal) c M3) (f8 : Bf (F := Ideal) c M8)
  (M2 : Memref sig .tc .smem S10 .i32) (M4 : Memref sig .tc .vmem S768x4096 .bf16) (M5 : Memref sig .tc .vmem S512x256 .i32)
  (M6 : Memref sig .tc .vmem S32x256 .bf16) (M7 : Memref sig .tc .vmem S768x128 .bf16)
  (M10 : Memref sig .tc .vmem S1152x256 .bf16)
  (f2 : Bf (F := Ideal) c M2) (f4 : Bf (F := Ideal) c M4) (f5 : Bf (F := Ideal) c M5) (f6 : Bf (F := Ideal) c M6) (f7 : Bf (F := Ideal) c M7)
  (hada : ∀ r : Rect S9, ∀ i, k1_chk1 (M3.view.readAt (Elt Ideal) r.toLoadRect f3 i))
  (hsta : ∀ r : Rect S15, ∀ i, k1_chk2 (M1.view.readAt (Elt Ideal) r.toLoadRect f1 i))

/-- A boundary read from its window. -/
theorem offs_read (k : ℕ) (inb : ∀ a, ![k] a + S1.size a ≤ S10.size a)
    (i : (Rect.unit (s := S10) ![k] S1.size inb).toLoadRect.shape.Idx) :
    M2.view.readAt (Elt Ideal) (Rect.unit (s := S10) ![k] S1.size inb).toLoadRect f2 i
      = M2.view.read (Elt Ideal) f2 (ix1 ⟨k, inb 0⟩) :=
  congrArg (M2.view.read (Elt Ideal) f2) (funext fun a => Fin.ext (by
    match a with
    | 0 =>
      have : (i 0).val < 1 := (i 0).isLt
      show k + 1 * (i 0).val = k
      omega))

/-- The output block at an index: the base product and the masked rows' product with the stacked slices. -/
theorem mainOut_apply (r : Fin 768) (n : Fin 256) :
    mainOut c M1 M3 M8 M11 f1 f3 f8 M2 M4 M5 M6 M7 M10 f2 f4 f5 f6 f7 hada hsta (ix2 r n)
      = ∑ k : Fin 4096, M4.view.read (Elt Ideal) f4 (ix2 r k)
          * (FloatOps.sitofp (F := Ideal) .bf16 (code (M5.view.read (Elt Ideal) f5 (ix2 ⟨k.val / 8, by omega⟩ n)) (k.val % 8))
            * M6.view.read (Elt Ideal) f6 (ix2 ⟨k.val / 128, by omega⟩ n))
        + ∑ y : Fin 1152, (if Cert.KProof.InSeg (M2.view.read (Elt Ideal) f2) ⟨y.val / 128, by omega⟩ r.val
            then M7.view.read (Elt Ideal) f7 (ix2 r ⟨y.val % 128, by omega⟩) else 0)
          * M8.view.read (Elt Ideal) f8 (ix2 (poolRow (M1.view.read (Elt Ideal) f1) (M3.view.read (Elt Ideal) f3) y) n) := by
  have e4 := Cert.KProof.readAt_full M4.view f4 (inb := inb_S768x4096_S768x4096_0_0) (by decide)
  have e6 := Cert.KProof.readAt_full M6.view f6 (inb := inb_S32x256_S32x256_0_0) (by decide)
  have e7 := Cert.KProof.readAt_full M7.view f7 (inb := inb_S768x128_S768x128_0_0) (by decide)
  have e23 : mainRun.sl.r_23 c M5 M6 f5 f6 = k1_pay52 (k1_pay51 (M5.view.read (Elt Ideal) f5)) (M6.view.read (Elt Ideal) f6) := by
    rw [← Cert.KProof.readAt_full M5.view f5 (inb := inb_S512x256_S512x256_0_0) (by decide), ← e6]
    rfl
  have o0 : mainRun.sl.r_19 (F := Ideal) c M2 f2 = M2.view.read (Elt Ideal) f2 (ix1 0) := offs_read c M2 f2 0 _ _
  have o1 : mainRun.sl.r_20 (F := Ideal) c M2 f2 = M2.view.read (Elt Ideal) f2 (ix1 1) := offs_read c M2 f2 1 _ _
  have o2 : mainRun.sl.r_21 (F := Ideal) c M2 f2 = M2.view.read (Elt Ideal) f2 (ix1 2) := offs_read c M2 f2 2 _ _
  have o3 : mainRun.sl.r_22 (F := Ideal) c M2 f2 = M2.view.read (Elt Ideal) f2 (ix1 3) := offs_read c M2 f2 3 _ _
  have o4 : mainRun.sl.r_29 (F := Ideal) c M2 f2 = M2.view.read (Elt Ideal) f2 (ix1 4) := offs_read c M2 f2 4 _ _
  have o5 : mainRun.sl.r_30 (F := Ideal) c M2 f2 = M2.view.read (Elt Ideal) f2 (ix1 5) := offs_read c M2 f2 5 _ _
  have o6 : mainRun.sl.r_31 (F := Ideal) c M2 f2 = M2.view.read (Elt Ideal) f2 (ix1 6) := offs_read c M2 f2 6 _ _
  have o7 : mainRun.sl.r_32 (F := Ideal) c M2 f2 = M2.view.read (Elt Ideal) f2 (ix1 7) := offs_read c M2 f2 7 _ _
  have o8 : mainRun.sl.r_33 (F := Ideal) c M2 f2 = M2.view.read (Elt Ideal) f2 (ix1 8) := offs_read c M2 f2 8 _ _
  have o9 : mainRun.sl.r_39 (F := Ideal) c M2 f2 = M2.view.read (Elt Ideal) f2 (ix1 9) := offs_read c M2 f2 9 _ _
  have e24 : mainRun.sl.r_24 c M7 f7 = k1_pay53 (M7.view.read (Elt Ideal) f7) := by unfold mainRun.sl.r_24; rw [e7]
  have e25 : mainRun.sl.r_25 c M2 M7 f2 f7 = k1_pay54 (M7.view.read (Elt Ideal) f7) (M2.view.read (Elt Ideal) f2 (ix1 0)) (M2.view.read (Elt Ideal) f2 (ix1 1)) := by unfold mainRun.sl.r_25; rw [e7, o0, o1]
  have e26 : mainRun.sl.r_26 c M2 M7 f2 f7 = k1_pay55 (M7.view.read (Elt Ideal) f7) (M2.view.read (Elt Ideal) f2 (ix1 1)) (M2.view.read (Elt Ideal) f2 (ix1 2)) := by unfold mainRun.sl.r_26; rw [e7, o1, o2]
  have e27 : mainRun.sl.r_27 c M2 M7 f2 f7 = k1_pay56 (M7.view.read (Elt Ideal) f7) (M2.view.read (Elt Ideal) f2 (ix1 2)) (M2.view.read (Elt Ideal) f2 (ix1 3)) := by unfold mainRun.sl.r_27; rw [e7, o2, o3]
  have e28 : mainRun.sl.r_28 (F := Ideal) c M2 f2 = k1_pay57 (F := Ideal) (M2.view.read (Elt Ideal) f2 (ix1 3)) := by unfold mainRun.sl.r_28; rw [o3]
  have e34 : mainRun.sl.r_34 c M2 M7 f2 f7 = k1_pay58 mainRun.sl.v587 (k1_pay53 (M7.view.read (Elt Ideal) f7)) (k1_pay57 (F := Ideal) (M2.view.read (Elt Ideal) f2 (ix1 3))) (M2.view.read (Elt Ideal) f2 (ix1 4)) := by unfold mainRun.sl.r_34; rw [e24, e28, o4]
  have e35 : mainRun.sl.r_35 c M2 M7 f2 f7 = k1_pay59 mainRun.sl.v587 (k1_pay53 (M7.view.read (Elt Ideal) f7)) (M2.view.read (Elt Ideal) f2 (ix1 4)) (M2.view.read (Elt Ideal) f2 (ix1 5)) := by unfold mainRun.sl.r_35; rw [e24, o4, o5]
  have e36 : mainRun.sl.r_36 c M2 M7 f2 f7 = k1_pay60 mainRun.sl.v587 (k1_pay53 (M7.view.read (Elt Ideal) f7)) (M2.view.read (Elt Ideal) f2 (ix1 5)) (M2.view.read (Elt Ideal) f2 (ix1 6)) := by unfold mainRun.sl.r_36; rw [e24, o5, o6]
  have e37 : mainRun.sl.r_37 c M2 M7 f2 f7 = k1_pay61 mainRun.sl.v587 (k1_pay53 (M7.view.read (Elt Ideal) f7)) (M2.view.read (Elt Ideal) f2 (ix1 6)) (M2.view.read (Elt Ideal) f2 (ix1 7)) := by unfold mainRun.sl.r_37; rw [e24, o6, o7]
  have e38 : mainRun.sl.r_38 c M2 M7 f2 f7 = k1_pay62 mainRun.sl.v587 (k1_pay53 (M7.view.read (Elt Ideal) f7)) (M2.view.read (Elt Ideal) f2 (ix1 7)) (M2.view.read (Elt Ideal) f2 (ix1 8)) := by unfold mainRun.sl.r_38; rw [e24, o7, o8]
  unfold mainOut
  rw [e23, e24, e25, e26, e27, e34, e35, e36, e37, e38, o8, o9, e4]
  refine (pay1_apply _ _ _ _ _ r n).trans ?_
  simp only [weight_apply, mainB_apply]

end

end Cert.KernelIdealProof

end
-- ==== Proof.Code.lean ====
/- The four-bit code of a packed word, read two ways: shifted to the top and back down with its sign, or masked out and
   sixteen taken off from eight on. -/
module

public import proofs.«01_k».proof.Proof.MainPoint

@[expose] public section

noncomputable section

namespace Cert.KProof

open Idealize.ShloMosaic

/-- The code by mask and correction. -/
def maskCode (w : BitVec 32) (j : ℕ) : BitVec 32 :=
  IntOp.subi (IntOp.andi (IntOp.shrsi .host w (IntOp.muli 4#32 (BitVec.ofNat 32 j))) 15#32)
    (IntOp.muli 16#32 ((IntOp.cmpi .sge (IntOp.andi (IntOp.shrsi .host w (IntOp.muli 4#32 (BitVec.ofNat 32 j))) 15#32) 8#32).setWidth 32))

/-- The code cut out of a word by a shift and a mask. -/
theorem low_nibble (w : BitVec 32) (b : ℕ) (hb : b ∈ [0, 4, 8, 12, 16, 20, 24, 28]) :
    w.sshiftRight b &&& 15#32 = BitVec.ofNat 32 (w.toNat / 2 ^ b % 16) := by
  apply BitVec.eq_of_toNat_eq
  have h1 : (w.sshiftRight b &&& 15#32).toNat = (w.sshiftRight b).toNat &&& (2 ^ 4 - 1) := BitVec.toNat_and ..
  rw [h1, Nat.and_two_pow_sub_one_eq_mod, BitVec.toNat_ofNat]
  have h2 : (w.sshiftRight b).toInt = w.toInt / 2 ^ b := by
    rw [BitVec.toInt_sshiftRight, Int.shiftRight_eq_div_pow]
    simp
  have hw := w.isLt
  have hs := (w.sshiftRight b).isLt
  rw [BitVec.toInt_eq_toNat_cond, BitVec.toInt_eq_toNat_cond] at h2
  simp only [List.mem_cons, List.not_mem_nil, or_false] at hb
  rcases hb with rfl | rfl | rfl | rfl | rfl | rfl | rfl | rfl <;> (simp only [Nat.reducePow, Int.reducePow] at *; split at h2 <;> split at h2 <;> omega)

/-- The code cut out by a shift up and a signed shift down, as a signed number. -/
theorem top_nibble (w : BitVec 32) (a b : ℕ) (hb : b ∈ [0, 4, 8, 12, 16, 20, 24, 28]) (hab : a + b = 28) :
    ((w <<< a).sshiftRight 28).toInt = if w.toNat / 2 ^ b % 16 < 8 then (w.toNat / 2 ^ b % 16 : ℤ) else (w.toNat / 2 ^ b % 16 : ℤ) - 16 := by
  have h2 : ((w <<< a).sshiftRight 28).toInt = (w <<< a).toInt / 2 ^ 28 := by
    rw [BitVec.toInt_sshiftRight, Int.shiftRight_eq_div_pow]
    simp
  have h3 : (w <<< a).toNat = w.toNat * 2 ^ a % 2 ^ 32 := by rw [BitVec.toNat_shiftLeft, Nat.shiftLeft_eq]
  have hw := w.isLt
  rw [h2, BitVec.toInt_eq_toNat_cond, h3]
  obtain rfl : a = 28 - b := by omega
  simp only [List.mem_cons, List.not_mem_nil, or_false] at hb
  rcases hb with rfl | rfl | rfl | rfl | rfl | rfl | rfl | rfl <;> (simp only [Nat.reduceSub, Nat.reducePow, Int.reducePow] at *; split <;> split <;> omega)

/-- A four-bit number less sixteen from eight on, as a signed number. -/
theorem small_code : ∀ q : Fin 16, (IntOp.subi (BitVec.ofNat 32 q.val)
    (IntOp.muli 16#32 ((IntOp.cmpi .sge (BitVec.ofNat 32 q.val) 8#32).setWidth 32))).toInt
      = if q.val < 8 then (q.val : ℤ) else (q.val : ℤ) - 16 := by decide

/-- The two ways of cutting out a code agree; -/
theorem code_core (w : BitVec 32) (a b : ℕ) (hb : b ∈ [0, 4, 8, 12, 16, 20, 24, 28]) (hab : a + b = 28) :
    (w <<< a).sshiftRight 28 = IntOp.subi (w.sshiftRight b &&& 15#32)
      (IntOp.muli 16#32 ((IntOp.cmpi .sge (w.sshiftRight b &&& 15#32) 8#32).setWidth 32)) := by
  apply BitVec.eq_of_toInt_eq
  rw [top_nibble w a b hb hab, low_nibble w b hb]
  exact (small_code ⟨w.toNat / 2 ^ b % 16, Nat.mod_lt _ (by decide)⟩).symm

/-- so for each of the eight codes of a word. -/
theorem code_eq (w : BitVec 32) (j : ℕ) (hj : j < 8) : Cert.KernelIdealProof.code w j = maskCode w j := by
  obtain rfl | rfl | rfl | rfl | rfl | rfl | rfl | rfl : j = 0 ∨ j = 1 ∨ j = 2 ∨ j = 3 ∨ j = 4 ∨ j = 5 ∨ j = 6 ∨ j = 7 := by omega
  · exact code_core w 28 0 (by decide) rfl
  · exact code_core w 24 4 (by decide) rfl
  · exact code_core w 20 8 (by decide) rfl
  · exact code_core w 16 12 (by decide) rfl
  · exact code_core w 12 16 (by decide) rfl
  · exact code_core w 8 20 (by decide) rfl
  · exact code_core w 4 24 (by decide) rfl
  · exact code_core w 0 28 (by decide) rfl

end Cert.KProof

end
-- ==== Proof.ShrPoint.lean ====
/- The first region's body at the last grid point, at an index. -/
module

public import proofs.«01_k».proof.Proof.Spec

@[expose] public section

set_option maxRecDepth 16384

noncomputable section

namespace Cert.KernelIdealProof

open Cert.KernelIdeal Cert.KernelIdeal.Gen
open Idealize.ShloMosaic
open Idealize.SL.Sem

/-- An entry of a small array read from its window; so for each length. -/
theorem word9 {sp : Space} {e : EltTy} (M : Memref sig .tc sp S9 e) (f : M.view.ty.Contents (Elt Ideal)) (k : ℕ)
    (inb : ∀ a, ![k] a + S1.size a ≤ S9.size a) (i : (Rect.unit (s := S9) ![k] S1.size inb).toLoadRect.shape.Idx) :
    M.view.readAt (Elt Ideal) (Rect.unit (s := S9) ![k] S1.size inb).toLoadRect f i
      = M.view.read (Elt Ideal) f (ix1 ⟨k, inb 0⟩) :=
  congrArg (M.view.read (Elt Ideal) f) (funext fun a => Fin.ext (by
    match a with
    | 0 =>
      have : (i 0).val < 1 := (i 0).isLt
      show k + 1 * (i 0).val = k
      omega))

theorem word10 {sp : Space} {e : EltTy} (M : Memref sig .tc sp S10 e) (f : M.view.ty.Contents (Elt Ideal)) (k : ℕ)
    (inb : ∀ a, ![k] a + S1.size a ≤ S10.size a) (i : (Rect.unit (s := S10) ![k] S1.size inb).toLoadRect.shape.Idx) :
    M.view.readAt (Elt Ideal) (Rect.unit (s := S10) ![k] S1.size inb).toLoadRect f i
      = M.view.read (Elt Ideal) f (ix1 ⟨k, inb 0⟩) :=
  congrArg (M.view.read (Elt Ideal) f) (funext fun a => Fin.ext (by
    match a with
    | 0 =>
      have : (i 0).val < 1 := (i 0).isLt
      show k + 1 * (i 0).val = k
      omega))

theorem word15 {sp : Space} {e : EltTy} (M : Memref sig .tc sp S15 e) (f : M.view.ty.Contents (Elt Ideal)) (off : Fin 1 → ℕ)
    (inb : ∀ a, off a + S1.size a ≤ S15.size a) (i : (Rect.unit (s := S15) off S1.size inb).toLoadRect.shape.Idx) :
    M.view.readAt (Elt Ideal) (Rect.unit (s := S15) off S1.size inb).toLoadRect f i
      = M.view.read (Elt Ideal) f (ix1 ⟨off 0 % 15, Nat.mod_lt _ (by decide)⟩) :=
  congrArg (M.view.read (Elt Ideal) f) (funext fun a => Fin.ext (by
    match a with
    | 0 =>
      have : (i 0).val < 1 := (i 0).isLt
      have h : off 0 + 1 ≤ 15 := inb 0
      show off 0 + 1 * (i 0).val = off 0 % 15
      omega))

/-- A choice by two conditions is a choice by one within a choice by the other. -/
theorem select_and {α : Type} (p : Prop) [Decidable p] (b : BitVec 1) (x y : α) :
    Scalar.select (IntOp.andi (if p then 1#1 else 0#1) b) x y = if p then Scalar.select b x y else y := by
  split
  · have : IntOp.andi 1#1 b = b := by revert b; decide
    rw [this]
  · have : IntOp.andi 0#1 b = 0#1 := by revert b; decide
    rw [this]
    rfl

/-- A choice by two boundaries and a further bit is by membership in the segment. -/
theorem step_sel {α : Type} (offs : IVec S10 32) (s : Fin 9) (t : Fin 768) (b : BitVec 1) (x y : α) :
    Scalar.select (IntOp.andi (IntOp.andi (IntOp.cmpi .sge (BitVec.ofNat 32 t.val) (offs (ix1 s.castSucc)))
      (IntOp.cmpi .slt (BitVec.ofNat 32 t.val) (offs (ix1 s.succ)))) b) x y
      = if Cert.KProof.InSeg offs s t.val then Scalar.select b x y else y := by
  rw [Cert.KProof.mask_bit, select_and]
  rfl

/-- One step of the accumulator at an index. -/
theorem acc_apply (a : Vec Ideal S768x1152 .f32) (x : Vec Ideal S768x512 .bf16) (A : Vec Ideal S1152x512 .bf16)
    (t : Fin 768) (y : Fin 1152) :
    k0_pay128 (F := Ideal) a x A (ix2 t y) = a (ix2 t y) + ∑ q : Fin 512, x (ix2 t q) * A (ix2 y q) := by
  pointwise [k0_pay128]

/-- The output of the last step at an index: its own segment's columns, scaled, or zero from the rank on. -/
theorem out_apply {starts : IVec S15 32} {seg : IVec S9 32} (a : Fin 9 → Vec Ideal S768x128 .f32) (sc : Fin 9 → Ideal .f32) (rk : Fin 9 → BitVec 32) (offs : IVec S10 32)
    (hr : Cert.KProof.InRange starts offs seg)
    (t : Fin 768) (l : Fin 128) :
    k0_pay1 (F := Ideal) shrinkLast.sl.v1122 shrinkLast.sl.v1123
      (k0_pay6 shrinkLast.sl.v1122 shrinkLast.sl.v1123
        (k0_pay3 shrinkLast.sl.v1122 shrinkLast.sl.v1123
          (k0_pay2 (a 0) (sc 0) (offs (ix1 0)) (offs (ix1 1)) (rk 0) (a 1) (sc 1) (offs (ix1 1)) (offs (ix1 2)) (rk 1))
          (a 2) (sc 2) (offs (ix1 2)) (offs (ix1 3)) (rk 2) (a 3) (sc 3) (offs (ix1 3)) (offs (ix1 4)) (rk 3))
        (k0_pay4 (a 4) (sc 4)) (k0_pay5 (F := Ideal) shrinkLast.sl.v1122 (offs (ix1 4))) (offs (ix1 5)) (rk 4)
        (a 5) (sc 5) (offs (ix1 5)) (offs (ix1 6)) (rk 5) (a 6) (sc 6) (offs (ix1 6)) (offs (ix1 7)) (rk 6))
      (a 7) (sc 7) (offs (ix1 7)) (offs (ix1 8)) (rk 7) (a 8) (sc 8) (offs (ix1 8)) (offs (ix1 9)) (rk 8) (ix2 t l)
      = Scalar.select (IntOp.cmpi .slt (BitVec.ofNat 32 l.val) (rk (Cert.KProof.rowSeg offs t.val)))
          (a (Cert.KProof.rowSeg offs t.val) (ix2 t l) * sc (Cert.KProof.rowSeg offs t.val)) 0 := by
  pointwise [k0_pay1, k0_pay2, k0_pay3, k0_pay4, k0_pay5, k0_pay6, shrinkLast.sl.v1122, shrinkLast.sl.v1123]
  have m0 : IntOp.andi (IntOp.cmpi .sge (BitVec.ofNat 32 t.val) (offs (ix1 0))) (IntOp.cmpi .slt (BitVec.ofNat 32 t.val) (offs (ix1 1)))
      = if Cert.KProof.InSeg offs 0 t.val then 1#1 else 0#1 := Cert.KProof.mask_bit t (offs (ix1 0)) (offs (ix1 1))
  have m1 : IntOp.andi (IntOp.cmpi .sge (BitVec.ofNat 32 t.val) (offs (ix1 1))) (IntOp.cmpi .slt (BitVec.ofNat 32 t.val) (offs (ix1 2)))
      = if Cert.KProof.InSeg offs 1 t.val then 1#1 else 0#1 := Cert.KProof.mask_bit t (offs (ix1 1)) (offs (ix1 2))
  have m2 : IntOp.andi (IntOp.cmpi .sge (BitVec.ofNat 32 t.val) (offs (ix1 2))) (IntOp.cmpi .slt (BitVec.ofNat 32 t.val) (offs (ix1 3)))
      = if Cert.KProof.InSeg offs 2 t.val then 1#1 else 0#1 := Cert.KProof.mask_bit t (offs (ix1 2)) (offs (ix1 3))
  have m3 : IntOp.andi (IntOp.cmpi .sge (BitVec.ofNat 32 t.val) (offs (ix1 3))) (IntOp.cmpi .slt (BitVec.ofNat 32 t.val) (offs (ix1 4)))
      = if Cert.KProof.InSeg offs 3 t.val then 1#1 else 0#1 := Cert.KProof.mask_bit t (offs (ix1 3)) (offs (ix1 4))
  have m4 : IntOp.andi (IntOp.cmpi .sge (BitVec.ofNat 32 t.val) (offs (ix1 4))) (IntOp.cmpi .slt (BitVec.ofNat 32 t.val) (offs (ix1 5)))
      = if Cert.KProof.InSeg offs 4 t.val then 1#1 else 0#1 := Cert.KProof.mask_bit t (offs (ix1 4)) (offs (ix1 5))
  have m5 : IntOp.andi (IntOp.cmpi .sge (BitVec.ofNat 32 t.val) (offs (ix1 5))) (IntOp.cmpi .slt (BitVec.ofNat 32 t.val) (offs (ix1 6)))
      = if Cert.KProof.InSeg offs 5 t.val then 1#1 else 0#1 := Cert.KProof.mask_bit t (offs (ix1 5)) (offs (ix1 6))
  have m6 : IntOp.andi (IntOp.cmpi .sge (BitVec.ofNat 32 t.val) (offs (ix1 6))) (IntOp.cmpi .slt (BitVec.ofNat 32 t.val) (offs (ix1 7)))
      = if Cert.KProof.InSeg offs 6 t.val then 1#1 else 0#1 := Cert.KProof.mask_bit t (offs (ix1 6)) (offs (ix1 7))
  have m7 : IntOp.andi (IntOp.cmpi .sge (BitVec.ofNat 32 t.val) (offs (ix1 7))) (IntOp.cmpi .slt (BitVec.ofNat 32 t.val) (offs (ix1 8)))
      = if Cert.KProof.InSeg offs 7 t.val then 1#1 else 0#1 := Cert.KProof.mask_bit t (offs (ix1 7)) (offs (ix1 8))
  have m8 : IntOp.andi (IntOp.cmpi .sge (BitVec.ofNat 32 t.val) (offs (ix1 8))) (IntOp.cmpi .slt (BitVec.ofNat 32 t.val) (offs (ix1 9)))
      = if Cert.KProof.InSeg offs 8 t.val then 1#1 else 0#1 := Cert.KProof.mask_bit t (offs (ix1 8)) (offs (ix1 9))
  simp only [m0, m1, m2, m3, m4, m5, m6, m7, m8, select_and, Cert.KProof.inSeg_iff hr]
  clear m0 m1 m2 m3 m4 m5 m6 m7 m8
  generalize Cert.KProof.rowSeg offs t.val = q
  fin_cases q <;> rfl

section
variable (c : Dev nD) (M1 : Memref sig .tc .smem S15 .i32) (M4 : Memref sig .tc .smem S9 .i32)
  (M7 : Memref sig .tc .vmem S2200x512 .bf16) (M11 : Memref sig .tc .vmem S72x2x128 .bf16)
  (f1 : Bf (F := Ideal) c M1) (f4 : Bf (F := Ideal) c M4) (f7 : Bf (F := Ideal) c M7)
  (M2 : Memref sig .tc .smem S15 .i32) (M3 : Memref sig .tc .smem S10 .i32) (M5 : Memref sig .tc .smem S15 .f32)
  (M6 : Memref sig .tc .vmem S768x512 .bf16) (M8 : Memref sig .tc .vmem S768x128 .bf16)
  (M9 : Memref sig .tc .vmem S1152x512 .bf16) (M10 : Memref sig .tc .vmem S768x1152 .f32)
  (h1 : M1.IsWhole) (h2 : M2.IsWhole) (h3 : M3.IsWhole) (h4 : M4.IsWhole) (h5 : M5.IsWhole) (h6 : M6.IsWhole) (h7 : M7.IsWhole)
  (h8 : M8.IsWhole) (h9 : M9.IsWhole) (h10 : M10.IsWhole) (h11 : M11.IsWhole)
  (f2 : Bf (F := Ideal) c M2) (f3 : Bf (F := Ideal) c M3) (f5 : Bf (F := Ideal) c M5) (f6 : Bf (F := Ideal) c M6)
  (hada : ∀ r : Rect S9, ∀ i, k0_chk1 (M4.view.readAt (Elt Ideal) r.toLoadRect f4 i))
  (hsta : ∀ r : Rect S15, ∀ i, k0_chk2 (M1.view.readAt (Elt Ideal) r.toLoadRect f1 i))

/-- Segment `s`'s lanes of the accumulator. -/
def lanes (A : S768x1152.Idx → Ideal .f32) (s : Fin 9) : Vec Ideal S768x128 .f32 :=
  fun i => A (ix2 (i 0) ⟨128 * s.val + (i 1).val, by have : (i 1).val < 128 := (i 1).isLt; show _ < 1152; omega⟩)

/-- Segment `s`'s columns of the accumulator. -/
theorem readCov_lanes (inb) (p : S768x1152.Idx → Ideal .f32) (s : Fin 9) (o : ℕ) (ho : o = 128 * s.val)
    (inb' : ∀ a, ![0, o] a + S768x128.size a ≤ S768x1152.size a) :
    M10.view.readCov (Val := Elt Ideal) [(⟨Rect.unit (s := S768x1152) ![0, 0] S768x1152.size inb, p⟩ : View.Piece (Elt Ideal) S768x1152 .f32)]
      (Rect.unit (s := S768x1152) ![0, o] S768x128.size inb').toLoadRect = lanes p s := by
  subst ho
  funext i
  show M10.view.read (Elt Ideal) (M10.view.writes (Elt Ideal) M10.view.junk _) _ = _
  rw [Cert.KProof.read_writes_full M10.view _ _ _ (by decide)]
  refine congrArg p (funext fun a => Fin.ext ?_)
  match a with
  | 0 => show 0 + 1 * (i 0).val = (i 0).val; omega
  | 1 => show 128 * s.val + 1 * (i 1).val = 128 * s.val + (i 1).val; omega

/-- The adapter of segment `s`. -/
def adaOf (seg : IVec S9 32) (s : Fin 9) : Fin 15 := ⟨(seg (ix1 s)).toNat % 15, Nat.mod_lt _ (by decide)⟩

set_option maxHeartbeats 4000000 in
/-- What the last step leaves in the output window, at an index. -/
theorem shrinkLast_out (i : grid0.Coords) (f10 : Bf (F := Ideal) c M10) (f11 : Bf (F := Ideal) c M11) (hc1) (hc2) (hlast)
    {starts : IVec S15 32} {seg : IVec S9 32} (hr : Cert.KProof.InRange starts (M3.view.read (Elt Ideal) f3) seg) (t : Fin 768) (l : Fin 128) :
    M8.view.read (Elt Ideal) (shrinkLast c i M1 h1 M2 h2 M3 h3 M4 h4 M5 h5 M6 h6 M7 h7 M8 h8 M9 h9 M10 h10 M11 h11
      f1 f2 f3 f4 f5 f6 f7 f10 f11 hc1 hc2 hada hsta hlast).1.2 (ix2 t l)
      = Scalar.select (IntOp.cmpi .slt (BitVec.ofNat 32 l.val)
            (M2.view.read (Elt Ideal) f2 (ix1 (adaOf (M4.view.read (Elt Ideal) f4) (Cert.KProof.rowSeg (M3.view.read (Elt Ideal) f3) t.val)))))
          (shrAcc c M1 M4 M7 M11 f1 f4 f7 M6 M9 f6 hada hsta (M10.view.read (Elt Ideal) f10)
              (ix2 t ⟨128 * (Cert.KProof.rowSeg (M3.view.read (Elt Ideal) f3) t.val).val + l.val, by
                have := (Cert.KProof.rowSeg (M3.view.read (Elt Ideal) f3) t.val).isLt; omega⟩)
            * M5.view.read (Elt Ideal) f5 (ix1 (adaOf (M4.view.read (Elt Ideal) f4) (Cert.KProof.rowSeg (M3.view.read (Elt Ideal) f3) t.val))))
          0 := by
  have hH : shrinkLast.sl.H10_1 c M1 M4 M6 M7 M9 M10 M11 f1 f4 f6 f7 f10 f11 hada hsta
      = [(⟨Rect.unit (s := S768x1152) ![0, 0] S768x1152.size inb_S768x1152_S768x1152_0_0,
          shrAcc c M1 M4 M7 M11 f1 f4 f7 M6 M9 f6 hada hsta (M10.view.read (Elt Ideal) f10)⟩ : View.Piece (Elt Ideal) S768x1152 .f32)] := by
    unfold shrinkLast.sl.H10_1
    rw [shrA_Last, ← Cert.KProof.readAt_full M10.view f10 (inb := inb_S768x1152_S768x1152_0_0) (by decide)]
    rfl
  generalize shrAcc c M1 M4 M7 M11 f1 f4 f7 M6 M9 f6 hada hsta (M10.view.read (Elt Ideal) f10) = A at hH ⊢
  have v0 : shrinkLast.sl.v1126 c M1 M4 M6 M7 M9 M10 M11 f1 f4 f6 f7 f10 f11 hada hsta = lanes A 0 := by
    unfold shrinkLast.sl.v1126
    rw [hH]
    exact readCov_lanes M10 _ A 0 0 rfl _
  have v1 : shrinkLast.sl.v1145 c M1 M4 M6 M7 M9 M10 M11 f1 f4 f6 f7 f10 f11 hada hsta = lanes A 1 := by
    unfold shrinkLast.sl.v1145
    rw [hH]
    exact readCov_lanes M10 _ A 1 128 rfl _
  have v2 : shrinkLast.sl.v1164 c M1 M4 M6 M7 M9 M10 M11 f1 f4 f6 f7 f10 f11 hada hsta = lanes A 2 := by
    unfold shrinkLast.sl.v1164
    rw [hH]
    exact readCov_lanes M10 _ A 2 256 rfl _
  have v3 : shrinkLast.sl.v1183 c M1 M4 M6 M7 M9 M10 M11 f1 f4 f6 f7 f10 f11 hada hsta = lanes A 3 := by
    unfold shrinkLast.sl.v1183
    rw [hH]
    exact readCov_lanes M10 _ A 3 384 rfl _
  have v4 : shrinkLast.sl.v1202 c M1 M4 M6 M7 M9 M10 M11 f1 f4 f6 f7 f10 f11 hada hsta = lanes A 4 := by
    unfold shrinkLast.sl.v1202
    rw [hH]
    exact readCov_lanes M10 _ A 4 512 rfl _
  have v5 : shrinkLast.sl.v1221 c M1 M4 M6 M7 M9 M10 M11 f1 f4 f6 f7 f10 f11 hada hsta = lanes A 5 := by
    unfold shrinkLast.sl.v1221
    rw [hH]
    exact readCov_lanes M10 _ A 5 640 rfl _
  have v6 : shrinkLast.sl.v1240 c M1 M4 M6 M7 M9 M10 M11 f1 f4 f6 f7 f10 f11 hada hsta = lanes A 6 := by
    unfold shrinkLast.sl.v1240
    rw [hH]
    exact readCov_lanes M10 _ A 6 768 rfl _
  have v7 : shrinkLast.sl.v1259 c M1 M4 M6 M7 M9 M10 M11 f1 f4 f6 f7 f10 f11 hada hsta = lanes A 7 := by
    unfold shrinkLast.sl.v1259
    rw [hH]
    exact readCov_lanes M10 _ A 7 896 rfl _
  have v8 : shrinkLast.sl.v1278 c M1 M4 M6 M7 M9 M10 M11 f1 f4 f6 f7 f10 f11 hada hsta = lanes A 8 := by
    unfold shrinkLast.sl.v1278
    rw [hH]
    exact readCov_lanes M10 _ A 8 1024 rfl _
  have o0 : shrinkLast.sl.r_21 (F := Ideal) c M3 f3 = M3.view.read (Elt Ideal) f3 (ix1 0) := word10 M3 f3 0 _ _
  have o1 : shrinkLast.sl.r_22 (F := Ideal) c M3 f3 = M3.view.read (Elt Ideal) f3 (ix1 1) := word10 M3 f3 1 _ _
  have o2 : shrinkLast.sl.r_26 (F := Ideal) c M3 f3 = M3.view.read (Elt Ideal) f3 (ix1 2) := word10 M3 f3 2 _ _
  have o3 : shrinkLast.sl.r_31 (F := Ideal) c M3 f3 = M3.view.read (Elt Ideal) f3 (ix1 3) := word10 M3 f3 3 _ _
  have o4 : shrinkLast.sl.r_35 (F := Ideal) c M3 f3 = M3.view.read (Elt Ideal) f3 (ix1 4) := word10 M3 f3 4 _ _
  have o5 : shrinkLast.sl.r_39 (F := Ideal) c M3 f3 = M3.view.read (Elt Ideal) f3 (ix1 5) := word10 M3 f3 5 _ _
  have o6 : shrinkLast.sl.r_46 (F := Ideal) c M3 f3 = M3.view.read (Elt Ideal) f3 (ix1 6) := word10 M3 f3 6 _ _
  have o7 : shrinkLast.sl.r_50 (F := Ideal) c M3 f3 = M3.view.read (Elt Ideal) f3 (ix1 7) := word10 M3 f3 7 _ _
  have o8 : shrinkLast.sl.r_55 (F := Ideal) c M3 f3 = M3.view.read (Elt Ideal) f3 (ix1 8) := word10 M3 f3 8 _ _
  have o9 : shrinkLast.sl.r_59 (F := Ideal) c M3 f3 = M3.view.read (Elt Ideal) f3 (ix1 9) := word10 M3 f3 9 _ _
  have a0 : shrinkLast.sl.r_19 (F := Ideal) c M4 f4 = M4.view.read (Elt Ideal) f4 (ix1 0) := word9 M4 f4 0 _ _
  have s0 : shrinkLast.sl.r_20 (F := Ideal) c i M4 M5 f4 f5 hc2 hlast = M5.view.read (Elt Ideal) f5 (ix1 (adaOf (M4.view.read (Elt Ideal) f4) 0)) :=
    (word15 M5 f5 (k0_off64 (shrinkLast.sl.r_19 (F := Ideal) c M4 f4)) _ _).trans
      (congrArg (fun w : BitVec 32 => M5.view.read (Elt Ideal) f5 (ix1 ⟨w.toNat % 15, Nat.mod_lt _ (by decide)⟩)) a0)
  have k0 : shrinkLast.sl.r_23 (F := Ideal) c i M2 M4 f2 f4 hc2 hlast = M2.view.read (Elt Ideal) f2 (ix1 (adaOf (M4.view.read (Elt Ideal) f4) 0)) :=
    (word15 M2 f2 (k0_off64 (shrinkLast.sl.r_19 (F := Ideal) c M4 f4)) _ _).trans
      (congrArg (fun w : BitVec 32 => M2.view.read (Elt Ideal) f2 (ix1 ⟨w.toNat % 15, Nat.mod_lt _ (by decide)⟩)) a0)
  have a1 : shrinkLast.sl.r_24 (F := Ideal) c M4 f4 = M4.view.read (Elt Ideal) f4 (ix1 1) := word9 M4 f4 1 _ _
  have s1 : shrinkLast.sl.r_25 (F := Ideal) c i M4 M5 f4 f5 hc2 hlast = M5.view.read (Elt Ideal) f5 (ix1 (adaOf (M4.view.read (Elt Ideal) f4) 1)) :=
    (word15 M5 f5 (k0_off65 (shrinkLast.sl.r_24 (F := Ideal) c M4 f4)) _ _).trans
      (congrArg (fun w : BitVec 32 => M5.view.read (Elt Ideal) f5 (ix1 ⟨w.toNat % 15, Nat.mod_lt _ (by decide)⟩)) a1)
  have k1 : shrinkLast.sl.r_27 (F := Ideal) c i M2 M4 f2 f4 hc2 hlast = M2.view.read (Elt Ideal) f2 (ix1 (adaOf (M4.view.read (Elt Ideal) f4) 1)) :=
    (word15 M2 f2 (k0_off65 (shrinkLast.sl.r_24 (F := Ideal) c M4 f4)) _ _).trans
      (congrArg (fun w : BitVec 32 => M2.view.read (Elt Ideal) f2 (ix1 ⟨w.toNat % 15, Nat.mod_lt _ (by decide)⟩)) a1)
  have a2 : shrinkLast.sl.r_28 (F := Ideal) c M4 f4 = M4.view.read (Elt Ideal) f4 (ix1 2) := word9 M4 f4 2 _ _
  have s2 : shrinkLast.sl.r_30 (F := Ideal) c i M4 M5 f4 f5 hc2 hlast = M5.view.read (Elt Ideal) f5 (ix1 (adaOf (M4.view.read (Elt Ideal) f4) 2)) :=
    (word15 M5 f5 (k0_off66 (shrinkLast.sl.r_28 (F := Ideal) c M4 f4)) _ _).trans
      (congrArg (fun w : BitVec 32 => M5.view.read (Elt Ideal) f5 (ix1 ⟨w.toNat % 15, Nat.mod_lt _ (by decide)⟩)) a2)
  have k2 : shrinkLast.sl.r_32 (F := Ideal) c i M2 M4 f2 f4 hc2 hlast = M2.view.read (Elt Ideal) f2 (ix1 (adaOf (M4.view.read (Elt Ideal) f4) 2)) :=
    (word15 M2 f2 (k0_off66 (shrinkLast.sl.r_28 (F := Ideal) c M4 f4)) _ _).trans
      (congrArg (fun w : BitVec 32 => M2.view.read (Elt Ideal) f2 (ix1 ⟨w.toNat % 15, Nat.mod_lt _ (by decide)⟩)) a2)
  have a3 : shrinkLast.sl.r_33 (F := Ideal) c M4 f4 = M4.view.read (Elt Ideal) f4 (ix1 3) := word9 M4 f4 3 _ _
  have s3 : shrinkLast.sl.r_34 (F := Ideal) c i M4 M5 f4 f5 hc2 hlast = M5.view.read (Elt Ideal) f5 (ix1 (adaOf (M4.view.read (Elt Ideal) f4) 3)) :=
    (word15 M5 f5 (k0_off67 (shrinkLast.sl.r_33 (F := Ideal) c M4 f4)) _ _).trans
      (congrArg (fun w : BitVec 32 => M5.view.read (Elt Ideal) f5 (ix1 ⟨w.toNat % 15, Nat.mod_lt _ (by decide)⟩)) a3)
  have k3 : shrinkLast.sl.r_36 (F := Ideal) c i M2 M4 f2 f4 hc2 hlast = M2.view.read (Elt Ideal) f2 (ix1 (adaOf (M4.view.read (Elt Ideal) f4) 3)) :=
    (word15 M2 f2 (k0_off67 (shrinkLast.sl.r_33 (F := Ideal) c M4 f4)) _ _).trans
      (congrArg (fun w : BitVec 32 => M2.view.read (Elt Ideal) f2 (ix1 ⟨w.toNat % 15, Nat.mod_lt _ (by decide)⟩)) a3)
  have a4 : shrinkLast.sl.r_37 (F := Ideal) c M4 f4 = M4.view.read (Elt Ideal) f4 (ix1 4) := word9 M4 f4 4 _ _
  have s4 : shrinkLast.sl.r_38 (F := Ideal) c i M4 M5 f4 f5 hc2 hlast = M5.view.read (Elt Ideal) f5 (ix1 (adaOf (M4.view.read (Elt Ideal) f4) 4)) :=
    (word15 M5 f5 (k0_off68 (shrinkLast.sl.r_37 (F := Ideal) c M4 f4)) _ _).trans
      (congrArg (fun w : BitVec 32 => M5.view.read (Elt Ideal) f5 (ix1 ⟨w.toNat % 15, Nat.mod_lt _ (by decide)⟩)) a4)
  have k4 : shrinkLast.sl.r_43 (F := Ideal) c i M2 M4 f2 f4 hc2 hlast = M2.view.read (Elt Ideal) f2 (ix1 (adaOf (M4.view.read (Elt Ideal) f4) 4)) :=
    (word15 M2 f2 (k0_off68 (shrinkLast.sl.r_37 (F := Ideal) c M4 f4)) _ _).trans
      (congrArg (fun w : BitVec 32 => M2.view.read (Elt Ideal) f2 (ix1 ⟨w.toNat % 15, Nat.mod_lt _ (by decide)⟩)) a4)
  have a5 : shrinkLast.sl.r_44 (F := Ideal) c M4 f4 = M4.view.read (Elt Ideal) f4 (ix1 5) := word9 M4 f4 5 _ _
  have s5 : shrinkLast.sl.r_45 (F := Ideal) c i M4 M5 f4 f5 hc2 hlast = M5.view.read (Elt Ideal) f5 (ix1 (adaOf (M4.view.read (Elt Ideal) f4) 5)) :=
    (word15 M5 f5 (k0_off69 (shrinkLast.sl.r_44 (F := Ideal) c M4 f4)) _ _).trans
      (congrArg (fun w : BitVec 32 => M5.view.read (Elt Ideal) f5 (ix1 ⟨w.toNat % 15, Nat.mod_lt _ (by decide)⟩)) a5)
  have k5 : shrinkLast.sl.r_47 (F := Ideal) c i M2 M4 f2 f4 hc2 hlast = M2.view.read (Elt Ideal) f2 (ix1 (adaOf (M4.view.read (Elt Ideal) f4) 5)) :=
    (word15 M2 f2 (k0_off69 (shrinkLast.sl.r_44 (F := Ideal) c M4 f4)) _ _).trans
      (congrArg (fun w : BitVec 32 => M2.view.read (Elt Ideal) f2 (ix1 ⟨w.toNat % 15, Nat.mod_lt _ (by decide)⟩)) a5)
  have a6 : shrinkLast.sl.r_48 (F := Ideal) c M4 f4 = M4.view.read (Elt Ideal) f4 (ix1 6) := word9 M4 f4 6 _ _
  have s6 : shrinkLast.sl.r_49 (F := Ideal) c i M4 M5 f4 f5 hc2 hlast = M5.view.read (Elt Ideal) f5 (ix1 (adaOf (M4.view.read (Elt Ideal) f4) 6)) :=
    (word15 M5 f5 (k0_off70 (shrinkLast.sl.r_48 (F := Ideal) c M4 f4)) _ _).trans
      (congrArg (fun w : BitVec 32 => M5.view.read (Elt Ideal) f5 (ix1 ⟨w.toNat % 15, Nat.mod_lt _ (by decide)⟩)) a6)
  have k6 : shrinkLast.sl.r_51 (F := Ideal) c i M2 M4 f2 f4 hc2 hlast = M2.view.read (Elt Ideal) f2 (ix1 (adaOf (M4.view.read (Elt Ideal) f4) 6)) :=
    (word15 M2 f2 (k0_off70 (shrinkLast.sl.r_48 (F := Ideal) c M4 f4)) _ _).trans
      (congrArg (fun w : BitVec 32 => M2.view.read (Elt Ideal) f2 (ix1 ⟨w.toNat % 15, Nat.mod_lt _ (by decide)⟩)) a6)
  have a7 : shrinkLast.sl.r_53 (F := Ideal) c M4 f4 = M4.view.read (Elt Ideal) f4 (ix1 7) := word9 M4 f4 7 _ _
  have s7 : shrinkLast.sl.r_54 (F := Ideal) c i M4 M5 f4 f5 hc2 hlast = M5.view.read (Elt Ideal) f5 (ix1 (adaOf (M4.view.read (Elt Ideal) f4) 7)) :=
    (word15 M5 f5 (k0_off71 (shrinkLast.sl.r_53 (F := Ideal) c M4 f4)) _ _).trans
      (congrArg (fun w : BitVec 32 => M5.view.read (Elt Ideal) f5 (ix1 ⟨w.toNat % 15, Nat.mod_lt _ (by decide)⟩)) a7)
  have k7 : shrinkLast.sl.r_56 (F := Ideal) c i M2 M4 f2 f4 hc2 hlast = M2.view.read (Elt Ideal) f2 (ix1 (adaOf (M4.view.read (Elt Ideal) f4) 7)) :=
    (word15 M2 f2 (k0_off71 (shrinkLast.sl.r_53 (F := Ideal) c M4 f4)) _ _).trans
      (congrArg (fun w : BitVec 32 => M2.view.read (Elt Ideal) f2 (ix1 ⟨w.toNat % 15, Nat.mod_lt _ (by decide)⟩)) a7)
  have a8 : shrinkLast.sl.r_57 (F := Ideal) c M4 f4 = M4.view.read (Elt Ideal) f4 (ix1 8) := word9 M4 f4 8 _ _
  have s8 : shrinkLast.sl.r_58 (F := Ideal) c i M4 M5 f4 f5 hc2 hlast = M5.view.read (Elt Ideal) f5 (ix1 (adaOf (M4.view.read (Elt Ideal) f4) 8)) :=
    (word15 M5 f5 (k0_off72 (shrinkLast.sl.r_57 (F := Ideal) c M4 f4)) _ _).trans
      (congrArg (fun w : BitVec 32 => M5.view.read (Elt Ideal) f5 (ix1 ⟨w.toNat % 15, Nat.mod_lt _ (by decide)⟩)) a8)
  have k8 : shrinkLast.sl.r_60 (F := Ideal) c i M2 M4 f2 f4 hc2 hlast = M2.view.read (Elt Ideal) f2 (ix1 (adaOf (M4.view.read (Elt Ideal) f4) 8)) :=
    (word15 M2 f2 (k0_off72 (shrinkLast.sl.r_57 (F := Ideal) c M4 f4)) _ _).trans
      (congrArg (fun w : BitVec 32 => M2.view.read (Elt Ideal) f2 (ix1 ⟨w.toNat % 15, Nat.mod_lt _ (by decide)⟩)) a8)
  have e29 : shrinkLast.sl.r_29 c i M1 M2 M3 M4 M5 M6 M7 M9 M10 M11 f1 f2 f3 f4 f5 f6 f7 f10 f11 hc2 hada hsta hlast = k0_pay2 (F := Ideal) (lanes A 0) (M5.view.read (Elt Ideal) f5 (ix1 (adaOf (M4.view.read (Elt Ideal) f4) 0))) (M3.view.read (Elt Ideal) f3 (ix1 0)) (M3.view.read (Elt Ideal) f3 (ix1 1)) (M2.view.read (Elt Ideal) f2 (ix1 (adaOf (M4.view.read (Elt Ideal) f4) 0))) (lanes A 1) (M5.view.read (Elt Ideal) f5 (ix1 (adaOf (M4.view.read (Elt Ideal) f4) 1))) (M3.view.read (Elt Ideal) f3 (ix1 1)) (M3.view.read (Elt Ideal) f3 (ix1 2)) (M2.view.read (Elt Ideal) f2 (ix1 (adaOf (M4.view.read (Elt Ideal) f4) 1))) := by
    unfold shrinkLast.sl.r_29; rw [v0, s0, k0, v1, s1, k1, o0, o1, o2]
  have e40 : shrinkLast.sl.r_40 c i M1 M2 M3 M4 M5 M6 M7 M9 M10 M11 f1 f2 f3 f4 f5 f6 f7 f10 f11 hc2 hada hsta hlast = k0_pay3 (F := Ideal) shrinkLast.sl.v1122 shrinkLast.sl.v1123 (k0_pay2 (F := Ideal) (lanes A 0) (M5.view.read (Elt Ideal) f5 (ix1 (adaOf (M4.view.read (Elt Ideal) f4) 0))) (M3.view.read (Elt Ideal) f3 (ix1 0)) (M3.view.read (Elt Ideal) f3 (ix1 1)) (M2.view.read (Elt Ideal) f2 (ix1 (adaOf (M4.view.read (Elt Ideal) f4) 0))) (lanes A 1) (M5.view.read (Elt Ideal) f5 (ix1 (adaOf (M4.view.read (Elt Ideal) f4) 1))) (M3.view.read (Elt Ideal) f3 (ix1 1)) (M3.view.read (Elt Ideal) f3 (ix1 2)) (M2.view.read (Elt Ideal) f2 (ix1 (adaOf (M4.view.read (Elt Ideal) f4) 1)))) (lanes A 2) (M5.view.read (Elt Ideal) f5 (ix1 (adaOf (M4.view.read (Elt Ideal) f4) 2))) (M3.view.read (Elt Ideal) f3 (ix1 2)) (M3.view.read (Elt Ideal) f3 (ix1 3)) (M2.view.read (Elt Ideal) f2 (ix1 (adaOf (M4.view.read (Elt Ideal) f4) 2))) (lanes A 3) (M5.view.read (Elt Ideal) f5 (ix1 (adaOf (M4.view.read (Elt Ideal) f4) 3))) (M3.view.read (Elt Ideal) f3 (ix1 3)) (M3.view.read (Elt Ideal) f3 (ix1 4)) (M2.view.read (Elt Ideal) f2 (ix1 (adaOf (M4.view.read (Elt Ideal) f4) 3))) := by
    unfold shrinkLast.sl.r_40; rw [e29, v2, s2, k2, v3, s3, k3, o2, o3, o4]
  have e41 : shrinkLast.sl.r_41 c i M1 M4 M5 M6 M7 M9 M10 M11 f1 f4 f5 f6 f7 f10 f11 hc2 hada hsta hlast = k0_pay4 (F := Ideal) (lanes A 4) (M5.view.read (Elt Ideal) f5 (ix1 (adaOf (M4.view.read (Elt Ideal) f4) 4))) := by
    unfold shrinkLast.sl.r_41; rw [v4, s4]
  have e42 : shrinkLast.sl.r_42 (F := Ideal) c M3 f3 = k0_pay5 (F := Ideal) shrinkLast.sl.v1122 (M3.view.read (Elt Ideal) f3 (ix1 4)) := by
    unfold shrinkLast.sl.r_42; rw [o4]
  have e52 : shrinkLast.sl.r_52 c i M1 M2 M3 M4 M5 M6 M7 M9 M10 M11 f1 f2 f3 f4 f5 f6 f7 f10 f11 hc2 hada hsta hlast = k0_pay6 (F := Ideal) shrinkLast.sl.v1122 shrinkLast.sl.v1123 (k0_pay3 (F := Ideal) shrinkLast.sl.v1122 shrinkLast.sl.v1123 (k0_pay2 (F := Ideal) (lanes A 0) (M5.view.read (Elt Ideal) f5 (ix1 (adaOf (M4.view.read (Elt Ideal) f4) 0))) (M3.view.read (Elt Ideal) f3 (ix1 0)) (M3.view.read (Elt Ideal) f3 (ix1 1)) (M2.view.read (Elt Ideal) f2 (ix1 (adaOf (M4.view.read (Elt Ideal) f4) 0))) (lanes A 1) (M5.view.read (Elt Ideal) f5 (ix1 (adaOf (M4.view.read (Elt Ideal) f4) 1))) (M3.view.read (Elt Ideal) f3 (ix1 1)) (M3.view.read (Elt Ideal) f3 (ix1 2)) (M2.view.read (Elt Ideal) f2 (ix1 (adaOf (M4.view.read (Elt Ideal) f4) 1)))) (lanes A 2) (M5.view.read (Elt Ideal) f5 (ix1 (adaOf (M4.view.read (Elt Ideal) f4) 2))) (M3.view.read (Elt Ideal) f3 (ix1 2)) (M3.view.read (Elt Ideal) f3 (ix1 3)) (M2.view.read (Elt Ideal) f2 (ix1 (adaOf (M4.view.read (Elt Ideal) f4) 2))) (lanes A 3) (M5.view.read (Elt Ideal) f5 (ix1 (adaOf (M4.view.read (Elt Ideal) f4) 3))) (M3.view.read (Elt Ideal) f3 (ix1 3)) (M3.view.read (Elt Ideal) f3 (ix1 4)) (M2.view.read (Elt Ideal) f2 (ix1 (adaOf (M4.view.read (Elt Ideal) f4) 3)))) (k0_pay4 (F := Ideal) (lanes A 4) (M5.view.read (Elt Ideal) f5 (ix1 (adaOf (M4.view.read (Elt Ideal) f4) 4)))) (k0_pay5 (F := Ideal) shrinkLast.sl.v1122 (M3.view.read (Elt Ideal) f3 (ix1 4))) (M3.view.read (Elt Ideal) f3 (ix1 5)) (M2.view.read (Elt Ideal) f2 (ix1 (adaOf (M4.view.read (Elt Ideal) f4) 4))) (lanes A 5) (M5.view.read (Elt Ideal) f5 (ix1 (adaOf (M4.view.read (Elt Ideal) f4) 5))) (M3.view.read (Elt Ideal) f3 (ix1 5)) (M3.view.read (Elt Ideal) f3 (ix1 6)) (M2.view.read (Elt Ideal) f2 (ix1 (adaOf (M4.view.read (Elt Ideal) f4) 5))) (lanes A 6) (M5.view.read (Elt Ideal) f5 (ix1 (adaOf (M4.view.read (Elt Ideal) f4) 6))) (M3.view.read (Elt Ideal) f3 (ix1 6)) (M3.view.read (Elt Ideal) f3 (ix1 7)) (M2.view.read (Elt Ideal) f2 (ix1 (adaOf (M4.view.read (Elt Ideal) f4) 6))) := by
    unfold shrinkLast.sl.r_52; rw [e40, e41, e42, k4, v5, s5, k5, v6, s6, k6, o5, o6, o7]
  refine Eq.trans ?_ (out_apply (lanes A)
    (fun s => M5.view.read (Elt Ideal) f5 (ix1 (adaOf (M4.view.read (Elt Ideal) f4) s)))
    (fun s => M2.view.read (Elt Ideal) f2 (ix1 (adaOf (M4.view.read (Elt Ideal) f4) s)))
    (M3.view.read (Elt Ideal) f3) hr t l)
  unfold shrinkLast
  dsimp only
  unfold shrinkLast.sl.H8_1
  refine (congrFun (Cert.KProof.read_writes_full M8.view _ _ _ (by decide)) _).trans ?_
  rw [e52, v7, s7, k7, v8, s8, k8, o7, o8, o9]

end

end Cert.KernelIdealProof

end
-- ==== Proof.RefVal.lean ====
/- The reference's results at an index. -/
module

public import proofs.«01_k».proof.Proof.Code
public import proofs.«01_k».proof.Proof.ShrPoint
public import proofs.«01_k».proof.Proof.Gen.ReferenceIdeal.Read
public import Idealize.ShloMosaic.Lib.Routing.OpsSet

@[expose] public section

set_option maxRecDepth 16384

noncomputable section

namespace Cert.KProof

open Idealize.ShloMosaic
open Cert.KernelIdealProof (poolRow poolStart adaOf)

/-- Rows of `[N, D]` taken at `[R, C]` row numbers. -/
theorem gather_rows {α : Type} {N D R C : Nat}
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (p : Fin R) (q : Fin C) (k : Fin D) (b : Fin N)
    (hb : idx (ix3 p q 0) = BitVec.ofNat 32 b.val) (hN : N < 2 ^ 31) :
    Host.gather (⟨[2], [0], [], [], [0], 2, ![1, D], wf⟩ : GatherDims ⟨2, ![N, D]⟩ ⟨3, ![R, C, 1]⟩ ⟨3, ![R, C, D]⟩) x idx (ix3 p q k)
      = x (ix2 b k) := by
  generalize hd : (⟨[2], [0], [], [], [0], 2, ![1, D], wf⟩ : GatherDims ⟨2, ![N, D]⟩ ⟨3, ![R, C, 1]⟩ ⟨3, ![R, C, D]⟩) = d
  unfold Host.gather
  refine congrArg x (funext fun a => Fin.ext ?_)
  match a with
  | ⟨0, _⟩ =>
    show d.start (ix3 p q k) idx 0 + d.batchCoord (ix3 p q k) 0 + d.offCoord (ix3 p q k) 0 = b.val
    subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hbl := b.isLt
    have e := StableHlo.Predicate.toInt_ofNat_small b.val (by omega)
    refine Eq.trans (b := min (idx (ix3 p q 0)).toInt.toNat (N - 1)) ?_ ?_
    · refine congrArg (fun z => min (idx z).toInt.toNat (N - 1)) (funext fun b' => Fin.ext ?_)
      match b' with
      | ⟨0, _⟩ => rfl
      | ⟨1, _⟩ => rfl
      | ⟨2, _⟩ => rfl
    · rw [hb, e]
      omega
  | ⟨1, _⟩ =>
    show d.start (ix3 p q k) idx 1 + d.batchCoord (ix3 p q k) 1 + d.offCoord (ix3 p q k) 1 = k.val
    subst hd
    rw [GatherDims.batchCoord_eq_zero _ _ _ List.not_mem_nil, Nat.add_zero]
    unfold GatherDims.start GatherDims.offCoord
    rw [dif_neg (show (1 : Fin 2) ∉ [(0 : Fin 2)] by decide),
      dif_pos (by rw [GatherDims.mem_sKept]; exact ⟨show (1 : Fin 2) ∉ [(0 : Fin 2)] by decide, List.not_mem_nil⟩), Nat.zero_add]
    rfl

/-- A small number is not below zero. -/
theorem not_neg (n : ℕ) (hn : n < 2 ^ 31) : IntOp.cmpi .slt (BitVec.ofNat 32 n) 0#32 = 0#1 := by
  have e := StableHlo.Predicate.toInt_ofNat_small n hn
  show BitVec.ofBool (BitVec.slt _ _) = _
  rw [BitVec.slt, e]
  have : ¬ ((n : ℤ) < (0#32 : BitVec 32).toInt) := by
    show ¬ ((n : ℤ) < 0)
    omega
  rw [decide_eq_false this]
  rfl

/-- The wrap of a negative index leaves a small number alone. -/
theorem wrap_small (n N : ℕ) (hn : n < 2 ^ 31) (w : BitVec 32) (h : w = BitVec.ofNat 32 n) (m : BitVec 32) :
    Scalar.select (IntOp.cmpi .slt w 0#32) m w = BitVec.ofNat 32 n := by
  subst h
  rw [not_neg n hn]
  rfl

open Cert.ReferenceIdeal Cert.ReferenceIdeal.Gen Cert.ReferenceIdeal.Read

section
variable (x0 : (⟨S3x256x4096, .bf16⟩ : BufTy).Contents (Elt Ideal)) (x1 : (⟨S512x11008, .i32⟩ : BufTy).Contents (Elt Ideal))
  (x2 : (⟨S32x11008, .bf16⟩ : BufTy).Contents (Elt Ideal)) (x3 : (⟨S2200x4096, .bf16⟩ : BufTy).Contents (Elt Ideal))
  (x4 : (⟨S2200x11008, .bf16⟩ : BufTy).Contents (Elt Ideal)) (x5 x6 : (⟨S15, .i32⟩ : BufTy).Contents (Elt Ideal))
  (x7 : (⟨S15, .f32⟩ : BufTy).Contents (Elt Ideal)) (x8 : (⟨S10, .i32⟩ : BufTy).Contents (Elt Ideal))
  (x9 : (⟨S9, .i32⟩ : BufTy).Contents (Elt Ideal))

/-- The reference counts a boundary as passed where it is at or below the row. -/
theorem mask29 (t : Fin 768) (q : Fin 8) : val_main_v29 (F := Ideal) x8 (ix2 t q) = 1#1
    ↔ ((x8 : IVec S10 32) (ix1 ⟨q.val + 1, by omega⟩)).toInt ≤ t.val := by
  rw [val_main_v29_apply, val_main_v27_apply, val_main_v24_apply, val_main_v23_apply, val_main_v28_apply, val_main_v26_apply, val_main_v25_apply]
  have e : (BitVec.ofNat 32 t.val).toInt = t.val := StableHlo.Predicate.toInt_ofNat_small t.val (by omega)
  have e2 : idx_main_v25 (idx_main_v26 (idx_main_v28 (ix2 t q))) = ix1 (⟨q.val + 1, by omega⟩ : Fin 10) := funext fun a => Fin.ext (by
    match a with
    | ⟨0, _⟩ => show 1 + q.val = q.val + 1; omega)
  rw [e2]
  show BitVec.ofBool (BitVec.sle _ (BitVec.ofNat 32 t.val)) = 1#1 ↔ _
  rw [BitVec.sle, e]
  by_cases h : ((x8 : IVec S10 32) (ix1 ⟨q.val + 1, by omega⟩)).toInt ≤ t.val
  · rw [decide_eq_true h]
    exact ⟨fun _ => h, fun _ => rfl⟩
  · rw [decide_eq_false h]
    exact ⟨fun hh => absurd hh (by decide), fun hh => absurd hh h⟩

/-- The count is the segment of the row. -/
theorem v31_at (t : Fin 768) : val_main_v31 (F := Ideal) x8 (ix1 t) = BitVec.ofNat 32 (rowSeg x8 t.val).val := by
  have hs := (rowSeg x8 t.val).isLt
  apply BitVec.eq_of_toNat_eq
  rw [BitVec.toNat_ofNat, Nat.mod_eq_of_lt (by omega)]
  refine (StableHlo.Predicate.toNat_reduce_count_cols (by decide) (val_main_v29 (F := Ideal) x8) (by decide)
    reducesTo_S768x8_S768_d1 h_S_ (ix1 t)).trans ?_
  rw [Finset.card_filter]
  show _ = segCount x8 t.val
  unfold segCount
  refine Finset.sum_congr rfl fun q _ => ?_
  refine if_congr ?_ rfl rfl
  rw [← mask29 x8 t q]
  exact Iff.of_eq (congrArg (fun z => val_main_v29 (F := Ideal) x8 z = 1#1) (funext fun a => by match a with | 0 => rfl | 1 => rfl))

variable {x5 x8 x9} (h : InRange x5 x8 x9)
include h

/-- A segment's adapter, as a number below fifteen. -/
theorem ada_word (t : Fin 768) : ((x9 : IVec S9 32) (ix1 (rowSeg x8 t.val)))
    = BitVec.ofNat 32 (adaOf x9 (rowSeg x8 t.val)).val := by
  have := h.adapter (ix1 (rowSeg x8 t.val))
  apply BitVec.eq_of_toNat_eq
  rw [BitVec.toNat_ofNat]
  show _ = _ % 15 % 2 ^ 32
  omega

/-- Row `t`'s adapter; -/
theorem v38_at (t : Fin 768) : val_main_v38 (F := Ideal) x8 x9 (ix1 t) = BitVec.ofNat 32 (adaOf x9 (rowSeg x8 t.val)).val := by
  have hs := (rowSeg x8 t.val).isLt
  rw [← ada_word h]
  refine Routing.gather_take1 _ rfl rfl rfl rfl x9 _ t (rowSeg x8 t.val) ?_ (by decide)
  have e : idx_main_v37 (ValueIdx.ix2 t (0 : Fin 1)) = ix1 t := funext fun a => by match a with | ⟨0, _⟩ => rfl
  rw [val_main_v37_apply, e, val_main_v36_apply, val_main_v33_apply, val_main_v32_apply, v31_at x8 t]
  exact wrap_small _ 9 (by omega) _ rfl _

/-- its adapter's first row, -/
theorem v45_at (t : Fin 768) : val_main_v45 (F := Ideal) x5 x8 x9 (ix1 t) = (x5 : IVec S15 32) (ix1 (adaOf x9 (rowSeg x8 t.val))) := by
  have hs := (adaOf x9 (rowSeg x8 t.val)).isLt
  refine Routing.gather_take1 _ rfl rfl rfl rfl x5 _ t (adaOf x9 (rowSeg x8 t.val)) ?_ (by decide)
  have e : idx_main_v44 (ValueIdx.ix2 t (0 : Fin 1)) = ix1 t := funext fun a => by match a with | ⟨0, _⟩ => rfl
  rw [val_main_v44_apply, e, val_main_v43_apply, val_main_v40_apply, val_main_v39_apply, v38_at h t]
  exact wrap_small _ 15 (by omega) _ rfl _

/-- rank -/
theorem v58_at (t : Fin 768) : val_main_v58 (F := Ideal) x6 x8 x9 (ix1 t) = (x6 : IVec S15 32) (ix1 (adaOf x9 (rowSeg x8 t.val))) := by
  have hs := (adaOf x9 (rowSeg x8 t.val)).isLt
  refine Routing.gather_take1 _ rfl rfl rfl rfl x6 _ t (adaOf x9 (rowSeg x8 t.val)) ?_ (by decide)
  have e : idx_main_v57 (ValueIdx.ix2 t (0 : Fin 1)) = ix1 t := funext fun a => by match a with | ⟨0, _⟩ => rfl
  rw [val_main_v57_apply, e, val_main_v56_apply, val_main_v53_apply, val_main_v52_apply, v38_at h t]
  exact wrap_small _ 15 (by omega) _ rfl _

/-- and scaling. -/
theorem v65_at (t : Fin 768) : val_main_v65 (F := Ideal) x7 x8 x9 (ix1 t) = x7 (ix1 (adaOf x9 (rowSeg x8 t.val))) := by
  have hs := (adaOf x9 (rowSeg x8 t.val)).isLt
  refine Routing.gather_take1 _ rfl rfl rfl rfl x7 _ t (adaOf x9 (rowSeg x8 t.val)) ?_ (by decide)
  have e : idx_main_v64 (ValueIdx.ix2 t (0 : Fin 1)) = ix1 t := funext fun a => by match a with | ⟨0, _⟩ => rfl
  rw [val_main_v64_apply, e, val_main_v63_apply, val_main_v60_apply, val_main_v59_apply, v38_at h t]
  exact wrap_small _ 15 (by omega) _ rfl _

/-- The pool row of row `t`'s adapter and rank lane `l`. -/
def laneRow (starts : IVec S15 32) (offs : IVec S10 32) (seg : IVec S9 32) (t : Fin 768) (l : Fin 128) : Fin 2200 :=
  poolRow starts seg ⟨128 * (rowSeg offs t.val).val + l.val, by have := (rowSeg offs t.val).isLt; omega⟩

/-- The pool row of row `t`'s adapter at rank `l`, which both gathers read. -/
theorem v51_at (t : Fin 768) (l : Fin 128) : val_main_v51 (F := Ideal) x5 x8 x9 (ix2 t l) = BitVec.ofNat 32 (laneRow x5 x8 x9 t l).val := by
  have hl := l.isLt
  have hst := h.start (ix1 (adaOf x9 (rowSeg x8 t.val)))
  rw [val_main_v51_apply, val_main_v49_apply, val_main_v46_apply, val_main_v50_apply, val_main_v48_apply, val_main_v47_apply]
  have e : val_main_v45 (F := Ideal) x5 x8 x9 (idx_main_v46 (idx_main_v49 (ix2 t l))) = (x5 : IVec S15 32) (ix1 (adaOf x9 (rowSeg x8 t.val))) :=
    (congrArg (val_main_v45 (F := Ideal) x5 x8 x9) (funext fun a => by match a with | ⟨0, _⟩ => rfl)).trans (v45_at h t)
  rw [e]
  have hr : (laneRow x5 x8 x9 t l).val = ((x5 : IVec S15 32) (ix1 (adaOf x9 (rowSeg x8 t.val)))).toNat + l.val := by
    have hq := (rowSeg x8 t.val).isLt
    show (poolStart x5 x9 ⟨(128 * (rowSeg x8 t.val).val + l.val) / 128, _⟩ + (128 * (rowSeg x8 t.val).val + l.val) % 128) % 2200 = _
    have e1 : (⟨(128 * (rowSeg x8 t.val).val + l.val) / 128, by omega⟩ : Fin 9) = rowSeg x8 t.val := Fin.ext (by show _ / 128 = _; omega)
    rw [e1]
    show (((x5 : IVec S15 32) (ix1 (adaOf x9 (rowSeg x8 t.val)))).toNat + _) % 2200 = _
    omega
  rw [hr]
  apply BitVec.eq_of_toNat_eq
  show (_ + BitVec.ofNat 32 l.val).toNat = _
  rw [BitVec.toNat_add, BitVec.toNat_ofNat, BitVec.toNat_ofNat]
  omega

theorem v71_at (t : Fin 768) (l : Fin 128) : val_main_v71 (F := Ideal) x5 x8 x9 (ix3 t l 0) = BitVec.ofNat 32 (laneRow x5 x8 x9 t l).val := by
  have hr := (laneRow x5 x8 x9 t l).isLt
  rw [val_main_v71_apply, val_main_v70_apply]
  have e : idx_main_v71 (ix3 t l 0) = ix2 t l := funext fun a => by match a with | ⟨0, _⟩ => rfl | ⟨1, _⟩ => rfl
  rw [e]
  exact wrap_small _ 2200 (by omega) _ (v51_at h t l) _

theorem v90_at (t : Fin 768) (l : Fin 128) : val_main_v90 (F := Ideal) x5 x8 x9 (ix3 t l 0) = BitVec.ofNat 32 (laneRow x5 x8 x9 t l).val := by
  have hr := (laneRow x5 x8 x9 t l).isLt
  rw [val_main_v90_apply, val_main_v89_apply]
  have e : idx_main_v90 (ix3 t l 0) = ix2 t l := funext fun a => by match a with | ⟨0, _⟩ => rfl | ⟨1, _⟩ => rfl
  rw [e]
  exact wrap_small _ 2200 (by omega) _ (v51_at h t l) _

/-- The gathered rows of the first pool, -/
theorem v72_at (t : Fin 768) (l : Fin 128) (k : Fin 4096) : val_main_v72 (F := Ideal) x3 x5 x8 x9 (ix3 t l k) = x3 (ix2 (laneRow x5 x8 x9 t l) k) :=
  gather_rows (N := 2200) (D := 4096) (R := 768) (C := 128) _ x3 _ t l k _ (v71_at h t l) (by decide)

/-- and of the second. -/
theorem v91_at (t : Fin 768) (l : Fin 128) (n : Fin 11008) : val_main_v91 (F := Ideal) x4 x5 x8 x9 (ix3 t l n) = x4 (ix2 (laneRow x5 x8 x9 t l) n) :=
  gather_rows (N := 2200) (D := 11008) (R := 768) (C := 128) _ x4 _ t l n _ (v90_at h t l) (by decide)

/-- A row of `x`, the tokens of all batches in order. -/
def xRow (x : S3x256x4096.Idx → Ideal .bf16) (t : Fin 768) (k : Fin 4096) : EReal := x (ix3 ⟨t.val / 256, by omega⟩ ⟨t.val % 256, by omega⟩ k)

omit h in
/-- A row of `x`. -/
theorem v0_at (t : Fin 768) (k : Fin 4096) : val_main_v0 (F := Ideal) x0 (ix2 t k) = xRow x0 t k := by
  rw [val_main_v0_apply]
  have ht := t.isLt
  have hk := k.isLt
  refine congrArg x0 (funext fun a => Fin.ext ?_)
  match a with
  | ⟨0, _⟩ => show (t.val * 4096 + k.val) / 1048576 = t.val / 256; omega
  | ⟨1, _⟩ => show (t.val * 4096 + k.val) / 4096 % 256 = t.val % 256; omega
  | ⟨2, _⟩ => show (t.val * 4096 + k.val) % 4096 = k.val; omega

/-- The shrunk row: rank lane `l` of row `t`, scaled, nothing from the adapter's rank on. -/
def shrunk (x : S3x256x4096.Idx → Ideal .bf16) (a : S2200x4096.Idx → Ideal .bf16) (starts ranks : IVec S15 32) (scal : S15.Idx → Ideal .f32)
    (offs : IVec S10 32) (seg : IVec S9 32) (t : Fin 768) (l : Fin 128) : EReal :=
  Scalar.select (IntOp.cmpi .slt (BitVec.ofNat 32 l.val) (ranks (ix1 (adaOf seg (rowSeg offs t.val)))))
    ((∑ k : Fin 4096, xRow x t k * a (ix2 (laneRow starts offs seg t l) k)) * scal (ix1 (adaOf seg (rowSeg offs t.val)))) 0

/-- The reference's shrunk rows are those of the specification. -/
theorem v84_at (t : Fin 768) (l : Fin 128) : val_main_v84 (F := Ideal) x0 x3 x5 x6 x7 x8 x9 (ix2 t l) = shrunk x0 x3 x5 x6 x7 x8 x9 t l := by
  have e73 : val_main_v73 (F := Ideal) x0 x3 x5 x8 x9 (ix2 t l) = ∑ k : Fin 4096, xRow x0 t k * x3 (ix2 (laneRow x5 x8 x9 t l) k) := by
    rw [val_main_v73_apply]
    refine Finset.sum_congr rfl fun k _ => ?_
    rw [← v0_at x0 t k, ← v72_at x3 h t l k]
    refine congrArg₂ (· * ·) (congrArg _ (funext fun a => ?_)) (congrArg _ (funext fun a => ?_))
    · match a with | ⟨0, _⟩ => rfl | ⟨1, _⟩ => rfl
    · match a with | ⟨0, _⟩ => rfl | ⟨1, _⟩ => rfl | ⟨2, _⟩ => rfl
  have e58 : val_main_v78 (F := Ideal) x6 x8 x9 (ix2 t l) = (x6 : IVec S15 32) (ix1 (adaOf x9 (rowSeg x8 t.val))) := by
    rw [val_main_v78_apply, val_main_v76_apply]
    exact (congrArg _ (funext fun a => by match a with | ⟨0, _⟩ => rfl)).trans (v58_at x6 h t)
  have e65 : val_main_v81 (F := Ideal) x7 x8 x9 (ix2 t l) = x7 (ix1 (adaOf x9 (rowSeg x8 t.val))) := by
    rw [val_main_v81_apply, val_main_v80_apply]
    exact (congrArg _ (funext fun a => by match a with | ⟨0, _⟩ => rfl)).trans (v65_at x7 h t)
  rw [val_main_v84_apply, val_main_v79_apply, val_main_v83_apply, val_main_v82_apply, e73, e58, e65, val_main_v77_apply, val_main_v75_apply, val_main_v74_apply,
    val_main_call0_v0_apply, val_main_cst_apply]
  exact congrArg (fun z : EReal => Scalar.select _ _ z) Ideal.ofBits_zero_bf16

/-- The weight at row `k`, column `n`: its four-bit code times its group's scale. -/
def weight (w : S512x11008.Idx → BitVec 32) (sc : S32x11008.Idx → Ideal .bf16) (k : Fin 4096) (n : Fin 11008) : EReal :=
  FloatOps.sitofp (F := Ideal) .bf16 (maskCode (w (ix2 ⟨k.val / 8, by omega⟩ n)) (k.val % 8)) * sc (ix2 ⟨k.val / 128, by omega⟩ n)

omit h in
/-- The reference's unpacked weights are those of the specification. -/
theorem v21_at (k : Fin 4096) (n : Fin 11008) : val_main_v21 (F := Ideal) x1 x2 (ix2 k n) = weight x1 x2 k n := by
  have hk := k.isLt
  have hn := n.isLt
  have e2 : val_main_v2 (F := Ideal) x2 (ix2 k n) = x2 (ix2 ⟨k.val / 128, by omega⟩ n) := by
    rw [val_main_v2_apply, val_main_v1_apply]
    refine congrArg x2 (funext fun a => Fin.ext ?_)
    match a with
    | ⟨0, _⟩ => show (k.val * 11008 + n.val) / 1409024 = k.val / 128; omega
    | ⟨1, _⟩ => show (k.val * 11008 + n.val) % 11008 = n.val; omega
  have e8 : val_main_v8 (F := Ideal) x1 (idx_main_v20 (ix2 k n)) = x1 (ix2 ⟨k.val / 8, by omega⟩ n) := by
    rw [val_main_v8_apply, val_main_v3_apply]
    refine congrArg x1 (funext fun a => Fin.ext ?_)
    match a with
    | ⟨0, _⟩ => show (k.val * 11008 + n.val) / 88064 = k.val / 8; omega
    | ⟨1, _⟩ => show (k.val * 11008 + n.val) % 11008 = n.val; omega
  have e9 : val_main_v9 (F := Ideal) (idx_main_v20 (ix2 k n)) = IntOp.muli 4#32 (BitVec.ofNat 32 (k.val % 8)) := by
    rw [val_main_v9_apply, val_main_v7_apply, val_main_v6_apply, val_main_v5_apply, val_main_v4_apply]
    refine congrArg (fun j => IntOp.muli 4#32 (BitVec.ofNat 32 j)) ?_
    show (k.val * 11008 + n.val) / 11008 % 8 = k.val % 8
    omega
  have e12 : val_main_v12 (F := Ideal) x1 (idx_main_v20 (ix2 k n))
      = IntOp.andi (IntOp.shrsi .host (x1 (ix2 ⟨k.val / 8, by omega⟩ n)) (IntOp.muli 4#32 (BitVec.ofNat 32 (k.val % 8)))) 15#32 := by
    rw [val_main_v12_apply, val_main_v10_apply, val_main_v11_apply, e8, e9]
    rfl
  rw [val_main_v21_apply, e2, val_main_v20_apply, val_main_v19_apply, val_main_v18_apply, val_main_v17_apply, val_main_v16_apply,
    val_main_v15_apply, val_main_v14_apply, val_main_v13_apply, e12]
  rfl

/-- The result at row `t`, column `n`. -/
def outAt (x0 : S3x256x4096.Idx → Ideal .bf16) (x1 : S512x11008.Idx → BitVec 32) (x2 : S32x11008.Idx → Ideal .bf16) (x3 : S2200x4096.Idx → Ideal .bf16)
    (x4 : S2200x11008.Idx → Ideal .bf16) (x5 x6 : IVec S15 32) (x7 : S15.Idx → Ideal .f32) (x8 : IVec S10 32) (x9 : IVec S9 32)
    (t : Fin 768) (n : Fin 11008) : EReal :=
  ∑ k : Fin 4096, xRow x0 t k * weight x1 x2 k n + ∑ l : Fin 128, shrunk x0 x3 x5 x6 x7 x8 x9 t l * x4 (ix2 (laneRow x5 x8 x9 t l) n)

/-- The reference's output is that of the specification. -/
theorem v94_at (t : Fin 768) (n : Fin 11008) :
    val_main_v94 (F := Ideal) x0 x1 x2 x3 x4 x5 x6 x7 x8 x9 (ix2 t n) = outAt x0 x1 x2 x3 x4 x5 x6 x7 x8 x9 t n := by
  rw [val_main_v94_apply, val_main_v93_apply, val_main_v22_apply, val_main_v92_apply]
  show _ + _ = _ + _
  refine congrArg₂ (· + ·) (Finset.sum_congr rfl fun k _ => ?_) (Finset.sum_congr rfl fun l _ => ?_)
  · rw [← v0_at x0 t k, ← v21_at x1 x2 k n]
    refine congrArg₂ (· * ·) (congrArg _ (funext fun a => ?_)) (congrArg _ (funext fun a => ?_))
    · match a with | ⟨0, _⟩ => rfl | ⟨1, _⟩ => rfl
    · match a with | ⟨0, _⟩ => rfl | ⟨1, _⟩ => rfl
  · rw [← v84_at x0 x3 x6 x7 h t l, ← v91_at x4 h t l n]
    refine congrArg₂ (· * ·) (congrArg _ (funext fun a => ?_)) (congrArg _ (funext fun a => ?_))
    · match a with | ⟨0, _⟩ => rfl | ⟨1, _⟩ => rfl
    · match a with | ⟨0, _⟩ => rfl | ⟨1, _⟩ => rfl | ⟨2, _⟩ => rfl

end

end Cert.KProof

end
-- ==== Proof.Arrays.lean ====
/- What the two calls leave in their result arrays, over the arrays they find: each window's block at its coordinates, the
   accumulator after the points so far, and the result arrays element by element. -/
module

public import proofs.«01_k».proof.Proof.Run
public import proofs.«01_k».proof.Proof.RefVal
public import Idealize.ShloMosaic.Lib.Pipeline.ValueKit
public import Idealize.ShloMosaic.Lib.Pointwise

@[expose] public section

noncomputable section

namespace Cert.KernelIdealProof

open Cert.KernelIdeal Cert.KernelIdeal.Gen
open Idealize.ShloMosaic
open Idealize.ShloMosaic.TcCoe
open Idealize.ShloMosaic.Pipeline (Dat)
open Cert.KProof (InRange rowSeg InSeg maskCode)

variable (V : Dev nD → Valuation τ sig (Elt Ideal)) (hV : OkV V) (c : Dev nD)

/-! ## Blocks at coordinates -/

/-- Which block each window of the first call is on, at each step; -/
theorem idx0 : ∀ t : Fin cfg0.N, win0_0.index t = ![0] ∧ win0_1.index t = ![0] ∧ win0_2.index t = ![0] ∧ win0_3.index t = ![0]
    ∧ win0_4.index t = ![0] ∧ win0_5.index t = ![0, t.val] ∧ win0_6.index t = ![0, t.val] ∧ win0_7.index t = ![0, 0] :=
  (by decide +kernel : ∀ t : Fin grid0.N, _)

/-- and of the second. -/
theorem idx1 : ∀ t : Fin cfg1.N, win1_0.index t = ![0] ∧ win1_1.index t = ![0] ∧ win1_2.index t = ![0] ∧ win1_3.index t = ![0, 0]
    ∧ win1_4.index t = ![0, t.val] ∧ win1_5.index t = ![0, t.val] ∧ win1_6.index t = ![0, 0] ∧ win1_7.index t = ![0, t.val]
    ∧ win1_8.index t = ![0, t.val] :=
  (by decide +kernel : ∀ t : Fin grid1.N, _)

/-- The first call's windows at a step: the small arrays whole, and the step's 512 columns of `x` and of the pool. -/
theorem blk0_0 (t : Fin cfg0.N) : (blk0 V c 0 t : IVec S15 32) = V c main_arg5 := by
  blk_ext! [blk0, idx0 t]
theorem blk0_1 (t : Fin cfg0.N) : (blk0 V c 1 t : IVec S15 32) = V c main_arg6 := by
  blk_ext! [blk0, idx0 t]
theorem blk0_2 (t : Fin cfg0.N) : (blk0 V c 2 t : IVec S10 32) = V c main_arg8 := by
  blk_ext! [blk0, idx0 t]
theorem blk0_3 (t : Fin cfg0.N) : (blk0 V c 3 t : IVec S9 32) = V c main_arg9 := by
  blk_ext! [blk0, idx0 t]
theorem blk0_4 (t : Fin cfg0.N) : (blk0 V c 4 t : S15.Idx → Ideal .f32) = V c main_arg7 := by
  blk_ext! [blk0, idx0 t]
theorem blk0_5 (t : Fin cfg0.N) (p : Fin 768) (q : Fin 512) : (blk0 V c 5 t : S768x512.Idx → Ideal .bf16) (ix2 p q)
    = (V c main_v0 : S768x4096.Idx → Ideal .bf16) (ix2 p ⟨t.val * 512 + q.val, by have ht : t.val < 8 := N_0 ▸ t.isLt; omega⟩) := by
  blk_point [blk0, idx0 t]
theorem blk0_6 (t : Fin cfg0.N) (p : Fin 2200) (q : Fin 512) : (blk0 V c 6 t : S2200x512.Idx → Ideal .bf16) (ix2 p q)
    = (V c main_arg3 : S2200x4096.Idx → Ideal .bf16) (ix2 p ⟨t.val * 512 + q.val, by have ht : t.val < 8 := N_0 ▸ t.isLt; omega⟩) := by
  blk_point [blk0, idx0 t]

/-- The second call's windows at a step: the whole arrays, and the step's 256 columns of the weights, the scales and the pool. -/
theorem blk1_0 (t : Fin cfg1.N) : (blk1 V c 0 t : IVec S15 32) = V c main_arg5 := by
  blk_ext! [blk1, idx1 t]
theorem blk1_1 (t : Fin cfg1.N) : (blk1 V c 1 t : IVec S10 32) = V c main_arg8 := by
  blk_ext! [blk1, idx1 t]
theorem blk1_2 (t : Fin cfg1.N) : (blk1 V c 2 t : IVec S9 32) = V c main_arg9 := by
  blk_ext! [blk1, idx1 t]
theorem blk1_3 (t : Fin cfg1.N) : (blk1 V c 3 t : S768x4096.Idx → Ideal .bf16) = V c main_v0 := by
  blk_ext! [blk1, idx1 t]
theorem blk1_4 (t : Fin cfg1.N) (p : Fin 512) (q : Fin 256) : (blk1 V c 4 t : S512x256.Idx → BitVec 32) (ix2 p q)
    = (V c main_arg1 : S512x11008.Idx → BitVec 32) (ix2 p ⟨t.val * 256 + q.val, by have ht : t.val < 43 := N_1 ▸ t.isLt; omega⟩) := by
  blk_point [blk1, idx1 t]
theorem blk1_5 (t : Fin cfg1.N) (p : Fin 32) (q : Fin 256) : (blk1 V c 5 t : S32x256.Idx → Ideal .bf16) (ix2 p q)
    = (V c main_arg2 : S32x11008.Idx → Ideal .bf16) (ix2 p ⟨t.val * 256 + q.val, by have ht : t.val < 43 := N_1 ▸ t.isLt; omega⟩) := by
  blk_point [blk1, idx1 t]
theorem blk1_6 (t : Fin cfg1.N) : (blk1 V c 6 t : S768x128.Idx → Ideal .bf16) = V c main_v1 := by
  blk_ext! [blk1, idx1 t]
theorem blk1_7 (t : Fin cfg1.N) (p : Fin 2200) (q : Fin 256) : (blk1 V c 7 t : S2200x256.Idx → Ideal .bf16) (ix2 p q)
    = (V c main_arg4 : S2200x11008.Idx → Ideal .bf16) (ix2 p ⟨t.val * 256 + q.val, by have ht : t.val < 43 := N_1 ▸ t.isLt; omega⟩) := by
  blk_point [blk1, idx1 t]

/-! ## The shrink call -/

/-- The arrays the calls find: `x`'s rows, -/
def arrX : S768x4096.Idx → EReal := V c main_v0
/-- the first pool, -/
def arrA : S2200x4096.Idx → EReal := V c main_arg3
/-- the scalings. -/
def arrScal : S15.Idx → EReal := V c main_arg7

/-- The pool row of stacked row `y`, over the arrays. -/
def rowAt (y : Fin 1152) : Fin 2200 := poolRow (V c main_arg5) (V c main_arg9) y

/-- One step adds its 512 columns' products to the accumulator. -/
theorem point_sum (t : Fin cfg0.N) (r : Fin 768) (y : Fin 1152) :
    acc0 V hV c (t.val + 1) (ix2 r y) = acc0 V hV c t.val (ix2 r y)
      + ∑ q : Fin 512, arrX V c (ix2 r ⟨t.val * 512 + q.val, by have ht : t.val < 8 := N_0 ▸ t.isLt; omega⟩)
        * arrA V c (ix2 (rowAt V c y) ⟨t.val * 512 + q.val, by have ht : t.val < 8 := N_0 ▸ t.isLt; omega⟩) := by
  rw [acc0_succ]
  unfold shrAcc
  rw [acc_apply]
  refine congrArg (_ + ·) (Finset.sum_congr rfl fun q _ => ?_)
  rw [shrA_apply, (whole0_6 t).read_unread, (whole0_0 t).read_unread, (whole0_3 t).read_unread]
  refine congrArg₂ (· * ·) ?_ ?_
  · refine (congrFun (Cert.KProof.readAt_full (st0_5 t).view _ (fun a => by match a with | ⟨0, _⟩ => rfl | ⟨1, _⟩ => rfl)) (ix2 r q)).trans ?_
    rw [(whole0_5 t).read_unread]
    exact blk0_5 V c t r q
  · have e0 := blk0_0 V c t
    have e3 := blk0_3 V c t
    refine (blk0_6 V c t _ q).trans ?_
    unfold rowAt
    rw [← e0, ← e3]
    rfl

/-- The accumulator after `n` steps is the sum of their products. -/
theorem acc_sum (r : Fin 768) (y : Fin 1152) : ∀ n : ℕ, (hn : n ≤ 8) → acc0 V hV c n (ix2 r y)
    = ∑ j : Fin n, ∑ q : Fin 512, arrX V c (ix2 r ⟨j.val * 512 + q.val, by omega⟩)
        * arrA V c (ix2 (rowAt V c y) ⟨j.val * 512 + q.val, by omega⟩)
  | 0, _ => by
    rw [Finset.univ_eq_empty, Finset.sum_empty]
    exact Ideal.ofBits_zero_f32
  | n + 1, hn => by
    have h := point_sum V hV c ⟨n, by rw [show cfg0.N = 8 from N_0]; omega⟩ r y
    rw [Fin.sum_univ_castSucc]
    refine h.trans (congrArg (· + _) ?_)
    exact acc_sum r y n (by omega)

/-- After all steps it is the product over the 4096 columns. -/
theorem acc_all (r : Fin 768) (y : Fin 1152) : acc0 V hV c 8 (ix2 r y)
    = ∑ k : Fin 4096, arrX V c (ix2 r k) * arrA V c (ix2 (rowAt V c y) k) := by
  rw [acc_sum V hV c r y 8 (le_refl 8)]
  exact (Fin.sum_univ_tiles 8 512 (by decide) (fun k : Fin 4096 =>
    arrX V c (ix2 r k) * arrA V c (ix2 (rowAt V c y) k))).symm

/-- Rank lane `l` of row `r`, over the arrays the call finds. -/
def shr (r : Fin 768) (l : Fin 128) : EReal :=
  Scalar.select (IntOp.cmpi .slt (BitVec.ofNat 32 l.val) ((V c main_arg6 : IVec S15 32) (ix1 (adaOf (V c main_arg9) (rowSeg (V c main_arg8) r.val)))))
    ((∑ k : Fin 4096, arrX V c (ix2 r k)
        * arrA V c (ix2 (Cert.KProof.laneRow (V c main_arg5) (V c main_arg8) (V c main_arg9) r l) k))
      * arrScal V c (ix1 (adaOf (V c main_arg9) (rowSeg (V c main_arg8) r.val)))) 0

/-- The first call's result, element by element. -/
theorem out0_apply (hr : InRange (V c main_arg5) (V c main_arg8) (V c main_arg9)) (r : Fin 768) (l : Fin 128) :
    out0 V hV c t0_7 (ix2 r l) = shr V c r l := by
  have e2 : (st0_2 t0_7).view.read (Elt Ideal) ((whole0_2 t0_7).unread (blk0 V c 2 t0_7)) = (V c main_arg8 : IVec S10 32) :=
    ((whole0_2 t0_7).read_unread _).trans (blk0_2 V c t0_7)
  have e1 : (st0_1 t0_7).view.read (Elt Ideal) ((whole0_1 t0_7).unread (blk0 V c 1 t0_7)) = (V c main_arg6 : IVec S15 32) :=
    ((whole0_1 t0_7).read_unread _).trans (blk0_1 V c t0_7)
  have e3 : (st0_3 t0_7).view.read (Elt Ideal) ((whole0_3 t0_7).unread (blk0 V c 3 t0_7)) = (V c main_arg9 : IVec S9 32) :=
    ((whole0_3 t0_7).read_unread _).trans (blk0_3 V c t0_7)
  have e4 : (st0_4 t0_7).view.read (Elt Ideal) ((whole0_4 t0_7).unread (blk0 V c 4 t0_7)) = arrScal V c :=
    ((whole0_4 t0_7).read_unread _).trans (blk0_4 V c t0_7)
  unfold out0
  rw [dif_pos (show t0_7.val = 7 from rfl)]
  unfold runL
  refine (shrinkLast_out c (st0_0 t0_7) (st0_3 t0_7) (st0_6 t0_7) (Memref.whole cc0_scratch2) _ _ _ (st0_1 t0_7) (st0_2 t0_7) (st0_4 t0_7) (st0_5 t0_7) (st0_7 t0_7)
    (Memref.whole cc0_scratch0) (Memref.whole cc0_scratch1) _ _ _ _ _ _ _ _ _ _ _ _ _ _ _ _ _ _ _ _ _ _ _ (starts := V c main_arg5) (seg := V c main_arg9) (e2.symm ▸ hr) r l).trans ?_
  simp only [e1, e2, e3, e4]
  unfold shr
  have ea : (Memref.whole cc0_scratch1).view.read (Elt Ideal) (accBuf V hV c t0_7.val) = acc0 V hV c t0_7.val := (Memref.isWhole_whole cc0_scratch1).read_unread _
  rw [ea]
  rw [← acc0_succ V hV c t0_7]
  refine congrArg (fun z : EReal => Scalar.select _ (z * _) 0) ?_
  exact acc_all V hV c r _

/-- The shrink call's result array. -/
theorem arr_v1 (hr : InRange (V c main_arg5) (V c main_arg8) (V c main_arg9)) :
    (dat0 V hV c).arrAt 7 cfg0.N = (fun j : S768x128.Idx => (shr V c (j 0) (j 1) : Ideal .bf16)) := by
  refine (dat0 V hV c).arrAt_eq_of_after_last 7 t0_7 (by decide +kernel) _ fun j => ?_
  blk_simp
  rw [after0_7]
  refine Eq.trans (congrArg (out0 V hV c t0_7) (funext fun a => ?_)) ((out0_apply V hV c hr (j 0) (j 1)).trans ?_)
  · match a with
    | ⟨0, _⟩ => rfl
    | ⟨1, _⟩ => rfl
  · rfl

/-! ## The main call -/

/-- The arrays the main call finds: the packed weights, -/
def arrW : S512x11008.Idx → BitVec 32 := V c main_arg1
/-- their scales, -/
def arrS : S32x11008.Idx → EReal := V c main_arg2
/-- the second pool, -/
def arrB : S2200x11008.Idx → EReal := V c main_arg4
/-- the shrunk rows. -/
def arrL : S768x128.Idx → EReal := V c main_v1

/-- The result at row `r`, column `n`, over the arrays the call finds. -/
def outv (r : Fin 768) (n : Fin 11008) : EReal :=
  ∑ k : Fin 4096, arrX V c (ix2 r k) * Cert.KProof.weight (arrW V c) (arrS V c) k n
    + ∑ l : Fin 128, arrL V c (ix2 r l) * arrB V c (ix2 (Cert.KProof.laneRow (V c main_arg5) (V c main_arg8) (V c main_arg9) r l) n)

/-- The second call's result block, element by element. -/
theorem out1_apply (hr : InRange (V c main_arg5) (V c main_arg8) (V c main_arg9)) (t : Fin cfg1.N) (r : Fin 768) (n : Fin 256) :
    out1 V hV c t (ix2 r n) = outv V c r ⟨t.val * 256 + n.val, by have ht : t.val < 43 := N_1 ▸ t.isLt; omega⟩ := by
  have e0 : (st1_0 t).view.read (Elt Ideal) ((whole1_0 t).unread (blk1 V c 0 t)) = (V c main_arg5 : IVec S15 32) :=
    ((whole1_0 t).read_unread _).trans (blk1_0 V c t)
  have e1 : (st1_1 t).view.read (Elt Ideal) ((whole1_1 t).unread (blk1 V c 1 t)) = (V c main_arg8 : IVec S10 32) :=
    ((whole1_1 t).read_unread _).trans (blk1_1 V c t)
  have e2 : (st1_2 t).view.read (Elt Ideal) ((whole1_2 t).unread (blk1 V c 2 t)) = (V c main_arg9 : IVec S9 32) :=
    ((whole1_2 t).read_unread _).trans (blk1_2 V c t)
  have e3 : (st1_3 t).view.read (Elt Ideal) ((whole1_3 t).unread (blk1 V c 3 t)) = arrX V c :=
    ((whole1_3 t).read_unread _).trans (blk1_3 V c t)
  have e4 (p : Fin 512) : (st1_4 t).view.read (Elt Ideal) ((whole1_4 t).unread (blk1 V c 4 t)) (ix2 p n) = arrW V c (ix2 p ⟨t.val * 256 + n.val, by have ht : t.val < 43 := N_1 ▸ t.isLt; omega⟩) :=
    (congrFun ((whole1_4 t).read_unread _) _).trans (blk1_4 V c t p n)
  have e5 (p : Fin 32) : (st1_5 t).view.read (Elt Ideal) ((whole1_5 t).unread (blk1 V c 5 t)) (ix2 p n) = arrS V c (ix2 p ⟨t.val * 256 + n.val, by have ht : t.val < 43 := N_1 ▸ t.isLt; omega⟩) :=
    (congrFun ((whole1_5 t).read_unread _) _).trans (blk1_5 V c t p n)
  have e6 : (st1_6 t).view.read (Elt Ideal) ((whole1_6 t).unread (blk1 V c 6 t)) = arrL V c :=
    ((whole1_6 t).read_unread _).trans (blk1_6 V c t)
  have e7 (p : Fin 2200) : (st1_7 t).view.read (Elt Ideal) ((whole1_7 t).unread (blk1 V c 7 t)) (ix2 p n) = arrB V c (ix2 p ⟨t.val * 256 + n.val, by have ht : t.val < 43 := N_1 ▸ t.isLt; omega⟩) :=
    (congrFun ((whole1_7 t).read_unread _) _).trans (blk1_7 V c t p n)
  unfold out1
  rw [mainOut_apply, e0, e1, e2, e3, e6]
  unfold outv
  refine congrArg₂ (· + ·) (Finset.sum_congr rfl fun k _ => ?_) ?_
  · rw [e4, e5, Cert.KProof.code_eq _ _ (Nat.mod_lt _ (by decide))]
    rfl
  · refine Eq.trans (Finset.sum_congr rfl fun y _ => congrArg (_ * ·) (e7 _)) ?_
    exact Cert.KProof.stack_sum hr r (fun l => arrL V c (ix2 r l)) (fun y => arrB V c (ix2 (poolRow (V c main_arg5) (V c main_arg9) y) ⟨t.val * 256 + n.val, by have ht : t.val < 43 := N_1 ▸ t.isLt; omega⟩))

/-- The main call's result array. -/
theorem arr_v2 (hr : InRange (V c main_arg5) (V c main_arg8) (V c main_arg9)) :
    (dat1 V hV c).arrAt 8 cfg1.N = (fun j : S768x11008.Idx => (outv V c (j 0) (j 1) : Ideal .bf16)) := by
  refine (dat1 V hV c).arrAt_eq_of_covers 8 _ (by decide +kernel) fun t hf y => ?_
  blk_simp
  rw [after1_8]
  refine Eq.trans (congrArg (out1 V hV c t) (funext fun a => ?_)) ((out1_apply V hV c hr t (y 0) (y 1)).trans (congrArg₂ (outv V c) (Fin.ext ?_) (Fin.ext ?_)))
  · match a with
    | ⟨0, _⟩ => rfl
    | ⟨1, _⟩ => rfl
  · blk_simp [idx1 t]
    try (first | rfl | omega)
  · blk_simp [idx1 t]
    try (first | rfl | omega)

end Cert.KernelIdealProof

end
-- ==== Proof.Value.lean ====
/- The two programs' results are the same arrays: both result arrays of the kernel, read through its two calls and its two
   reshapes, against the reference's, element by element. -/
module

public import proofs.«01_k».proof.Proof.Arrays
public import proofs.«01_k».proof.Proof.Frame
public import proofs.«01_k».proof.Proof.InRange
public import proofs.«01_k».proof.Defs
public import proofs.«01_k».proof.Proof.Gen.ReferenceIdeal.Run
public import Idealize.ShloMosaic.Lib.Claim

@[expose] public section

noncomputable section

namespace Cert.KernelIdealProof

open Cert.KernelIdeal Cert.KernelIdeal.Gen
open Idealize.ShloMosaic
open Idealize.ShloMosaic.TcCoe Idealize.SL.Sem
open Cert.KProof (InRange)

section
variable (m : (ℓ : Loc nD τ sig) → Buf (Elt Ideal) ℓ) (c : Dev nD)

/-! ## What the calls find -/

/-- The flattened `x` is the reference's. -/
theorem V1_v0 : (V1 m c main_v0 : S768x4096.Idx → Ideal .bf16) = Cert.ReferenceIdeal.Read.val_main_v0 (F := Ideal) (m ((c : Thread nD τ).loc main_arg0)) := by
  show StableHlo.after hostOps0 (V0 m c) main_v0 = _
  rw [StableHlo.after_cons, StableHlo.after_nil]
  exact StableHlo.reshape_result ..

/-- The first host operation changes no argument; -/
theorem V1_arg (r : Ref sig .tc) (h : r ∉ hostOps0_W) : V1 m c r = m ((c : Thread nD τ).loc r) := V1_of m c r h

variable (hV : OkV (V0 m))

/-- nor does the first call. -/
theorem U2_arg (r : Ref sig .tc) (h : r ∉ ([main_v1] : List (Ref sig .tc))) (h' : r ∉ hostOps0_W) : U2 m hV c r = m ((c : Thread nD τ).loc r) :=
  (U2_of m hV c r h).trans (V1_arg m c r h')

/-- The first call finds the rows of `x`. -/
theorem arrX_V1 (t : Fin 768) (k : Fin 4096) : arrX (V1 m) c (ix2 t k) = Cert.KProof.xRow (m ((c : Thread nD τ).loc main_arg0)) t k :=
  (congrFun (V1_v0 m c) (ix2 t k)).trans (Cert.KProof.v0_at (m ((c : Thread nD τ).loc main_arg0)) t k)

/-- What the first call computes is the specification of the shrunk rows. -/
theorem shr_eq (t : Fin 768) (l : Fin 128) : shr (V1 m) c t l = Cert.KProof.shrunk (m ((c : Thread nD τ).loc main_arg0)) (m ((c : Thread nD τ).loc main_arg3))
    (m ((c : Thread nD τ).loc main_arg5)) (m ((c : Thread nD τ).loc main_arg6)) (m ((c : Thread nD τ).loc main_arg7)) (m ((c : Thread nD τ).loc main_arg8))
    (m ((c : Thread nD τ).loc main_arg9)) t l := by
  unfold shr Cert.KProof.shrunk arrA arrScal
  rw [V1_arg m c main_arg3 (by decide), V1_arg m c main_arg5 (by decide), V1_arg m c main_arg6 (by decide), V1_arg m c main_arg7 (by decide),
    V1_arg m c main_arg8 (by decide), V1_arg m c main_arg9 (by decide)]
  refine congrArg (fun z : EReal => Scalar.select _ (z * _) 0) (Finset.sum_congr rfl fun k _ => ?_)
  rw [arrX_V1]

/-! ## What the calls leave -/

variable (hr : InRange (m ((c : Thread nD τ).loc main_arg5)) (m ((c : Thread nD τ).loc main_arg8)) (m ((c : Thread nD τ).loc main_arg9)))
include hr

/-- The precondition holds of the arrays that the first call finds, -/
theorem inRange1 : InRange (V1 m c main_arg5) (V1 m c main_arg8) (V1 m c main_arg9) := by
  rw [V1_arg m c main_arg5 (by decide), V1_arg m c main_arg8 (by decide), V1_arg m c main_arg9 (by decide)]
  exact hr

/-- and of those that the second finds. -/
theorem inRange2 : InRange (U2 m hV c main_arg5) (U2 m hV c main_arg8) (U2 m hV c main_arg9) := by
  rw [U2_arg m c hV main_arg5 (by decide) (by decide), U2_arg m c hV main_arg8 (by decide) (by decide), U2_arg m c hV main_arg9 (by decide) (by decide)]
  exact hr

/-- The first call's result is the specification's shrunk rows. -/
theorem W2_v1 (t : Fin 768) (l : Fin 128) : (W2 m hV c main_v1 : S768x128.Idx → Ideal .bf16) (ix2 t l)
    = Cert.KProof.shrunk (m ((c : Thread nD τ).loc main_arg0)) (m ((c : Thread nD τ).loc main_arg3))
    (m ((c : Thread nD τ).loc main_arg5)) (m ((c : Thread nD τ).loc main_arg6)) (m ((c : Thread nD τ).loc main_arg7)) (m ((c : Thread nD τ).loc main_arg8))
    (m ((c : Thread nD τ).loc main_arg9)) t l := by
  have e : W2 m hV c main_v1 = (dat0 (V1 m) (ok1 m hV) c).arrAt 7 cfg0.N :=
    Pipeline.afterRegion_arr (dat0 (V1 m) (ok1 m hV) c) (V1 m c) launch0.win.arr_inj 7
  exact (congrFun (e.trans (arr_v1 (V1 m) (ok1 m hV) c (inRange1 m c hr))) (ix2 t l)).trans (shr_eq m c t l)

/-- The second call's result is the specification's output. -/
theorem W3_v2 (t : Fin 768) (n : Fin 11008) : (W3 m hV c main_v2 : S768x11008.Idx → Ideal .bf16) (ix2 t n)
    = Cert.KProof.outAt (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) t n := by
  have e : W3 m hV c main_v2 = (dat1 (U2 m hV) (ok2 m hV) c).arrAt 8 cfg1.N :=
    Pipeline.afterRegion_arr (dat1 (U2 m hV) (ok2 m hV) c) (U2 m hV c) launch1.win.arr_inj 8
  refine (congrFun (e.trans (arr_v2 (U2 m hV) (ok2 m hV) c (inRange2 m c hV hr))) (ix2 t n)).trans ?_
  show outv (U2 m hV) c t n = _
  have ex (k : Fin 4096) : arrX (U2 m hV) c (ix2 t k) = Cert.KProof.xRow (m ((c : Thread nD τ).loc main_arg0)) t k :=
    (congrFun (U2_of m hV c main_v0 (by decide)) (ix2 t k)).trans (arrX_V1 m c t k)
  have el (l : Fin 128) : arrL (U2 m hV) c (ix2 t l) = Cert.KProof.shrunk (m ((c : Thread nD τ).loc main_arg0)) (m ((c : Thread nD τ).loc main_arg3))
      (m ((c : Thread nD τ).loc main_arg5)) (m ((c : Thread nD τ).loc main_arg6)) (m ((c : Thread nD τ).loc main_arg7)) (m ((c : Thread nD τ).loc main_arg8))
      (m ((c : Thread nD τ).loc main_arg9)) t l := by
    have e1 : U2 m hV c main_v1 = W2 m hV c main_v1 := Function.update_self (f := V1 m c) ..
    exact (congrFun e1 (ix2 t l)).trans (W2_v1 m c hV hr t l)
  unfold outv Cert.KProof.outAt
  refine congrArg₂ (· + ·) (Finset.sum_congr rfl fun k _ => ?_) (Finset.sum_congr rfl fun l _ => ?_)
  · rw [ex]
    unfold arrW arrS
    rw [U2_arg m c hV main_arg1 (by decide) (by decide), U2_arg m c hV main_arg2 (by decide) (by decide)]
  · rw [el]
    unfold arrB
    rw [U2_arg m c hV main_arg4 (by decide) (by decide), U2_arg m c hV main_arg5 (by decide) (by decide), U2_arg m c hV main_arg8 (by decide) (by decide),
      U2_arg m c hV main_arg9 (by decide) (by decide)]

/-! ## The results -/

/-- The shrunk rows are the reference's. -/
theorem result_v1 : (V4 m (outs m hV) c main_v1 : S768x128.Idx → Ideal .bf16)
    = Cert.ReferenceIdeal.Read.val_main_v84 (F := Ideal) (m ((c : Thread nD τ).loc main_arg0)) (m ((c : Thread nD τ).loc main_arg3))
    (m ((c : Thread nD τ).loc main_arg5)) (m ((c : Thread nD τ).loc main_arg6)) (m ((c : Thread nD τ).loc main_arg7)) (m ((c : Thread nD τ).loc main_arg8))
    (m ((c : Thread nD τ).loc main_arg9)) := by
  have e : V4 m (outs m hV) c main_v1 = W2 m hV c main_v1 :=
    (V4_of m (outs m hV) c main_v1 (by decide)).trans ((V3_of m (outs m hV) c main_v1 (by decide)).trans
      (Function.update_self (f := V1 m c) (Proc.devRef .tc main_v1) (W2 m hV c main_v1)))
  funext j
  rw [eq_ix2 j]
  exact (congrFun e _).trans ((W2_v1 m c hV hr (j 0) (j 1)).trans (Cert.KProof.v84_at _ _ _ _ hr (j 0) (j 1)).symm)

/-- The result is the reference's. -/
theorem result_v3 : (V4 m (outs m hV) c main_v3 : S3x256x11008.Idx → Ideal .bf16)
    = Cert.ReferenceIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) := by
  have e2 : (V3 m (outs m hV) c main_v2 : S768x11008.Idx → Ideal .bf16) = Cert.ReferenceIdeal.Read.val_main_v94 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8))
      (m ((c : Thread nD τ).loc main_arg9)) := by
    funext j
    rw [eq_ix2 j]
    refine (congrFun (Function.update_self (f := V2 m (outs m hV) c) (Proc.devRef .tc main_v2) (W3 m hV c main_v2)) (ix2 (j 0) (j 1))).trans ?_
    exact (W3_v2 m c hV hr (j 0) (j 1)).trans (Cert.KProof.v94_at _ _ _ _ _ _ _ hr (j 0) (j 1)).symm
  have e3 : (V4 m (outs m hV) c main_v3 : S3x256x11008.Idx → Ideal .bf16) = shapeCast _ (V3 m (outs m hV) c main_v2) shapeCasts_S768x11008_S3x256x11008 := by
    show StableHlo.after hostOps2 (V3 m (outs m hV) c) main_v3 = _
    rw [StableHlo.after_cons, StableHlo.after_nil]
    exact StableHlo.reshape_result ..
  rw [e3, e2]
  rfl

end

/-- Under the precondition the kernel and the reference end with the same results. -/
theorem algebraic : Cert.algebraic_KernelIdeal_ReferenceIdeal_pre_in_range := by
  intro m g m' g' hpre hagree
  have hV := okV_of_pre_in_range m hpre
  refine ⟨fun c => V4 m (outs m hV) c main_v3, fun c => V4 m (outs m hV) c main_v1, ?_, ?_⟩
  · refine θ_run_mono (run_all m hV g) fun r hr c => ?_
    exact ⟨hr.1 c (Proc.devRef .tc main_v3) (Finset.mem_filter.mpr ⟨StableHlo.devRef_mem_tcRefs main_v3, by decide⟩),
      hr.1 c (Proc.devRef .tc main_v1) (Finset.mem_filter.mpr ⟨StableHlo.devRef_mem_tcRefs main_v1, by decide⟩),
      (hr.1 c _ (Finset.mem_filter.mpr ⟨StableHlo.devRef_mem_tcRefs main_arg0, by decide⟩)).trans (V4_main_arg0 m (outs m hV) c),
      (hr.1 c _ (Finset.mem_filter.mpr ⟨StableHlo.devRef_mem_tcRefs main_arg1, by decide⟩)).trans (V4_main_arg1 m (outs m hV) c),
      (hr.1 c _ (Finset.mem_filter.mpr ⟨StableHlo.devRef_mem_tcRefs main_arg2, by decide⟩)).trans (V4_main_arg2 m (outs m hV) c),
      (hr.1 c _ (Finset.mem_filter.mpr ⟨StableHlo.devRef_mem_tcRefs main_arg3, by decide⟩)).trans (V4_main_arg3 m (outs m hV) c),
      (hr.1 c _ (Finset.mem_filter.mpr ⟨StableHlo.devRef_mem_tcRefs main_arg4, by decide⟩)).trans (V4_main_arg4 m (outs m hV) c),
      (hr.1 c _ (Finset.mem_filter.mpr ⟨StableHlo.devRef_mem_tcRefs main_arg5, by decide⟩)).trans (V4_main_arg5 m (outs m hV) c),
      (hr.1 c _ (Finset.mem_filter.mpr ⟨StableHlo.devRef_mem_tcRefs main_arg6, by decide⟩)).trans (V4_main_arg6 m (outs m hV) c),
      (hr.1 c _ (Finset.mem_filter.mpr ⟨StableHlo.devRef_mem_tcRefs main_arg7, by decide⟩)).trans (V4_main_arg7 m (outs m hV) c),
      (hr.1 c _ (Finset.mem_filter.mpr ⟨StableHlo.devRef_mem_tcRefs main_arg8, by decide⟩)).trans (V4_main_arg8 m (outs m hV) c),
      (hr.1 c _ (Finset.mem_filter.mpr ⟨StableHlo.devRef_mem_tcRefs main_arg9, by decide⟩)).trans (V4_main_arg9 m (outs m hV) c)⟩
  · refine θ_run_mono (Cert.ReferenceIdeal.Value.run (F := Ideal) m' g') fun r hr c => ?_
    obtain ⟨a0, a1, a2, a3, a4, a5, a6, a7, a8, a9⟩ := hagree c
    have hi := Cert.KProof.inRange_of_fn (hpre c)
    refine ⟨(hr c).1.trans ?_, (hr c).2.1.trans ?_, (hr c).2.2⟩
    · rw [Cert.ReferenceIdeal.Read.val_main_v95_eq, a0, a1, a2, a3, a4, a5, a6, a7, a8, a9]
      exact (result_v3 m c hV hi).symm
    · rw [Cert.ReferenceIdeal.Read.val_main_v84_eq, a0, a3, a5, a6, a7, a8, a9]
      exact (result_v1 m c hV hi).symm

end Cert.KernelIdealProof

end
-- ==== Proof.lean ====
/- The claims about the kernel, put together: both printed programs' frames, the reference's, what the idealisation
   rewrote, and that the results are the reference's. -/
module

public import proofs.«01_k».proof.Defs
public import proofs.«01_k».proof.Proof.Frame
public import proofs.«01_k».proof.Proof.BitsFrame
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_bounds
public import proofs.«01_k».proof.Proof.Gen.Pre_in_range
public import Idealize.ShloMosaic.Lib.Bf16Pair
public import Idealize.ShloMosaic.Lib.Bf16PairInverse
public import Idealize.ShloMosaic.Lib.Claim

@[expose] public section

noncomputable section

namespace Cert.Proof

open Idealize.ShloMosaic Idealize.SL.Sem

/-- The idealisation's rewrites of paired 16-bit halves, each by the library's statement of it. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The reference runs from every memory and leaves its arguments alone; it has no semaphore. -/
theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- So it does under the value claim's precondition. -/
theorem frame_reference_in_range : Cert.quiescent_ReferenceIdeal_pre_in_range := fun m g _ =>
  frame_reference m g trivial

/-- All the claims together. -/
theorem claim : Cert.Claim :=
  ⟨Cert.Kernel.Gen.facts, Cert.KernelIdeal.Gen.facts, Cert.ReferenceIdeal.Gen.facts, Cert.Pre_in_bounds.Gen.facts,
    Cert.Pre_in_range.Gen.facts, Cert.KernelProof.frame, Cert.KernelIdealProof.frame, Cert.KernelIdealProof.frame_in_range,
    frame_reference, frame_reference_in_range, preserves, Cert.KernelIdealProof.algebraic⟩

end Cert.Proof

end
